-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_table_KernelIdeal [hPre_in_table_KernelIdeal : Cert.Pre_in_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table_ReferenceIdeal [hPre_in_table_ReferenceIdeal : Cert.Pre_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_table_KernelIdeal [hKernelIdeal : Cert.KernelIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table_ReferenceIdeal [hReferenceIdeal : Cert.ReferenceIdeal.Facts] [hPre_in_table_ReferenceIdeal : Cert.Pre_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_table_KernelIdeal [hKernelIdeal : Cert.KernelIdeal.Facts] [hReferenceIdeal : Cert.ReferenceIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![16384, 1024]⟩ ⟨2, ![32768, 1024]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table_KernelIdeal : Cert.Pre_in_table_KernelIdeal.Facts) (hPre_in_table_ReferenceIdeal : Cert.Pre_in_table_ReferenceIdeal.Facts),
    quiescent_Kernel (hKernel := hKernel)
    ∧ quiescent_KernelIdeal (hKernelIdeal := hKernelIdeal)
    ∧ quiescent_KernelIdeal_pre_in_table_KernelIdeal (hKernelIdeal := hKernelIdeal) (hPre_in_table_KernelIdeal := hPre_in_table_KernelIdeal)
    ∧ quiescent_ReferenceIdeal (hReferenceIdeal := hReferenceIdeal)
    ∧ quiescent_ReferenceIdeal_pre_in_table_ReferenceIdeal (hReferenceIdeal := hReferenceIdeal) (hPre_in_table_ReferenceIdeal := hPre_in_table_ReferenceIdeal)
    ∧ preserves_Kernel_KernelIdeal
    ∧ algebraic_KernelIdeal_ReferenceIdeal_pre_in_table_KernelIdeal (hKernelIdeal := hKernelIdeal) (hReferenceIdeal := hReferenceIdeal) (hPre_in_table_KernelIdeal := hPre_in_table_KernelIdeal)
-- ==== Pre_in_table_KernelIdeal.lean ====
abbrev S2048 : Shape := ⟨1, ![2048]⟩
abbrev S16384x1024 : Shape := ⟨2, ![16384, 1024]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S2048 32) (main_arg1 : FVec F S16384x1024 .f32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 32768#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Pre_in_table_ReferenceIdeal.lean ====
abbrev S2048 : Shape := ⟨1, ![2048]⟩
abbrev S32768x1024 : Shape := ⟨2, ![32768, 1024]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : IVec S2048 32) (main_arg1 : FVec F S32768x1024 .f32) : IVec S_ 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 32768#32
  let main_v2 : IVec S2048 32 := broadcastInDim S2048 ![] bcast_S_S2048 main_c_0
  let main_v3 : IVec S2048 1 := cmpi .slt main_arg0 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S2048 : Shape := ⟨1, ![2048]⟩
abbrev S16384x1024 : Shape := ⟨2, ![16384, 1024]⟩
abbrev S2048x1 : Shape := ⟨2, ![2048, 1]⟩
abbrev S2048x1024 : Shape := ⟨2, ![2048, 1024]⟩
abbrev S128x1024 : Shape := ⟨2, ![128, 1024]⟩
abbrev S4x4x64x1024 : Shape := ⟨4, ![4, 4, 64, 1024]⟩
abbrev S_ : Shape := ⟨0, ![]⟩
abbrev S8x3 : Shape := ⟨2, ![8, 3]⟩
abbrev S8x3x2 : Shape := ⟨3, ![8, 3, 2]⟩
abbrev S1 : Shape := ⟨1, ![1]⟩
abbrev S1x1024 : Shape := ⟨2, ![1, 1024]⟩
abbrev S128x1 : Shape := ⟨2, ![128, 1]⟩
abbrev S64x1024 : Shape := ⟨2, ![64, 1024]⟩
abbrev S1x1x64x1024 : Shape := ⟨4, ![1, 1, 64, 1024]⟩
abbrev S1x3 : Shape := ⟨2, ![1, 3]⟩
abbrev S3 : Shape := ⟨1, ![3]⟩
abbrev S1x3x2 : Shape := ⟨3, ![1, 3, 2]⟩
abbrev S3x2 : Shape := ⟨2, ![3, 2]⟩
abbrev S1x1 : Shape := ⟨2, ![1, 1]⟩
abbrev S1x2x64x1024 : Shape := ⟨4, ![1, 2, 64, 1024]⟩
abbrev S2x64x1024 : Shape := ⟨3, ![2, 64, 1024]⟩

abbrev nBuf : Space → Nat
  | .hbm => 4
  | .vmem => 7
  | .smem => 1
  | _ => 0

abbrev bufTy : (tb : Table) → Fin (tcTables nBuf tb) → BufTy
  | .hbm, ⟨0, _⟩ => ⟨S2048, .i32⟩
  | .hbm, ⟨1, _⟩ => ⟨S16384x1024, .f32⟩
  | .hbm, ⟨2, _⟩ => ⟨S2048x1, .i32⟩
  | .hbm, ⟨3, _⟩ => ⟨S2048x1024, .f32⟩
  | .local _ .vmem, ⟨0, _⟩ => ⟨S2048x1, .i32⟩
  | .local _ .vmem, ⟨1, _⟩ => ⟨S2048x1024, .f32⟩
  | .local _ .vmem, ⟨2, _⟩ => ⟨S128x1024, .f32⟩
  | .local _ .vmem, ⟨3, _⟩ => ⟨S128x1024, .bf16⟩
  | .local _ .vmem, ⟨4, _⟩ => ⟨S128x1024, .bf16⟩
  | .local _ .vmem, ⟨5, _⟩ => ⟨S4x4x64x1024, .bf16⟩
  | .local _ .vmem, ⟨6, _⟩ => ⟨S4x4x64x1024, .bf16⟩
  | .local _ .smem, ⟨0, _⟩ => ⟨S2048, .i32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 1 → Bool
  | ⟨0, _⟩ => false
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  (ofTc nBuf bufTy 1 78 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_5 : BitVec 32 := 16#32
  let v15 : BitVec 32 := Scalar.muli v9 c16_i32_5
  let v16 : BitVec 32 := Scalar.addi c0_i32 v15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_6 : BitVec 32 := 4#32
  let v17 : BitVec 32 := Scalar.muli v5 c4_i32_6
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v19 : BitVec 32 := Scalar.muli v8 c1_i32_7
  let v20 : BitVec 32 := Scalar.addi v18 v19
  v20.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.subi v8 c1_i32_8
  let c0_i32_9 : BitVec 32 := 0#32
  let v22 : BitVec 1 := Scalar.cmpi .sge v21 c0_i32_9
  let v33 : BitVec 32 := Scalar.extui v22
  let c0_i32_19 : BitVec 32 := 0#32
  let v34 : BitVec 1 := Scalar.cmpi .ne v33 c0_i32_19
  v34

def k0_dev2 (d0 : Dev nD) : Nat :=
  let c0_i32_852 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_851 : BitVec 32 := 16#32
  let v922 : BitVec 32 := Scalar.muli v2 c16_i32_851
  let v923 : BitVec 32 := Scalar.addi c0_i32_852 v922
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_853 : BitVec 32 := 4#32
  let v924 : BitVec 32 := Scalar.muli v5 c4_i32_853
  let v925 : BitVec 32 := Scalar.addi v923 v924
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.subi v8 c1_i32_10
  let c1_i32_854 : BitVec 32 := 1#32
  let v926 : BitVec 32 := Scalar.muli v23 c1_i32_854
  let v927 : BitVec 32 := Scalar.addi v925 v926
  v927.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v24 : BitVec 32 := Scalar.addi v8 c1_i32_11
  let c3_i32 : BitVec 32 := 3#32
  let v25 : BitVec 1 := Scalar.cmpi .sle v24 c3_i32
  let v37 : BitVec 32 := Scalar.extui v25
  let c0_i32_21 : BitVec 32 := 0#32
  let v38 : BitVec 1 := Scalar.cmpi .ne v37 c0_i32_21
  v38

def k0_dev3 (d0 : Dev nD) : Nat :=
  let c0_i32_852 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_851 : BitVec 32 := 16#32
  let v922 : BitVec 32 := Scalar.muli v2 c16_i32_851
  let v923 : BitVec 32 := Scalar.addi c0_i32_852 v922
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_853 : BitVec 32 := 4#32
  let v924 : BitVec 32 := Scalar.muli v5 c4_i32_853
  let v925 : BitVec 32 := Scalar.addi v923 v924
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v26 : BitVec 32 := Scalar.addi v8 c1_i32_12
  let c1_i32_854 : BitVec 32 := 1#32
  let v926 : BitVec 32 := Scalar.muli v26 c1_i32_854
  let v927 : BitVec 32 := Scalar.addi v925 v926
  v927.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v27 : BitVec 32 := Scalar.subi v5 c1_i32_13
  let c0_i32_14 : BitVec 32 := 0#32
  let v28 : BitVec 1 := Scalar.cmpi .sge v27 c0_i32_14
  let v41 : BitVec 32 := Scalar.extui v28
  let c0_i32_22 : BitVec 32 := 0#32
  let v42 : BitVec 1 := Scalar.cmpi .ne v41 c0_i32_22
  v42

def k0_dev4 (d0 : Dev nD) : Nat :=
  let c0_i32_852 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_851 : BitVec 32 := 16#32
  let v922 : BitVec 32 := Scalar.muli v2 c16_i32_851
  let v923 : BitVec 32 := Scalar.addi c0_i32_852 v922
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v29 : BitVec 32 := Scalar.subi v5 c1_i32_15
  let c4_i32_853 : BitVec 32 := 4#32
  let v924 : BitVec 32 := Scalar.muli v29 c4_i32_853
  let v925 : BitVec 32 := Scalar.addi v923 v924
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_854 : BitVec 32 := 1#32
  let v926 : BitVec 32 := Scalar.muli v8 c1_i32_854
  let v927 : BitVec 32 := Scalar.addi v925 v926
  v927.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_16 : BitVec 32 := 1#32
  let v30 : BitVec 32 := Scalar.addi v5 c1_i32_16
  let c3_i32_17 : BitVec 32 := 3#32
  let v31 : BitVec 1 := Scalar.cmpi .sle v30 c3_i32_17
  let v45 : BitVec 32 := Scalar.extui v31
  let c0_i32_23 : BitVec 32 := 0#32
  let v46 : BitVec 1 := Scalar.cmpi .ne v45 c0_i32_23
  v46

def k0_dev5 (d0 : Dev nD) : Nat :=
  let c0_i32_852 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_851 : BitVec 32 := 16#32
  let v922 : BitVec 32 := Scalar.muli v2 c16_i32_851
  let v923 : BitVec 32 := Scalar.addi c0_i32_852 v922
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_18 : BitVec 32 := 1#32
  let v32 : BitVec 32 := Scalar.addi v5 c1_i32_18
  let c4_i32_853 : BitVec 32 := 4#32
  let v924 : BitVec 32 := Scalar.muli v32 c4_i32_853
  let v925 : BitVec 32 := Scalar.addi v923 v924
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_854 : BitVec 32 := 1#32
  let v926 : BitVec 32 := Scalar.muli v8 c1_i32_854
  let v927 : BitVec 32 := Scalar.addi v925 v926
  v927.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_24 : BitVec 32 := 2#32
  let v49 : BitVec 32 := Scalar.subi v8 c2_i32_24
  let c0_i32_25 : BitVec 32 := 0#32
  let v50 : BitVec 1 := Scalar.cmpi .sge v49 c0_i32_25
  let v61 : BitVec 32 := Scalar.extui v50
  let c0_i32_36 : BitVec 32 := 0#32
  let v62 : BitVec 1 := Scalar.cmpi .ne v61 c0_i32_36
  v62

def k0_dev6 (d0 : Dev nD) : Nat :=
  let c0_i32_852 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_851 : BitVec 32 := 16#32
  let v922 : BitVec 32 := Scalar.muli v2 c16_i32_851
  let v923 : BitVec 32 := Scalar.addi c0_i32_852 v922
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_853 : BitVec 32 := 4#32
  let v924 : BitVec 32 := Scalar.muli v5 c4_i32_853
  let v925 : BitVec 32 := Scalar.addi v923 v924
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_26 : BitVec 32 := 2#32
  let v51 : BitVec 32 := Scalar.subi v8 c2_i32_26
  let c1_i32_854 : BitVec 32 := 1#32
  let v926 : BitVec 32 := Scalar.muli v51 c1_i32_854
  let v927 : BitVec 32 := Scalar.addi v925 v926
  v927.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_27 : BitVec 32 := 2#32
  let v52 : BitVec 32 := Scalar.addi v8 c2_i32_27
  let c3_i32_28 : BitVec 32 := 3#32
  let v53 : BitVec 1 := Scalar.cmpi .sle v52 c3_i32_28
  let v65 : BitVec 32 := Scalar.extui v53
  let c0_i32_37 : BitVec 32 := 0#32
  let v66 : BitVec 1 := Scalar.cmpi .ne v65 c0_i32_37
  v66

def k0_dev7 (d0 : Dev nD) : Nat :=
  let c0_i32_852 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_851 : BitVec 32 := 16#32
  let v922 : BitVec 32 := Scalar.muli v2 c16_i32_851
  let v923 : BitVec 32 := Scalar.addi c0_i32_852 v922
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_853 : BitVec 32 := 4#32
  let v924 : BitVec 32 := Scalar.muli v5 c4_i32_853
  let v925 : BitVec 32 := Scalar.addi v923 v924
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_29 : BitVec 32 := 2#32
  let v54 : BitVec 32 := Scalar.addi v8 c2_i32_29
  let c1_i32_854 : BitVec 32 := 1#32
  let v926 : BitVec 32 := Scalar.muli v54 c1_i32_854
  let v927 : BitVec 32 := Scalar.addi v925 v926
  v927.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_30 : BitVec 32 := 2#32
  let v55 : BitVec 32 := Scalar.subi v5 c2_i32_30
  let c0_i32_31 : BitVec 32 := 0#32
  let v56 : BitVec 1 := Scalar.cmpi .sge v55 c0_i32_31
  let v69 : BitVec 32 := Scalar.extui v56
  let c0_i32_38 : BitVec 32 := 0#32
  let v70 : BitVec 1 := Scalar.cmpi .ne v69 c0_i32_38
  v70

def k0_dev8 (d0 : Dev nD) : Nat :=
  let c0_i32_852 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_851 : BitVec 32 := 16#32
  let v922 : BitVec 32 := Scalar.muli v2 c16_i32_851
  let v923 : BitVec 32 := Scalar.addi c0_i32_852 v922
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_32 : BitVec 32 := 2#32
  let v57 : BitVec 32 := Scalar.subi v5 c2_i32_32
  let c4_i32_853 : BitVec 32 := 4#32
  let v924 : BitVec 32 := Scalar.muli v57 c4_i32_853
  let v925 : BitVec 32 := Scalar.addi v923 v924
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_854 : BitVec 32 := 1#32
  let v926 : BitVec 32 := Scalar.muli v8 c1_i32_854
  let v927 : BitVec 32 := Scalar.addi v925 v926
  v927.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_33 : BitVec 32 := 2#32
  let v58 : BitVec 32 := Scalar.addi v5 c2_i32_33
  let c3_i32_34 : BitVec 32 := 3#32
  let v59 : BitVec 1 := Scalar.cmpi .sle v58 c3_i32_34
  let v73 : BitVec 32 := Scalar.extui v59
  let c0_i32_39 : BitVec 32 := 0#32
  let v74 : BitVec 1 := Scalar.cmpi .ne v73 c0_i32_39
  v74

def k0_dev9 (d0 : Dev nD) : Nat :=
  let c0_i32_852 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_851 : BitVec 32 := 16#32
  let v922 : BitVec 32 := Scalar.muli v2 c16_i32_851
  let v923 : BitVec 32 := Scalar.addi c0_i32_852 v922
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_35 : BitVec 32 := 2#32
  let v60 : BitVec 32 := Scalar.addi v5 c2_i32_35
  let c4_i32_853 : BitVec 32 := 4#32
  let v924 : BitVec 32 := Scalar.muli v60 c4_i32_853
  let v925 : BitVec 32 := Scalar.addi v923 v924
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_854 : BitVec 32 := 1#32
  let v926 : BitVec 32 := Scalar.muli v8 c1_i32_854
  let v927 : BitVec 32 := Scalar.addi v925 v926
  v927.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_40 : BitVec 32 := 3#32
  let v77 : BitVec 32 := Scalar.subi v8 c3_i32_40
  let c0_i32_41 : BitVec 32 := 0#32
  let v78 : BitVec 1 := Scalar.cmpi .sge v77 c0_i32_41
  let v89 : BitVec 32 := Scalar.extui v78
  let c0_i32_52 : BitVec 32 := 0#32
  let v90 : BitVec 1 := Scalar.cmpi .ne v89 c0_i32_52
  v90

def k0_dev10 (d0 : Dev nD) : Nat :=
  let c0_i32_852 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_851 : BitVec 32 := 16#32
  let v922 : BitVec 32 := Scalar.muli v2 c16_i32_851
  let v923 : BitVec 32 := Scalar.addi c0_i32_852 v922
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_853 : BitVec 32 := 4#32
  let v924 : BitVec 32 := Scalar.muli v5 c4_i32_853
  let v925 : BitVec 32 := Scalar.addi v923 v924
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_42 : BitVec 32 := 3#32
  let v79 : BitVec 32 := Scalar.subi v8 c3_i32_42
  let c1_i32_854 : BitVec 32 := 1#32
  let v926 : BitVec 32 := Scalar.muli v79 c1_i32_854
  let v927 : BitVec 32 := Scalar.addi v925 v926
  v927.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_43 : BitVec 32 := 3#32
  let v80 : BitVec 32 := Scalar.addi v8 c3_i32_43
  let c3_i32_44 : BitVec 32 := 3#32
  let v81 : BitVec 1 := Scalar.cmpi .sle v80 c3_i32_44
  let v93 : BitVec 32 := Scalar.extui v81
  let c0_i32_53 : BitVec 32 := 0#32
  let v94 : BitVec 1 := Scalar.cmpi .ne v93 c0_i32_53
  v94

def k0_dev11 (d0 : Dev nD) : Nat :=
  let c0_i32_852 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_851 : BitVec 32 := 16#32
  let v922 : BitVec 32 := Scalar.muli v2 c16_i32_851
  let v923 : BitVec 32 := Scalar.addi c0_i32_852 v922
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_853 : BitVec 32 := 4#32
  let v924 : BitVec 32 := Scalar.muli v5 c4_i32_853
  let v925 : BitVec 32 := Scalar.addi v923 v924
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_45 : BitVec 32 := 3#32
  let v82 : BitVec 32 := Scalar.addi v8 c3_i32_45
  let c1_i32_854 : BitVec 32 := 1#32
  let v926 : BitVec 32 := Scalar.muli v82 c1_i32_854
  let v927 : BitVec 32 := Scalar.addi v925 v926
  v927.toNat
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_46 : BitVec 32 := 3#32
  let v83 : BitVec 32 := Scalar.subi v5 c3_i32_46
  let c0_i32_47 : BitVec 32 := 0#32
  let v84 : BitVec 1 := Scalar.cmpi .sge v83 c0_i32_47
  let v97 : BitVec 32 := Scalar.extui v84
  let c0_i32_54 : BitVec 32 := 0#32
  let v98 : BitVec 1 := Scalar.cmpi .ne v97 c0_i32_54
  v98

def k0_dev12 (d0 : Dev nD) : Nat :=
  let c0_i32_852 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_851 : BitVec 32 := 16#32
  let v922 : BitVec 32 := Scalar.muli v2 c16_i32_851
  let v923 : BitVec 32 := Scalar.addi c0_i32_852 v922
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_48 : BitVec 32 := 3#32
  let v85 : BitVec 32 := Scalar.subi v5 c3_i32_48
  let c4_i32_853 : BitVec 32 := 4#32
  let v924 : BitVec 32 := Scalar.muli v85 c4_i32_853
  let v925 : BitVec 32 := Scalar.addi v923 v924
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_854 : BitVec 32 := 1#32
  let v926 : BitVec 32 := Scalar.muli v8 c1_i32_854
  let v927 : BitVec 32 := Scalar.addi v925 v926
  v927.toNat
def k0_cond12 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_49 : BitVec 32 := 3#32
  let v86 : BitVec 32 := Scalar.addi v5 c3_i32_49
  let c3_i32_50 : BitVec 32 := 3#32
  let v87 : BitVec 1 := Scalar.cmpi .sle v86 c3_i32_50
  let v101 : BitVec 32 := Scalar.extui v87
  let c0_i32_55 : BitVec 32 := 0#32
  let v102 : BitVec 1 := Scalar.cmpi .ne v101 c0_i32_55
  v102

def k0_dev13 (d0 : Dev nD) : Nat :=
  let c0_i32_852 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_851 : BitVec 32 := 16#32
  let v922 : BitVec 32 := Scalar.muli v2 c16_i32_851
  let v923 : BitVec 32 := Scalar.addi c0_i32_852 v922
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_51 : BitVec 32 := 3#32
  let v88 : BitVec 32 := Scalar.addi v5 c3_i32_51
  let c4_i32_853 : BitVec 32 := 4#32
  let v924 : BitVec 32 := Scalar.muli v88 c4_i32_853
  let v925 : BitVec 32 := Scalar.addi v923 v924
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_854 : BitVec 32 := 1#32
  let v926 : BitVec 32 := Scalar.muli v8 c1_i32_854
  let v927 : BitVec 32 := Scalar.addi v925 v926
  v927.toNat
@[reducible] def k0_t1_loop : Scf.Loop 32 :=
  let c0_i32_56 : BitVec 32 := 0#32
  let c32_i32 : BitVec 32 := 32#32
  let v105 : BitVec 32 := Scalar.addi c0_i32_56 c32_i32
  let c1_i32_57 : BitVec 32 := 1#32
  ⟨c0_i32_56, v105, c1_i32_57⟩
def k0_off1 (d0 : Dev nD) (k0_t1 : Fin k0_t1_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v11 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c128_i32 : BitVec 32 := 128#32
  let v13 : BitVec 32 := Scalar.muli v12 c128_i32
  let c0_i32_56 : BitVec 32 := 0#32
  let c1_i32_57 : BitVec 32 := 1#32
  let arg14 : BitVec 32 := Scf.iv c0_i32_56 c1_i32_57 k0_t1
  let c4_i32_850 : BitVec 32 := 4#32
  let v922 : BitVec 32 := Scalar.muli arg14 c4_i32_850
  let c0_i32_851 : BitVec 32 := 0#32
  let v923 : BitVec 32 := Scalar.addi v922 c0_i32_851
  let v924 : BitVec 32 := Scalar.addi v13 v923
  let v925 : Index := Scalar.indexCast v924
  ![v925.toNat]
def k0_off2 (k0_t1 : Fin k0_t1_loop.trips) : Fin 2 → Nat :=
  let c0_i32_56 : BitVec 32 := 0#32
  let c1_i32_57 : BitVec 32 := 1#32
  let arg14 : BitVec 32 := Scf.iv c0_i32_56 c1_i32_57 k0_t1
  let c4_i32_850 : BitVec 32 := 4#32
  let v922 : BitVec 32 := Scalar.muli arg14 c4_i32_850
  let c0_i32_851 : BitVec 32 := 0#32
  let v923 : BitVec 32 := Scalar.addi v922 c0_i32_851
  let c0_i32_853 : BitVec 32 := 0#32
  ![v923.toNat, 0]
def k0_off3 (d0 : Dev nD) (v926 : BitVec 32) : Fin 2 → Nat :=
  let c16383_i32 : BitVec 32 := 16383#32
  let c0_i32_852 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16384_i32 : BitVec 32 := 16384#32
  let v10 : BitVec 32 := Scalar.muli v2 c16384_i32
  let v927 : BitVec 32 := Scalar.subi v926 v10
  let v928 : BitVec 32 := Scalar.maxsi c0_i32_852 v927
  let v929 : BitVec 32 := Scalar.minsi c16383_i32 v928
  let c0_i32_854 : BitVec 32 := 0#32
  ![v929.toNat, 0]

def k0_chk1 (d0 : Dev nD) (v926 : BitVec 32) : Prop :=
  (∀ a, (k0_off3 d0 v926) a + S1x1024.size a ≤ S16384x1024.size a)
theorem k0_off3_inb : ∀ (d0 : Dev nD) (v926 : BitVec 32) (k0_hw1 : k0_chk1 d0 v926), ∀ a, (k0_off3 d0 v926) a + S1x1024.size a ≤ S16384x1024.size a := fun d0 v926 k0_hw1 => k0_hw1

def k0_off4 (d0 : Dev nD) (k0_t1 : Fin k0_t1_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v11 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c128_i32 : BitVec 32 := 128#32
  let v13 : BitVec 32 := Scalar.muli v12 c128_i32
  let c0_i32_56 : BitVec 32 := 0#32
  let c1_i32_57 : BitVec 32 := 1#32
  let arg14 : BitVec 32 := Scf.iv c0_i32_56 c1_i32_57 k0_t1
  let c4_i32_855 : BitVec 32 := 4#32
  let v932 : BitVec 32 := Scalar.muli arg14 c4_i32_855
  let c1_i32_856 : BitVec 32 := 1#32
  let v933 : BitVec 32 := Scalar.addi v932 c1_i32_856
  let v934 : BitVec 32 := Scalar.addi v13 v933
  let v935 : Index := Scalar.indexCast v934
  ![v935.toNat]
def k0_off5 (k0_t1 : Fin k0_t1_loop.trips) : Fin 2 → Nat :=
  let c0_i32_56 : BitVec 32 := 0#32
  let c1_i32_57 : BitVec 32 := 1#32
  let arg14 : BitVec 32 := Scf.iv c0_i32_56 c1_i32_57 k0_t1
  let c4_i32_855 : BitVec 32 := 4#32
  let v932 : BitVec 32 := Scalar.muli arg14 c4_i32_855
  let c1_i32_856 : BitVec 32 := 1#32
  let v933 : BitVec 32 := Scalar.addi v932 c1_i32_856
  let c0_i32_859 : BitVec 32 := 0#32
  ![v933.toNat, 0]
def k0_off6 (d0 : Dev nD) (v936 : BitVec 32) : Fin 2 → Nat :=
  let c16383_i32_858 : BitVec 32 := 16383#32
  let c0_i32_857 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16384_i32 : BitVec 32 := 16384#32
  let v10 : BitVec 32 := Scalar.muli v2 c16384_i32
  let v937 : BitVec 32 := Scalar.subi v936 v10
  let v938 : BitVec 32 := Scalar.maxsi c0_i32_857 v937
  let v939 : BitVec 32 := Scalar.minsi c16383_i32_858 v938
  let c0_i32_860 : BitVec 32 := 0#32
  ![v939.toNat, 0]

def k0_chk2 (d0 : Dev nD) (v936 : BitVec 32) : Prop :=
  (∀ a, (k0_off6 d0 v936) a + S1x1024.size a ≤ S16384x1024.size a)
theorem k0_off6_inb : ∀ (d0 : Dev nD) (v936 : BitVec 32) (k0_hw2 : k0_chk2 d0 v936), ∀ a, (k0_off6 d0 v936) a + S1x1024.size a ≤ S16384x1024.size a := fun d0 v936 k0_hw2 => k0_hw2

def k0_off7 (d0 : Dev nD) (k0_t1 : Fin k0_t1_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v11 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c128_i32 : BitVec 32 := 128#32
  let v13 : BitVec 32 := Scalar.muli v12 c128_i32
  let c0_i32_56 : BitVec 32 := 0#32
  let c1_i32_57 : BitVec 32 := 1#32
  let arg14 : BitVec 32 := Scf.iv c0_i32_56 c1_i32_57 k0_t1
  let c4_i32_861 : BitVec 32 := 4#32
  let v942 : BitVec 32 := Scalar.muli arg14 c4_i32_861
  let c2_i32_862 : BitVec 32 := 2#32
  let v943 : BitVec 32 := Scalar.addi v942 c2_i32_862
  let v944 : BitVec 32 := Scalar.addi v13 v943
  let v945 : Index := Scalar.indexCast v944
  ![v945.toNat]
def k0_off8 (k0_t1 : Fin k0_t1_loop.trips) : Fin 2 → Nat :=
  let c0_i32_56 : BitVec 32 := 0#32
  let c1_i32_57 : BitVec 32 := 1#32
  let arg14 : BitVec 32 := Scf.iv c0_i32_56 c1_i32_57 k0_t1
  let c4_i32_861 : BitVec 32 := 4#32
  let v942 : BitVec 32 := Scalar.muli arg14 c4_i32_861
  let c2_i32_862 : BitVec 32 := 2#32
  let v943 : BitVec 32 := Scalar.addi v942 c2_i32_862
  let c0_i32_865 : BitVec 32 := 0#32
  ![v943.toNat, 0]
def k0_off9 (d0 : Dev nD) (v946 : BitVec 32) : Fin 2 → Nat :=
  let c16383_i32_864 : BitVec 32 := 16383#32
  let c0_i32_863 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16384_i32 : BitVec 32 := 16384#32
  let v10 : BitVec 32 := Scalar.muli v2 c16384_i32
  let v947 : BitVec 32 := Scalar.subi v946 v10
  let v948 : BitVec 32 := Scalar.maxsi c0_i32_863 v947
  let v949 : BitVec 32 := Scalar.minsi c16383_i32_864 v948
  let c0_i32_866 : BitVec 32 := 0#32
  ![v949.toNat, 0]

def k0_chk3 (d0 : Dev nD) (v946 : BitVec 32) : Prop :=
  (∀ a, (k0_off9 d0 v946) a + S1x1024.size a ≤ S16384x1024.size a)
theorem k0_off9_inb : ∀ (d0 : Dev nD) (v946 : BitVec 32) (k0_hw3 : k0_chk3 d0 v946), ∀ a, (k0_off9 d0 v946) a + S1x1024.size a ≤ S16384x1024.size a := fun d0 v946 k0_hw3 => k0_hw3

def k0_off10 (d0 : Dev nD) (k0_t1 : Fin k0_t1_loop.trips) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v11 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c128_i32 : BitVec 32 := 128#32
  let v13 : BitVec 32 := Scalar.muli v12 c128_i32
  let c0_i32_56 : BitVec 32 := 0#32
  let c1_i32_57 : BitVec 32 := 1#32
  let arg14 : BitVec 32 := Scf.iv c0_i32_56 c1_i32_57 k0_t1
  let c4_i32_867 : BitVec 32 := 4#32
  let v952 : BitVec 32 := Scalar.muli arg14 c4_i32_867
  let c3_i32_868 : BitVec 32 := 3#32
  let v953 : BitVec 32 := Scalar.addi v952 c3_i32_868
  let v954 : BitVec 32 := Scalar.addi v13 v953
  let v955 : Index := Scalar.indexCast v954
  ![v955.toNat]
def k0_off11 (k0_t1 : Fin k0_t1_loop.trips) : Fin 2 → Nat :=
  let c0_i32_56 : BitVec 32 := 0#32
  let c1_i32_57 : BitVec 32 := 1#32
  let arg14 : BitVec 32 := Scf.iv c0_i32_56 c1_i32_57 k0_t1
  let c4_i32_867 : BitVec 32 := 4#32
  let v952 : BitVec 32 := Scalar.muli arg14 c4_i32_867
  let c3_i32_868 : BitVec 32 := 3#32
  let v953 : BitVec 32 := Scalar.addi v952 c3_i32_868
  let c0_i32_871 : BitVec 32 := 0#32
  ![v953.toNat, 0]
def k0_off12 (d0 : Dev nD) (v956 : BitVec 32) : Fin 2 → Nat :=
  let c16383_i32_870 : BitVec 32 := 16383#32
  let c0_i32_869 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16384_i32 : BitVec 32 := 16384#32
  let v10 : BitVec 32 := Scalar.muli v2 c16384_i32
  let v957 : BitVec 32 := Scalar.subi v956 v10
  let v958 : BitVec 32 := Scalar.maxsi c0_i32_869 v957
  let v959 : BitVec 32 := Scalar.minsi c16383_i32_870 v958
  let c0_i32_872 : BitVec 32 := 0#32
  ![v959.toNat, 0]

def k0_chk4 (d0 : Dev nD) (v956 : BitVec 32) : Prop :=
  (∀ a, (k0_off12 d0 v956) a + S1x1024.size a ≤ S16384x1024.size a)
theorem k0_off12_inb : ∀ (d0 : Dev nD) (v956 : BitVec 32) (k0_hw4 : k0_chk4 d0 v956), ∀ a, (k0_off12 d0 v956) a + S1x1024.size a ≤ S16384x1024.size a := fun d0 v956 k0_hw4 => k0_hw4

@[reducible] def k0_t2_loop : Scf.Loop 32 :=
  let c0_i32_59 : BitVec 32 := 0#32
  let c128_i32_60 : BitVec 32 := 128#32
  let v106 : BitVec 32 := Scalar.addi c0_i32_59 c128_i32_60
  let c1_i32_61 : BitVec 32 := 1#32
  ⟨c0_i32_59, v106, c1_i32_61⟩
def k0_off13 (k0_t2 : Fin k0_t2_loop.trips) : Fin 2 → Nat :=
  let c0_i32_59 : BitVec 32 := 0#32
  let c1_i32_61 : BitVec 32 := 1#32
  let arg14 : BitVec 32 := Scf.iv c0_i32_59 c1_i32_61 k0_t2
  let c0_i32_850 : BitVec 32 := 0#32
  ![arg14.toNat, 0]
def k0_off14 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v11 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c128_i32 : BitVec 32 := 128#32
  let v13 : BitVec 32 := Scalar.muli v12 c128_i32
  let v107 : Index := Scalar.indexCast v13
  let c0 : Index := 0#32
  ![v107.toNat, 0]
def k0_amt1 (d0 : Dev nD) : BitVec 32 :=
  let c1_i32_20 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v21 : BitVec 32 := Scalar.subi v8 c1_i32_8
  let c0_i32_9 : BitVec 32 := 0#32
  let v22 : BitVec 1 := Scalar.cmpi .sge v21 c0_i32_9
  let v35 : BitVec 32 := Scalar.extui v22
  let v36 : BitVec 32 := Scalar.addi c1_i32_20 v35
  let c1_i32_11 : BitVec 32 := 1#32
  let v24 : BitVec 32 := Scalar.addi v8 c1_i32_11
  let c3_i32 : BitVec 32 := 3#32
  let v25 : BitVec 1 := Scalar.cmpi .sle v24 c3_i32
  let v39 : BitVec 32 := Scalar.extui v25
  let v40 : BitVec 32 := Scalar.addi v36 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_13 : BitVec 32 := 1#32
  let v27 : BitVec 32 := Scalar.subi v5 c1_i32_13
  let c0_i32_14 : BitVec 32 := 0#32
  let v28 : BitVec 1 := Scalar.cmpi .sge v27 c0_i32_14
  let v43 : BitVec 32 := Scalar.extui v28
  let v44 : BitVec 32 := Scalar.addi v40 v43
  let c1_i32_16 : BitVec 32 := 1#32
  let v30 : BitVec 32 := Scalar.addi v5 c1_i32_16
  let c3_i32_17 : BitVec 32 := 3#32
  let v31 : BitVec 1 := Scalar.cmpi .sle v30 c3_i32_17
  let v47 : BitVec 32 := Scalar.extui v31
  let v48 : BitVec 32 := Scalar.addi v44 v47
  let c2_i32_24 : BitVec 32 := 2#32
  let v49 : BitVec 32 := Scalar.subi v8 c2_i32_24
  let c0_i32_25 : BitVec 32 := 0#32
  let v50 : BitVec 1 := Scalar.cmpi .sge v49 c0_i32_25
  let v63 : BitVec 32 := Scalar.extui v50
  let v64 : BitVec 32 := Scalar.addi v48 v63
  let c2_i32_27 : BitVec 32 := 2#32
  let v52 : BitVec 32 := Scalar.addi v8 c2_i32_27
  let c3_i32_28 : BitVec 32 := 3#32
  let v53 : BitVec 1 := Scalar.cmpi .sle v52 c3_i32_28
  let v67 : BitVec 32 := Scalar.extui v53
  let v68 : BitVec 32 := Scalar.addi v64 v67
  let c2_i32_30 : BitVec 32 := 2#32
  let v55 : BitVec 32 := Scalar.subi v5 c2_i32_30
  let c0_i32_31 : BitVec 32 := 0#32
  let v56 : BitVec 1 := Scalar.cmpi .sge v55 c0_i32_31
  let v71 : BitVec 32 := Scalar.extui v56
  let v72 : BitVec 32 := Scalar.addi v68 v71
  let c2_i32_33 : BitVec 32 := 2#32
  let v58 : BitVec 32 := Scalar.addi v5 c2_i32_33
  let c3_i32_34 : BitVec 32 := 3#32
  let v59 : BitVec 1 := Scalar.cmpi .sle v58 c3_i32_34
  let v75 : BitVec 32 := Scalar.extui v59
  let v76 : BitVec 32 := Scalar.addi v72 v75
  let c3_i32_40 : BitVec 32 := 3#32
  let v77 : BitVec 32 := Scalar.subi v8 c3_i32_40
  let c0_i32_41 : BitVec 32 := 0#32
  let v78 : BitVec 1 := Scalar.cmpi .sge v77 c0_i32_41
  let v91 : BitVec 32 := Scalar.extui v78
  let v92 : BitVec 32 := Scalar.addi v76 v91
  let c3_i32_43 : BitVec 32 := 3#32
  let v80 : BitVec 32 := Scalar.addi v8 c3_i32_43
  let c3_i32_44 : BitVec 32 := 3#32
  let v81 : BitVec 1 := Scalar.cmpi .sle v80 c3_i32_44
  let v95 : BitVec 32 := Scalar.extui v81
  let v96 : BitVec 32 := Scalar.addi v92 v95
  let c3_i32_46 : BitVec 32 := 3#32
  let v83 : BitVec 32 := Scalar.subi v5 c3_i32_46
  let c0_i32_47 : BitVec 32 := 0#32
  let v84 : BitVec 1 := Scalar.cmpi .sge v83 c0_i32_47
  let v99 : BitVec 32 := Scalar.extui v84
  let v100 : BitVec 32 := Scalar.addi v96 v99
  let c3_i32_49 : BitVec 32 := 3#32
  let v86 : BitVec 32 := Scalar.addi v5 c3_i32_49
  let c3_i32_50 : BitVec 32 := 3#32
  let v87 : BitVec 1 := Scalar.cmpi .sle v86 c3_i32_50
  let v103 : BitVec 32 := Scalar.extui v87
  let v104 : BitVec 32 := Scalar.addi v100 v103
  v104

def k0_dev14 (d0 : Dev nD) : Nat :=
  let c0_i32_69 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_68 : BitVec 32 := 16#32
  let v125 : BitVec 32 := Scalar.muli v9 c16_i32_68
  let v126 : BitVec 32 := Scalar.addi c0_i32_69 v125
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_70 : BitVec 32 := 4#32
  let v127 : BitVec 32 := Scalar.muli v5 c4_i32_70
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v129 : BitVec 32 := Scalar.muli v8 c1_i32_71
  let v130 : BitVec 32 := Scalar.addi v128 v129
  v130.toNat
def k0_off15 (d0 : Dev nD) (c4_i32_0 : BitVec 32) (c1_i32 : BitVec 32) : Fin 4 → Nat :=
  let v3 : BitVec 32 := Dev.word d0
  let v4 : BitVec 32 := Scalar.divsi v3 c4_i32_0
  let c4_i32 : BitVec 32 := 4#32
  let v5 : BitVec 32 := Scalar.remsi v4 c4_i32
  let v143 : Index := Scalar.indexCast v5
  let v6 : BitVec 32 := Dev.word d0
  let v7 : BitVec 32 := Scalar.divsi v6 c1_i32
  let c4_i32_1 : BitVec 32 := 4#32
  let v8 : BitVec 32 := Scalar.remsi v7 c4_i32_1
  let v144 : Index := Scalar.indexCast v8
  let c0_79 : Index := 0#32
  let c0_80 : Index := 0#32
  ![v143.toNat, v144.toNat, 0, 0]
def k0_off15_at (r : Fin 2) : BitVec 32 × BitVec 32 :=
  if r.val < 1 then
    (4#32, 1#32)
  else
    (1#32, 4#32)
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v155 : BitVec 32 := Scalar.addi v8 c1_i32_83
  let c3_i32_84 : BitVec 32 := 3#32
  let v156 : BitVec 1 := Scalar.cmpi .sle v155 c3_i32_84
  let v157 : BitVec 32 := Scalar.extui v156
  let c0_i32_87 : BitVec 32 := 0#32
  let v158 : BitVec 1 := Scalar.cmpi .ne v157 c0_i32_87
  v158

def k0_off16 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_859 : BitVec 32 := 0#32
  let c0_i32_860 : BitVec 32 := 0#32
  ![v5.toNat, v8.toNat, 0, 0]
def k0_dev15 (d0 : Dev nD) : Nat :=
  let c0_i32_854 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_853 : BitVec 32 := 16#32
  let v923 : BitVec 32 := Scalar.muli v2 c16_i32_853
  let v924 : BitVec 32 := Scalar.addi c0_i32_854 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_855 : BitVec 32 := 4#32
  let v925 : BitVec 32 := Scalar.muli v5 c4_i32_855
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_850 : BitVec 32 := 1#32
  let v922 : BitVec 32 := Scalar.addi v8 c1_i32_850
  let c1_i32_856 : BitVec 32 := 1#32
  let v927 : BitVec 32 := Scalar.muli v922 c1_i32_856
  let v928 : BitVec 32 := Scalar.addi v926 v927
  v928.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v159 : BitVec 32 := Scalar.subi v8 c1_i32_88
  let c0_i32_89 : BitVec 32 := 0#32
  let v160 : BitVec 1 := Scalar.cmpi .sge v159 c0_i32_89
  let v161 : BitVec 32 := Scalar.extui v160
  let c0_i32_92 : BitVec 32 := 0#32
  let v162 : BitVec 1 := Scalar.cmpi .ne v161 c0_i32_92
  v162

def k0_off17 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_858 : BitVec 32 := 0#32
  let c0_i32_859 : BitVec 32 := 0#32
  ![v5.toNat, v8.toNat, 0, 0]
def k0_dev16 (d0 : Dev nD) : Nat :=
  let c0_i32_853 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_852 : BitVec 32 := 16#32
  let v923 : BitVec 32 := Scalar.muli v2 c16_i32_852
  let v924 : BitVec 32 := Scalar.addi c0_i32_853 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_854 : BitVec 32 := 4#32
  let v925 : BitVec 32 := Scalar.muli v5 c4_i32_854
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v922 : BitVec 32 := Scalar.addi v8 c_m1_i32
  let c1_i32_855 : BitVec 32 := 1#32
  let v927 : BitVec 32 := Scalar.muli v922 c1_i32_855
  let v928 : BitVec 32 := Scalar.addi v926 v927
  v928.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_93 : BitVec 32 := 2#32
  let v163 : BitVec 32 := Scalar.addi v8 c2_i32_93
  let c3_i32_94 : BitVec 32 := 3#32
  let v164 : BitVec 1 := Scalar.cmpi .sle v163 c3_i32_94
  let v165 : BitVec 32 := Scalar.extui v164
  let c0_i32_97 : BitVec 32 := 0#32
  let v166 : BitVec 1 := Scalar.cmpi .ne v165 c0_i32_97
  v166

def k0_off18 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_859 : BitVec 32 := 0#32
  let c0_i32_860 : BitVec 32 := 0#32
  ![v5.toNat, v8.toNat, 0, 0]
def k0_dev17 (d0 : Dev nD) : Nat :=
  let c0_i32_854 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_853 : BitVec 32 := 16#32
  let v923 : BitVec 32 := Scalar.muli v2 c16_i32_853
  let v924 : BitVec 32 := Scalar.addi c0_i32_854 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_855 : BitVec 32 := 4#32
  let v925 : BitVec 32 := Scalar.muli v5 c4_i32_855
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_850 : BitVec 32 := 2#32
  let v922 : BitVec 32 := Scalar.addi v8 c2_i32_850
  let c1_i32_856 : BitVec 32 := 1#32
  let v927 : BitVec 32 := Scalar.muli v922 c1_i32_856
  let v928 : BitVec 32 := Scalar.addi v926 v927
  v928.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_98 : BitVec 32 := 2#32
  let v167 : BitVec 32 := Scalar.subi v8 c2_i32_98
  let c0_i32_99 : BitVec 32 := 0#32
  let v168 : BitVec 1 := Scalar.cmpi .sge v167 c0_i32_99
  let v169 : BitVec 32 := Scalar.extui v168
  let c0_i32_102 : BitVec 32 := 0#32
  let v170 : BitVec 1 := Scalar.cmpi .ne v169 c0_i32_102
  v170

def k0_off19 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_858 : BitVec 32 := 0#32
  let c0_i32_859 : BitVec 32 := 0#32
  ![v5.toNat, v8.toNat, 0, 0]
def k0_dev18 (d0 : Dev nD) : Nat :=
  let c0_i32_853 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_852 : BitVec 32 := 16#32
  let v923 : BitVec 32 := Scalar.muli v2 c16_i32_852
  let v924 : BitVec 32 := Scalar.addi c0_i32_853 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_854 : BitVec 32 := 4#32
  let v925 : BitVec 32 := Scalar.muli v5 c4_i32_854
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m2_i32 : BitVec 32 := 4294967294#32
  let v922 : BitVec 32 := Scalar.addi v8 c_m2_i32
  let c1_i32_855 : BitVec 32 := 1#32
  let v927 : BitVec 32 := Scalar.muli v922 c1_i32_855
  let v928 : BitVec 32 := Scalar.addi v926 v927
  v928.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_103 : BitVec 32 := 3#32
  let v171 : BitVec 32 := Scalar.addi v8 c3_i32_103
  let c3_i32_104 : BitVec 32 := 3#32
  let v172 : BitVec 1 := Scalar.cmpi .sle v171 c3_i32_104
  let v173 : BitVec 32 := Scalar.extui v172
  let c0_i32_107 : BitVec 32 := 0#32
  let v174 : BitVec 1 := Scalar.cmpi .ne v173 c0_i32_107
  v174

def k0_off20 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_859 : BitVec 32 := 0#32
  let c0_i32_860 : BitVec 32 := 0#32
  ![v5.toNat, v8.toNat, 0, 0]
def k0_dev19 (d0 : Dev nD) : Nat :=
  let c0_i32_854 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_853 : BitVec 32 := 16#32
  let v923 : BitVec 32 := Scalar.muli v2 c16_i32_853
  let v924 : BitVec 32 := Scalar.addi c0_i32_854 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_855 : BitVec 32 := 4#32
  let v925 : BitVec 32 := Scalar.muli v5 c4_i32_855
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_850 : BitVec 32 := 3#32
  let v922 : BitVec 32 := Scalar.addi v8 c3_i32_850
  let c1_i32_856 : BitVec 32 := 1#32
  let v927 : BitVec 32 := Scalar.muli v922 c1_i32_856
  let v928 : BitVec 32 := Scalar.addi v926 v927
  v928.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_108 : BitVec 32 := 3#32
  let v175 : BitVec 32 := Scalar.subi v8 c3_i32_108
  let c0_i32_109 : BitVec 32 := 0#32
  let v176 : BitVec 1 := Scalar.cmpi .sge v175 c0_i32_109
  let v177 : BitVec 32 := Scalar.extui v176
  let c0_i32_112 : BitVec 32 := 0#32
  let v178 : BitVec 1 := Scalar.cmpi .ne v177 c0_i32_112
  v178

def k0_off21 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_858 : BitVec 32 := 0#32
  let c0_i32_859 : BitVec 32 := 0#32
  ![v5.toNat, v8.toNat, 0, 0]
def k0_dev20 (d0 : Dev nD) : Nat :=
  let c0_i32_853 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_852 : BitVec 32 := 16#32
  let v923 : BitVec 32 := Scalar.muli v2 c16_i32_852
  let v924 : BitVec 32 := Scalar.addi c0_i32_853 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_854 : BitVec 32 := 4#32
  let v925 : BitVec 32 := Scalar.muli v5 c4_i32_854
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m3_i32 : BitVec 32 := 4294967293#32
  let v922 : BitVec 32 := Scalar.addi v8 c_m3_i32
  let c1_i32_855 : BitVec 32 := 1#32
  let v927 : BitVec 32 := Scalar.muli v922 c1_i32_855
  let v928 : BitVec 32 := Scalar.addi v926 v927
  v928.toNat
def k0_cond19 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_113 : BitVec 32 := 1#32
  let v179 : BitVec 32 := Scalar.addi v5 c1_i32_113
  let c3_i32_114 : BitVec 32 := 3#32
  let v180 : BitVec 1 := Scalar.cmpi .sle v179 c3_i32_114
  let v181 : BitVec 32 := Scalar.extui v180
  let c0_i32_116 : BitVec 32 := 0#32
  let v182 : BitVec 1 := Scalar.cmpi .ne v181 c0_i32_116
  v182

def k0_off22 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_859 : BitVec 32 := 0#32
  let c0_i32_860 : BitVec 32 := 0#32
  ![v8.toNat, v5.toNat, 0, 0]
def k0_dev21 (d0 : Dev nD) : Nat :=
  let c0_i32_854 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_853 : BitVec 32 := 16#32
  let v923 : BitVec 32 := Scalar.muli v2 c16_i32_853
  let v924 : BitVec 32 := Scalar.addi c0_i32_854 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_850 : BitVec 32 := 1#32
  let v922 : BitVec 32 := Scalar.addi v5 c1_i32_850
  let c4_i32_855 : BitVec 32 := 4#32
  let v925 : BitVec 32 := Scalar.muli v922 c4_i32_855
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_856 : BitVec 32 := 1#32
  let v927 : BitVec 32 := Scalar.muli v8 c1_i32_856
  let v928 : BitVec 32 := Scalar.addi v926 v927
  v928.toNat
def k0_cond20 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_117 : BitVec 32 := 1#32
  let v183 : BitVec 32 := Scalar.subi v5 c1_i32_117
  let c0_i32_118 : BitVec 32 := 0#32
  let v184 : BitVec 1 := Scalar.cmpi .sge v183 c0_i32_118
  let v185 : BitVec 32 := Scalar.extui v184
  let c0_i32_119 : BitVec 32 := 0#32
  let v186 : BitVec 1 := Scalar.cmpi .ne v185 c0_i32_119
  v186

def k0_off23 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_858 : BitVec 32 := 0#32
  let c0_i32_859 : BitVec 32 := 0#32
  ![v8.toNat, v5.toNat, 0, 0]
def k0_dev22 (d0 : Dev nD) : Nat :=
  let c0_i32_853 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_852 : BitVec 32 := 16#32
  let v923 : BitVec 32 := Scalar.muli v2 c16_i32_852
  let v924 : BitVec 32 := Scalar.addi c0_i32_853 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v922 : BitVec 32 := Scalar.addi v5 c_m1_i32
  let c4_i32_854 : BitVec 32 := 4#32
  let v925 : BitVec 32 := Scalar.muli v922 c4_i32_854
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_855 : BitVec 32 := 1#32
  let v927 : BitVec 32 := Scalar.muli v8 c1_i32_855
  let v928 : BitVec 32 := Scalar.addi v926 v927
  v928.toNat
def k0_cond21 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_120 : BitVec 32 := 2#32
  let v187 : BitVec 32 := Scalar.addi v5 c2_i32_120
  let c3_i32_121 : BitVec 32 := 3#32
  let v188 : BitVec 1 := Scalar.cmpi .sle v187 c3_i32_121
  let v189 : BitVec 32 := Scalar.extui v188
  let c0_i32_124 : BitVec 32 := 0#32
  let v190 : BitVec 1 := Scalar.cmpi .ne v189 c0_i32_124
  v190

def k0_off24 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_859 : BitVec 32 := 0#32
  let c0_i32_860 : BitVec 32 := 0#32
  ![v8.toNat, v5.toNat, 0, 0]
def k0_dev23 (d0 : Dev nD) : Nat :=
  let c0_i32_854 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_853 : BitVec 32 := 16#32
  let v923 : BitVec 32 := Scalar.muli v2 c16_i32_853
  let v924 : BitVec 32 := Scalar.addi c0_i32_854 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_850 : BitVec 32 := 2#32
  let v922 : BitVec 32 := Scalar.addi v5 c2_i32_850
  let c4_i32_855 : BitVec 32 := 4#32
  let v925 : BitVec 32 := Scalar.muli v922 c4_i32_855
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_856 : BitVec 32 := 1#32
  let v927 : BitVec 32 := Scalar.muli v8 c1_i32_856
  let v928 : BitVec 32 := Scalar.addi v926 v927
  v928.toNat
def k0_cond22 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_125 : BitVec 32 := 2#32
  let v191 : BitVec 32 := Scalar.subi v5 c2_i32_125
  let c0_i32_126 : BitVec 32 := 0#32
  let v192 : BitVec 1 := Scalar.cmpi .sge v191 c0_i32_126
  let v193 : BitVec 32 := Scalar.extui v192
  let c0_i32_129 : BitVec 32 := 0#32
  let v194 : BitVec 1 := Scalar.cmpi .ne v193 c0_i32_129
  v194

def k0_off25 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_858 : BitVec 32 := 0#32
  let c0_i32_859 : BitVec 32 := 0#32
  ![v8.toNat, v5.toNat, 0, 0]
def k0_dev24 (d0 : Dev nD) : Nat :=
  let c0_i32_853 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_852 : BitVec 32 := 16#32
  let v923 : BitVec 32 := Scalar.muli v2 c16_i32_852
  let v924 : BitVec 32 := Scalar.addi c0_i32_853 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v922 : BitVec 32 := Scalar.addi v5 c_m2_i32
  let c4_i32_854 : BitVec 32 := 4#32
  let v925 : BitVec 32 := Scalar.muli v922 c4_i32_854
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_855 : BitVec 32 := 1#32
  let v927 : BitVec 32 := Scalar.muli v8 c1_i32_855
  let v928 : BitVec 32 := Scalar.addi v926 v927
  v928.toNat
def k0_cond23 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_130 : BitVec 32 := 3#32
  let v195 : BitVec 32 := Scalar.addi v5 c3_i32_130
  let c3_i32_131 : BitVec 32 := 3#32
  let v196 : BitVec 1 := Scalar.cmpi .sle v195 c3_i32_131
  let v197 : BitVec 32 := Scalar.extui v196
  let c0_i32_134 : BitVec 32 := 0#32
  let v198 : BitVec 1 := Scalar.cmpi .ne v197 c0_i32_134
  v198

def k0_off26 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_859 : BitVec 32 := 0#32
  let c0_i32_860 : BitVec 32 := 0#32
  ![v8.toNat, v5.toNat, 0, 0]
def k0_dev25 (d0 : Dev nD) : Nat :=
  let c0_i32_854 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_853 : BitVec 32 := 16#32
  let v923 : BitVec 32 := Scalar.muli v2 c16_i32_853
  let v924 : BitVec 32 := Scalar.addi c0_i32_854 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_850 : BitVec 32 := 3#32
  let v922 : BitVec 32 := Scalar.addi v5 c3_i32_850
  let c4_i32_855 : BitVec 32 := 4#32
  let v925 : BitVec 32 := Scalar.muli v922 c4_i32_855
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_856 : BitVec 32 := 1#32
  let v927 : BitVec 32 := Scalar.muli v8 c1_i32_856
  let v928 : BitVec 32 := Scalar.addi v926 v927
  v928.toNat
def k0_cond24 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_135 : BitVec 32 := 3#32
  let v199 : BitVec 32 := Scalar.subi v5 c3_i32_135
  let c0_i32_136 : BitVec 32 := 0#32
  let v200 : BitVec 1 := Scalar.cmpi .sge v199 c0_i32_136
  let v201 : BitVec 32 := Scalar.extui v200
  let c0_i32_139 : BitVec 32 := 0#32
  let v202 : BitVec 1 := Scalar.cmpi .ne v201 c0_i32_139
  v202

def k0_off27 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_858 : BitVec 32 := 0#32
  let c0_i32_859 : BitVec 32 := 0#32
  ![v8.toNat, v5.toNat, 0, 0]
def k0_dev26 (d0 : Dev nD) : Nat :=
  let c0_i32_853 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_852 : BitVec 32 := 16#32
  let v923 : BitVec 32 := Scalar.muli v2 c16_i32_852
  let v924 : BitVec 32 := Scalar.addi c0_i32_853 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m3_i32 : BitVec 32 := 4294967293#32
  let v922 : BitVec 32 := Scalar.addi v5 c_m3_i32
  let c4_i32_854 : BitVec 32 := 4#32
  let v925 : BitVec 32 := Scalar.muli v922 c4_i32_854
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_855 : BitVec 32 := 1#32
  let v927 : BitVec 32 := Scalar.muli v8 c1_i32_855
  let v928 : BitVec 32 := Scalar.addi v926 v927
  v928.toNat
def k0_off28 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v11 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c128_i32 : BitVec 32 := 128#32
  let v13 : BitVec 32 := Scalar.muli v12 c128_i32
  let v204 : Index := Scalar.indexCast v13
  let c0_140 : Index := 0#32
  ![v204.toNat, 0]
def k0_off29 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3 : BitVec 32 := 4#32
  let v11 : BitVec 32 := Scalar.muli v5 c4_i32_3
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c128_i32 : BitVec 32 := 128#32
  let v13 : BitVec 32 := Scalar.muli v12 c128_i32
  let c64_i32 : BitVec 32 := 64#32
  let v207 : BitVec 32 := Scalar.addi v13 c64_i32
  let v208 : Index := Scalar.indexCast v207
  let c0_141 : Index := 0#32
  ![v208.toNat, 0]
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v210 : BitVec 32 := Scalar.subi v8 c1_i32_142
  let c0_i32_143 : BitVec 32 := 0#32
  let v211 : BitVec 1 := Scalar.cmpi .sge v210 c0_i32_143
  let v212 : BitVec 32 := Scalar.extui v211
  let c0_i32_146 : BitVec 32 := 0#32
  let v213 : BitVec 1 := Scalar.cmpi .ne v212 c0_i32_146
  v213

def k0_off30 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_851 : BitVec 32 := 1#32
  let v923 : BitVec 32 := Scalar.subi v8 c1_i32_851
  let c0_i32_859 : BitVec 32 := 0#32
  let c0_i32_860 : BitVec 32 := 0#32
  ![v5.toNat, v923.toNat, 0, 0]
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v214 : BitVec 32 := Scalar.addi v8 c1_i32_147
  let c3_i32_148 : BitVec 32 := 3#32
  let v215 : BitVec 1 := Scalar.cmpi .sle v214 c3_i32_148
  let v216 : BitVec 32 := Scalar.extui v215
  let c0_i32_151 : BitVec 32 := 0#32
  let v217 : BitVec 1 := Scalar.cmpi .ne v216 c0_i32_151
  v217

def k0_off31 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_851 : BitVec 32 := 1#32
  let v923 : BitVec 32 := Scalar.addi v8 c1_i32_851
  let c0_i32_860 : BitVec 32 := 0#32
  let c0_i32_861 : BitVec 32 := 0#32
  ![v5.toNat, v923.toNat, 0, 0]
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_152 : BitVec 32 := 2#32
  let v218 : BitVec 32 := Scalar.subi v8 c2_i32_152
  let c0_i32_153 : BitVec 32 := 0#32
  let v219 : BitVec 1 := Scalar.cmpi .sge v218 c0_i32_153
  let v220 : BitVec 32 := Scalar.extui v219
  let c0_i32_156 : BitVec 32 := 0#32
  let v221 : BitVec 1 := Scalar.cmpi .ne v220 c0_i32_156
  v221

def k0_off32 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_851 : BitVec 32 := 2#32
  let v923 : BitVec 32 := Scalar.subi v8 c2_i32_851
  let c0_i32_859 : BitVec 32 := 0#32
  let c0_i32_860 : BitVec 32 := 0#32
  ![v5.toNat, v923.toNat, 0, 0]
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_157 : BitVec 32 := 2#32
  let v222 : BitVec 32 := Scalar.addi v8 c2_i32_157
  let c3_i32_158 : BitVec 32 := 3#32
  let v223 : BitVec 1 := Scalar.cmpi .sle v222 c3_i32_158
  let v224 : BitVec 32 := Scalar.extui v223
  let c0_i32_161 : BitVec 32 := 0#32
  let v225 : BitVec 1 := Scalar.cmpi .ne v224 c0_i32_161
  v225

def k0_off33 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_851 : BitVec 32 := 2#32
  let v923 : BitVec 32 := Scalar.addi v8 c2_i32_851
  let c0_i32_860 : BitVec 32 := 0#32
  let c0_i32_861 : BitVec 32 := 0#32
  ![v5.toNat, v923.toNat, 0, 0]
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_162 : BitVec 32 := 3#32
  let v226 : BitVec 32 := Scalar.subi v8 c3_i32_162
  let c0_i32_163 : BitVec 32 := 0#32
  let v227 : BitVec 1 := Scalar.cmpi .sge v226 c0_i32_163
  let v228 : BitVec 32 := Scalar.extui v227
  let c0_i32_166 : BitVec 32 := 0#32
  let v229 : BitVec 1 := Scalar.cmpi .ne v228 c0_i32_166
  v229

def k0_off34 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_851 : BitVec 32 := 3#32
  let v923 : BitVec 32 := Scalar.subi v8 c3_i32_851
  let c0_i32_859 : BitVec 32 := 0#32
  let c0_i32_860 : BitVec 32 := 0#32
  ![v5.toNat, v923.toNat, 0, 0]
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_167 : BitVec 32 := 3#32
  let v230 : BitVec 32 := Scalar.addi v8 c3_i32_167
  let c3_i32_168 : BitVec 32 := 3#32
  let v231 : BitVec 1 := Scalar.cmpi .sle v230 c3_i32_168
  let v232 : BitVec 32 := Scalar.extui v231
  let c0_i32_171 : BitVec 32 := 0#32
  let v233 : BitVec 1 := Scalar.cmpi .ne v232 c0_i32_171
  v233

def k0_off35 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_851 : BitVec 32 := 3#32
  let v923 : BitVec 32 := Scalar.addi v8 c3_i32_851
  let c0_i32_860 : BitVec 32 := 0#32
  let c0_i32_861 : BitVec 32 := 0#32
  ![v5.toNat, v923.toNat, 0, 0]
def k0_cond31 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_172 : BitVec 32 := 1#32
  let v234 : BitVec 32 := Scalar.subi v5 c1_i32_172
  let c0_i32_173 : BitVec 32 := 0#32
  let v235 : BitVec 1 := Scalar.cmpi .sge v234 c0_i32_173
  let v236 : BitVec 32 := Scalar.extui v235
  let c0_i32_176 : BitVec 32 := 0#32
  let v237 : BitVec 1 := Scalar.cmpi .ne v236 c0_i32_176
  v237

def k0_off36 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_851 : BitVec 32 := 1#32
  let v923 : BitVec 32 := Scalar.subi v5 c1_i32_851
  let c0_i32_859 : BitVec 32 := 0#32
  let c0_i32_860 : BitVec 32 := 0#32
  ![v8.toNat, v923.toNat, 0, 0]
def k0_cond32 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_177 : BitVec 32 := 1#32
  let v238 : BitVec 32 := Scalar.addi v5 c1_i32_177
  let c3_i32_178 : BitVec 32 := 3#32
  let v239 : BitVec 1 := Scalar.cmpi .sle v238 c3_i32_178
  let v240 : BitVec 32 := Scalar.extui v239
  let c0_i32_181 : BitVec 32 := 0#32
  let v241 : BitVec 1 := Scalar.cmpi .ne v240 c0_i32_181
  v241

def k0_off37 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_851 : BitVec 32 := 1#32
  let v923 : BitVec 32 := Scalar.addi v5 c1_i32_851
  let c0_i32_860 : BitVec 32 := 0#32
  let c0_i32_861 : BitVec 32 := 0#32
  ![v8.toNat, v923.toNat, 0, 0]
def k0_cond33 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_182 : BitVec 32 := 2#32
  let v242 : BitVec 32 := Scalar.subi v5 c2_i32_182
  let c0_i32_183 : BitVec 32 := 0#32
  let v243 : BitVec 1 := Scalar.cmpi .sge v242 c0_i32_183
  let v244 : BitVec 32 := Scalar.extui v243
  let c0_i32_186 : BitVec 32 := 0#32
  let v245 : BitVec 1 := Scalar.cmpi .ne v244 c0_i32_186
  v245

def k0_off38 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_851 : BitVec 32 := 2#32
  let v923 : BitVec 32 := Scalar.subi v5 c2_i32_851
  let c0_i32_859 : BitVec 32 := 0#32
  let c0_i32_860 : BitVec 32 := 0#32
  ![v8.toNat, v923.toNat, 0, 0]
def k0_cond34 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_187 : BitVec 32 := 2#32
  let v246 : BitVec 32 := Scalar.addi v5 c2_i32_187
  let c3_i32_188 : BitVec 32 := 3#32
  let v247 : BitVec 1 := Scalar.cmpi .sle v246 c3_i32_188
  let v248 : BitVec 32 := Scalar.extui v247
  let c0_i32_191 : BitVec 32 := 0#32
  let v249 : BitVec 1 := Scalar.cmpi .ne v248 c0_i32_191
  v249

def k0_off39 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_851 : BitVec 32 := 2#32
  let v923 : BitVec 32 := Scalar.addi v5 c2_i32_851
  let c0_i32_860 : BitVec 32 := 0#32
  let c0_i32_861 : BitVec 32 := 0#32
  ![v8.toNat, v923.toNat, 0, 0]
def k0_cond35 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_192 : BitVec 32 := 3#32
  let v250 : BitVec 32 := Scalar.subi v5 c3_i32_192
  let c0_i32_193 : BitVec 32 := 0#32
  let v251 : BitVec 1 := Scalar.cmpi .sge v250 c0_i32_193
  let v252 : BitVec 32 := Scalar.extui v251
  let c0_i32_196 : BitVec 32 := 0#32
  let v253 : BitVec 1 := Scalar.cmpi .ne v252 c0_i32_196
  v253

def k0_off40 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_851 : BitVec 32 := 3#32
  let v923 : BitVec 32 := Scalar.subi v5 c3_i32_851
  let c0_i32_859 : BitVec 32 := 0#32
  let c0_i32_860 : BitVec 32 := 0#32
  ![v8.toNat, v923.toNat, 0, 0]
def k0_cond36 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_197 : BitVec 32 := 3#32
  let v254 : BitVec 32 := Scalar.addi v5 c3_i32_197
  let c3_i32_198 : BitVec 32 := 3#32
  let v255 : BitVec 1 := Scalar.cmpi .sle v254 c3_i32_198
  let v256 : BitVec 32 := Scalar.extui v255
  let c0_i32_201 : BitVec 32 := 0#32
  let v257 : BitVec 1 := Scalar.cmpi .ne v256 c0_i32_201
  v257

def k0_off41 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_851 : BitVec 32 := 3#32
  let v923 : BitVec 32 := Scalar.addi v5 c3_i32_851
  let c0_i32_860 : BitVec 32 := 0#32
  let c0_i32_861 : BitVec 32 := 0#32
  ![v8.toNat, v923.toNat, 0, 0]
def k0_cond37 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_238 : BitVec 32 := 3#32
  let v294 : BitVec 1 := Scalar.cmpi .slt v5 c3_i32_238
  let v295 : BitVec 32 := Scalar.extui v294
  let c0_i32_241 : BitVec 32 := 0#32
  let v296 : BitVec 1 := Scalar.cmpi .ne v295 c0_i32_241
  v296

def k0_off42 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_863 : BitVec 32 := 0#32
  let c0_i32_864 : BitVec 32 := 0#32
  let c0_i32_865 : BitVec 32 := 0#32
  ![v5.toNat, 0, 0, 0]
def k0_dev27 (d0 : Dev nD) : Nat :=
  let c0_i32_856 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_855 : BitVec 32 := 16#32
  let v923 : BitVec 32 := Scalar.muli v2 c16_i32_855
  let v924 : BitVec 32 := Scalar.addi c0_i32_856 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_850 : BitVec 32 := 1#32
  let v922 : BitVec 32 := Scalar.addi v5 c1_i32_850
  let c4_i32_857 : BitVec 32 := 4#32
  let v925 : BitVec 32 := Scalar.muli v922 c4_i32_857
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_858 : BitVec 32 := 1#32
  let v927 : BitVec 32 := Scalar.muli v8 c1_i32_858
  let v928 : BitVec 32 := Scalar.addi v926 v927
  v928.toNat
def k0_cond38 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_242 : BitVec 32 := 0#32
  let v297 : BitVec 1 := Scalar.cmpi .sgt v5 c0_i32_242
  let v298 : BitVec 32 := Scalar.extui v297
  let c0_i32_245 : BitVec 32 := 0#32
  let v299 : BitVec 1 := Scalar.cmpi .ne v298 c0_i32_245
  v299

def k0_off43 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_862 : BitVec 32 := 0#32
  let c0_i32_863 : BitVec 32 := 0#32
  let c0_i32_864 : BitVec 32 := 0#32
  ![v5.toNat, 0, 0, 0]
def k0_dev28 (d0 : Dev nD) : Nat :=
  let c0_i32_855 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_854 : BitVec 32 := 16#32
  let v923 : BitVec 32 := Scalar.muli v2 c16_i32_854
  let v924 : BitVec 32 := Scalar.addi c0_i32_855 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v922 : BitVec 32 := Scalar.addi v5 c_m1_i32
  let c4_i32_856 : BitVec 32 := 4#32
  let v925 : BitVec 32 := Scalar.muli v922 c4_i32_856
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_857 : BitVec 32 := 1#32
  let v927 : BitVec 32 := Scalar.muli v8 c1_i32_857
  let v928 : BitVec 32 := Scalar.addi v926 v927
  v928.toNat
def k0_cond39 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_246 : BitVec 32 := 3#32
  let v300 : BitVec 1 := Scalar.cmpi .slt v5 c3_i32_246
  let v301 : BitVec 32 := Scalar.extui v300
  let c0_i32_249 : BitVec 32 := 0#32
  let v302 : BitVec 1 := Scalar.cmpi .ne v301 c0_i32_249
  v302

def k0_off44 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_863 : BitVec 32 := 2#32
  let c0_i32_864 : BitVec 32 := 0#32
  let c0_i32_865 : BitVec 32 := 0#32
  ![v5.toNat, 2, 0, 0]
def k0_dev29 (d0 : Dev nD) : Nat :=
  let c0_i32_856 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_855 : BitVec 32 := 16#32
  let v923 : BitVec 32 := Scalar.muli v2 c16_i32_855
  let v924 : BitVec 32 := Scalar.addi c0_i32_856 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_850 : BitVec 32 := 1#32
  let v922 : BitVec 32 := Scalar.addi v5 c1_i32_850
  let c4_i32_857 : BitVec 32 := 4#32
  let v925 : BitVec 32 := Scalar.muli v922 c4_i32_857
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_858 : BitVec 32 := 1#32
  let v927 : BitVec 32 := Scalar.muli v8 c1_i32_858
  let v928 : BitVec 32 := Scalar.addi v926 v927
  v928.toNat
def k0_cond40 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_250 : BitVec 32 := 0#32
  let v303 : BitVec 1 := Scalar.cmpi .sgt v5 c0_i32_250
  let v304 : BitVec 32 := Scalar.extui v303
  let c0_i32_253 : BitVec 32 := 0#32
  let v305 : BitVec 1 := Scalar.cmpi .ne v304 c0_i32_253
  v305

def k0_off45 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_862 : BitVec 32 := 2#32
  let c0_i32_863 : BitVec 32 := 0#32
  let c0_i32_864 : BitVec 32 := 0#32
  ![v5.toNat, 2, 0, 0]
def k0_dev30 (d0 : Dev nD) : Nat :=
  let c0_i32_855 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_854 : BitVec 32 := 16#32
  let v923 : BitVec 32 := Scalar.muli v2 c16_i32_854
  let v924 : BitVec 32 := Scalar.addi c0_i32_855 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v922 : BitVec 32 := Scalar.addi v5 c_m1_i32
  let c4_i32_856 : BitVec 32 := 4#32
  let v925 : BitVec 32 := Scalar.muli v922 c4_i32_856
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_857 : BitVec 32 := 1#32
  let v927 : BitVec 32 := Scalar.muli v8 c1_i32_857
  let v928 : BitVec 32 := Scalar.addi v926 v927
  v928.toNat
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_254 : BitVec 32 := 3#32
  let v306 : BitVec 1 := Scalar.cmpi .slt v8 c3_i32_254
  let v307 : BitVec 32 := Scalar.extui v306
  let c0_i32_257 : BitVec 32 := 0#32
  let v308 : BitVec 1 := Scalar.cmpi .ne v307 c0_i32_257
  v308

def k0_off46 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_863 : BitVec 32 := 0#32
  let c0_i32_864 : BitVec 32 := 0#32
  let c0_i32_865 : BitVec 32 := 0#32
  ![v8.toNat, 0, 0, 0]
def k0_dev31 (d0 : Dev nD) : Nat :=
  let c0_i32_856 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_855 : BitVec 32 := 16#32
  let v923 : BitVec 32 := Scalar.muli v2 c16_i32_855
  let v924 : BitVec 32 := Scalar.addi c0_i32_856 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_857 : BitVec 32 := 4#32
  let v925 : BitVec 32 := Scalar.muli v5 c4_i32_857
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_850 : BitVec 32 := 1#32
  let v922 : BitVec 32 := Scalar.addi v8 c1_i32_850
  let c1_i32_858 : BitVec 32 := 1#32
  let v927 : BitVec 32 := Scalar.muli v922 c1_i32_858
  let v928 : BitVec 32 := Scalar.addi v926 v927
  v928.toNat
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_258 : BitVec 32 := 0#32
  let v309 : BitVec 1 := Scalar.cmpi .sgt v8 c0_i32_258
  let v310 : BitVec 32 := Scalar.extui v309
  let c0_i32_261 : BitVec 32 := 0#32
  let v311 : BitVec 1 := Scalar.cmpi .ne v310 c0_i32_261
  v311

def k0_off47 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_862 : BitVec 32 := 0#32
  let c0_i32_863 : BitVec 32 := 0#32
  let c0_i32_864 : BitVec 32 := 0#32
  ![v8.toNat, 0, 0, 0]
def k0_dev32 (d0 : Dev nD) : Nat :=
  let c0_i32_855 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_854 : BitVec 32 := 16#32
  let v923 : BitVec 32 := Scalar.muli v2 c16_i32_854
  let v924 : BitVec 32 := Scalar.addi c0_i32_855 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_856 : BitVec 32 := 4#32
  let v925 : BitVec 32 := Scalar.muli v5 c4_i32_856
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v922 : BitVec 32 := Scalar.addi v8 c_m1_i32
  let c1_i32_857 : BitVec 32 := 1#32
  let v927 : BitVec 32 := Scalar.muli v922 c1_i32_857
  let v928 : BitVec 32 := Scalar.addi v926 v927
  v928.toNat
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_262 : BitVec 32 := 3#32
  let v312 : BitVec 1 := Scalar.cmpi .slt v8 c3_i32_262
  let v313 : BitVec 32 := Scalar.extui v312
  let c0_i32_265 : BitVec 32 := 0#32
  let v314 : BitVec 1 := Scalar.cmpi .ne v313 c0_i32_265
  v314

def k0_off48 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_863 : BitVec 32 := 2#32
  let c0_i32_864 : BitVec 32 := 0#32
  let c0_i32_865 : BitVec 32 := 0#32
  ![v8.toNat, 2, 0, 0]
def k0_dev33 (d0 : Dev nD) : Nat :=
  let c0_i32_856 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_855 : BitVec 32 := 16#32
  let v923 : BitVec 32 := Scalar.muli v2 c16_i32_855
  let v924 : BitVec 32 := Scalar.addi c0_i32_856 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_857 : BitVec 32 := 4#32
  let v925 : BitVec 32 := Scalar.muli v5 c4_i32_857
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_850 : BitVec 32 := 1#32
  let v922 : BitVec 32 := Scalar.addi v8 c1_i32_850
  let c1_i32_858 : BitVec 32 := 1#32
  let v927 : BitVec 32 := Scalar.muli v922 c1_i32_858
  let v928 : BitVec 32 := Scalar.addi v926 v927
  v928.toNat
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_266 : BitVec 32 := 0#32
  let v315 : BitVec 1 := Scalar.cmpi .sgt v8 c0_i32_266
  let v316 : BitVec 32 := Scalar.extui v315
  let c0_i32_269 : BitVec 32 := 0#32
  let v317 : BitVec 1 := Scalar.cmpi .ne v316 c0_i32_269
  v317

def k0_off49 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_862 : BitVec 32 := 2#32
  let c0_i32_863 : BitVec 32 := 0#32
  let c0_i32_864 : BitVec 32 := 0#32
  ![v8.toNat, 2, 0, 0]
def k0_dev34 (d0 : Dev nD) : Nat :=
  let c0_i32_855 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_854 : BitVec 32 := 16#32
  let v923 : BitVec 32 := Scalar.muli v2 c16_i32_854
  let v924 : BitVec 32 := Scalar.addi c0_i32_855 v923
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_856 : BitVec 32 := 4#32
  let v925 : BitVec 32 := Scalar.muli v5 c4_i32_856
  let v926 : BitVec 32 := Scalar.addi v924 v925
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v922 : BitVec 32 := Scalar.addi v8 c_m1_i32
  let c1_i32_857 : BitVec 32 := 1#32
  let v927 : BitVec 32 := Scalar.muli v922 c1_i32_857
  let v928 : BitVec 32 := Scalar.addi v926 v927
  v928.toNat
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v258 : BitVec 32 := Scalar.subi v8 c1_i32_202
  let c0_i32_203 : BitVec 32 := 0#32
  let v259 : BitVec 1 := Scalar.cmpi .sge v258 c0_i32_203
  let v318 : BitVec 32 := Scalar.extui v259
  let c0_i32_270 : BitVec 32 := 0#32
  let v319 : BitVec 1 := Scalar.cmpi .ne v318 c0_i32_270
  v319

def k0_off50 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v922 : Index := Scalar.indexCast v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v260 : BitVec 32 := Scalar.subi v8 c1_i32_204
  let v923 : Index := Scalar.indexCast v260
  let c0_850 : Index := 0#32
  let c0_851 : Index := 0#32
  ![v922.toNat, v923.toNat, 0, 0]
def k0_off51 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_852 : BitVec 32 := 4#32
  let v925 : BitVec 32 := Scalar.muli v5 c4_i32_852
  let c128_i32_853 : BitVec 32 := 128#32
  let v926 : BitVec 32 := Scalar.muli v925 c128_i32_853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v260 : BitVec 32 := Scalar.subi v8 c1_i32_204
  let c128_i32_854 : BitVec 32 := 128#32
  let v927 : BitVec 32 := Scalar.muli v260 c128_i32_854
  let v928 : BitVec 32 := Scalar.addi v926 v927
  let v931 : Index := Scalar.indexCast v928
  let c0_855 : Index := 0#32
  ![v931.toNat, 0]
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_205 : BitVec 32 := 1#32
  let v261 : BitVec 32 := Scalar.addi v8 c1_i32_205
  let c3_i32_206 : BitVec 32 := 3#32
  let v262 : BitVec 1 := Scalar.cmpi .sle v261 c3_i32_206
  let v320 : BitVec 32 := Scalar.extui v262
  let c0_i32_271 : BitVec 32 := 0#32
  let v321 : BitVec 1 := Scalar.cmpi .ne v320 c0_i32_271
  v321

def k0_off52 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v922 : Index := Scalar.indexCast v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_207 : BitVec 32 := 1#32
  let v263 : BitVec 32 := Scalar.addi v8 c1_i32_207
  let v923 : Index := Scalar.indexCast v263
  let c0_850 : Index := 0#32
  let c0_851 : Index := 0#32
  ![v922.toNat, v923.toNat, 0, 0]
def k0_off53 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_852 : BitVec 32 := 4#32
  let v925 : BitVec 32 := Scalar.muli v5 c4_i32_852
  let c128_i32_853 : BitVec 32 := 128#32
  let v926 : BitVec 32 := Scalar.muli v925 c128_i32_853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_207 : BitVec 32 := 1#32
  let v263 : BitVec 32 := Scalar.addi v8 c1_i32_207
  let c128_i32_854 : BitVec 32 := 128#32
  let v927 : BitVec 32 := Scalar.muli v263 c128_i32_854
  let v928 : BitVec 32 := Scalar.addi v926 v927
  let v931 : Index := Scalar.indexCast v928
  let c0_855 : Index := 0#32
  ![v931.toNat, 0]
def k0_cond47 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_208 : BitVec 32 := 1#32
  let v264 : BitVec 32 := Scalar.subi v5 c1_i32_208
  let c0_i32_209 : BitVec 32 := 0#32
  let v265 : BitVec 1 := Scalar.cmpi .sge v264 c0_i32_209
  let v322 : BitVec 32 := Scalar.extui v265
  let c0_i32_272 : BitVec 32 := 0#32
  let v323 : BitVec 1 := Scalar.cmpi .ne v322 c0_i32_272
  v323

def k0_off54 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v922 : Index := Scalar.indexCast v8
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_210 : BitVec 32 := 1#32
  let v266 : BitVec 32 := Scalar.subi v5 c1_i32_210
  let v923 : Index := Scalar.indexCast v266
  let c0_850 : Index := 0#32
  let c0_851 : Index := 0#32
  ![v922.toNat, v923.toNat, 0, 0]
def k0_off55 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_210 : BitVec 32 := 1#32
  let v266 : BitVec 32 := Scalar.subi v5 c1_i32_210
  let c4_i32_852 : BitVec 32 := 4#32
  let v925 : BitVec 32 := Scalar.muli v266 c4_i32_852
  let c128_i32_853 : BitVec 32 := 128#32
  let v926 : BitVec 32 := Scalar.muli v925 c128_i32_853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_854 : BitVec 32 := 128#32
  let v927 : BitVec 32 := Scalar.muli v8 c128_i32_854
  let v928 : BitVec 32 := Scalar.addi v926 v927
  let c64_i32_855 : BitVec 32 := 64#32
  let v929 : BitVec 32 := Scalar.addi v928 c64_i32_855
  let v932 : Index := Scalar.indexCast v929
  let c0_856 : Index := 0#32
  ![v932.toNat, 0]
def k0_cond48 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_211 : BitVec 32 := 1#32
  let v267 : BitVec 32 := Scalar.addi v5 c1_i32_211
  let c3_i32_212 : BitVec 32 := 3#32
  let v268 : BitVec 1 := Scalar.cmpi .sle v267 c3_i32_212
  let v324 : BitVec 32 := Scalar.extui v268
  let c0_i32_273 : BitVec 32 := 0#32
  let v325 : BitVec 1 := Scalar.cmpi .ne v324 c0_i32_273
  v325

def k0_off56 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v922 : Index := Scalar.indexCast v8
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_213 : BitVec 32 := 1#32
  let v269 : BitVec 32 := Scalar.addi v5 c1_i32_213
  let v923 : Index := Scalar.indexCast v269
  let c0_850 : Index := 0#32
  let c0_851 : Index := 0#32
  ![v922.toNat, v923.toNat, 0, 0]
def k0_off57 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_213 : BitVec 32 := 1#32
  let v269 : BitVec 32 := Scalar.addi v5 c1_i32_213
  let c4_i32_852 : BitVec 32 := 4#32
  let v925 : BitVec 32 := Scalar.muli v269 c4_i32_852
  let c128_i32_853 : BitVec 32 := 128#32
  let v926 : BitVec 32 := Scalar.muli v925 c128_i32_853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_854 : BitVec 32 := 128#32
  let v927 : BitVec 32 := Scalar.muli v8 c128_i32_854
  let v928 : BitVec 32 := Scalar.addi v926 v927
  let c64_i32_855 : BitVec 32 := 64#32
  let v929 : BitVec 32 := Scalar.addi v928 c64_i32_855
  let v932 : Index := Scalar.indexCast v929
  let c0_856 : Index := 0#32
  ![v932.toNat, 0]
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_214 : BitVec 32 := 2#32
  let v270 : BitVec 32 := Scalar.subi v8 c2_i32_214
  let c0_i32_215 : BitVec 32 := 0#32
  let v271 : BitVec 1 := Scalar.cmpi .sge v270 c0_i32_215
  let v326 : BitVec 32 := Scalar.extui v271
  let c0_i32_274 : BitVec 32 := 0#32
  let v327 : BitVec 1 := Scalar.cmpi .ne v326 c0_i32_274
  v327

def k0_off58 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v922 : Index := Scalar.indexCast v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_216 : BitVec 32 := 2#32
  let v272 : BitVec 32 := Scalar.subi v8 c2_i32_216
  let v923 : Index := Scalar.indexCast v272
  let c0_850 : Index := 0#32
  let c0_851 : Index := 0#32
  ![v922.toNat, v923.toNat, 0, 0]
def k0_off59 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_852 : BitVec 32 := 4#32
  let v925 : BitVec 32 := Scalar.muli v5 c4_i32_852
  let c128_i32_853 : BitVec 32 := 128#32
  let v926 : BitVec 32 := Scalar.muli v925 c128_i32_853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_216 : BitVec 32 := 2#32
  let v272 : BitVec 32 := Scalar.subi v8 c2_i32_216
  let c128_i32_854 : BitVec 32 := 128#32
  let v927 : BitVec 32 := Scalar.muli v272 c128_i32_854
  let v928 : BitVec 32 := Scalar.addi v926 v927
  let v931 : Index := Scalar.indexCast v928
  let c0_855 : Index := 0#32
  ![v931.toNat, 0]
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_217 : BitVec 32 := 2#32
  let v273 : BitVec 32 := Scalar.addi v8 c2_i32_217
  let c3_i32_218 : BitVec 32 := 3#32
  let v274 : BitVec 1 := Scalar.cmpi .sle v273 c3_i32_218
  let v328 : BitVec 32 := Scalar.extui v274
  let c0_i32_275 : BitVec 32 := 0#32
  let v329 : BitVec 1 := Scalar.cmpi .ne v328 c0_i32_275
  v329

def k0_off60 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v922 : Index := Scalar.indexCast v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_219 : BitVec 32 := 2#32
  let v275 : BitVec 32 := Scalar.addi v8 c2_i32_219
  let v923 : Index := Scalar.indexCast v275
  let c0_850 : Index := 0#32
  let c0_851 : Index := 0#32
  ![v922.toNat, v923.toNat, 0, 0]
def k0_off61 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_852 : BitVec 32 := 4#32
  let v925 : BitVec 32 := Scalar.muli v5 c4_i32_852
  let c128_i32_853 : BitVec 32 := 128#32
  let v926 : BitVec 32 := Scalar.muli v925 c128_i32_853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_219 : BitVec 32 := 2#32
  let v275 : BitVec 32 := Scalar.addi v8 c2_i32_219
  let c128_i32_854 : BitVec 32 := 128#32
  let v927 : BitVec 32 := Scalar.muli v275 c128_i32_854
  let v928 : BitVec 32 := Scalar.addi v926 v927
  let v931 : Index := Scalar.indexCast v928
  let c0_855 : Index := 0#32
  ![v931.toNat, 0]
def k0_cond51 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_220 : BitVec 32 := 2#32
  let v276 : BitVec 32 := Scalar.subi v5 c2_i32_220
  let c0_i32_221 : BitVec 32 := 0#32
  let v277 : BitVec 1 := Scalar.cmpi .sge v276 c0_i32_221
  let v330 : BitVec 32 := Scalar.extui v277
  let c0_i32_276 : BitVec 32 := 0#32
  let v331 : BitVec 1 := Scalar.cmpi .ne v330 c0_i32_276
  v331

def k0_off62 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v922 : Index := Scalar.indexCast v8
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_222 : BitVec 32 := 2#32
  let v278 : BitVec 32 := Scalar.subi v5 c2_i32_222
  let v923 : Index := Scalar.indexCast v278
  let c0_850 : Index := 0#32
  let c0_851 : Index := 0#32
  ![v922.toNat, v923.toNat, 0, 0]
def k0_off63 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_222 : BitVec 32 := 2#32
  let v278 : BitVec 32 := Scalar.subi v5 c2_i32_222
  let c4_i32_852 : BitVec 32 := 4#32
  let v925 : BitVec 32 := Scalar.muli v278 c4_i32_852
  let c128_i32_853 : BitVec 32 := 128#32
  let v926 : BitVec 32 := Scalar.muli v925 c128_i32_853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_854 : BitVec 32 := 128#32
  let v927 : BitVec 32 := Scalar.muli v8 c128_i32_854
  let v928 : BitVec 32 := Scalar.addi v926 v927
  let c64_i32_855 : BitVec 32 := 64#32
  let v929 : BitVec 32 := Scalar.addi v928 c64_i32_855
  let v932 : Index := Scalar.indexCast v929
  let c0_856 : Index := 0#32
  ![v932.toNat, 0]
def k0_cond52 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_223 : BitVec 32 := 2#32
  let v279 : BitVec 32 := Scalar.addi v5 c2_i32_223
  let c3_i32_224 : BitVec 32 := 3#32
  let v280 : BitVec 1 := Scalar.cmpi .sle v279 c3_i32_224
  let v332 : BitVec 32 := Scalar.extui v280
  let c0_i32_277 : BitVec 32 := 0#32
  let v333 : BitVec 1 := Scalar.cmpi .ne v332 c0_i32_277
  v333

def k0_off64 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v922 : Index := Scalar.indexCast v8
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_225 : BitVec 32 := 2#32
  let v281 : BitVec 32 := Scalar.addi v5 c2_i32_225
  let v923 : Index := Scalar.indexCast v281
  let c0_850 : Index := 0#32
  let c0_851 : Index := 0#32
  ![v922.toNat, v923.toNat, 0, 0]
def k0_off65 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_225 : BitVec 32 := 2#32
  let v281 : BitVec 32 := Scalar.addi v5 c2_i32_225
  let c4_i32_852 : BitVec 32 := 4#32
  let v925 : BitVec 32 := Scalar.muli v281 c4_i32_852
  let c128_i32_853 : BitVec 32 := 128#32
  let v926 : BitVec 32 := Scalar.muli v925 c128_i32_853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_854 : BitVec 32 := 128#32
  let v927 : BitVec 32 := Scalar.muli v8 c128_i32_854
  let v928 : BitVec 32 := Scalar.addi v926 v927
  let c64_i32_855 : BitVec 32 := 64#32
  let v929 : BitVec 32 := Scalar.addi v928 c64_i32_855
  let v932 : Index := Scalar.indexCast v929
  let c0_856 : Index := 0#32
  ![v932.toNat, 0]
def k0_cond53 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_226 : BitVec 32 := 3#32
  let v282 : BitVec 32 := Scalar.subi v8 c3_i32_226
  let c0_i32_227 : BitVec 32 := 0#32
  let v283 : BitVec 1 := Scalar.cmpi .sge v282 c0_i32_227
  let v334 : BitVec 32 := Scalar.extui v283
  let c0_i32_278 : BitVec 32 := 0#32
  let v335 : BitVec 1 := Scalar.cmpi .ne v334 c0_i32_278
  v335

def k0_off66 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v922 : Index := Scalar.indexCast v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_228 : BitVec 32 := 3#32
  let v284 : BitVec 32 := Scalar.subi v8 c3_i32_228
  let v923 : Index := Scalar.indexCast v284
  let c0_850 : Index := 0#32
  let c0_851 : Index := 0#32
  ![v922.toNat, v923.toNat, 0, 0]
def k0_off67 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_852 : BitVec 32 := 4#32
  let v925 : BitVec 32 := Scalar.muli v5 c4_i32_852
  let c128_i32_853 : BitVec 32 := 128#32
  let v926 : BitVec 32 := Scalar.muli v925 c128_i32_853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_228 : BitVec 32 := 3#32
  let v284 : BitVec 32 := Scalar.subi v8 c3_i32_228
  let c128_i32_854 : BitVec 32 := 128#32
  let v927 : BitVec 32 := Scalar.muli v284 c128_i32_854
  let v928 : BitVec 32 := Scalar.addi v926 v927
  let v931 : Index := Scalar.indexCast v928
  let c0_855 : Index := 0#32
  ![v931.toNat, 0]
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_229 : BitVec 32 := 3#32
  let v285 : BitVec 32 := Scalar.addi v8 c3_i32_229
  let c3_i32_230 : BitVec 32 := 3#32
  let v286 : BitVec 1 := Scalar.cmpi .sle v285 c3_i32_230
  let v336 : BitVec 32 := Scalar.extui v286
  let c0_i32_279 : BitVec 32 := 0#32
  let v337 : BitVec 1 := Scalar.cmpi .ne v336 c0_i32_279
  v337

def k0_off68 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v922 : Index := Scalar.indexCast v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_231 : BitVec 32 := 3#32
  let v287 : BitVec 32 := Scalar.addi v8 c3_i32_231
  let v923 : Index := Scalar.indexCast v287
  let c0_850 : Index := 0#32
  let c0_851 : Index := 0#32
  ![v922.toNat, v923.toNat, 0, 0]
def k0_off69 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_852 : BitVec 32 := 4#32
  let v925 : BitVec 32 := Scalar.muli v5 c4_i32_852
  let c128_i32_853 : BitVec 32 := 128#32
  let v926 : BitVec 32 := Scalar.muli v925 c128_i32_853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_231 : BitVec 32 := 3#32
  let v287 : BitVec 32 := Scalar.addi v8 c3_i32_231
  let c128_i32_854 : BitVec 32 := 128#32
  let v927 : BitVec 32 := Scalar.muli v287 c128_i32_854
  let v928 : BitVec 32 := Scalar.addi v926 v927
  let v931 : Index := Scalar.indexCast v928
  let c0_855 : Index := 0#32
  ![v931.toNat, 0]
def k0_cond55 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_232 : BitVec 32 := 3#32
  let v288 : BitVec 32 := Scalar.subi v5 c3_i32_232
  let c0_i32_233 : BitVec 32 := 0#32
  let v289 : BitVec 1 := Scalar.cmpi .sge v288 c0_i32_233
  let v338 : BitVec 32 := Scalar.extui v289
  let c0_i32_280 : BitVec 32 := 0#32
  let v339 : BitVec 1 := Scalar.cmpi .ne v338 c0_i32_280
  v339

def k0_off70 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v922 : Index := Scalar.indexCast v8
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_234 : BitVec 32 := 3#32
  let v290 : BitVec 32 := Scalar.subi v5 c3_i32_234
  let v923 : Index := Scalar.indexCast v290
  let c0_850 : Index := 0#32
  let c0_851 : Index := 0#32
  ![v922.toNat, v923.toNat, 0, 0]
def k0_off71 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_234 : BitVec 32 := 3#32
  let v290 : BitVec 32 := Scalar.subi v5 c3_i32_234
  let c4_i32_852 : BitVec 32 := 4#32
  let v925 : BitVec 32 := Scalar.muli v290 c4_i32_852
  let c128_i32_853 : BitVec 32 := 128#32
  let v926 : BitVec 32 := Scalar.muli v925 c128_i32_853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_854 : BitVec 32 := 128#32
  let v927 : BitVec 32 := Scalar.muli v8 c128_i32_854
  let v928 : BitVec 32 := Scalar.addi v926 v927
  let c64_i32_855 : BitVec 32 := 64#32
  let v929 : BitVec 32 := Scalar.addi v928 c64_i32_855
  let v932 : Index := Scalar.indexCast v929
  let c0_856 : Index := 0#32
  ![v932.toNat, 0]
def k0_cond56 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_235 : BitVec 32 := 3#32
  let v291 : BitVec 32 := Scalar.addi v5 c3_i32_235
  let c3_i32_236 : BitVec 32 := 3#32
  let v292 : BitVec 1 := Scalar.cmpi .sle v291 c3_i32_236
  let v340 : BitVec 32 := Scalar.extui v292
  let c0_i32_281 : BitVec 32 := 0#32
  let v341 : BitVec 1 := Scalar.cmpi .ne v340 c0_i32_281
  v341

def k0_off72 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v922 : Index := Scalar.indexCast v8
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_237 : BitVec 32 := 3#32
  let v293 : BitVec 32 := Scalar.addi v5 c3_i32_237
  let v923 : Index := Scalar.indexCast v293
  let c0_850 : Index := 0#32
  let c0_851 : Index := 0#32
  ![v922.toNat, v923.toNat, 0, 0]
def k0_off73 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_237 : BitVec 32 := 3#32
  let v293 : BitVec 32 := Scalar.addi v5 c3_i32_237
  let c4_i32_852 : BitVec 32 := 4#32
  let v925 : BitVec 32 := Scalar.muli v293 c4_i32_852
  let c128_i32_853 : BitVec 32 := 128#32
  let v926 : BitVec 32 := Scalar.muli v925 c128_i32_853
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_854 : BitVec 32 := 128#32
  let v927 : BitVec 32 := Scalar.muli v8 c128_i32_854
  let v928 : BitVec 32 := Scalar.addi v926 v927
  let c64_i32_855 : BitVec 32 := 64#32
  let v929 : BitVec 32 := Scalar.addi v928 c64_i32_855
  let v932 : Index := Scalar.indexCast v929
  let c0_856 : Index := 0#32
  ![v932.toNat, 0]
def k0_cond57 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_282 : BitVec 32 := 0#32
  let v342 : BitVec 1 := Scalar.cmpi .sgt v5 c0_i32_282
  let c1_i32_283 : BitVec 32 := 1#32
  let v343 : BitVec 32 := Scalar.subi v5 c1_i32_283
  let c0_i32_284 : BitVec 32 := 0#32
  let v344 : BitVec 32 := Scalar.subi v343 c0_i32_284
  let c0_i32_285 : BitVec 32 := 0#32
  let v345 : BitVec 1 := Scalar.cmpi .sge v344 c0_i32_285
  let v346 : BitVec 1 := Scalar.andi v342 v345
  let v347 : BitVec 32 := Scalar.extui v346
  let c0_i32_288 : BitVec 32 := 0#32
  let v348 : BitVec 1 := Scalar.cmpi .ne v347 c0_i32_288
  v348

def k0_off74 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.subi v5 c1_i32_852
  let c0_i32_853 : BitVec 32 := 0#32
  let v925 : BitVec 32 := Scalar.subi v924 c0_i32_853
  let c0_i32_864 : BitVec 32 := 0#32
  let c0_i32_865 : BitVec 32 := 0#32
  let c0_i32_866 : BitVec 32 := 0#32
  ![v925.toNat, 0, 0, 0]
def k0_cond58 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_289 : BitVec 32 := 3#32
  let v349 : BitVec 1 := Scalar.cmpi .slt v5 c3_i32_289
  let c1_i32_290 : BitVec 32 := 1#32
  let v350 : BitVec 32 := Scalar.subi v5 c1_i32_290
  let c0_i32_291 : BitVec 32 := 0#32
  let v351 : BitVec 32 := Scalar.subi v350 c0_i32_291
  let c0_i32_292 : BitVec 32 := 0#32
  let v352 : BitVec 1 := Scalar.cmpi .sge v351 c0_i32_292
  let v353 : BitVec 1 := Scalar.andi v349 v352
  let v354 : BitVec 32 := Scalar.extui v353
  let c0_i32_295 : BitVec 32 := 0#32
  let v355 : BitVec 1 := Scalar.cmpi .ne v354 c0_i32_295
  v355

def k0_off75 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.subi v5 c1_i32_852
  let c0_i32_853 : BitVec 32 := 0#32
  let v925 : BitVec 32 := Scalar.subi v924 c0_i32_853
  let c0_i32_867 : BitVec 32 := 0#32
  let c0_i32_868 : BitVec 32 := 0#32
  let c0_i32_869 : BitVec 32 := 0#32
  ![v925.toNat, 0, 0, 0]
def k0_dev35 (d0 : Dev nD) : Nat :=
  let c0_i32_860 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_859 : BitVec 32 := 16#32
  let v927 : BitVec 32 := Scalar.muli v2 c16_i32_859
  let v928 : BitVec 32 := Scalar.addi c0_i32_860 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_854 : BitVec 32 := 1#32
  let v926 : BitVec 32 := Scalar.addi v5 c1_i32_854
  let c4_i32_861 : BitVec 32 := 4#32
  let v929 : BitVec 32 := Scalar.muli v926 c4_i32_861
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_862 : BitVec 32 := 1#32
  let v931 : BitVec 32 := Scalar.muli v8 c1_i32_862
  let v932 : BitVec 32 := Scalar.addi v930 v931
  v932.toNat
def k0_cond59 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_296 : BitVec 32 := 3#32
  let v356 : BitVec 1 := Scalar.cmpi .slt v5 c3_i32_296
  let c1_i32_297 : BitVec 32 := 1#32
  let v357 : BitVec 32 := Scalar.addi v5 c1_i32_297
  let c0_i32_298 : BitVec 32 := 0#32
  let v358 : BitVec 32 := Scalar.addi v357 c0_i32_298
  let c3_i32_299 : BitVec 32 := 3#32
  let v359 : BitVec 1 := Scalar.cmpi .sle v358 c3_i32_299
  let v360 : BitVec 1 := Scalar.andi v356 v359
  let v361 : BitVec 32 := Scalar.extui v360
  let c0_i32_302 : BitVec 32 := 0#32
  let v362 : BitVec 1 := Scalar.cmpi .ne v361 c0_i32_302
  v362

def k0_off76 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.addi v5 c1_i32_852
  let c0_i32_853 : BitVec 32 := 0#32
  let v925 : BitVec 32 := Scalar.addi v924 c0_i32_853
  let c0_i32_865 : BitVec 32 := 0#32
  let c0_i32_866 : BitVec 32 := 0#32
  let c0_i32_867 : BitVec 32 := 0#32
  ![v925.toNat, 0, 0, 0]
def k0_cond60 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_303 : BitVec 32 := 0#32
  let v363 : BitVec 1 := Scalar.cmpi .sgt v5 c0_i32_303
  let c1_i32_304 : BitVec 32 := 1#32
  let v364 : BitVec 32 := Scalar.addi v5 c1_i32_304
  let c0_i32_305 : BitVec 32 := 0#32
  let v365 : BitVec 32 := Scalar.addi v364 c0_i32_305
  let c3_i32_306 : BitVec 32 := 3#32
  let v366 : BitVec 1 := Scalar.cmpi .sle v365 c3_i32_306
  let v367 : BitVec 1 := Scalar.andi v363 v366
  let v368 : BitVec 32 := Scalar.extui v367
  let c0_i32_309 : BitVec 32 := 0#32
  let v369 : BitVec 1 := Scalar.cmpi .ne v368 c0_i32_309
  v369

def k0_off77 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.addi v5 c1_i32_852
  let c0_i32_853 : BitVec 32 := 0#32
  let v925 : BitVec 32 := Scalar.addi v924 c0_i32_853
  let c0_i32_866 : BitVec 32 := 0#32
  let c0_i32_867 : BitVec 32 := 0#32
  let c0_i32_868 : BitVec 32 := 0#32
  ![v925.toNat, 0, 0, 0]
def k0_dev36 (d0 : Dev nD) : Nat :=
  let c0_i32_859 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_858 : BitVec 32 := 16#32
  let v927 : BitVec 32 := Scalar.muli v2 c16_i32_858
  let v928 : BitVec 32 := Scalar.addi c0_i32_859 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v926 : BitVec 32 := Scalar.addi v5 c_m1_i32
  let c4_i32_860 : BitVec 32 := 4#32
  let v929 : BitVec 32 := Scalar.muli v926 c4_i32_860
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_861 : BitVec 32 := 1#32
  let v931 : BitVec 32 := Scalar.muli v8 c1_i32_861
  let v932 : BitVec 32 := Scalar.addi v930 v931
  v932.toNat
def k0_cond61 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_310 : BitVec 32 := 0#32
  let v370 : BitVec 1 := Scalar.cmpi .sgt v8 c0_i32_310
  let c1_i32_311 : BitVec 32 := 1#32
  let v371 : BitVec 32 := Scalar.subi v8 c1_i32_311
  let c0_i32_312 : BitVec 32 := 0#32
  let v372 : BitVec 32 := Scalar.subi v371 c0_i32_312
  let c0_i32_313 : BitVec 32 := 0#32
  let v373 : BitVec 1 := Scalar.cmpi .sge v372 c0_i32_313
  let v374 : BitVec 1 := Scalar.andi v370 v373
  let v375 : BitVec 32 := Scalar.extui v374
  let c0_i32_316 : BitVec 32 := 0#32
  let v376 : BitVec 1 := Scalar.cmpi .ne v375 c0_i32_316
  v376

def k0_off78 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.subi v8 c1_i32_852
  let c0_i32_853 : BitVec 32 := 0#32
  let v925 : BitVec 32 := Scalar.subi v924 c0_i32_853
  let c0_i32_864 : BitVec 32 := 0#32
  let c0_i32_865 : BitVec 32 := 0#32
  let c0_i32_866 : BitVec 32 := 0#32
  ![v925.toNat, 0, 0, 0]
def k0_cond62 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_317 : BitVec 32 := 3#32
  let v377 : BitVec 1 := Scalar.cmpi .slt v8 c3_i32_317
  let c1_i32_318 : BitVec 32 := 1#32
  let v378 : BitVec 32 := Scalar.subi v8 c1_i32_318
  let c0_i32_319 : BitVec 32 := 0#32
  let v379 : BitVec 32 := Scalar.subi v378 c0_i32_319
  let c0_i32_320 : BitVec 32 := 0#32
  let v380 : BitVec 1 := Scalar.cmpi .sge v379 c0_i32_320
  let v381 : BitVec 1 := Scalar.andi v377 v380
  let v382 : BitVec 32 := Scalar.extui v381
  let c0_i32_323 : BitVec 32 := 0#32
  let v383 : BitVec 1 := Scalar.cmpi .ne v382 c0_i32_323
  v383

def k0_off79 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.subi v8 c1_i32_852
  let c0_i32_853 : BitVec 32 := 0#32
  let v925 : BitVec 32 := Scalar.subi v924 c0_i32_853
  let c0_i32_867 : BitVec 32 := 0#32
  let c0_i32_868 : BitVec 32 := 0#32
  let c0_i32_869 : BitVec 32 := 0#32
  ![v925.toNat, 0, 0, 0]
def k0_dev37 (d0 : Dev nD) : Nat :=
  let c0_i32_860 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_859 : BitVec 32 := 16#32
  let v927 : BitVec 32 := Scalar.muli v2 c16_i32_859
  let v928 : BitVec 32 := Scalar.addi c0_i32_860 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_861 : BitVec 32 := 4#32
  let v929 : BitVec 32 := Scalar.muli v5 c4_i32_861
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_854 : BitVec 32 := 1#32
  let v926 : BitVec 32 := Scalar.addi v8 c1_i32_854
  let c1_i32_862 : BitVec 32 := 1#32
  let v931 : BitVec 32 := Scalar.muli v926 c1_i32_862
  let v932 : BitVec 32 := Scalar.addi v930 v931
  v932.toNat
def k0_cond63 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_324 : BitVec 32 := 3#32
  let v384 : BitVec 1 := Scalar.cmpi .slt v8 c3_i32_324
  let c1_i32_325 : BitVec 32 := 1#32
  let v385 : BitVec 32 := Scalar.addi v8 c1_i32_325
  let c0_i32_326 : BitVec 32 := 0#32
  let v386 : BitVec 32 := Scalar.addi v385 c0_i32_326
  let c3_i32_327 : BitVec 32 := 3#32
  let v387 : BitVec 1 := Scalar.cmpi .sle v386 c3_i32_327
  let v388 : BitVec 1 := Scalar.andi v384 v387
  let v389 : BitVec 32 := Scalar.extui v388
  let c0_i32_330 : BitVec 32 := 0#32
  let v390 : BitVec 1 := Scalar.cmpi .ne v389 c0_i32_330
  v390

def k0_off80 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.addi v8 c1_i32_852
  let c0_i32_853 : BitVec 32 := 0#32
  let v925 : BitVec 32 := Scalar.addi v924 c0_i32_853
  let c0_i32_865 : BitVec 32 := 0#32
  let c0_i32_866 : BitVec 32 := 0#32
  let c0_i32_867 : BitVec 32 := 0#32
  ![v925.toNat, 0, 0, 0]
def k0_cond64 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_331 : BitVec 32 := 0#32
  let v391 : BitVec 1 := Scalar.cmpi .sgt v8 c0_i32_331
  let c1_i32_332 : BitVec 32 := 1#32
  let v392 : BitVec 32 := Scalar.addi v8 c1_i32_332
  let c0_i32_333 : BitVec 32 := 0#32
  let v393 : BitVec 32 := Scalar.addi v392 c0_i32_333
  let c3_i32_334 : BitVec 32 := 3#32
  let v394 : BitVec 1 := Scalar.cmpi .sle v393 c3_i32_334
  let v395 : BitVec 1 := Scalar.andi v391 v394
  let v396 : BitVec 32 := Scalar.extui v395
  let c0_i32_337 : BitVec 32 := 0#32
  let v397 : BitVec 1 := Scalar.cmpi .ne v396 c0_i32_337
  v397

def k0_off81 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.addi v8 c1_i32_852
  let c0_i32_853 : BitVec 32 := 0#32
  let v925 : BitVec 32 := Scalar.addi v924 c0_i32_853
  let c0_i32_866 : BitVec 32 := 0#32
  let c0_i32_867 : BitVec 32 := 0#32
  let c0_i32_868 : BitVec 32 := 0#32
  ![v925.toNat, 0, 0, 0]
def k0_dev38 (d0 : Dev nD) : Nat :=
  let c0_i32_859 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_858 : BitVec 32 := 16#32
  let v927 : BitVec 32 := Scalar.muli v2 c16_i32_858
  let v928 : BitVec 32 := Scalar.addi c0_i32_859 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_860 : BitVec 32 := 4#32
  let v929 : BitVec 32 := Scalar.muli v5 c4_i32_860
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v926 : BitVec 32 := Scalar.addi v8 c_m1_i32
  let c1_i32_861 : BitVec 32 := 1#32
  let v931 : BitVec 32 := Scalar.muli v926 c1_i32_861
  let v932 : BitVec 32 := Scalar.addi v930 v931
  v932.toNat
def k0_cond65 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_338 : BitVec 32 := 0#32
  let v398 : BitVec 1 := Scalar.cmpi .sgt v5 c0_i32_338
  let c1_i32_339 : BitVec 32 := 1#32
  let v399 : BitVec 32 := Scalar.subi v5 c1_i32_339
  let c0_i32_340 : BitVec 32 := 0#32
  let v400 : BitVec 32 := Scalar.subi v399 c0_i32_340
  let c0_i32_341 : BitVec 32 := 0#32
  let v401 : BitVec 1 := Scalar.cmpi .sge v400 c0_i32_341
  let v402 : BitVec 1 := Scalar.andi v398 v401
  let v403 : BitVec 32 := Scalar.extui v402
  let c0_i32_344 : BitVec 32 := 0#32
  let v404 : BitVec 1 := Scalar.cmpi .ne v403 c0_i32_344
  v404

def k0_off82 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.subi v5 c1_i32_852
  let c0_i32_853 : BitVec 32 := 0#32
  let v925 : BitVec 32 := Scalar.subi v924 c0_i32_853
  let c2_i32_864 : BitVec 32 := 2#32
  let c0_i32_865 : BitVec 32 := 0#32
  let c0_i32_866 : BitVec 32 := 0#32
  ![v925.toNat, 2, 0, 0]
def k0_cond66 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_345 : BitVec 32 := 3#32
  let v405 : BitVec 1 := Scalar.cmpi .slt v5 c3_i32_345
  let c1_i32_346 : BitVec 32 := 1#32
  let v406 : BitVec 32 := Scalar.subi v5 c1_i32_346
  let c0_i32_347 : BitVec 32 := 0#32
  let v407 : BitVec 32 := Scalar.subi v406 c0_i32_347
  let c0_i32_348 : BitVec 32 := 0#32
  let v408 : BitVec 1 := Scalar.cmpi .sge v407 c0_i32_348
  let v409 : BitVec 1 := Scalar.andi v405 v408
  let v410 : BitVec 32 := Scalar.extui v409
  let c0_i32_351 : BitVec 32 := 0#32
  let v411 : BitVec 1 := Scalar.cmpi .ne v410 c0_i32_351
  v411

def k0_off83 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.subi v5 c1_i32_852
  let c0_i32_853 : BitVec 32 := 0#32
  let v925 : BitVec 32 := Scalar.subi v924 c0_i32_853
  let c2_i32_867 : BitVec 32 := 2#32
  let c0_i32_868 : BitVec 32 := 0#32
  let c0_i32_869 : BitVec 32 := 0#32
  ![v925.toNat, 2, 0, 0]
def k0_dev39 (d0 : Dev nD) : Nat :=
  let c0_i32_860 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_859 : BitVec 32 := 16#32
  let v927 : BitVec 32 := Scalar.muli v2 c16_i32_859
  let v928 : BitVec 32 := Scalar.addi c0_i32_860 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_854 : BitVec 32 := 1#32
  let v926 : BitVec 32 := Scalar.addi v5 c1_i32_854
  let c4_i32_861 : BitVec 32 := 4#32
  let v929 : BitVec 32 := Scalar.muli v926 c4_i32_861
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_862 : BitVec 32 := 1#32
  let v931 : BitVec 32 := Scalar.muli v8 c1_i32_862
  let v932 : BitVec 32 := Scalar.addi v930 v931
  v932.toNat
def k0_cond67 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_352 : BitVec 32 := 3#32
  let v412 : BitVec 1 := Scalar.cmpi .slt v5 c3_i32_352
  let c1_i32_353 : BitVec 32 := 1#32
  let v413 : BitVec 32 := Scalar.addi v5 c1_i32_353
  let c0_i32_354 : BitVec 32 := 0#32
  let v414 : BitVec 32 := Scalar.addi v413 c0_i32_354
  let c3_i32_355 : BitVec 32 := 3#32
  let v415 : BitVec 1 := Scalar.cmpi .sle v414 c3_i32_355
  let v416 : BitVec 1 := Scalar.andi v412 v415
  let v417 : BitVec 32 := Scalar.extui v416
  let c0_i32_358 : BitVec 32 := 0#32
  let v418 : BitVec 1 := Scalar.cmpi .ne v417 c0_i32_358
  v418

def k0_off84 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.addi v5 c1_i32_852
  let c0_i32_853 : BitVec 32 := 0#32
  let v925 : BitVec 32 := Scalar.addi v924 c0_i32_853
  let c2_i32_865 : BitVec 32 := 2#32
  let c0_i32_866 : BitVec 32 := 0#32
  let c0_i32_867 : BitVec 32 := 0#32
  ![v925.toNat, 2, 0, 0]
def k0_cond68 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_359 : BitVec 32 := 0#32
  let v419 : BitVec 1 := Scalar.cmpi .sgt v5 c0_i32_359
  let c1_i32_360 : BitVec 32 := 1#32
  let v420 : BitVec 32 := Scalar.addi v5 c1_i32_360
  let c0_i32_361 : BitVec 32 := 0#32
  let v421 : BitVec 32 := Scalar.addi v420 c0_i32_361
  let c3_i32_362 : BitVec 32 := 3#32
  let v422 : BitVec 1 := Scalar.cmpi .sle v421 c3_i32_362
  let v423 : BitVec 1 := Scalar.andi v419 v422
  let v424 : BitVec 32 := Scalar.extui v423
  let c0_i32_365 : BitVec 32 := 0#32
  let v425 : BitVec 1 := Scalar.cmpi .ne v424 c0_i32_365
  v425

def k0_off85 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.addi v5 c1_i32_852
  let c0_i32_853 : BitVec 32 := 0#32
  let v925 : BitVec 32 := Scalar.addi v924 c0_i32_853
  let c2_i32_866 : BitVec 32 := 2#32
  let c0_i32_867 : BitVec 32 := 0#32
  let c0_i32_868 : BitVec 32 := 0#32
  ![v925.toNat, 2, 0, 0]
def k0_dev40 (d0 : Dev nD) : Nat :=
  let c0_i32_859 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_858 : BitVec 32 := 16#32
  let v927 : BitVec 32 := Scalar.muli v2 c16_i32_858
  let v928 : BitVec 32 := Scalar.addi c0_i32_859 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v926 : BitVec 32 := Scalar.addi v5 c_m1_i32
  let c4_i32_860 : BitVec 32 := 4#32
  let v929 : BitVec 32 := Scalar.muli v926 c4_i32_860
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_861 : BitVec 32 := 1#32
  let v931 : BitVec 32 := Scalar.muli v8 c1_i32_861
  let v932 : BitVec 32 := Scalar.addi v930 v931
  v932.toNat
def k0_cond69 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_366 : BitVec 32 := 0#32
  let v426 : BitVec 1 := Scalar.cmpi .sgt v8 c0_i32_366
  let c1_i32_367 : BitVec 32 := 1#32
  let v427 : BitVec 32 := Scalar.subi v8 c1_i32_367
  let c0_i32_368 : BitVec 32 := 0#32
  let v428 : BitVec 32 := Scalar.subi v427 c0_i32_368
  let c0_i32_369 : BitVec 32 := 0#32
  let v429 : BitVec 1 := Scalar.cmpi .sge v428 c0_i32_369
  let v430 : BitVec 1 := Scalar.andi v426 v429
  let v431 : BitVec 32 := Scalar.extui v430
  let c0_i32_372 : BitVec 32 := 0#32
  let v432 : BitVec 1 := Scalar.cmpi .ne v431 c0_i32_372
  v432

def k0_off86 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.subi v8 c1_i32_852
  let c0_i32_853 : BitVec 32 := 0#32
  let v925 : BitVec 32 := Scalar.subi v924 c0_i32_853
  let c2_i32_864 : BitVec 32 := 2#32
  let c0_i32_865 : BitVec 32 := 0#32
  let c0_i32_866 : BitVec 32 := 0#32
  ![v925.toNat, 2, 0, 0]
def k0_cond70 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_373 : BitVec 32 := 3#32
  let v433 : BitVec 1 := Scalar.cmpi .slt v8 c3_i32_373
  let c1_i32_374 : BitVec 32 := 1#32
  let v434 : BitVec 32 := Scalar.subi v8 c1_i32_374
  let c0_i32_375 : BitVec 32 := 0#32
  let v435 : BitVec 32 := Scalar.subi v434 c0_i32_375
  let c0_i32_376 : BitVec 32 := 0#32
  let v436 : BitVec 1 := Scalar.cmpi .sge v435 c0_i32_376
  let v437 : BitVec 1 := Scalar.andi v433 v436
  let v438 : BitVec 32 := Scalar.extui v437
  let c0_i32_379 : BitVec 32 := 0#32
  let v439 : BitVec 1 := Scalar.cmpi .ne v438 c0_i32_379
  v439

def k0_off87 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.subi v8 c1_i32_852
  let c0_i32_853 : BitVec 32 := 0#32
  let v925 : BitVec 32 := Scalar.subi v924 c0_i32_853
  let c2_i32_867 : BitVec 32 := 2#32
  let c0_i32_868 : BitVec 32 := 0#32
  let c0_i32_869 : BitVec 32 := 0#32
  ![v925.toNat, 2, 0, 0]
def k0_dev41 (d0 : Dev nD) : Nat :=
  let c0_i32_860 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_859 : BitVec 32 := 16#32
  let v927 : BitVec 32 := Scalar.muli v2 c16_i32_859
  let v928 : BitVec 32 := Scalar.addi c0_i32_860 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_861 : BitVec 32 := 4#32
  let v929 : BitVec 32 := Scalar.muli v5 c4_i32_861
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_854 : BitVec 32 := 1#32
  let v926 : BitVec 32 := Scalar.addi v8 c1_i32_854
  let c1_i32_862 : BitVec 32 := 1#32
  let v931 : BitVec 32 := Scalar.muli v926 c1_i32_862
  let v932 : BitVec 32 := Scalar.addi v930 v931
  v932.toNat
def k0_cond71 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_380 : BitVec 32 := 3#32
  let v440 : BitVec 1 := Scalar.cmpi .slt v8 c3_i32_380
  let c1_i32_381 : BitVec 32 := 1#32
  let v441 : BitVec 32 := Scalar.addi v8 c1_i32_381
  let c0_i32_382 : BitVec 32 := 0#32
  let v442 : BitVec 32 := Scalar.addi v441 c0_i32_382
  let c3_i32_383 : BitVec 32 := 3#32
  let v443 : BitVec 1 := Scalar.cmpi .sle v442 c3_i32_383
  let v444 : BitVec 1 := Scalar.andi v440 v443
  let v445 : BitVec 32 := Scalar.extui v444
  let c0_i32_386 : BitVec 32 := 0#32
  let v446 : BitVec 1 := Scalar.cmpi .ne v445 c0_i32_386
  v446

def k0_off88 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.addi v8 c1_i32_852
  let c0_i32_853 : BitVec 32 := 0#32
  let v925 : BitVec 32 := Scalar.addi v924 c0_i32_853
  let c2_i32_865 : BitVec 32 := 2#32
  let c0_i32_866 : BitVec 32 := 0#32
  let c0_i32_867 : BitVec 32 := 0#32
  ![v925.toNat, 2, 0, 0]
def k0_cond72 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_387 : BitVec 32 := 0#32
  let v447 : BitVec 1 := Scalar.cmpi .sgt v8 c0_i32_387
  let c1_i32_388 : BitVec 32 := 1#32
  let v448 : BitVec 32 := Scalar.addi v8 c1_i32_388
  let c0_i32_389 : BitVec 32 := 0#32
  let v449 : BitVec 32 := Scalar.addi v448 c0_i32_389
  let c3_i32_390 : BitVec 32 := 3#32
  let v450 : BitVec 1 := Scalar.cmpi .sle v449 c3_i32_390
  let v451 : BitVec 1 := Scalar.andi v447 v450
  let v452 : BitVec 32 := Scalar.extui v451
  let c0_i32_393 : BitVec 32 := 0#32
  let v453 : BitVec 1 := Scalar.cmpi .ne v452 c0_i32_393
  v453

def k0_off89 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.addi v8 c1_i32_852
  let c0_i32_853 : BitVec 32 := 0#32
  let v925 : BitVec 32 := Scalar.addi v924 c0_i32_853
  let c2_i32_866 : BitVec 32 := 2#32
  let c0_i32_867 : BitVec 32 := 0#32
  let c0_i32_868 : BitVec 32 := 0#32
  ![v925.toNat, 2, 0, 0]
def k0_dev42 (d0 : Dev nD) : Nat :=
  let c0_i32_859 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_858 : BitVec 32 := 16#32
  let v927 : BitVec 32 := Scalar.muli v2 c16_i32_858
  let v928 : BitVec 32 := Scalar.addi c0_i32_859 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_860 : BitVec 32 := 4#32
  let v929 : BitVec 32 := Scalar.muli v5 c4_i32_860
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v926 : BitVec 32 := Scalar.addi v8 c_m1_i32
  let c1_i32_861 : BitVec 32 := 1#32
  let v931 : BitVec 32 := Scalar.muli v926 c1_i32_861
  let v932 : BitVec 32 := Scalar.addi v930 v931
  v932.toNat
def k0_cond73 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_394 : BitVec 32 := 0#32
  let v454 : BitVec 1 := Scalar.cmpi .sgt v5 c0_i32_394
  let c1_i32_395 : BitVec 32 := 1#32
  let v455 : BitVec 32 := Scalar.subi v5 c1_i32_395
  let c0_i32_396 : BitVec 32 := 0#32
  let v456 : BitVec 32 := Scalar.subi v455 c0_i32_396
  let c0_i32_397 : BitVec 32 := 0#32
  let v457 : BitVec 1 := Scalar.cmpi .sge v456 c0_i32_397
  let v458 : BitVec 1 := Scalar.andi v454 v457
  let v482 : BitVec 32 := Scalar.extui v458
  let c0_i32_418 : BitVec 32 := 0#32
  let v483 : BitVec 1 := Scalar.cmpi .ne v482 c0_i32_418
  v483

def k0_off90 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_398 : BitVec 32 := 1#32
  let v459 : BitVec 32 := Scalar.subi v5 c1_i32_398
  let c0_i32_399 : BitVec 32 := 0#32
  let v460 : BitVec 32 := Scalar.subi v459 c0_i32_399
  let v922 : Index := Scalar.indexCast v460
  let c0_850 : Index := 0#32
  let c0_851 : Index := 0#32
  let c0_852 : Index := 0#32
  ![v922.toNat, 0, 0, 0]
def k0_off91 (d0 : Dev nD) (c0_i32_855 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_398 : BitVec 32 := 1#32
  let v459 : BitVec 32 := Scalar.subi v5 c1_i32_398
  let c0_i32_399 : BitVec 32 := 0#32
  let v460 : BitVec 32 := Scalar.subi v459 c0_i32_399
  let c4_i32_853 : BitVec 32 := 4#32
  let v924 : BitVec 32 := Scalar.muli v460 c4_i32_853
  let c128_i32_854 : BitVec 32 := 128#32
  let v925 : BitVec 32 := Scalar.muli v924 c128_i32_854
  let v926 : BitVec 32 := Scalar.addi v925 c0_i32_855
  let v929 : Index := Scalar.indexCast v926
  let c0_856 : Index := 0#32
  ![v929.toNat, 0]
def k0_off92 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_398 : BitVec 32 := 1#32
  let v459 : BitVec 32 := Scalar.subi v5 c1_i32_398
  let c0_i32_399 : BitVec 32 := 0#32
  let v460 : BitVec 32 := Scalar.subi v459 c0_i32_399
  let v931 : Index := Scalar.indexCast v460
  let c1 : Index := 1#32
  let c0_857 : Index := 0#32
  let c0_858 : Index := 0#32
  ![v931.toNat, 1, 0, 0]
def k0_off93 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_398 : BitVec 32 := 1#32
  let v459 : BitVec 32 := Scalar.subi v5 c1_i32_398
  let c0_i32_399 : BitVec 32 := 0#32
  let v460 : BitVec 32 := Scalar.subi v459 c0_i32_399
  let v940 : Index := Scalar.indexCast v460
  let c2 : Index := 2#32
  let c0_863 : Index := 0#32
  let c0_864 : Index := 0#32
  ![v940.toNat, 2, 0, 0]
def k0_off94 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_398 : BitVec 32 := 1#32
  let v459 : BitVec 32 := Scalar.subi v5 c1_i32_398
  let c0_i32_399 : BitVec 32 := 0#32
  let v460 : BitVec 32 := Scalar.subi v459 c0_i32_399
  let v949 : Index := Scalar.indexCast v460
  let c3 : Index := 3#32
  let c0_868 : Index := 0#32
  let c0_869 : Index := 0#32
  ![v949.toNat, 3, 0, 0]
def k0_cond74 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_400 : BitVec 32 := 3#32
  let v461 : BitVec 1 := Scalar.cmpi .slt v5 c3_i32_400
  let c1_i32_401 : BitVec 32 := 1#32
  let v462 : BitVec 32 := Scalar.addi v5 c1_i32_401
  let c0_i32_402 : BitVec 32 := 0#32
  let v463 : BitVec 32 := Scalar.addi v462 c0_i32_402
  let c3_i32_403 : BitVec 32 := 3#32
  let v464 : BitVec 1 := Scalar.cmpi .sle v463 c3_i32_403
  let v465 : BitVec 1 := Scalar.andi v461 v464
  let v484 : BitVec 32 := Scalar.extui v465
  let c0_i32_419 : BitVec 32 := 0#32
  let v485 : BitVec 1 := Scalar.cmpi .ne v484 c0_i32_419
  v485

def k0_off95 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_404 : BitVec 32 := 1#32
  let v466 : BitVec 32 := Scalar.addi v5 c1_i32_404
  let c0_i32_405 : BitVec 32 := 0#32
  let v467 : BitVec 32 := Scalar.addi v466 c0_i32_405
  let v922 : Index := Scalar.indexCast v467
  let c0_850 : Index := 0#32
  let c0_851 : Index := 0#32
  let c0_852 : Index := 0#32
  ![v922.toNat, 0, 0, 0]
def k0_off96 (d0 : Dev nD) (c0_i32_855 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_404 : BitVec 32 := 1#32
  let v466 : BitVec 32 := Scalar.addi v5 c1_i32_404
  let c0_i32_405 : BitVec 32 := 0#32
  let v467 : BitVec 32 := Scalar.addi v466 c0_i32_405
  let c4_i32_853 : BitVec 32 := 4#32
  let v924 : BitVec 32 := Scalar.muli v467 c4_i32_853
  let c128_i32_854 : BitVec 32 := 128#32
  let v925 : BitVec 32 := Scalar.muli v924 c128_i32_854
  let v926 : BitVec 32 := Scalar.addi v925 c0_i32_855
  let v929 : Index := Scalar.indexCast v926
  let c0_856 : Index := 0#32
  ![v929.toNat, 0]
def k0_off97 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_404 : BitVec 32 := 1#32
  let v466 : BitVec 32 := Scalar.addi v5 c1_i32_404
  let c0_i32_405 : BitVec 32 := 0#32
  let v467 : BitVec 32 := Scalar.addi v466 c0_i32_405
  let v931 : Index := Scalar.indexCast v467
  let c1 : Index := 1#32
  let c0_857 : Index := 0#32
  let c0_858 : Index := 0#32
  ![v931.toNat, 1, 0, 0]
def k0_off98 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_404 : BitVec 32 := 1#32
  let v466 : BitVec 32 := Scalar.addi v5 c1_i32_404
  let c0_i32_405 : BitVec 32 := 0#32
  let v467 : BitVec 32 := Scalar.addi v466 c0_i32_405
  let v940 : Index := Scalar.indexCast v467
  let c2 : Index := 2#32
  let c0_863 : Index := 0#32
  let c0_864 : Index := 0#32
  ![v940.toNat, 2, 0, 0]
def k0_off99 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_404 : BitVec 32 := 1#32
  let v466 : BitVec 32 := Scalar.addi v5 c1_i32_404
  let c0_i32_405 : BitVec 32 := 0#32
  let v467 : BitVec 32 := Scalar.addi v466 c0_i32_405
  let v949 : Index := Scalar.indexCast v467
  let c3 : Index := 3#32
  let c0_868 : Index := 0#32
  let c0_869 : Index := 0#32
  ![v949.toNat, 3, 0, 0]
def k0_cond75 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_406 : BitVec 32 := 0#32
  let v468 : BitVec 1 := Scalar.cmpi .sgt v8 c0_i32_406
  let c1_i32_407 : BitVec 32 := 1#32
  let v469 : BitVec 32 := Scalar.subi v8 c1_i32_407
  let c0_i32_408 : BitVec 32 := 0#32
  let v470 : BitVec 32 := Scalar.subi v469 c0_i32_408
  let c0_i32_409 : BitVec 32 := 0#32
  let v471 : BitVec 1 := Scalar.cmpi .sge v470 c0_i32_409
  let v472 : BitVec 1 := Scalar.andi v468 v471
  let v486 : BitVec 32 := Scalar.extui v472
  let c0_i32_420 : BitVec 32 := 0#32
  let v487 : BitVec 1 := Scalar.cmpi .ne v486 c0_i32_420
  v487

def k0_off100 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_410 : BitVec 32 := 1#32
  let v473 : BitVec 32 := Scalar.subi v8 c1_i32_410
  let c0_i32_411 : BitVec 32 := 0#32
  let v474 : BitVec 32 := Scalar.subi v473 c0_i32_411
  let v922 : Index := Scalar.indexCast v474
  let c0_850 : Index := 0#32
  let c0_851 : Index := 0#32
  let c0_852 : Index := 0#32
  ![v922.toNat, 0, 0, 0]
def k0_off101 (d0 : Dev nD) (c0_i32_854 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_410 : BitVec 32 := 1#32
  let v473 : BitVec 32 := Scalar.subi v8 c1_i32_410
  let c0_i32_411 : BitVec 32 := 0#32
  let v474 : BitVec 32 := Scalar.subi v473 c0_i32_411
  let c128_i32_853 : BitVec 32 := 128#32
  let v924 : BitVec 32 := Scalar.muli v474 c128_i32_853
  let v925 : BitVec 32 := Scalar.addi c0_i32_854 v924
  let c64_i32_855 : BitVec 32 := 64#32
  let v926 : BitVec 32 := Scalar.addi v925 c64_i32_855
  let v929 : Index := Scalar.indexCast v926
  let c0_856 : Index := 0#32
  ![v929.toNat, 0]
def k0_off102 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_410 : BitVec 32 := 1#32
  let v473 : BitVec 32 := Scalar.subi v8 c1_i32_410
  let c0_i32_411 : BitVec 32 := 0#32
  let v474 : BitVec 32 := Scalar.subi v473 c0_i32_411
  let v931 : Index := Scalar.indexCast v474
  let c1 : Index := 1#32
  let c0_857 : Index := 0#32
  let c0_858 : Index := 0#32
  ![v931.toNat, 1, 0, 0]
def k0_off103 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_410 : BitVec 32 := 1#32
  let v473 : BitVec 32 := Scalar.subi v8 c1_i32_410
  let c0_i32_411 : BitVec 32 := 0#32
  let v474 : BitVec 32 := Scalar.subi v473 c0_i32_411
  let v940 : Index := Scalar.indexCast v474
  let c2 : Index := 2#32
  let c0_862 : Index := 0#32
  let c0_863 : Index := 0#32
  ![v940.toNat, 2, 0, 0]
def k0_off104 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_410 : BitVec 32 := 1#32
  let v473 : BitVec 32 := Scalar.subi v8 c1_i32_410
  let c0_i32_411 : BitVec 32 := 0#32
  let v474 : BitVec 32 := Scalar.subi v473 c0_i32_411
  let v949 : Index := Scalar.indexCast v474
  let c3 : Index := 3#32
  let c0_867 : Index := 0#32
  let c0_868 : Index := 0#32
  ![v949.toNat, 3, 0, 0]
def k0_cond76 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_412 : BitVec 32 := 3#32
  let v475 : BitVec 1 := Scalar.cmpi .slt v8 c3_i32_412
  let c1_i32_413 : BitVec 32 := 1#32
  let v476 : BitVec 32 := Scalar.addi v8 c1_i32_413
  let c0_i32_414 : BitVec 32 := 0#32
  let v477 : BitVec 32 := Scalar.addi v476 c0_i32_414
  let c3_i32_415 : BitVec 32 := 3#32
  let v478 : BitVec 1 := Scalar.cmpi .sle v477 c3_i32_415
  let v479 : BitVec 1 := Scalar.andi v475 v478
  let v488 : BitVec 32 := Scalar.extui v479
  let c0_i32_421 : BitVec 32 := 0#32
  let v489 : BitVec 1 := Scalar.cmpi .ne v488 c0_i32_421
  v489

def k0_off105 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_416 : BitVec 32 := 1#32
  let v480 : BitVec 32 := Scalar.addi v8 c1_i32_416
  let c0_i32_417 : BitVec 32 := 0#32
  let v481 : BitVec 32 := Scalar.addi v480 c0_i32_417
  let v922 : Index := Scalar.indexCast v481
  let c0_850 : Index := 0#32
  let c0_851 : Index := 0#32
  let c0_852 : Index := 0#32
  ![v922.toNat, 0, 0, 0]
def k0_off106 (d0 : Dev nD) (c0_i32_854 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_416 : BitVec 32 := 1#32
  let v480 : BitVec 32 := Scalar.addi v8 c1_i32_416
  let c0_i32_417 : BitVec 32 := 0#32
  let v481 : BitVec 32 := Scalar.addi v480 c0_i32_417
  let c128_i32_853 : BitVec 32 := 128#32
  let v924 : BitVec 32 := Scalar.muli v481 c128_i32_853
  let v925 : BitVec 32 := Scalar.addi c0_i32_854 v924
  let c64_i32_855 : BitVec 32 := 64#32
  let v926 : BitVec 32 := Scalar.addi v925 c64_i32_855
  let v929 : Index := Scalar.indexCast v926
  let c0_856 : Index := 0#32
  ![v929.toNat, 0]
def k0_off107 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_416 : BitVec 32 := 1#32
  let v480 : BitVec 32 := Scalar.addi v8 c1_i32_416
  let c0_i32_417 : BitVec 32 := 0#32
  let v481 : BitVec 32 := Scalar.addi v480 c0_i32_417
  let v931 : Index := Scalar.indexCast v481
  let c1 : Index := 1#32
  let c0_857 : Index := 0#32
  let c0_858 : Index := 0#32
  ![v931.toNat, 1, 0, 0]
def k0_off108 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_416 : BitVec 32 := 1#32
  let v480 : BitVec 32 := Scalar.addi v8 c1_i32_416
  let c0_i32_417 : BitVec 32 := 0#32
  let v481 : BitVec 32 := Scalar.addi v480 c0_i32_417
  let v940 : Index := Scalar.indexCast v481
  let c2 : Index := 2#32
  let c0_862 : Index := 0#32
  let c0_863 : Index := 0#32
  ![v940.toNat, 2, 0, 0]
def k0_off109 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_416 : BitVec 32 := 1#32
  let v480 : BitVec 32 := Scalar.addi v8 c1_i32_416
  let c0_i32_417 : BitVec 32 := 0#32
  let v481 : BitVec 32 := Scalar.addi v480 c0_i32_417
  let v949 : Index := Scalar.indexCast v481
  let c3 : Index := 3#32
  let c0_867 : Index := 0#32
  let c0_868 : Index := 0#32
  ![v949.toNat, 3, 0, 0]
def k0_cond77 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_422 : BitVec 32 := 0#32
  let v490 : BitVec 1 := Scalar.cmpi .sgt v5 c0_i32_422
  let c1_i32_423 : BitVec 32 := 1#32
  let v491 : BitVec 32 := Scalar.subi v5 c1_i32_423
  let c1_i32_424 : BitVec 32 := 1#32
  let v492 : BitVec 32 := Scalar.subi v491 c1_i32_424
  let c0_i32_425 : BitVec 32 := 0#32
  let v493 : BitVec 1 := Scalar.cmpi .sge v492 c0_i32_425
  let v494 : BitVec 1 := Scalar.andi v490 v493
  let v495 : BitVec 32 := Scalar.extui v494
  let c0_i32_428 : BitVec 32 := 0#32
  let v496 : BitVec 1 := Scalar.cmpi .ne v495 c0_i32_428
  v496

def k0_off110 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.subi v5 c1_i32_852
  let c1_i32_853 : BitVec 32 := 1#32
  let v925 : BitVec 32 := Scalar.subi v924 c1_i32_853
  let c0_i32_864 : BitVec 32 := 0#32
  let c0_i32_865 : BitVec 32 := 0#32
  let c0_i32_866 : BitVec 32 := 0#32
  ![v925.toNat, 0, 0, 0]
def k0_cond78 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_429 : BitVec 32 := 3#32
  let v497 : BitVec 1 := Scalar.cmpi .slt v5 c3_i32_429
  let c1_i32_430 : BitVec 32 := 1#32
  let v498 : BitVec 32 := Scalar.subi v5 c1_i32_430
  let c1_i32_431 : BitVec 32 := 1#32
  let v499 : BitVec 32 := Scalar.subi v498 c1_i32_431
  let c0_i32_432 : BitVec 32 := 0#32
  let v500 : BitVec 1 := Scalar.cmpi .sge v499 c0_i32_432
  let v501 : BitVec 1 := Scalar.andi v497 v500
  let v502 : BitVec 32 := Scalar.extui v501
  let c0_i32_435 : BitVec 32 := 0#32
  let v503 : BitVec 1 := Scalar.cmpi .ne v502 c0_i32_435
  v503

def k0_off111 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.subi v5 c1_i32_852
  let c1_i32_853 : BitVec 32 := 1#32
  let v925 : BitVec 32 := Scalar.subi v924 c1_i32_853
  let c0_i32_867 : BitVec 32 := 0#32
  let c0_i32_868 : BitVec 32 := 0#32
  let c0_i32_869 : BitVec 32 := 0#32
  ![v925.toNat, 0, 0, 0]
def k0_dev43 (d0 : Dev nD) : Nat :=
  let c0_i32_860 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_859 : BitVec 32 := 16#32
  let v927 : BitVec 32 := Scalar.muli v2 c16_i32_859
  let v928 : BitVec 32 := Scalar.addi c0_i32_860 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_854 : BitVec 32 := 1#32
  let v926 : BitVec 32 := Scalar.addi v5 c1_i32_854
  let c4_i32_861 : BitVec 32 := 4#32
  let v929 : BitVec 32 := Scalar.muli v926 c4_i32_861
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_862 : BitVec 32 := 1#32
  let v931 : BitVec 32 := Scalar.muli v8 c1_i32_862
  let v932 : BitVec 32 := Scalar.addi v930 v931
  v932.toNat
def k0_cond79 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_436 : BitVec 32 := 3#32
  let v504 : BitVec 1 := Scalar.cmpi .slt v5 c3_i32_436
  let c1_i32_437 : BitVec 32 := 1#32
  let v505 : BitVec 32 := Scalar.addi v5 c1_i32_437
  let c1_i32_438 : BitVec 32 := 1#32
  let v506 : BitVec 32 := Scalar.addi v505 c1_i32_438
  let c3_i32_439 : BitVec 32 := 3#32
  let v507 : BitVec 1 := Scalar.cmpi .sle v506 c3_i32_439
  let v508 : BitVec 1 := Scalar.andi v504 v507
  let v509 : BitVec 32 := Scalar.extui v508
  let c0_i32_442 : BitVec 32 := 0#32
  let v510 : BitVec 1 := Scalar.cmpi .ne v509 c0_i32_442
  v510

def k0_off112 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.addi v5 c1_i32_852
  let c1_i32_853 : BitVec 32 := 1#32
  let v925 : BitVec 32 := Scalar.addi v924 c1_i32_853
  let c0_i32_865 : BitVec 32 := 0#32
  let c0_i32_866 : BitVec 32 := 0#32
  let c0_i32_867 : BitVec 32 := 0#32
  ![v925.toNat, 0, 0, 0]
def k0_cond80 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_443 : BitVec 32 := 0#32
  let v511 : BitVec 1 := Scalar.cmpi .sgt v5 c0_i32_443
  let c1_i32_444 : BitVec 32 := 1#32
  let v512 : BitVec 32 := Scalar.addi v5 c1_i32_444
  let c1_i32_445 : BitVec 32 := 1#32
  let v513 : BitVec 32 := Scalar.addi v512 c1_i32_445
  let c3_i32_446 : BitVec 32 := 3#32
  let v514 : BitVec 1 := Scalar.cmpi .sle v513 c3_i32_446
  let v515 : BitVec 1 := Scalar.andi v511 v514
  let v516 : BitVec 32 := Scalar.extui v515
  let c0_i32_449 : BitVec 32 := 0#32
  let v517 : BitVec 1 := Scalar.cmpi .ne v516 c0_i32_449
  v517

def k0_off113 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.addi v5 c1_i32_852
  let c1_i32_853 : BitVec 32 := 1#32
  let v925 : BitVec 32 := Scalar.addi v924 c1_i32_853
  let c0_i32_866 : BitVec 32 := 0#32
  let c0_i32_867 : BitVec 32 := 0#32
  let c0_i32_868 : BitVec 32 := 0#32
  ![v925.toNat, 0, 0, 0]
def k0_dev44 (d0 : Dev nD) : Nat :=
  let c0_i32_859 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_858 : BitVec 32 := 16#32
  let v927 : BitVec 32 := Scalar.muli v2 c16_i32_858
  let v928 : BitVec 32 := Scalar.addi c0_i32_859 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v926 : BitVec 32 := Scalar.addi v5 c_m1_i32
  let c4_i32_860 : BitVec 32 := 4#32
  let v929 : BitVec 32 := Scalar.muli v926 c4_i32_860
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_861 : BitVec 32 := 1#32
  let v931 : BitVec 32 := Scalar.muli v8 c1_i32_861
  let v932 : BitVec 32 := Scalar.addi v930 v931
  v932.toNat
def k0_cond81 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_450 : BitVec 32 := 0#32
  let v518 : BitVec 1 := Scalar.cmpi .sgt v8 c0_i32_450
  let c1_i32_451 : BitVec 32 := 1#32
  let v519 : BitVec 32 := Scalar.subi v8 c1_i32_451
  let c1_i32_452 : BitVec 32 := 1#32
  let v520 : BitVec 32 := Scalar.subi v519 c1_i32_452
  let c0_i32_453 : BitVec 32 := 0#32
  let v521 : BitVec 1 := Scalar.cmpi .sge v520 c0_i32_453
  let v522 : BitVec 1 := Scalar.andi v518 v521
  let v523 : BitVec 32 := Scalar.extui v522
  let c0_i32_456 : BitVec 32 := 0#32
  let v524 : BitVec 1 := Scalar.cmpi .ne v523 c0_i32_456
  v524

def k0_off114 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.subi v8 c1_i32_852
  let c1_i32_853 : BitVec 32 := 1#32
  let v925 : BitVec 32 := Scalar.subi v924 c1_i32_853
  let c0_i32_864 : BitVec 32 := 0#32
  let c0_i32_865 : BitVec 32 := 0#32
  let c0_i32_866 : BitVec 32 := 0#32
  ![v925.toNat, 0, 0, 0]
def k0_cond82 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_457 : BitVec 32 := 3#32
  let v525 : BitVec 1 := Scalar.cmpi .slt v8 c3_i32_457
  let c1_i32_458 : BitVec 32 := 1#32
  let v526 : BitVec 32 := Scalar.subi v8 c1_i32_458
  let c1_i32_459 : BitVec 32 := 1#32
  let v527 : BitVec 32 := Scalar.subi v526 c1_i32_459
  let c0_i32_460 : BitVec 32 := 0#32
  let v528 : BitVec 1 := Scalar.cmpi .sge v527 c0_i32_460
  let v529 : BitVec 1 := Scalar.andi v525 v528
  let v530 : BitVec 32 := Scalar.extui v529
  let c0_i32_463 : BitVec 32 := 0#32
  let v531 : BitVec 1 := Scalar.cmpi .ne v530 c0_i32_463
  v531

def k0_off115 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.subi v8 c1_i32_852
  let c1_i32_853 : BitVec 32 := 1#32
  let v925 : BitVec 32 := Scalar.subi v924 c1_i32_853
  let c0_i32_867 : BitVec 32 := 0#32
  let c0_i32_868 : BitVec 32 := 0#32
  let c0_i32_869 : BitVec 32 := 0#32
  ![v925.toNat, 0, 0, 0]
def k0_dev45 (d0 : Dev nD) : Nat :=
  let c0_i32_860 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_859 : BitVec 32 := 16#32
  let v927 : BitVec 32 := Scalar.muli v2 c16_i32_859
  let v928 : BitVec 32 := Scalar.addi c0_i32_860 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_861 : BitVec 32 := 4#32
  let v929 : BitVec 32 := Scalar.muli v5 c4_i32_861
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_854 : BitVec 32 := 1#32
  let v926 : BitVec 32 := Scalar.addi v8 c1_i32_854
  let c1_i32_862 : BitVec 32 := 1#32
  let v931 : BitVec 32 := Scalar.muli v926 c1_i32_862
  let v932 : BitVec 32 := Scalar.addi v930 v931
  v932.toNat
def k0_cond83 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_464 : BitVec 32 := 3#32
  let v532 : BitVec 1 := Scalar.cmpi .slt v8 c3_i32_464
  let c1_i32_465 : BitVec 32 := 1#32
  let v533 : BitVec 32 := Scalar.addi v8 c1_i32_465
  let c1_i32_466 : BitVec 32 := 1#32
  let v534 : BitVec 32 := Scalar.addi v533 c1_i32_466
  let c3_i32_467 : BitVec 32 := 3#32
  let v535 : BitVec 1 := Scalar.cmpi .sle v534 c3_i32_467
  let v536 : BitVec 1 := Scalar.andi v532 v535
  let v537 : BitVec 32 := Scalar.extui v536
  let c0_i32_470 : BitVec 32 := 0#32
  let v538 : BitVec 1 := Scalar.cmpi .ne v537 c0_i32_470
  v538

def k0_off116 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.addi v8 c1_i32_852
  let c1_i32_853 : BitVec 32 := 1#32
  let v925 : BitVec 32 := Scalar.addi v924 c1_i32_853
  let c0_i32_865 : BitVec 32 := 0#32
  let c0_i32_866 : BitVec 32 := 0#32
  let c0_i32_867 : BitVec 32 := 0#32
  ![v925.toNat, 0, 0, 0]
def k0_cond84 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_471 : BitVec 32 := 0#32
  let v539 : BitVec 1 := Scalar.cmpi .sgt v8 c0_i32_471
  let c1_i32_472 : BitVec 32 := 1#32
  let v540 : BitVec 32 := Scalar.addi v8 c1_i32_472
  let c1_i32_473 : BitVec 32 := 1#32
  let v541 : BitVec 32 := Scalar.addi v540 c1_i32_473
  let c3_i32_474 : BitVec 32 := 3#32
  let v542 : BitVec 1 := Scalar.cmpi .sle v541 c3_i32_474
  let v543 : BitVec 1 := Scalar.andi v539 v542
  let v544 : BitVec 32 := Scalar.extui v543
  let c0_i32_477 : BitVec 32 := 0#32
  let v545 : BitVec 1 := Scalar.cmpi .ne v544 c0_i32_477
  v545

def k0_off117 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.addi v8 c1_i32_852
  let c1_i32_853 : BitVec 32 := 1#32
  let v925 : BitVec 32 := Scalar.addi v924 c1_i32_853
  let c0_i32_866 : BitVec 32 := 0#32
  let c0_i32_867 : BitVec 32 := 0#32
  let c0_i32_868 : BitVec 32 := 0#32
  ![v925.toNat, 0, 0, 0]
def k0_dev46 (d0 : Dev nD) : Nat :=
  let c0_i32_859 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_858 : BitVec 32 := 16#32
  let v927 : BitVec 32 := Scalar.muli v2 c16_i32_858
  let v928 : BitVec 32 := Scalar.addi c0_i32_859 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_860 : BitVec 32 := 4#32
  let v929 : BitVec 32 := Scalar.muli v5 c4_i32_860
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v926 : BitVec 32 := Scalar.addi v8 c_m1_i32
  let c1_i32_861 : BitVec 32 := 1#32
  let v931 : BitVec 32 := Scalar.muli v926 c1_i32_861
  let v932 : BitVec 32 := Scalar.addi v930 v931
  v932.toNat
def k0_cond85 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_478 : BitVec 32 := 0#32
  let v546 : BitVec 1 := Scalar.cmpi .sgt v5 c0_i32_478
  let c1_i32_479 : BitVec 32 := 1#32
  let v547 : BitVec 32 := Scalar.subi v5 c1_i32_479
  let c1_i32_480 : BitVec 32 := 1#32
  let v548 : BitVec 32 := Scalar.subi v547 c1_i32_480
  let c0_i32_481 : BitVec 32 := 0#32
  let v549 : BitVec 1 := Scalar.cmpi .sge v548 c0_i32_481
  let v550 : BitVec 1 := Scalar.andi v546 v549
  let v551 : BitVec 32 := Scalar.extui v550
  let c0_i32_484 : BitVec 32 := 0#32
  let v552 : BitVec 1 := Scalar.cmpi .ne v551 c0_i32_484
  v552

def k0_off118 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.subi v5 c1_i32_852
  let c1_i32_853 : BitVec 32 := 1#32
  let v925 : BitVec 32 := Scalar.subi v924 c1_i32_853
  let c2_i32_864 : BitVec 32 := 2#32
  let c0_i32_865 : BitVec 32 := 0#32
  let c0_i32_866 : BitVec 32 := 0#32
  ![v925.toNat, 2, 0, 0]
def k0_cond86 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_485 : BitVec 32 := 3#32
  let v553 : BitVec 1 := Scalar.cmpi .slt v5 c3_i32_485
  let c1_i32_486 : BitVec 32 := 1#32
  let v554 : BitVec 32 := Scalar.subi v5 c1_i32_486
  let c1_i32_487 : BitVec 32 := 1#32
  let v555 : BitVec 32 := Scalar.subi v554 c1_i32_487
  let c0_i32_488 : BitVec 32 := 0#32
  let v556 : BitVec 1 := Scalar.cmpi .sge v555 c0_i32_488
  let v557 : BitVec 1 := Scalar.andi v553 v556
  let v558 : BitVec 32 := Scalar.extui v557
  let c0_i32_491 : BitVec 32 := 0#32
  let v559 : BitVec 1 := Scalar.cmpi .ne v558 c0_i32_491
  v559

def k0_off119 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.subi v5 c1_i32_852
  let c1_i32_853 : BitVec 32 := 1#32
  let v925 : BitVec 32 := Scalar.subi v924 c1_i32_853
  let c2_i32_867 : BitVec 32 := 2#32
  let c0_i32_868 : BitVec 32 := 0#32
  let c0_i32_869 : BitVec 32 := 0#32
  ![v925.toNat, 2, 0, 0]
def k0_dev47 (d0 : Dev nD) : Nat :=
  let c0_i32_860 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_859 : BitVec 32 := 16#32
  let v927 : BitVec 32 := Scalar.muli v2 c16_i32_859
  let v928 : BitVec 32 := Scalar.addi c0_i32_860 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_854 : BitVec 32 := 1#32
  let v926 : BitVec 32 := Scalar.addi v5 c1_i32_854
  let c4_i32_861 : BitVec 32 := 4#32
  let v929 : BitVec 32 := Scalar.muli v926 c4_i32_861
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_862 : BitVec 32 := 1#32
  let v931 : BitVec 32 := Scalar.muli v8 c1_i32_862
  let v932 : BitVec 32 := Scalar.addi v930 v931
  v932.toNat
def k0_cond87 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_492 : BitVec 32 := 3#32
  let v560 : BitVec 1 := Scalar.cmpi .slt v5 c3_i32_492
  let c1_i32_493 : BitVec 32 := 1#32
  let v561 : BitVec 32 := Scalar.addi v5 c1_i32_493
  let c1_i32_494 : BitVec 32 := 1#32
  let v562 : BitVec 32 := Scalar.addi v561 c1_i32_494
  let c3_i32_495 : BitVec 32 := 3#32
  let v563 : BitVec 1 := Scalar.cmpi .sle v562 c3_i32_495
  let v564 : BitVec 1 := Scalar.andi v560 v563
  let v565 : BitVec 32 := Scalar.extui v564
  let c0_i32_498 : BitVec 32 := 0#32
  let v566 : BitVec 1 := Scalar.cmpi .ne v565 c0_i32_498
  v566

def k0_off120 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.addi v5 c1_i32_852
  let c1_i32_853 : BitVec 32 := 1#32
  let v925 : BitVec 32 := Scalar.addi v924 c1_i32_853
  let c2_i32_865 : BitVec 32 := 2#32
  let c0_i32_866 : BitVec 32 := 0#32
  let c0_i32_867 : BitVec 32 := 0#32
  ![v925.toNat, 2, 0, 0]
def k0_cond88 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_499 : BitVec 32 := 0#32
  let v567 : BitVec 1 := Scalar.cmpi .sgt v5 c0_i32_499
  let c1_i32_500 : BitVec 32 := 1#32
  let v568 : BitVec 32 := Scalar.addi v5 c1_i32_500
  let c1_i32_501 : BitVec 32 := 1#32
  let v569 : BitVec 32 := Scalar.addi v568 c1_i32_501
  let c3_i32_502 : BitVec 32 := 3#32
  let v570 : BitVec 1 := Scalar.cmpi .sle v569 c3_i32_502
  let v571 : BitVec 1 := Scalar.andi v567 v570
  let v572 : BitVec 32 := Scalar.extui v571
  let c0_i32_505 : BitVec 32 := 0#32
  let v573 : BitVec 1 := Scalar.cmpi .ne v572 c0_i32_505
  v573

def k0_off121 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.addi v5 c1_i32_852
  let c1_i32_853 : BitVec 32 := 1#32
  let v925 : BitVec 32 := Scalar.addi v924 c1_i32_853
  let c2_i32_866 : BitVec 32 := 2#32
  let c0_i32_867 : BitVec 32 := 0#32
  let c0_i32_868 : BitVec 32 := 0#32
  ![v925.toNat, 2, 0, 0]
def k0_dev48 (d0 : Dev nD) : Nat :=
  let c0_i32_859 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_858 : BitVec 32 := 16#32
  let v927 : BitVec 32 := Scalar.muli v2 c16_i32_858
  let v928 : BitVec 32 := Scalar.addi c0_i32_859 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v926 : BitVec 32 := Scalar.addi v5 c_m1_i32
  let c4_i32_860 : BitVec 32 := 4#32
  let v929 : BitVec 32 := Scalar.muli v926 c4_i32_860
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_861 : BitVec 32 := 1#32
  let v931 : BitVec 32 := Scalar.muli v8 c1_i32_861
  let v932 : BitVec 32 := Scalar.addi v930 v931
  v932.toNat
def k0_cond89 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_506 : BitVec 32 := 0#32
  let v574 : BitVec 1 := Scalar.cmpi .sgt v8 c0_i32_506
  let c1_i32_507 : BitVec 32 := 1#32
  let v575 : BitVec 32 := Scalar.subi v8 c1_i32_507
  let c1_i32_508 : BitVec 32 := 1#32
  let v576 : BitVec 32 := Scalar.subi v575 c1_i32_508
  let c0_i32_509 : BitVec 32 := 0#32
  let v577 : BitVec 1 := Scalar.cmpi .sge v576 c0_i32_509
  let v578 : BitVec 1 := Scalar.andi v574 v577
  let v579 : BitVec 32 := Scalar.extui v578
  let c0_i32_512 : BitVec 32 := 0#32
  let v580 : BitVec 1 := Scalar.cmpi .ne v579 c0_i32_512
  v580

def k0_off122 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.subi v8 c1_i32_852
  let c1_i32_853 : BitVec 32 := 1#32
  let v925 : BitVec 32 := Scalar.subi v924 c1_i32_853
  let c2_i32_864 : BitVec 32 := 2#32
  let c0_i32_865 : BitVec 32 := 0#32
  let c0_i32_866 : BitVec 32 := 0#32
  ![v925.toNat, 2, 0, 0]
def k0_cond90 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_513 : BitVec 32 := 3#32
  let v581 : BitVec 1 := Scalar.cmpi .slt v8 c3_i32_513
  let c1_i32_514 : BitVec 32 := 1#32
  let v582 : BitVec 32 := Scalar.subi v8 c1_i32_514
  let c1_i32_515 : BitVec 32 := 1#32
  let v583 : BitVec 32 := Scalar.subi v582 c1_i32_515
  let c0_i32_516 : BitVec 32 := 0#32
  let v584 : BitVec 1 := Scalar.cmpi .sge v583 c0_i32_516
  let v585 : BitVec 1 := Scalar.andi v581 v584
  let v586 : BitVec 32 := Scalar.extui v585
  let c0_i32_519 : BitVec 32 := 0#32
  let v587 : BitVec 1 := Scalar.cmpi .ne v586 c0_i32_519
  v587

def k0_off123 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.subi v8 c1_i32_852
  let c1_i32_853 : BitVec 32 := 1#32
  let v925 : BitVec 32 := Scalar.subi v924 c1_i32_853
  let c2_i32_867 : BitVec 32 := 2#32
  let c0_i32_868 : BitVec 32 := 0#32
  let c0_i32_869 : BitVec 32 := 0#32
  ![v925.toNat, 2, 0, 0]
def k0_dev49 (d0 : Dev nD) : Nat :=
  let c0_i32_860 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_859 : BitVec 32 := 16#32
  let v927 : BitVec 32 := Scalar.muli v2 c16_i32_859
  let v928 : BitVec 32 := Scalar.addi c0_i32_860 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_861 : BitVec 32 := 4#32
  let v929 : BitVec 32 := Scalar.muli v5 c4_i32_861
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_854 : BitVec 32 := 1#32
  let v926 : BitVec 32 := Scalar.addi v8 c1_i32_854
  let c1_i32_862 : BitVec 32 := 1#32
  let v931 : BitVec 32 := Scalar.muli v926 c1_i32_862
  let v932 : BitVec 32 := Scalar.addi v930 v931
  v932.toNat
def k0_cond91 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_520 : BitVec 32 := 3#32
  let v588 : BitVec 1 := Scalar.cmpi .slt v8 c3_i32_520
  let c1_i32_521 : BitVec 32 := 1#32
  let v589 : BitVec 32 := Scalar.addi v8 c1_i32_521
  let c1_i32_522 : BitVec 32 := 1#32
  let v590 : BitVec 32 := Scalar.addi v589 c1_i32_522
  let c3_i32_523 : BitVec 32 := 3#32
  let v591 : BitVec 1 := Scalar.cmpi .sle v590 c3_i32_523
  let v592 : BitVec 1 := Scalar.andi v588 v591
  let v593 : BitVec 32 := Scalar.extui v592
  let c0_i32_526 : BitVec 32 := 0#32
  let v594 : BitVec 1 := Scalar.cmpi .ne v593 c0_i32_526
  v594

def k0_off124 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.addi v8 c1_i32_852
  let c1_i32_853 : BitVec 32 := 1#32
  let v925 : BitVec 32 := Scalar.addi v924 c1_i32_853
  let c2_i32_865 : BitVec 32 := 2#32
  let c0_i32_866 : BitVec 32 := 0#32
  let c0_i32_867 : BitVec 32 := 0#32
  ![v925.toNat, 2, 0, 0]
def k0_cond92 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_527 : BitVec 32 := 0#32
  let v595 : BitVec 1 := Scalar.cmpi .sgt v8 c0_i32_527
  let c1_i32_528 : BitVec 32 := 1#32
  let v596 : BitVec 32 := Scalar.addi v8 c1_i32_528
  let c1_i32_529 : BitVec 32 := 1#32
  let v597 : BitVec 32 := Scalar.addi v596 c1_i32_529
  let c3_i32_530 : BitVec 32 := 3#32
  let v598 : BitVec 1 := Scalar.cmpi .sle v597 c3_i32_530
  let v599 : BitVec 1 := Scalar.andi v595 v598
  let v600 : BitVec 32 := Scalar.extui v599
  let c0_i32_533 : BitVec 32 := 0#32
  let v601 : BitVec 1 := Scalar.cmpi .ne v600 c0_i32_533
  v601

def k0_off125 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.addi v8 c1_i32_852
  let c1_i32_853 : BitVec 32 := 1#32
  let v925 : BitVec 32 := Scalar.addi v924 c1_i32_853
  let c2_i32_866 : BitVec 32 := 2#32
  let c0_i32_867 : BitVec 32 := 0#32
  let c0_i32_868 : BitVec 32 := 0#32
  ![v925.toNat, 2, 0, 0]
def k0_dev50 (d0 : Dev nD) : Nat :=
  let c0_i32_859 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_858 : BitVec 32 := 16#32
  let v927 : BitVec 32 := Scalar.muli v2 c16_i32_858
  let v928 : BitVec 32 := Scalar.addi c0_i32_859 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_860 : BitVec 32 := 4#32
  let v929 : BitVec 32 := Scalar.muli v5 c4_i32_860
  let v930 : BitVec 32 := Scalar.addi v928 v929
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v926 : BitVec 32 := Scalar.addi v8 c_m1_i32
  let c1_i32_861 : BitVec 32 := 1#32
  let v931 : BitVec 32 := Scalar.muli v926 c1_i32_861
  let v932 : BitVec 32 := Scalar.addi v930 v931
  v932.toNat
def k0_cond93 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_534 : BitVec 32 := 0#32
  let v602 : BitVec 1 := Scalar.cmpi .sgt v5 c0_i32_534
  let c1_i32_535 : BitVec 32 := 1#32
  let v603 : BitVec 32 := Scalar.subi v5 c1_i32_535
  let c1_i32_536 : BitVec 32 := 1#32
  let v604 : BitVec 32 := Scalar.subi v603 c1_i32_536
  let c0_i32_537 : BitVec 32 := 0#32
  let v605 : BitVec 1 := Scalar.cmpi .sge v604 c0_i32_537
  let v606 : BitVec 1 := Scalar.andi v602 v605
  let v630 : BitVec 32 := Scalar.extui v606
  let c0_i32_558 : BitVec 32 := 0#32
  let v631 : BitVec 1 := Scalar.cmpi .ne v630 c0_i32_558
  v631

def k0_off126 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_538 : BitVec 32 := 1#32
  let v607 : BitVec 32 := Scalar.subi v5 c1_i32_538
  let c1_i32_539 : BitVec 32 := 1#32
  let v608 : BitVec 32 := Scalar.subi v607 c1_i32_539
  let v922 : Index := Scalar.indexCast v608
  let c0_850 : Index := 0#32
  let c0_851 : Index := 0#32
  let c0_852 : Index := 0#32
  ![v922.toNat, 0, 0, 0]
def k0_off127 (d0 : Dev nD) (c0_i32_855 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_538 : BitVec 32 := 1#32
  let v607 : BitVec 32 := Scalar.subi v5 c1_i32_538
  let c1_i32_539 : BitVec 32 := 1#32
  let v608 : BitVec 32 := Scalar.subi v607 c1_i32_539
  let c4_i32_853 : BitVec 32 := 4#32
  let v924 : BitVec 32 := Scalar.muli v608 c4_i32_853
  let c128_i32_854 : BitVec 32 := 128#32
  let v925 : BitVec 32 := Scalar.muli v924 c128_i32_854
  let v926 : BitVec 32 := Scalar.addi v925 c0_i32_855
  let v929 : Index := Scalar.indexCast v926
  let c0_856 : Index := 0#32
  ![v929.toNat, 0]
def k0_off128 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_538 : BitVec 32 := 1#32
  let v607 : BitVec 32 := Scalar.subi v5 c1_i32_538
  let c1_i32_539 : BitVec 32 := 1#32
  let v608 : BitVec 32 := Scalar.subi v607 c1_i32_539
  let v931 : Index := Scalar.indexCast v608
  let c1 : Index := 1#32
  let c0_857 : Index := 0#32
  let c0_858 : Index := 0#32
  ![v931.toNat, 1, 0, 0]
def k0_off129 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_538 : BitVec 32 := 1#32
  let v607 : BitVec 32 := Scalar.subi v5 c1_i32_538
  let c1_i32_539 : BitVec 32 := 1#32
  let v608 : BitVec 32 := Scalar.subi v607 c1_i32_539
  let v940 : Index := Scalar.indexCast v608
  let c2 : Index := 2#32
  let c0_863 : Index := 0#32
  let c0_864 : Index := 0#32
  ![v940.toNat, 2, 0, 0]
def k0_off130 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_538 : BitVec 32 := 1#32
  let v607 : BitVec 32 := Scalar.subi v5 c1_i32_538
  let c1_i32_539 : BitVec 32 := 1#32
  let v608 : BitVec 32 := Scalar.subi v607 c1_i32_539
  let v949 : Index := Scalar.indexCast v608
  let c3 : Index := 3#32
  let c0_868 : Index := 0#32
  let c0_869 : Index := 0#32
  ![v949.toNat, 3, 0, 0]
def k0_cond94 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_540 : BitVec 32 := 3#32
  let v609 : BitVec 1 := Scalar.cmpi .slt v5 c3_i32_540
  let c1_i32_541 : BitVec 32 := 1#32
  let v610 : BitVec 32 := Scalar.addi v5 c1_i32_541
  let c1_i32_542 : BitVec 32 := 1#32
  let v611 : BitVec 32 := Scalar.addi v610 c1_i32_542
  let c3_i32_543 : BitVec 32 := 3#32
  let v612 : BitVec 1 := Scalar.cmpi .sle v611 c3_i32_543
  let v613 : BitVec 1 := Scalar.andi v609 v612
  let v632 : BitVec 32 := Scalar.extui v613
  let c0_i32_559 : BitVec 32 := 0#32
  let v633 : BitVec 1 := Scalar.cmpi .ne v632 c0_i32_559
  v633

def k0_off131 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_544 : BitVec 32 := 1#32
  let v614 : BitVec 32 := Scalar.addi v5 c1_i32_544
  let c1_i32_545 : BitVec 32 := 1#32
  let v615 : BitVec 32 := Scalar.addi v614 c1_i32_545
  let v922 : Index := Scalar.indexCast v615
  let c0_850 : Index := 0#32
  let c0_851 : Index := 0#32
  let c0_852 : Index := 0#32
  ![v922.toNat, 0, 0, 0]
def k0_off132 (d0 : Dev nD) (c0_i32_855 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_544 : BitVec 32 := 1#32
  let v614 : BitVec 32 := Scalar.addi v5 c1_i32_544
  let c1_i32_545 : BitVec 32 := 1#32
  let v615 : BitVec 32 := Scalar.addi v614 c1_i32_545
  let c4_i32_853 : BitVec 32 := 4#32
  let v924 : BitVec 32 := Scalar.muli v615 c4_i32_853
  let c128_i32_854 : BitVec 32 := 128#32
  let v925 : BitVec 32 := Scalar.muli v924 c128_i32_854
  let v926 : BitVec 32 := Scalar.addi v925 c0_i32_855
  let v929 : Index := Scalar.indexCast v926
  let c0_856 : Index := 0#32
  ![v929.toNat, 0]
def k0_off133 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_544 : BitVec 32 := 1#32
  let v614 : BitVec 32 := Scalar.addi v5 c1_i32_544
  let c1_i32_545 : BitVec 32 := 1#32
  let v615 : BitVec 32 := Scalar.addi v614 c1_i32_545
  let v931 : Index := Scalar.indexCast v615
  let c1 : Index := 1#32
  let c0_857 : Index := 0#32
  let c0_858 : Index := 0#32
  ![v931.toNat, 1, 0, 0]
def k0_off134 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_544 : BitVec 32 := 1#32
  let v614 : BitVec 32 := Scalar.addi v5 c1_i32_544
  let c1_i32_545 : BitVec 32 := 1#32
  let v615 : BitVec 32 := Scalar.addi v614 c1_i32_545
  let v940 : Index := Scalar.indexCast v615
  let c2 : Index := 2#32
  let c0_863 : Index := 0#32
  let c0_864 : Index := 0#32
  ![v940.toNat, 2, 0, 0]
def k0_off135 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_544 : BitVec 32 := 1#32
  let v614 : BitVec 32 := Scalar.addi v5 c1_i32_544
  let c1_i32_545 : BitVec 32 := 1#32
  let v615 : BitVec 32 := Scalar.addi v614 c1_i32_545
  let v949 : Index := Scalar.indexCast v615
  let c3 : Index := 3#32
  let c0_868 : Index := 0#32
  let c0_869 : Index := 0#32
  ![v949.toNat, 3, 0, 0]
def k0_cond95 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_546 : BitVec 32 := 0#32
  let v616 : BitVec 1 := Scalar.cmpi .sgt v8 c0_i32_546
  let c1_i32_547 : BitVec 32 := 1#32
  let v617 : BitVec 32 := Scalar.subi v8 c1_i32_547
  let c1_i32_548 : BitVec 32 := 1#32
  let v618 : BitVec 32 := Scalar.subi v617 c1_i32_548
  let c0_i32_549 : BitVec 32 := 0#32
  let v619 : BitVec 1 := Scalar.cmpi .sge v618 c0_i32_549
  let v620 : BitVec 1 := Scalar.andi v616 v619
  let v634 : BitVec 32 := Scalar.extui v620
  let c0_i32_560 : BitVec 32 := 0#32
  let v635 : BitVec 1 := Scalar.cmpi .ne v634 c0_i32_560
  v635

def k0_off136 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_550 : BitVec 32 := 1#32
  let v621 : BitVec 32 := Scalar.subi v8 c1_i32_550
  let c1_i32_551 : BitVec 32 := 1#32
  let v622 : BitVec 32 := Scalar.subi v621 c1_i32_551
  let v922 : Index := Scalar.indexCast v622
  let c0_850 : Index := 0#32
  let c0_851 : Index := 0#32
  let c0_852 : Index := 0#32
  ![v922.toNat, 0, 0, 0]
def k0_off137 (d0 : Dev nD) (c0_i32_854 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_550 : BitVec 32 := 1#32
  let v621 : BitVec 32 := Scalar.subi v8 c1_i32_550
  let c1_i32_551 : BitVec 32 := 1#32
  let v622 : BitVec 32 := Scalar.subi v621 c1_i32_551
  let c128_i32_853 : BitVec 32 := 128#32
  let v924 : BitVec 32 := Scalar.muli v622 c128_i32_853
  let v925 : BitVec 32 := Scalar.addi c0_i32_854 v924
  let c64_i32_855 : BitVec 32 := 64#32
  let v926 : BitVec 32 := Scalar.addi v925 c64_i32_855
  let v929 : Index := Scalar.indexCast v926
  let c0_856 : Index := 0#32
  ![v929.toNat, 0]
def k0_off138 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_550 : BitVec 32 := 1#32
  let v621 : BitVec 32 := Scalar.subi v8 c1_i32_550
  let c1_i32_551 : BitVec 32 := 1#32
  let v622 : BitVec 32 := Scalar.subi v621 c1_i32_551
  let v931 : Index := Scalar.indexCast v622
  let c1 : Index := 1#32
  let c0_857 : Index := 0#32
  let c0_858 : Index := 0#32
  ![v931.toNat, 1, 0, 0]
def k0_off139 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_550 : BitVec 32 := 1#32
  let v621 : BitVec 32 := Scalar.subi v8 c1_i32_550
  let c1_i32_551 : BitVec 32 := 1#32
  let v622 : BitVec 32 := Scalar.subi v621 c1_i32_551
  let v940 : Index := Scalar.indexCast v622
  let c2 : Index := 2#32
  let c0_862 : Index := 0#32
  let c0_863 : Index := 0#32
  ![v940.toNat, 2, 0, 0]
def k0_off140 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_550 : BitVec 32 := 1#32
  let v621 : BitVec 32 := Scalar.subi v8 c1_i32_550
  let c1_i32_551 : BitVec 32 := 1#32
  let v622 : BitVec 32 := Scalar.subi v621 c1_i32_551
  let v949 : Index := Scalar.indexCast v622
  let c3 : Index := 3#32
  let c0_867 : Index := 0#32
  let c0_868 : Index := 0#32
  ![v949.toNat, 3, 0, 0]
def k0_cond96 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_552 : BitVec 32 := 3#32
  let v623 : BitVec 1 := Scalar.cmpi .slt v8 c3_i32_552
  let c1_i32_553 : BitVec 32 := 1#32
  let v624 : BitVec 32 := Scalar.addi v8 c1_i32_553
  let c1_i32_554 : BitVec 32 := 1#32
  let v625 : BitVec 32 := Scalar.addi v624 c1_i32_554
  let c3_i32_555 : BitVec 32 := 3#32
  let v626 : BitVec 1 := Scalar.cmpi .sle v625 c3_i32_555
  let v627 : BitVec 1 := Scalar.andi v623 v626
  let v636 : BitVec 32 := Scalar.extui v627
  let c0_i32_561 : BitVec 32 := 0#32
  let v637 : BitVec 1 := Scalar.cmpi .ne v636 c0_i32_561
  v637

def k0_off141 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_556 : BitVec 32 := 1#32
  let v628 : BitVec 32 := Scalar.addi v8 c1_i32_556
  let c1_i32_557 : BitVec 32 := 1#32
  let v629 : BitVec 32 := Scalar.addi v628 c1_i32_557
  let v922 : Index := Scalar.indexCast v629
  let c0_850 : Index := 0#32
  let c0_851 : Index := 0#32
  let c0_852 : Index := 0#32
  ![v922.toNat, 0, 0, 0]
def k0_off142 (d0 : Dev nD) (c0_i32_854 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_556 : BitVec 32 := 1#32
  let v628 : BitVec 32 := Scalar.addi v8 c1_i32_556
  let c1_i32_557 : BitVec 32 := 1#32
  let v629 : BitVec 32 := Scalar.addi v628 c1_i32_557
  let c128_i32_853 : BitVec 32 := 128#32
  let v924 : BitVec 32 := Scalar.muli v629 c128_i32_853
  let v925 : BitVec 32 := Scalar.addi c0_i32_854 v924
  let c64_i32_855 : BitVec 32 := 64#32
  let v926 : BitVec 32 := Scalar.addi v925 c64_i32_855
  let v929 : Index := Scalar.indexCast v926
  let c0_856 : Index := 0#32
  ![v929.toNat, 0]
def k0_off143 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_556 : BitVec 32 := 1#32
  let v628 : BitVec 32 := Scalar.addi v8 c1_i32_556
  let c1_i32_557 : BitVec 32 := 1#32
  let v629 : BitVec 32 := Scalar.addi v628 c1_i32_557
  let v931 : Index := Scalar.indexCast v629
  let c1 : Index := 1#32
  let c0_857 : Index := 0#32
  let c0_858 : Index := 0#32
  ![v931.toNat, 1, 0, 0]
def k0_off144 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_556 : BitVec 32 := 1#32
  let v628 : BitVec 32 := Scalar.addi v8 c1_i32_556
  let c1_i32_557 : BitVec 32 := 1#32
  let v629 : BitVec 32 := Scalar.addi v628 c1_i32_557
  let v940 : Index := Scalar.indexCast v629
  let c2 : Index := 2#32
  let c0_862 : Index := 0#32
  let c0_863 : Index := 0#32
  ![v940.toNat, 2, 0, 0]
def k0_off145 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_556 : BitVec 32 := 1#32
  let v628 : BitVec 32 := Scalar.addi v8 c1_i32_556
  let c1_i32_557 : BitVec 32 := 1#32
  let v629 : BitVec 32 := Scalar.addi v628 c1_i32_557
  let v949 : Index := Scalar.indexCast v629
  let c3 : Index := 3#32
  let c0_867 : Index := 0#32
  let c0_868 : Index := 0#32
  ![v949.toNat, 3, 0, 0]
def k0_cond97 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_562 : BitVec 32 := 0#32
  let v638 : BitVec 1 := Scalar.cmpi .sgt v5 c0_i32_562
  let c1_i32_563 : BitVec 32 := 1#32
  let v639 : BitVec 32 := Scalar.subi v5 c1_i32_563
  let c2_i32_564 : BitVec 32 := 2#32
  let v640 : BitVec 32 := Scalar.subi v639 c2_i32_564
  let c0_i32_565 : BitVec 32 := 0#32
  let v641 : BitVec 1 := Scalar.cmpi .sge v640 c0_i32_565
  let v642 : BitVec 1 := Scalar.andi v638 v641
  let v643 : BitVec 32 := Scalar.extui v642
  let c0_i32_568 : BitVec 32 := 0#32
  let v644 : BitVec 1 := Scalar.cmpi .ne v643 c0_i32_568
  v644

def k0_off146 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.subi v5 c1_i32_852
  let c2_i32_853 : BitVec 32 := 2#32
  let v925 : BitVec 32 := Scalar.subi v924 c2_i32_853
  let c0_i32_864 : BitVec 32 := 0#32
  let c0_i32_865 : BitVec 32 := 0#32
  let c0_i32_866 : BitVec 32 := 0#32
  ![v925.toNat, 0, 0, 0]
def k0_cond98 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_569 : BitVec 32 := 3#32
  let v645 : BitVec 1 := Scalar.cmpi .slt v5 c3_i32_569
  let c1_i32_570 : BitVec 32 := 1#32
  let v646 : BitVec 32 := Scalar.addi v5 c1_i32_570
  let c2_i32_571 : BitVec 32 := 2#32
  let v647 : BitVec 32 := Scalar.addi v646 c2_i32_571
  let c3_i32_572 : BitVec 32 := 3#32
  let v648 : BitVec 1 := Scalar.cmpi .sle v647 c3_i32_572
  let v649 : BitVec 1 := Scalar.andi v645 v648
  let v650 : BitVec 32 := Scalar.extui v649
  let c0_i32_575 : BitVec 32 := 0#32
  let v651 : BitVec 1 := Scalar.cmpi .ne v650 c0_i32_575
  v651

def k0_off147 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.addi v5 c1_i32_852
  let c2_i32_853 : BitVec 32 := 2#32
  let v925 : BitVec 32 := Scalar.addi v924 c2_i32_853
  let c0_i32_865 : BitVec 32 := 0#32
  let c0_i32_866 : BitVec 32 := 0#32
  let c0_i32_867 : BitVec 32 := 0#32
  ![v925.toNat, 0, 0, 0]
def k0_cond99 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_576 : BitVec 32 := 0#32
  let v652 : BitVec 1 := Scalar.cmpi .sgt v8 c0_i32_576
  let c1_i32_577 : BitVec 32 := 1#32
  let v653 : BitVec 32 := Scalar.subi v8 c1_i32_577
  let c2_i32_578 : BitVec 32 := 2#32
  let v654 : BitVec 32 := Scalar.subi v653 c2_i32_578
  let c0_i32_579 : BitVec 32 := 0#32
  let v655 : BitVec 1 := Scalar.cmpi .sge v654 c0_i32_579
  let v656 : BitVec 1 := Scalar.andi v652 v655
  let v657 : BitVec 32 := Scalar.extui v656
  let c0_i32_582 : BitVec 32 := 0#32
  let v658 : BitVec 1 := Scalar.cmpi .ne v657 c0_i32_582
  v658

def k0_off148 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.subi v8 c1_i32_852
  let c2_i32_853 : BitVec 32 := 2#32
  let v925 : BitVec 32 := Scalar.subi v924 c2_i32_853
  let c0_i32_864 : BitVec 32 := 0#32
  let c0_i32_865 : BitVec 32 := 0#32
  let c0_i32_866 : BitVec 32 := 0#32
  ![v925.toNat, 0, 0, 0]
def k0_cond100 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_583 : BitVec 32 := 3#32
  let v659 : BitVec 1 := Scalar.cmpi .slt v8 c3_i32_583
  let c1_i32_584 : BitVec 32 := 1#32
  let v660 : BitVec 32 := Scalar.addi v8 c1_i32_584
  let c2_i32_585 : BitVec 32 := 2#32
  let v661 : BitVec 32 := Scalar.addi v660 c2_i32_585
  let c3_i32_586 : BitVec 32 := 3#32
  let v662 : BitVec 1 := Scalar.cmpi .sle v661 c3_i32_586
  let v663 : BitVec 1 := Scalar.andi v659 v662
  let v664 : BitVec 32 := Scalar.extui v663
  let c0_i32_589 : BitVec 32 := 0#32
  let v665 : BitVec 1 := Scalar.cmpi .ne v664 c0_i32_589
  v665

def k0_off149 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.addi v8 c1_i32_852
  let c2_i32_853 : BitVec 32 := 2#32
  let v925 : BitVec 32 := Scalar.addi v924 c2_i32_853
  let c0_i32_865 : BitVec 32 := 0#32
  let c0_i32_866 : BitVec 32 := 0#32
  let c0_i32_867 : BitVec 32 := 0#32
  ![v925.toNat, 0, 0, 0]
def k0_cond101 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_590 : BitVec 32 := 0#32
  let v666 : BitVec 1 := Scalar.cmpi .sgt v5 c0_i32_590
  let c1_i32_591 : BitVec 32 := 1#32
  let v667 : BitVec 32 := Scalar.subi v5 c1_i32_591
  let c2_i32_592 : BitVec 32 := 2#32
  let v668 : BitVec 32 := Scalar.subi v667 c2_i32_592
  let c0_i32_593 : BitVec 32 := 0#32
  let v669 : BitVec 1 := Scalar.cmpi .sge v668 c0_i32_593
  let v670 : BitVec 1 := Scalar.andi v666 v669
  let v671 : BitVec 32 := Scalar.extui v670
  let c0_i32_596 : BitVec 32 := 0#32
  let v672 : BitVec 1 := Scalar.cmpi .ne v671 c0_i32_596
  v672

def k0_off150 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.subi v5 c1_i32_852
  let c2_i32_853 : BitVec 32 := 2#32
  let v925 : BitVec 32 := Scalar.subi v924 c2_i32_853
  let c2_i32_864 : BitVec 32 := 2#32
  let c0_i32_865 : BitVec 32 := 0#32
  let c0_i32_866 : BitVec 32 := 0#32
  ![v925.toNat, 2, 0, 0]
def k0_cond102 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_597 : BitVec 32 := 3#32
  let v673 : BitVec 1 := Scalar.cmpi .slt v5 c3_i32_597
  let c1_i32_598 : BitVec 32 := 1#32
  let v674 : BitVec 32 := Scalar.addi v5 c1_i32_598
  let c2_i32_599 : BitVec 32 := 2#32
  let v675 : BitVec 32 := Scalar.addi v674 c2_i32_599
  let c3_i32_600 : BitVec 32 := 3#32
  let v676 : BitVec 1 := Scalar.cmpi .sle v675 c3_i32_600
  let v677 : BitVec 1 := Scalar.andi v673 v676
  let v678 : BitVec 32 := Scalar.extui v677
  let c0_i32_603 : BitVec 32 := 0#32
  let v679 : BitVec 1 := Scalar.cmpi .ne v678 c0_i32_603
  v679

def k0_off151 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_852 : BitVec 32 := 1#32
  let v924 : BitVec 32 := Scalar.addi v5 c1_i32_852
  let c2_i32_853 : BitVec 32 := 2#32
  let v925 : BitVec 32 := Scalar.addi v924 c2_i32_853
  let c2_i32_865 : BitVec 32 := 2#32
  let c0_i32_866 : BitVec 32 := 0#32
  let c0_i32_867 : BitVec 32 := 0#32
  ![v925.toNat, 2, 0, 0]
def k0_cond103 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_604 : BitVec 32 := 0#32
  let v680 : BitVec 1 := Scalar.cmpi .sgt v8 c0_i32_604
  let c1_i32_605 : BitVec 32 := 1#32
  let v681 : BitVec 32 := Scalar.subi v8 c1_i32_605
  let c2_i32_606 : BitVec 32 := 2#32
  let v682 : BitVec 32 := Scalar.subi v681 c2_i32_606
  let c0_i32_607 : BitVec 32 := 0#32
  let v683 : BitVec 1 := Scalar.cmpi .sge v682 c0_i32_607
  let v684 : BitVec 1 := Scalar.andi v680 v683
  let v685 : BitVec 32 := Scalar.extui v684
  let c0_i32_610 : BitVec 32 := 0#32
  let v686 : BitVec 1 := Scalar.cmpi .ne v685 c0_i32_610
  v686

def k0_off152 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.subi v8 c1_i32_852
  let c2_i32_853 : BitVec 32 := 2#32
  let v925 : BitVec 32 := Scalar.subi v924 c2_i32_853
  let c2_i32_864 : BitVec 32 := 2#32
  let c0_i32_865 : BitVec 32 := 0#32
  let c0_i32_866 : BitVec 32 := 0#32
  ![v925.toNat, 2, 0, 0]
def k0_cond104 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_611 : BitVec 32 := 3#32
  let v687 : BitVec 1 := Scalar.cmpi .slt v8 c3_i32_611
  let c1_i32_612 : BitVec 32 := 1#32
  let v688 : BitVec 32 := Scalar.addi v8 c1_i32_612
  let c2_i32_613 : BitVec 32 := 2#32
  let v689 : BitVec 32 := Scalar.addi v688 c2_i32_613
  let c3_i32_614 : BitVec 32 := 3#32
  let v690 : BitVec 1 := Scalar.cmpi .sle v689 c3_i32_614
  let v691 : BitVec 1 := Scalar.andi v687 v690
  let v692 : BitVec 32 := Scalar.extui v691
  let c0_i32_617 : BitVec 32 := 0#32
  let v693 : BitVec 1 := Scalar.cmpi .ne v692 c0_i32_617
  v693

def k0_off153 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_852 : BitVec 32 := 1#32
  let v924 : BitVec 32 := Scalar.addi v8 c1_i32_852
  let c2_i32_853 : BitVec 32 := 2#32
  let v925 : BitVec 32 := Scalar.addi v924 c2_i32_853
  let c2_i32_865 : BitVec 32 := 2#32
  let c0_i32_866 : BitVec 32 := 0#32
  let c0_i32_867 : BitVec 32 := 0#32
  ![v925.toNat, 2, 0, 0]
def k0_cond105 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_618 : BitVec 32 := 0#32
  let v694 : BitVec 1 := Scalar.cmpi .sgt v5 c0_i32_618
  let c1_i32_619 : BitVec 32 := 1#32
  let v695 : BitVec 32 := Scalar.subi v5 c1_i32_619
  let c2_i32_620 : BitVec 32 := 2#32
  let v696 : BitVec 32 := Scalar.subi v695 c2_i32_620
  let c0_i32_621 : BitVec 32 := 0#32
  let v697 : BitVec 1 := Scalar.cmpi .sge v696 c0_i32_621
  let v698 : BitVec 1 := Scalar.andi v694 v697
  let v722 : BitVec 32 := Scalar.extui v698
  let c0_i32_642 : BitVec 32 := 0#32
  let v723 : BitVec 1 := Scalar.cmpi .ne v722 c0_i32_642
  v723

def k0_off154 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_622 : BitVec 32 := 1#32
  let v699 : BitVec 32 := Scalar.subi v5 c1_i32_622
  let c2_i32_623 : BitVec 32 := 2#32
  let v700 : BitVec 32 := Scalar.subi v699 c2_i32_623
  let v922 : Index := Scalar.indexCast v700
  let c0_850 : Index := 0#32
  let c0_851 : Index := 0#32
  let c0_852 : Index := 0#32
  ![v922.toNat, 0, 0, 0]
def k0_off155 (d0 : Dev nD) (c0_i32_855 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_622 : BitVec 32 := 1#32
  let v699 : BitVec 32 := Scalar.subi v5 c1_i32_622
  let c2_i32_623 : BitVec 32 := 2#32
  let v700 : BitVec 32 := Scalar.subi v699 c2_i32_623
  let c4_i32_853 : BitVec 32 := 4#32
  let v924 : BitVec 32 := Scalar.muli v700 c4_i32_853
  let c128_i32_854 : BitVec 32 := 128#32
  let v925 : BitVec 32 := Scalar.muli v924 c128_i32_854
  let v926 : BitVec 32 := Scalar.addi v925 c0_i32_855
  let v929 : Index := Scalar.indexCast v926
  let c0_856 : Index := 0#32
  ![v929.toNat, 0]
def k0_off156 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_622 : BitVec 32 := 1#32
  let v699 : BitVec 32 := Scalar.subi v5 c1_i32_622
  let c2_i32_623 : BitVec 32 := 2#32
  let v700 : BitVec 32 := Scalar.subi v699 c2_i32_623
  let v931 : Index := Scalar.indexCast v700
  let c1 : Index := 1#32
  let c0_857 : Index := 0#32
  let c0_858 : Index := 0#32
  ![v931.toNat, 1, 0, 0]
def k0_off157 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_622 : BitVec 32 := 1#32
  let v699 : BitVec 32 := Scalar.subi v5 c1_i32_622
  let c2_i32_623 : BitVec 32 := 2#32
  let v700 : BitVec 32 := Scalar.subi v699 c2_i32_623
  let v940 : Index := Scalar.indexCast v700
  let c2 : Index := 2#32
  let c0_863 : Index := 0#32
  let c0_864 : Index := 0#32
  ![v940.toNat, 2, 0, 0]
def k0_off158 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_622 : BitVec 32 := 1#32
  let v699 : BitVec 32 := Scalar.subi v5 c1_i32_622
  let c2_i32_623 : BitVec 32 := 2#32
  let v700 : BitVec 32 := Scalar.subi v699 c2_i32_623
  let v949 : Index := Scalar.indexCast v700
  let c3 : Index := 3#32
  let c0_868 : Index := 0#32
  let c0_869 : Index := 0#32
  ![v949.toNat, 3, 0, 0]
def k0_cond106 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_624 : BitVec 32 := 3#32
  let v701 : BitVec 1 := Scalar.cmpi .slt v5 c3_i32_624
  let c1_i32_625 : BitVec 32 := 1#32
  let v702 : BitVec 32 := Scalar.addi v5 c1_i32_625
  let c2_i32_626 : BitVec 32 := 2#32
  let v703 : BitVec 32 := Scalar.addi v702 c2_i32_626
  let c3_i32_627 : BitVec 32 := 3#32
  let v704 : BitVec 1 := Scalar.cmpi .sle v703 c3_i32_627
  let v705 : BitVec 1 := Scalar.andi v701 v704
  let v724 : BitVec 32 := Scalar.extui v705
  let c0_i32_643 : BitVec 32 := 0#32
  let v725 : BitVec 1 := Scalar.cmpi .ne v724 c0_i32_643
  v725

def k0_off159 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_628 : BitVec 32 := 1#32
  let v706 : BitVec 32 := Scalar.addi v5 c1_i32_628
  let c2_i32_629 : BitVec 32 := 2#32
  let v707 : BitVec 32 := Scalar.addi v706 c2_i32_629
  let v922 : Index := Scalar.indexCast v707
  let c0_850 : Index := 0#32
  let c0_851 : Index := 0#32
  let c0_852 : Index := 0#32
  ![v922.toNat, 0, 0, 0]
def k0_off160 (d0 : Dev nD) (c0_i32_855 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_628 : BitVec 32 := 1#32
  let v706 : BitVec 32 := Scalar.addi v5 c1_i32_628
  let c2_i32_629 : BitVec 32 := 2#32
  let v707 : BitVec 32 := Scalar.addi v706 c2_i32_629
  let c4_i32_853 : BitVec 32 := 4#32
  let v924 : BitVec 32 := Scalar.muli v707 c4_i32_853
  let c128_i32_854 : BitVec 32 := 128#32
  let v925 : BitVec 32 := Scalar.muli v924 c128_i32_854
  let v926 : BitVec 32 := Scalar.addi v925 c0_i32_855
  let v929 : Index := Scalar.indexCast v926
  let c0_856 : Index := 0#32
  ![v929.toNat, 0]
def k0_off161 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_628 : BitVec 32 := 1#32
  let v706 : BitVec 32 := Scalar.addi v5 c1_i32_628
  let c2_i32_629 : BitVec 32 := 2#32
  let v707 : BitVec 32 := Scalar.addi v706 c2_i32_629
  let v931 : Index := Scalar.indexCast v707
  let c1 : Index := 1#32
  let c0_857 : Index := 0#32
  let c0_858 : Index := 0#32
  ![v931.toNat, 1, 0, 0]
def k0_off162 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_628 : BitVec 32 := 1#32
  let v706 : BitVec 32 := Scalar.addi v5 c1_i32_628
  let c2_i32_629 : BitVec 32 := 2#32
  let v707 : BitVec 32 := Scalar.addi v706 c2_i32_629
  let v940 : Index := Scalar.indexCast v707
  let c2 : Index := 2#32
  let c0_863 : Index := 0#32
  let c0_864 : Index := 0#32
  ![v940.toNat, 2, 0, 0]
def k0_off163 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_628 : BitVec 32 := 1#32
  let v706 : BitVec 32 := Scalar.addi v5 c1_i32_628
  let c2_i32_629 : BitVec 32 := 2#32
  let v707 : BitVec 32 := Scalar.addi v706 c2_i32_629
  let v949 : Index := Scalar.indexCast v707
  let c3 : Index := 3#32
  let c0_868 : Index := 0#32
  let c0_869 : Index := 0#32
  ![v949.toNat, 3, 0, 0]
def k0_cond107 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_630 : BitVec 32 := 0#32
  let v708 : BitVec 1 := Scalar.cmpi .sgt v8 c0_i32_630
  let c1_i32_631 : BitVec 32 := 1#32
  let v709 : BitVec 32 := Scalar.subi v8 c1_i32_631
  let c2_i32_632 : BitVec 32 := 2#32
  let v710 : BitVec 32 := Scalar.subi v709 c2_i32_632
  let c0_i32_633 : BitVec 32 := 0#32
  let v711 : BitVec 1 := Scalar.cmpi .sge v710 c0_i32_633
  let v712 : BitVec 1 := Scalar.andi v708 v711
  let v726 : BitVec 32 := Scalar.extui v712
  let c0_i32_644 : BitVec 32 := 0#32
  let v727 : BitVec 1 := Scalar.cmpi .ne v726 c0_i32_644
  v727

def k0_off164 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_634 : BitVec 32 := 1#32
  let v713 : BitVec 32 := Scalar.subi v8 c1_i32_634
  let c2_i32_635 : BitVec 32 := 2#32
  let v714 : BitVec 32 := Scalar.subi v713 c2_i32_635
  let v922 : Index := Scalar.indexCast v714
  let c0_850 : Index := 0#32
  let c0_851 : Index := 0#32
  let c0_852 : Index := 0#32
  ![v922.toNat, 0, 0, 0]
def k0_off165 (d0 : Dev nD) (c0_i32_854 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_634 : BitVec 32 := 1#32
  let v713 : BitVec 32 := Scalar.subi v8 c1_i32_634
  let c2_i32_635 : BitVec 32 := 2#32
  let v714 : BitVec 32 := Scalar.subi v713 c2_i32_635
  let c128_i32_853 : BitVec 32 := 128#32
  let v924 : BitVec 32 := Scalar.muli v714 c128_i32_853
  let v925 : BitVec 32 := Scalar.addi c0_i32_854 v924
  let c64_i32_855 : BitVec 32 := 64#32
  let v926 : BitVec 32 := Scalar.addi v925 c64_i32_855
  let v929 : Index := Scalar.indexCast v926
  let c0_856 : Index := 0#32
  ![v929.toNat, 0]
def k0_off166 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_634 : BitVec 32 := 1#32
  let v713 : BitVec 32 := Scalar.subi v8 c1_i32_634
  let c2_i32_635 : BitVec 32 := 2#32
  let v714 : BitVec 32 := Scalar.subi v713 c2_i32_635
  let v931 : Index := Scalar.indexCast v714
  let c1 : Index := 1#32
  let c0_857 : Index := 0#32
  let c0_858 : Index := 0#32
  ![v931.toNat, 1, 0, 0]
def k0_off167 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_634 : BitVec 32 := 1#32
  let v713 : BitVec 32 := Scalar.subi v8 c1_i32_634
  let c2_i32_635 : BitVec 32 := 2#32
  let v714 : BitVec 32 := Scalar.subi v713 c2_i32_635
  let v940 : Index := Scalar.indexCast v714
  let c2 : Index := 2#32
  let c0_862 : Index := 0#32
  let c0_863 : Index := 0#32
  ![v940.toNat, 2, 0, 0]
def k0_off168 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_634 : BitVec 32 := 1#32
  let v713 : BitVec 32 := Scalar.subi v8 c1_i32_634
  let c2_i32_635 : BitVec 32 := 2#32
  let v714 : BitVec 32 := Scalar.subi v713 c2_i32_635
  let v949 : Index := Scalar.indexCast v714
  let c3 : Index := 3#32
  let c0_867 : Index := 0#32
  let c0_868 : Index := 0#32
  ![v949.toNat, 3, 0, 0]
def k0_cond108 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_636 : BitVec 32 := 3#32
  let v715 : BitVec 1 := Scalar.cmpi .slt v8 c3_i32_636
  let c1_i32_637 : BitVec 32 := 1#32
  let v716 : BitVec 32 := Scalar.addi v8 c1_i32_637
  let c2_i32_638 : BitVec 32 := 2#32
  let v717 : BitVec 32 := Scalar.addi v716 c2_i32_638
  let c3_i32_639 : BitVec 32 := 3#32
  let v718 : BitVec 1 := Scalar.cmpi .sle v717 c3_i32_639
  let v719 : BitVec 1 := Scalar.andi v715 v718
  let v728 : BitVec 32 := Scalar.extui v719
  let c0_i32_645 : BitVec 32 := 0#32
  let v729 : BitVec 1 := Scalar.cmpi .ne v728 c0_i32_645
  v729

def k0_off169 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_640 : BitVec 32 := 1#32
  let v720 : BitVec 32 := Scalar.addi v8 c1_i32_640
  let c2_i32_641 : BitVec 32 := 2#32
  let v721 : BitVec 32 := Scalar.addi v720 c2_i32_641
  let v922 : Index := Scalar.indexCast v721
  let c0_850 : Index := 0#32
  let c0_851 : Index := 0#32
  let c0_852 : Index := 0#32
  ![v922.toNat, 0, 0, 0]
def k0_off170 (d0 : Dev nD) (c0_i32_854 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_640 : BitVec 32 := 1#32
  let v720 : BitVec 32 := Scalar.addi v8 c1_i32_640
  let c2_i32_641 : BitVec 32 := 2#32
  let v721 : BitVec 32 := Scalar.addi v720 c2_i32_641
  let c128_i32_853 : BitVec 32 := 128#32
  let v924 : BitVec 32 := Scalar.muli v721 c128_i32_853
  let v925 : BitVec 32 := Scalar.addi c0_i32_854 v924
  let c64_i32_855 : BitVec 32 := 64#32
  let v926 : BitVec 32 := Scalar.addi v925 c64_i32_855
  let v929 : Index := Scalar.indexCast v926
  let c0_856 : Index := 0#32
  ![v929.toNat, 0]
def k0_off171 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_640 : BitVec 32 := 1#32
  let v720 : BitVec 32 := Scalar.addi v8 c1_i32_640
  let c2_i32_641 : BitVec 32 := 2#32
  let v721 : BitVec 32 := Scalar.addi v720 c2_i32_641
  let v931 : Index := Scalar.indexCast v721
  let c1 : Index := 1#32
  let c0_857 : Index := 0#32
  let c0_858 : Index := 0#32
  ![v931.toNat, 1, 0, 0]
def k0_off172 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_640 : BitVec 32 := 1#32
  let v720 : BitVec 32 := Scalar.addi v8 c1_i32_640
  let c2_i32_641 : BitVec 32 := 2#32
  let v721 : BitVec 32 := Scalar.addi v720 c2_i32_641
  let v940 : Index := Scalar.indexCast v721
  let c2 : Index := 2#32
  let c0_862 : Index := 0#32
  let c0_863 : Index := 0#32
  ![v940.toNat, 2, 0, 0]
def k0_off173 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_640 : BitVec 32 := 1#32
  let v720 : BitVec 32 := Scalar.addi v8 c1_i32_640
  let c2_i32_641 : BitVec 32 := 2#32
  let v721 : BitVec 32 := Scalar.addi v720 c2_i32_641
  let v949 : Index := Scalar.indexCast v721
  let c3 : Index := 3#32
  let c0_867 : Index := 0#32
  let c0_868 : Index := 0#32
  ![v949.toNat, 3, 0, 0]
def k0_cond109 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_646 : BitVec 32 := 1#32
  let v730 : BitVec 32 := Scalar.addi v8 c1_i32_646
  let c3_i32_647 : BitVec 32 := 3#32
  let v731 : BitVec 1 := Scalar.cmpi .sle v730 c3_i32_647
  let v732 : BitVec 32 := Scalar.extui v731
  let c0_i32_650 : BitVec 32 := 0#32
  let v733 : BitVec 1 := Scalar.cmpi .ne v732 c0_i32_650
  v733

def k0_off174 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_855 : BitVec 32 := 0#32
  let c0_i32_856 : BitVec 32 := 0#32
  ![v5.toNat, v8.toNat, 0, 0]
def k0_cond110 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_651 : BitVec 32 := 1#32
  let v734 : BitVec 32 := Scalar.subi v8 c1_i32_651
  let c0_i32_652 : BitVec 32 := 0#32
  let v735 : BitVec 1 := Scalar.cmpi .sge v734 c0_i32_652
  let v736 : BitVec 32 := Scalar.extui v735
  let c0_i32_655 : BitVec 32 := 0#32
  let v737 : BitVec 1 := Scalar.cmpi .ne v736 c0_i32_655
  v737

def k0_off175 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_854 : BitVec 32 := 0#32
  let c0_i32_855 : BitVec 32 := 0#32
  ![v5.toNat, v8.toNat, 0, 0]
def k0_cond111 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_656 : BitVec 32 := 2#32
  let v738 : BitVec 32 := Scalar.addi v8 c2_i32_656
  let c3_i32_657 : BitVec 32 := 3#32
  let v739 : BitVec 1 := Scalar.cmpi .sle v738 c3_i32_657
  let v740 : BitVec 32 := Scalar.extui v739
  let c0_i32_660 : BitVec 32 := 0#32
  let v741 : BitVec 1 := Scalar.cmpi .ne v740 c0_i32_660
  v741

def k0_off176 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_855 : BitVec 32 := 0#32
  let c0_i32_856 : BitVec 32 := 0#32
  ![v5.toNat, v8.toNat, 0, 0]
def k0_cond112 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_661 : BitVec 32 := 2#32
  let v742 : BitVec 32 := Scalar.subi v8 c2_i32_661
  let c0_i32_662 : BitVec 32 := 0#32
  let v743 : BitVec 1 := Scalar.cmpi .sge v742 c0_i32_662
  let v744 : BitVec 32 := Scalar.extui v743
  let c0_i32_665 : BitVec 32 := 0#32
  let v745 : BitVec 1 := Scalar.cmpi .ne v744 c0_i32_665
  v745

def k0_off177 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_854 : BitVec 32 := 0#32
  let c0_i32_855 : BitVec 32 := 0#32
  ![v5.toNat, v8.toNat, 0, 0]
def k0_cond113 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_666 : BitVec 32 := 3#32
  let v746 : BitVec 32 := Scalar.addi v8 c3_i32_666
  let c3_i32_667 : BitVec 32 := 3#32
  let v747 : BitVec 1 := Scalar.cmpi .sle v746 c3_i32_667
  let v748 : BitVec 32 := Scalar.extui v747
  let c0_i32_670 : BitVec 32 := 0#32
  let v749 : BitVec 1 := Scalar.cmpi .ne v748 c0_i32_670
  v749

def k0_off178 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_855 : BitVec 32 := 0#32
  let c0_i32_856 : BitVec 32 := 0#32
  ![v5.toNat, v8.toNat, 0, 0]
def k0_cond114 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_671 : BitVec 32 := 3#32
  let v750 : BitVec 32 := Scalar.subi v8 c3_i32_671
  let c0_i32_672 : BitVec 32 := 0#32
  let v751 : BitVec 1 := Scalar.cmpi .sge v750 c0_i32_672
  let v752 : BitVec 32 := Scalar.extui v751
  let c0_i32_675 : BitVec 32 := 0#32
  let v753 : BitVec 1 := Scalar.cmpi .ne v752 c0_i32_675
  v753

def k0_off179 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_854 : BitVec 32 := 0#32
  let c0_i32_855 : BitVec 32 := 0#32
  ![v5.toNat, v8.toNat, 0, 0]
def k0_cond115 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_676 : BitVec 32 := 1#32
  let v754 : BitVec 32 := Scalar.addi v5 c1_i32_676
  let c3_i32_677 : BitVec 32 := 3#32
  let v755 : BitVec 1 := Scalar.cmpi .sle v754 c3_i32_677
  let v756 : BitVec 32 := Scalar.extui v755
  let c0_i32_680 : BitVec 32 := 0#32
  let v757 : BitVec 1 := Scalar.cmpi .ne v756 c0_i32_680
  v757

def k0_off180 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_855 : BitVec 32 := 0#32
  let c0_i32_856 : BitVec 32 := 0#32
  ![v8.toNat, v5.toNat, 0, 0]
def k0_cond116 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_681 : BitVec 32 := 1#32
  let v758 : BitVec 32 := Scalar.subi v5 c1_i32_681
  let c0_i32_682 : BitVec 32 := 0#32
  let v759 : BitVec 1 := Scalar.cmpi .sge v758 c0_i32_682
  let v760 : BitVec 32 := Scalar.extui v759
  let c0_i32_685 : BitVec 32 := 0#32
  let v761 : BitVec 1 := Scalar.cmpi .ne v760 c0_i32_685
  v761

def k0_off181 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_854 : BitVec 32 := 0#32
  let c0_i32_855 : BitVec 32 := 0#32
  ![v8.toNat, v5.toNat, 0, 0]
def k0_cond117 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_686 : BitVec 32 := 2#32
  let v762 : BitVec 32 := Scalar.addi v5 c2_i32_686
  let c3_i32_687 : BitVec 32 := 3#32
  let v763 : BitVec 1 := Scalar.cmpi .sle v762 c3_i32_687
  let v764 : BitVec 32 := Scalar.extui v763
  let c0_i32_690 : BitVec 32 := 0#32
  let v765 : BitVec 1 := Scalar.cmpi .ne v764 c0_i32_690
  v765

def k0_off182 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_855 : BitVec 32 := 0#32
  let c0_i32_856 : BitVec 32 := 0#32
  ![v8.toNat, v5.toNat, 0, 0]
def k0_cond118 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_691 : BitVec 32 := 2#32
  let v766 : BitVec 32 := Scalar.subi v5 c2_i32_691
  let c0_i32_692 : BitVec 32 := 0#32
  let v767 : BitVec 1 := Scalar.cmpi .sge v766 c0_i32_692
  let v768 : BitVec 32 := Scalar.extui v767
  let c0_i32_695 : BitVec 32 := 0#32
  let v769 : BitVec 1 := Scalar.cmpi .ne v768 c0_i32_695
  v769

def k0_off183 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_854 : BitVec 32 := 0#32
  let c0_i32_855 : BitVec 32 := 0#32
  ![v8.toNat, v5.toNat, 0, 0]
def k0_cond119 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_696 : BitVec 32 := 3#32
  let v770 : BitVec 32 := Scalar.addi v5 c3_i32_696
  let c3_i32_697 : BitVec 32 := 3#32
  let v771 : BitVec 1 := Scalar.cmpi .sle v770 c3_i32_697
  let v772 : BitVec 32 := Scalar.extui v771
  let c0_i32_700 : BitVec 32 := 0#32
  let v773 : BitVec 1 := Scalar.cmpi .ne v772 c0_i32_700
  v773

def k0_off184 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_855 : BitVec 32 := 0#32
  let c0_i32_856 : BitVec 32 := 0#32
  ![v8.toNat, v5.toNat, 0, 0]
def k0_cond120 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_701 : BitVec 32 := 3#32
  let v774 : BitVec 32 := Scalar.subi v5 c3_i32_701
  let c0_i32_702 : BitVec 32 := 0#32
  let v775 : BitVec 1 := Scalar.cmpi .sge v774 c0_i32_702
  let v776 : BitVec 32 := Scalar.extui v775
  let c0_i32_705 : BitVec 32 := 0#32
  let v777 : BitVec 1 := Scalar.cmpi .ne v776 c0_i32_705
  v777

def k0_off185 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_854 : BitVec 32 := 0#32
  let c0_i32_855 : BitVec 32 := 0#32
  ![v8.toNat, v5.toNat, 0, 0]
def k0_cond121 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_706 : BitVec 32 := 3#32
  let v778 : BitVec 1 := Scalar.cmpi .slt v5 c3_i32_706
  let c0_i32_707 : BitVec 32 := 0#32
  let v779 : BitVec 32 := Scalar.subi v5 c0_i32_707
  let c0_i32_708 : BitVec 32 := 0#32
  let v780 : BitVec 1 := Scalar.cmpi .sge v779 c0_i32_708
  let v781 : BitVec 1 := Scalar.andi v778 v780
  let v782 : BitVec 32 := Scalar.extui v781
  let c0_i32_711 : BitVec 32 := 0#32
  let v783 : BitVec 1 := Scalar.cmpi .ne v782 c0_i32_711
  v783

def k0_off186 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_850 : BitVec 32 := 0#32
  let v922 : BitVec 32 := Scalar.subi v5 c0_i32_850
  let c0_i32_860 : BitVec 32 := 0#32
  let c0_i32_861 : BitVec 32 := 0#32
  let c0_i32_862 : BitVec 32 := 0#32
  ![v922.toNat, 0, 0, 0]
def k0_cond122 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_712 : BitVec 32 := 0#32
  let v784 : BitVec 1 := Scalar.cmpi .sgt v5 c0_i32_712
  let c0_i32_713 : BitVec 32 := 0#32
  let v785 : BitVec 32 := Scalar.addi v5 c0_i32_713
  let c3_i32_714 : BitVec 32 := 3#32
  let v786 : BitVec 1 := Scalar.cmpi .sle v785 c3_i32_714
  let v787 : BitVec 1 := Scalar.andi v784 v786
  let v788 : BitVec 32 := Scalar.extui v787
  let c0_i32_717 : BitVec 32 := 0#32
  let v789 : BitVec 1 := Scalar.cmpi .ne v788 c0_i32_717
  v789

def k0_off187 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_850 : BitVec 32 := 0#32
  let v922 : BitVec 32 := Scalar.addi v5 c0_i32_850
  let c0_i32_859 : BitVec 32 := 0#32
  let c0_i32_860 : BitVec 32 := 0#32
  let c0_i32_861 : BitVec 32 := 0#32
  ![v922.toNat, 0, 0, 0]
def k0_cond123 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_718 : BitVec 32 := 3#32
  let v790 : BitVec 1 := Scalar.cmpi .slt v8 c3_i32_718
  let c0_i32_719 : BitVec 32 := 0#32
  let v791 : BitVec 32 := Scalar.subi v8 c0_i32_719
  let c0_i32_720 : BitVec 32 := 0#32
  let v792 : BitVec 1 := Scalar.cmpi .sge v791 c0_i32_720
  let v793 : BitVec 1 := Scalar.andi v790 v792
  let v794 : BitVec 32 := Scalar.extui v793
  let c0_i32_723 : BitVec 32 := 0#32
  let v795 : BitVec 1 := Scalar.cmpi .ne v794 c0_i32_723
  v795

def k0_off188 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_850 : BitVec 32 := 0#32
  let v922 : BitVec 32 := Scalar.subi v8 c0_i32_850
  let c0_i32_860 : BitVec 32 := 0#32
  let c0_i32_861 : BitVec 32 := 0#32
  let c0_i32_862 : BitVec 32 := 0#32
  ![v922.toNat, 0, 0, 0]
def k0_cond124 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_724 : BitVec 32 := 0#32
  let v796 : BitVec 1 := Scalar.cmpi .sgt v8 c0_i32_724
  let c0_i32_725 : BitVec 32 := 0#32
  let v797 : BitVec 32 := Scalar.addi v8 c0_i32_725
  let c3_i32_726 : BitVec 32 := 3#32
  let v798 : BitVec 1 := Scalar.cmpi .sle v797 c3_i32_726
  let v799 : BitVec 1 := Scalar.andi v796 v798
  let v800 : BitVec 32 := Scalar.extui v799
  let c0_i32_729 : BitVec 32 := 0#32
  let v801 : BitVec 1 := Scalar.cmpi .ne v800 c0_i32_729
  v801

def k0_off189 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_850 : BitVec 32 := 0#32
  let v922 : BitVec 32 := Scalar.addi v8 c0_i32_850
  let c0_i32_859 : BitVec 32 := 0#32
  let c0_i32_860 : BitVec 32 := 0#32
  let c0_i32_861 : BitVec 32 := 0#32
  ![v922.toNat, 0, 0, 0]
def k0_cond125 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_730 : BitVec 32 := 3#32
  let v802 : BitVec 1 := Scalar.cmpi .slt v5 c3_i32_730
  let c0_i32_731 : BitVec 32 := 0#32
  let v803 : BitVec 32 := Scalar.subi v5 c0_i32_731
  let c0_i32_732 : BitVec 32 := 0#32
  let v804 : BitVec 1 := Scalar.cmpi .sge v803 c0_i32_732
  let v805 : BitVec 1 := Scalar.andi v802 v804
  let v806 : BitVec 32 := Scalar.extui v805
  let c0_i32_735 : BitVec 32 := 0#32
  let v807 : BitVec 1 := Scalar.cmpi .ne v806 c0_i32_735
  v807

def k0_off190 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_850 : BitVec 32 := 0#32
  let v922 : BitVec 32 := Scalar.subi v5 c0_i32_850
  let c2_i32_860 : BitVec 32 := 2#32
  let c0_i32_861 : BitVec 32 := 0#32
  let c0_i32_862 : BitVec 32 := 0#32
  ![v922.toNat, 2, 0, 0]
def k0_cond126 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_736 : BitVec 32 := 0#32
  let v808 : BitVec 1 := Scalar.cmpi .sgt v5 c0_i32_736
  let c0_i32_737 : BitVec 32 := 0#32
  let v809 : BitVec 32 := Scalar.addi v5 c0_i32_737
  let c3_i32_738 : BitVec 32 := 3#32
  let v810 : BitVec 1 := Scalar.cmpi .sle v809 c3_i32_738
  let v811 : BitVec 1 := Scalar.andi v808 v810
  let v812 : BitVec 32 := Scalar.extui v811
  let c0_i32_741 : BitVec 32 := 0#32
  let v813 : BitVec 1 := Scalar.cmpi .ne v812 c0_i32_741
  v813

def k0_off191 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_850 : BitVec 32 := 0#32
  let v922 : BitVec 32 := Scalar.addi v5 c0_i32_850
  let c2_i32_859 : BitVec 32 := 2#32
  let c0_i32_860 : BitVec 32 := 0#32
  let c0_i32_861 : BitVec 32 := 0#32
  ![v922.toNat, 2, 0, 0]
def k0_cond127 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_742 : BitVec 32 := 3#32
  let v814 : BitVec 1 := Scalar.cmpi .slt v8 c3_i32_742
  let c0_i32_743 : BitVec 32 := 0#32
  let v815 : BitVec 32 := Scalar.subi v8 c0_i32_743
  let c0_i32_744 : BitVec 32 := 0#32
  let v816 : BitVec 1 := Scalar.cmpi .sge v815 c0_i32_744
  let v817 : BitVec 1 := Scalar.andi v814 v816
  let v818 : BitVec 32 := Scalar.extui v817
  let c0_i32_747 : BitVec 32 := 0#32
  let v819 : BitVec 1 := Scalar.cmpi .ne v818 c0_i32_747
  v819

def k0_off192 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_850 : BitVec 32 := 0#32
  let v922 : BitVec 32 := Scalar.subi v8 c0_i32_850
  let c2_i32_860 : BitVec 32 := 2#32
  let c0_i32_861 : BitVec 32 := 0#32
  let c0_i32_862 : BitVec 32 := 0#32
  ![v922.toNat, 2, 0, 0]
def k0_cond128 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_748 : BitVec 32 := 0#32
  let v820 : BitVec 1 := Scalar.cmpi .sgt v8 c0_i32_748
  let c0_i32_749 : BitVec 32 := 0#32
  let v821 : BitVec 32 := Scalar.addi v8 c0_i32_749
  let c3_i32_750 : BitVec 32 := 3#32
  let v822 : BitVec 1 := Scalar.cmpi .sle v821 c3_i32_750
  let v823 : BitVec 1 := Scalar.andi v820 v822
  let v824 : BitVec 32 := Scalar.extui v823
  let c0_i32_753 : BitVec 32 := 0#32
  let v825 : BitVec 1 := Scalar.cmpi .ne v824 c0_i32_753
  v825

def k0_off193 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_850 : BitVec 32 := 0#32
  let v922 : BitVec 32 := Scalar.addi v8 c0_i32_850
  let c2_i32_859 : BitVec 32 := 2#32
  let c0_i32_860 : BitVec 32 := 0#32
  let c0_i32_861 : BitVec 32 := 0#32
  ![v922.toNat, 2, 0, 0]
def k0_cond129 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_754 : BitVec 32 := 3#32
  let v826 : BitVec 1 := Scalar.cmpi .slt v5 c3_i32_754
  let c1_i32_755 : BitVec 32 := 1#32
  let v827 : BitVec 32 := Scalar.subi v5 c1_i32_755
  let c0_i32_756 : BitVec 32 := 0#32
  let v828 : BitVec 1 := Scalar.cmpi .sge v827 c0_i32_756
  let v829 : BitVec 1 := Scalar.andi v826 v828
  let v830 : BitVec 32 := Scalar.extui v829
  let c0_i32_759 : BitVec 32 := 0#32
  let v831 : BitVec 1 := Scalar.cmpi .ne v830 c0_i32_759
  v831

def k0_off194 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_850 : BitVec 32 := 1#32
  let v922 : BitVec 32 := Scalar.subi v5 c1_i32_850
  let c0_i32_860 : BitVec 32 := 0#32
  let c0_i32_861 : BitVec 32 := 0#32
  let c0_i32_862 : BitVec 32 := 0#32
  ![v922.toNat, 0, 0, 0]
def k0_cond130 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_760 : BitVec 32 := 0#32
  let v832 : BitVec 1 := Scalar.cmpi .sgt v5 c0_i32_760
  let c1_i32_761 : BitVec 32 := 1#32
  let v833 : BitVec 32 := Scalar.addi v5 c1_i32_761
  let c3_i32_762 : BitVec 32 := 3#32
  let v834 : BitVec 1 := Scalar.cmpi .sle v833 c3_i32_762
  let v835 : BitVec 1 := Scalar.andi v832 v834
  let v836 : BitVec 32 := Scalar.extui v835
  let c0_i32_765 : BitVec 32 := 0#32
  let v837 : BitVec 1 := Scalar.cmpi .ne v836 c0_i32_765
  v837

def k0_off195 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_850 : BitVec 32 := 1#32
  let v922 : BitVec 32 := Scalar.addi v5 c1_i32_850
  let c0_i32_859 : BitVec 32 := 0#32
  let c0_i32_860 : BitVec 32 := 0#32
  let c0_i32_861 : BitVec 32 := 0#32
  ![v922.toNat, 0, 0, 0]
def k0_cond131 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_766 : BitVec 32 := 3#32
  let v838 : BitVec 1 := Scalar.cmpi .slt v8 c3_i32_766
  let c1_i32_767 : BitVec 32 := 1#32
  let v839 : BitVec 32 := Scalar.subi v8 c1_i32_767
  let c0_i32_768 : BitVec 32 := 0#32
  let v840 : BitVec 1 := Scalar.cmpi .sge v839 c0_i32_768
  let v841 : BitVec 1 := Scalar.andi v838 v840
  let v842 : BitVec 32 := Scalar.extui v841
  let c0_i32_771 : BitVec 32 := 0#32
  let v843 : BitVec 1 := Scalar.cmpi .ne v842 c0_i32_771
  v843

def k0_off196 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_850 : BitVec 32 := 1#32
  let v922 : BitVec 32 := Scalar.subi v8 c1_i32_850
  let c0_i32_860 : BitVec 32 := 0#32
  let c0_i32_861 : BitVec 32 := 0#32
  let c0_i32_862 : BitVec 32 := 0#32
  ![v922.toNat, 0, 0, 0]
def k0_cond132 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_772 : BitVec 32 := 0#32
  let v844 : BitVec 1 := Scalar.cmpi .sgt v8 c0_i32_772
  let c1_i32_773 : BitVec 32 := 1#32
  let v845 : BitVec 32 := Scalar.addi v8 c1_i32_773
  let c3_i32_774 : BitVec 32 := 3#32
  let v846 : BitVec 1 := Scalar.cmpi .sle v845 c3_i32_774
  let v847 : BitVec 1 := Scalar.andi v844 v846
  let v848 : BitVec 32 := Scalar.extui v847
  let c0_i32_777 : BitVec 32 := 0#32
  let v849 : BitVec 1 := Scalar.cmpi .ne v848 c0_i32_777
  v849

def k0_off197 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_850 : BitVec 32 := 1#32
  let v922 : BitVec 32 := Scalar.addi v8 c1_i32_850
  let c0_i32_859 : BitVec 32 := 0#32
  let c0_i32_860 : BitVec 32 := 0#32
  let c0_i32_861 : BitVec 32 := 0#32
  ![v922.toNat, 0, 0, 0]
def k0_cond133 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_778 : BitVec 32 := 3#32
  let v850 : BitVec 1 := Scalar.cmpi .slt v5 c3_i32_778
  let c1_i32_779 : BitVec 32 := 1#32
  let v851 : BitVec 32 := Scalar.subi v5 c1_i32_779
  let c0_i32_780 : BitVec 32 := 0#32
  let v852 : BitVec 1 := Scalar.cmpi .sge v851 c0_i32_780
  let v853 : BitVec 1 := Scalar.andi v850 v852
  let v854 : BitVec 32 := Scalar.extui v853
  let c0_i32_783 : BitVec 32 := 0#32
  let v855 : BitVec 1 := Scalar.cmpi .ne v854 c0_i32_783
  v855

def k0_off198 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_850 : BitVec 32 := 1#32
  let v922 : BitVec 32 := Scalar.subi v5 c1_i32_850
  let c2_i32_860 : BitVec 32 := 2#32
  let c0_i32_861 : BitVec 32 := 0#32
  let c0_i32_862 : BitVec 32 := 0#32
  ![v922.toNat, 2, 0, 0]
def k0_cond134 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_784 : BitVec 32 := 0#32
  let v856 : BitVec 1 := Scalar.cmpi .sgt v5 c0_i32_784
  let c1_i32_785 : BitVec 32 := 1#32
  let v857 : BitVec 32 := Scalar.addi v5 c1_i32_785
  let c3_i32_786 : BitVec 32 := 3#32
  let v858 : BitVec 1 := Scalar.cmpi .sle v857 c3_i32_786
  let v859 : BitVec 1 := Scalar.andi v856 v858
  let v860 : BitVec 32 := Scalar.extui v859
  let c0_i32_789 : BitVec 32 := 0#32
  let v861 : BitVec 1 := Scalar.cmpi .ne v860 c0_i32_789
  v861

def k0_off199 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_850 : BitVec 32 := 1#32
  let v922 : BitVec 32 := Scalar.addi v5 c1_i32_850
  let c2_i32_859 : BitVec 32 := 2#32
  let c0_i32_860 : BitVec 32 := 0#32
  let c0_i32_861 : BitVec 32 := 0#32
  ![v922.toNat, 2, 0, 0]
def k0_cond135 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_790 : BitVec 32 := 3#32
  let v862 : BitVec 1 := Scalar.cmpi .slt v8 c3_i32_790
  let c1_i32_791 : BitVec 32 := 1#32
  let v863 : BitVec 32 := Scalar.subi v8 c1_i32_791
  let c0_i32_792 : BitVec 32 := 0#32
  let v864 : BitVec 1 := Scalar.cmpi .sge v863 c0_i32_792
  let v865 : BitVec 1 := Scalar.andi v862 v864
  let v866 : BitVec 32 := Scalar.extui v865
  let c0_i32_795 : BitVec 32 := 0#32
  let v867 : BitVec 1 := Scalar.cmpi .ne v866 c0_i32_795
  v867

def k0_off200 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_850 : BitVec 32 := 1#32
  let v922 : BitVec 32 := Scalar.subi v8 c1_i32_850
  let c2_i32_860 : BitVec 32 := 2#32
  let c0_i32_861 : BitVec 32 := 0#32
  let c0_i32_862 : BitVec 32 := 0#32
  ![v922.toNat, 2, 0, 0]
def k0_cond136 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_796 : BitVec 32 := 0#32
  let v868 : BitVec 1 := Scalar.cmpi .sgt v8 c0_i32_796
  let c1_i32_797 : BitVec 32 := 1#32
  let v869 : BitVec 32 := Scalar.addi v8 c1_i32_797
  let c3_i32_798 : BitVec 32 := 3#32
  let v870 : BitVec 1 := Scalar.cmpi .sle v869 c3_i32_798
  let v871 : BitVec 1 := Scalar.andi v868 v870
  let v872 : BitVec 32 := Scalar.extui v871
  let c0_i32_801 : BitVec 32 := 0#32
  let v873 : BitVec 1 := Scalar.cmpi .ne v872 c0_i32_801
  v873

def k0_off201 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_850 : BitVec 32 := 1#32
  let v922 : BitVec 32 := Scalar.addi v8 c1_i32_850
  let c2_i32_859 : BitVec 32 := 2#32
  let c0_i32_860 : BitVec 32 := 0#32
  let c0_i32_861 : BitVec 32 := 0#32
  ![v922.toNat, 2, 0, 0]
def k0_cond137 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_802 : BitVec 32 := 3#32
  let v874 : BitVec 1 := Scalar.cmpi .slt v5 c3_i32_802
  let c2_i32_803 : BitVec 32 := 2#32
  let v875 : BitVec 32 := Scalar.subi v5 c2_i32_803
  let c0_i32_804 : BitVec 32 := 0#32
  let v876 : BitVec 1 := Scalar.cmpi .sge v875 c0_i32_804
  let v877 : BitVec 1 := Scalar.andi v874 v876
  let v878 : BitVec 32 := Scalar.extui v877
  let c0_i32_807 : BitVec 32 := 0#32
  let v879 : BitVec 1 := Scalar.cmpi .ne v878 c0_i32_807
  v879

def k0_off202 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_850 : BitVec 32 := 2#32
  let v922 : BitVec 32 := Scalar.subi v5 c2_i32_850
  let c0_i32_860 : BitVec 32 := 0#32
  let c0_i32_861 : BitVec 32 := 0#32
  let c0_i32_862 : BitVec 32 := 0#32
  ![v922.toNat, 0, 0, 0]
def k0_cond138 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_808 : BitVec 32 := 0#32
  let v880 : BitVec 1 := Scalar.cmpi .sgt v5 c0_i32_808
  let c2_i32_809 : BitVec 32 := 2#32
  let v881 : BitVec 32 := Scalar.addi v5 c2_i32_809
  let c3_i32_810 : BitVec 32 := 3#32
  let v882 : BitVec 1 := Scalar.cmpi .sle v881 c3_i32_810
  let v883 : BitVec 1 := Scalar.andi v880 v882
  let v884 : BitVec 32 := Scalar.extui v883
  let c0_i32_813 : BitVec 32 := 0#32
  let v885 : BitVec 1 := Scalar.cmpi .ne v884 c0_i32_813
  v885

def k0_off203 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_850 : BitVec 32 := 2#32
  let v922 : BitVec 32 := Scalar.addi v5 c2_i32_850
  let c0_i32_859 : BitVec 32 := 0#32
  let c0_i32_860 : BitVec 32 := 0#32
  let c0_i32_861 : BitVec 32 := 0#32
  ![v922.toNat, 0, 0, 0]
def k0_cond139 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_814 : BitVec 32 := 3#32
  let v886 : BitVec 1 := Scalar.cmpi .slt v8 c3_i32_814
  let c2_i32_815 : BitVec 32 := 2#32
  let v887 : BitVec 32 := Scalar.subi v8 c2_i32_815
  let c0_i32_816 : BitVec 32 := 0#32
  let v888 : BitVec 1 := Scalar.cmpi .sge v887 c0_i32_816
  let v889 : BitVec 1 := Scalar.andi v886 v888
  let v890 : BitVec 32 := Scalar.extui v889
  let c0_i32_819 : BitVec 32 := 0#32
  let v891 : BitVec 1 := Scalar.cmpi .ne v890 c0_i32_819
  v891

def k0_off204 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_850 : BitVec 32 := 2#32
  let v922 : BitVec 32 := Scalar.subi v8 c2_i32_850
  let c0_i32_860 : BitVec 32 := 0#32
  let c0_i32_861 : BitVec 32 := 0#32
  let c0_i32_862 : BitVec 32 := 0#32
  ![v922.toNat, 0, 0, 0]
def k0_cond140 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_820 : BitVec 32 := 0#32
  let v892 : BitVec 1 := Scalar.cmpi .sgt v8 c0_i32_820
  let c2_i32_821 : BitVec 32 := 2#32
  let v893 : BitVec 32 := Scalar.addi v8 c2_i32_821
  let c3_i32_822 : BitVec 32 := 3#32
  let v894 : BitVec 1 := Scalar.cmpi .sle v893 c3_i32_822
  let v895 : BitVec 1 := Scalar.andi v892 v894
  let v896 : BitVec 32 := Scalar.extui v895
  let c0_i32_825 : BitVec 32 := 0#32
  let v897 : BitVec 1 := Scalar.cmpi .ne v896 c0_i32_825
  v897

def k0_off205 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_850 : BitVec 32 := 2#32
  let v922 : BitVec 32 := Scalar.addi v8 c2_i32_850
  let c0_i32_859 : BitVec 32 := 0#32
  let c0_i32_860 : BitVec 32 := 0#32
  let c0_i32_861 : BitVec 32 := 0#32
  ![v922.toNat, 0, 0, 0]
def k0_cond141 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_826 : BitVec 32 := 3#32
  let v898 : BitVec 1 := Scalar.cmpi .slt v5 c3_i32_826
  let c2_i32_827 : BitVec 32 := 2#32
  let v899 : BitVec 32 := Scalar.subi v5 c2_i32_827
  let c0_i32_828 : BitVec 32 := 0#32
  let v900 : BitVec 1 := Scalar.cmpi .sge v899 c0_i32_828
  let v901 : BitVec 1 := Scalar.andi v898 v900
  let v902 : BitVec 32 := Scalar.extui v901
  let c0_i32_831 : BitVec 32 := 0#32
  let v903 : BitVec 1 := Scalar.cmpi .ne v902 c0_i32_831
  v903

def k0_off206 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_850 : BitVec 32 := 2#32
  let v922 : BitVec 32 := Scalar.subi v5 c2_i32_850
  let c2_i32_860 : BitVec 32 := 2#32
  let c0_i32_861 : BitVec 32 := 0#32
  let c0_i32_862 : BitVec 32 := 0#32
  ![v922.toNat, 2, 0, 0]
def k0_cond142 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_832 : BitVec 32 := 0#32
  let v904 : BitVec 1 := Scalar.cmpi .sgt v5 c0_i32_832
  let c2_i32_833 : BitVec 32 := 2#32
  let v905 : BitVec 32 := Scalar.addi v5 c2_i32_833
  let c3_i32_834 : BitVec 32 := 3#32
  let v906 : BitVec 1 := Scalar.cmpi .sle v905 c3_i32_834
  let v907 : BitVec 1 := Scalar.andi v904 v906
  let v908 : BitVec 32 := Scalar.extui v907
  let c0_i32_837 : BitVec 32 := 0#32
  let v909 : BitVec 1 := Scalar.cmpi .ne v908 c0_i32_837
  v909

def k0_off207 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_850 : BitVec 32 := 2#32
  let v922 : BitVec 32 := Scalar.addi v5 c2_i32_850
  let c2_i32_859 : BitVec 32 := 2#32
  let c0_i32_860 : BitVec 32 := 0#32
  let c0_i32_861 : BitVec 32 := 0#32
  ![v922.toNat, 2, 0, 0]
def k0_cond143 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_838 : BitVec 32 := 3#32
  let v910 : BitVec 1 := Scalar.cmpi .slt v8 c3_i32_838
  let c2_i32_839 : BitVec 32 := 2#32
  let v911 : BitVec 32 := Scalar.subi v8 c2_i32_839
  let c0_i32_840 : BitVec 32 := 0#32
  let v912 : BitVec 1 := Scalar.cmpi .sge v911 c0_i32_840
  let v913 : BitVec 1 := Scalar.andi v910 v912
  let v914 : BitVec 32 := Scalar.extui v913
  let c0_i32_843 : BitVec 32 := 0#32
  let v915 : BitVec 1 := Scalar.cmpi .ne v914 c0_i32_843
  v915

def k0_off208 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_850 : BitVec 32 := 2#32
  let v922 : BitVec 32 := Scalar.subi v8 c2_i32_850
  let c2_i32_860 : BitVec 32 := 2#32
  let c0_i32_861 : BitVec 32 := 0#32
  let c0_i32_862 : BitVec 32 := 0#32
  ![v922.toNat, 2, 0, 0]
def k0_cond144 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_844 : BitVec 32 := 0#32
  let v916 : BitVec 1 := Scalar.cmpi .sgt v8 c0_i32_844
  let c2_i32_845 : BitVec 32 := 2#32
  let v917 : BitVec 32 := Scalar.addi v8 c2_i32_845
  let c3_i32_846 : BitVec 32 := 3#32
  let v918 : BitVec 1 := Scalar.cmpi .sle v917 c3_i32_846
  let v919 : BitVec 1 := Scalar.andi v916 v918
  let v920 : BitVec 32 := Scalar.extui v919
  let c0_i32_849 : BitVec 32 := 0#32
  let v921 : BitVec 1 := Scalar.cmpi .ne v920 c0_i32_849
  v921

def k0_off209 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_850 : BitVec 32 := 2#32
  let v922 : BitVec 32 := Scalar.addi v8 c2_i32_850
  let c2_i32_859 : BitVec 32 := 2#32
  let c0_i32_860 : BitVec 32 := 0#32
  let c0_i32_861 : BitVec 32 := 0#32
  ![v922.toNat, 2, 0, 0]
abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048 : Shape := ⟨1, ![2048]⟩
abbrev S32768x1024 : Shape := ⟨2, ![32768, 1024]⟩
abbrev S_ : Shape := ⟨0, ![]⟩
abbrev S2048x1 : Shape := ⟨2, ![2048, 1]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048, .i32⟩
  | .hbm, ⟨1, _⟩ => ⟨S32768x1024, .f32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x1024, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Mesh.lean ====
/-
The mesh, the transfer slots and where each transfer reads and lands.

A device `c` is `16 x + 4 y + z`. Every transfer of the two-phase exchange is named by a slot:
* `P1 = (f, d, k)`: first phase of flow `f` (`0`: the upper half rows, along `z`; `1`: the lower half rows, along
  `y`), towards higher (`d = 0`) or lower (`d = 1`) coordinates, to the device `k + 1` away;
* `P2 = (f, d, s, b)`: second phase, along the other axis, hop number `s`, half `b` of the strip.
-/
module

public import proofs.«01_k».proof.Proof.Gen.KernelIdeal
public import proofs.«01_k».proof.Proof.Gen.KernelIdeal.Skeleton
public import Idealize.ShloMosaic.Lib.Pipeline.Launch

@[expose] public section

namespace Cert.K

open Cert.KernelIdeal Cert.KernelIdeal.Gen
open Idealize.ShloMosaic

/-- First coordinate of a device (the half of the table it holds). -/
def px (c : Dev nD) : ℕ := c.val / 16
/-- Second coordinate of a device. -/
def py (c : Dev nD) : ℕ := c.val / 4 % 4
/-- Third coordinate of a device. -/
def pz (c : Dev nD) : ℕ := c.val % 4
/-- The device at coordinates `x y z`. -/
def mk (x y z : ℕ) : Dev nD := ⟨(16 * x + 4 * y + z) % 32, Nat.mod_lt _ (by decide)⟩

abbrev P1 : Type := Fin 2 × Fin 2 × Fin 3
abbrev P2 : Type := Fin 2 × Fin 2 × Fin 3 × Fin 2
abbrev Slot : Type := P1 ⊕ P2

/-- The row of chunks of flow `f` that device `c` gathers in the first phase. -/
def row (f : Fin 2) (c : Dev nD) : ℕ := if f = 0 then py c else pz c
/-- The place of device `c`'s own chunk in its row of flow `f`. -/
def pos (f : Fin 2) (c : Dev nD) : ℕ := if f = 0 then pz c else py c

/-- The device `n` further (`d = 0`) or nearer (`d = 1`) along axis `ax` (`0`: `z`, `1`: `y`). -/
def step (ax d : Fin 2) (n : ℕ) (c : Dev nD) : Dev nD :=
  ⟨(c.val + (if d = 0 then n else 32 - n) * (if ax = 0 then 1 else 4) + (if d = 0 ∨ ax = 0 then 0 else 32 * n)) % 32, Nat.mod_lt _ (by decide)⟩

/-- The flow of a slot. -/
def flow : Slot → Fin 2 := Sum.elim (fun q => q.1) (fun q => q.1)
/-- The device across the first axis. -/
def partner (c : Dev nD) : Dev nD := ⟨(c.val + 16) % 32, Nat.mod_lt _ (by decide)⟩

/-- Device `c` sends slot `q`. -/
def snd : Slot → Dev nD → Bool
  | .inl (f, d, k), c => if d = 0 then pos f c + k.val + 1 ≤ 3 else k.val + 1 ≤ pos f c
  | .inr (f, d, s, _), c => if d = 0 then row f c < 3 ∧ s.val ≤ row f c else 0 < row f c ∧ row f c + s.val ≤ 3
/-- Device `c` receives slot `q`. -/
def rcv : Slot → Dev nD → Bool
  | .inl (f, d, k), c => if d = 0 then k.val + 1 ≤ pos f c else pos f c + k.val + 1 ≤ 3
  | .inr (f, d, s, _), c => if d = 0 then s.val + 1 ≤ row f c else row f c + s.val + 1 ≤ 3
/-- The device slot `q` goes to from `c`. -/
def peer : Slot → Dev nD → Dev nD
  | .inl (f, d, k), c => step f d (k.val + 1) c
  | .inr (f, d, _, _), c => step (1 - f) d 1 c
/-- The device slot `q` comes from to `c`. -/
def src : Slot → Dev nD → Dev nD
  | .inl (f, d, k), c => step f (1 - d) (k.val + 1) c
  | .inr (f, d, _, _), c => step (1 - f) (1 - d) 1 c
/-- Row and first chunk of what device `c` sends in slot `q`. -/
def sat : Slot → Dev nD → ℕ × ℕ
  | .inl (f, _, _), c => (row f c, pos f c)
  | .inr (f, d, s, b), c => (if d = 0 then row f c - s.val else row f c + s.val, 2 * b.val)
/-- Row and first chunk of where slot `q` lands on device `c`. -/
def rat : Slot → Dev nD → ℕ × ℕ
  | .inl (f, d, k), c => (row f c, if d = 0 then pos f c - (k.val + 1) else pos f c + (k.val + 1))
  | .inr (f, d, s, b), c => (if d = 0 then row f c - (s.val + 1) else row f c + (s.val + 1), 2 * b.val)
/-- The number of chunks of a slot. -/
def wid : Slot → ℕ := Sum.elim (fun _ => 1) (fun _ => 2)

theorem snd_peer : ∀ (q : Slot) (c : Dev nD), snd q c = true → rcv q (peer q c) = true ∧ src q (peer q c) = c ∧ rat q (peer q c) = sat q c
    ∧ px (peer q c) = px c := by decide +kernel
theorem rcv_src : ∀ (q : Slot) (c : Dev nD), rcv q c = true → snd q (src q c) = true ∧ peer q (src q c) = c ∧ sat q (src q c) = rat q c := by
  decide +kernel

/-- The order in which the transfers are issued. -/
def ordS : Slot → ℕ
  | .inl (f, d, k) => 6 * f.val + 2 * k.val + d.val
  | .inr (f, d, s, b) => if s.val = 0 then 12 + 4 * f.val + 2 * b.val + d.val else 12 + 8 * s.val + 4 * b.val + 2 * f.val + d.val
/-- The order in which the landings are waited for. -/
def ordR : Slot → ℕ
  | .inl (f, d, k) => 6 * f.val + 2 * k.val + d.val
  | .inr (f, d, s, b) => 12 + 8 * s.val + 4 * b.val + 2 * f.val + d.val
set_option synthInstance.maxSize 4096 in
theorem ordS_inj : ∀ q q' : Slot, ordS q = ordS q' → q = q' := by decide +kernel
set_option synthInstance.maxSize 4096 in
theorem ordR_inj : ∀ q q' : Slot, ordR q = ordR q' → q = q' := by decide +kernel

/-- The signals every device sends before anything else: across the first axis (`none`), or to the device at
    distance `k + 1` on one of its two lines. -/
abbrev Sg : Type := Option P1
def sgSnd : Sg → Dev nD → Bool
  | none, _ => true
  | some p, c => snd (.inl p) c
def sgRcv : Sg → Dev nD → Bool
  | none, _ => true
  | some p, c => rcv (.inl p) c
def sgPeer : Sg → Dev nD → Dev nD
  | none, c => partner c
  | some p, c => peer (.inl p) c
def sgSrc : Sg → Dev nD → Dev nD
  | none, c => partner c
  | some p, c => src (.inl p) c
/-- The signal that travels against slot `q`: from where `q` lands to where it comes from. -/
def sgOf : Slot → Sg
  | .inl (f, d, k) => some (f, 1 - d, k)
  | .inr (f, d, _, _) => some (1 - f, 1 - d, 0)
theorem sg_snd_peer : ∀ (p : Sg) (c : Dev nD), sgSnd p c = true → sgRcv p (sgPeer p c) = true ∧ sgSrc p (sgPeer p c) = c := by decide +kernel
theorem sg_rcv_src : ∀ (p : Sg) (c : Dev nD), sgRcv p c = true → sgSnd p (sgSrc p c) = true ∧ sgPeer p (sgSrc p c) = c := by decide +kernel
/-- Where `q` lands, the signal against it is sent, and goes to where `q` comes from. -/
theorem sgOf_snd : ∀ (q : Slot) (c : Dev nD), rcv q c = true → sgSnd (sgOf q) c = true ∧ sgPeer (sgOf q) c = src q c := by decide +kernel
/-- Where `q` is sent from, the signal against it is received, from where `q` goes to. -/
theorem sgOf_rcv : ∀ (q : Slot) (c : Dev nD), snd q c = true → sgRcv (sgOf q) c = true ∧ sgSrc (sgOf q) c = peer q c := by decide +kernel
theorem sgRcv_card : ∀ c : Dev nD, (Finset.univ.filter fun p : Sg => sgRcv p c = true).card = 7 := by decide +kernel

/-- The order in which the signals are sent (the one across the first axis first). -/
def ordG : Sg → ℕ
  | none => 0
  | some (f, d, k) => 1 + 4 * k.val + 2 * f.val + (1 - d.val)
theorem ordG_inj : ∀ q q' : Sg, ordG q = ordG q' → q = q' := by decide +kernel
theorem partner_partner : ∀ c : Dev nD, partner (partner c) = c := by decide +kernel

/-! ### The kernel's own words agree with the tables (one line of each kind; the rest where they are used) -/

theorem dev1_eq : ∀ c : Dev nD, (⟨k0_dev1 c, k0_dev1_lt c⟩ : Dev nD) = partner c := by decide +kernel
theorem dev14_eq : ∀ c : Dev nD, (⟨k0_dev14 c, k0_dev14_lt c⟩ : Dev nD) = partner c := by decide +kernel
theorem amt1_eq : ∀ c : Dev nD, (k0_amt1 c).toNat = 7 := by decide +kernel

end Cert.K
-- ==== Proof.Proto.lean ====
/-
The contents every buffer ends with, and the schedule of the semaphores: who pays what onto which semaphore, and which
memory each payment hands over.
-/
module

public import proofs.«01_k».proof.Proof.Mesh
public import proofs.«01_k».proof.Proof.Gen.KernelIdeal.Launch
public import proofs.«01_k».proof.Proof.Gen.KernelIdeal.Frame
public import Idealize.ShloMosaic.Lib.Pipeline.Kit
public import Idealize.ShloMosaic.Lib.ShareLeaves
public import Idealize.ShloMosaic.Lib.Tactic

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

/-- What a landing or a signal pays: a signal of the start barrier, a gathered row, or the only payment of its cell. -/
inductive Duty
  | u
  | row (t : Fin 128)
  | sig (p : Sg)
deriving DecidableEq

abbrev UU : Type := UR sig nD τ × URounds (GSem nD τ sig) Duty

local notation "𝕄" => MT nD τ sig Unit (Elt F) ℕ UU ℕ

abbrev EP : Emb (UR sig nD τ) (MT nD τ sig Unit (Elt F) ℕ UU ℕ) := embL
abbrev ER : Emb (URounds (GSem nD τ sig) Duty) (MT nD τ sig Unit (Elt F) ℕ UU ℕ) := embR
abbrev 𝒱₀ : Variants := Variants.none

variable (m : (ℓ : Loc nD τ sig) → Buf (Elt F) ℓ)

/-! ## Contents -/

/-- The indices as launched on device `c`. -/
def ids (c : Dev nD) : S2048.Idx → BitVec 32 := m ((c : Thread nD τ).loc main_arg0)
/-- The indices as a column, what the host operation before the kernel makes of them. -/
def ids2 (c : Dev nD) : S2048x1.Idx → BitVec 32 := Gen.V m c main_v1
/-- The table rows of device `c`. -/
def tbl (c : Dev nD) : S16384x1024.Idx → Elt F .f32 := m ((c : Thread nD τ).loc main_arg1)

/-- The block of result rows that device `c` produces. -/
def blk (c : Dev nD) : ℕ := 4 * py c + pz c
theorem blk_lt (c : Dev nD) : blk c < 16 := by unfold blk py pz; omega
/-- Index `t` of the block of device `c`. -/
def idAt (c : Dev nD) (t : Fin 128) : S2048.Idx :=
  fun a => match a with
    | ⟨0, _⟩ => ⟨128 * blk c + t.val, (by have := blk_lt c; have := t.isLt; omega : 128 * blk c + t.val < 2048)⟩
/-- The table row that device `c` fetches for the `t`-th index of its block. -/
def gix (c : Dev nD) (t : Fin 128) : ℕ := k0_off3 c (ids m c (idAt c t)) 0
/-- The fetched row is in the table, whatever the index. -/
theorem clamp_lt (c : Dev nD) (v : BitVec 32) : k0_off3 c v 0 < 16384 := by
  show (Scalar.minsi 16383#32 (Scalar.maxsi 0#32 _)).toNat < 16384
  generalize Scalar.subi v _ = w
  show (if (16383#32).slt (if w.slt 0#32 then 0#32 else w) then 16383#32 else (if w.slt 0#32 then 0#32 else w)).toNat < 16384
  have hw := w.isLt
  have hI : w.toInt = if 2 * w.toNat < 2 ^ 32 then (w.toNat : ℤ) else (w.toNat : ℤ) - 2 ^ 32 := BitVec.toInt_eq_toNat_cond w
  by_cases h1 : w.slt 0#32 = true
  · rw [if_pos h1]; decide
  · rw [if_neg h1]
    have h3 : ¬ w.toInt < (0#32).toInt := fun h => h1 (BitVec.slt_iff_toInt_lt.mpr h)
    by_cases h2 : (16383#32).slt w = true
    · rw [if_pos h2]; decide
    · rw [if_neg h2]
      have h4 : ¬ (16383#32).toInt < w.toInt := fun h => h2 (BitVec.slt_iff_toInt_lt.mpr h)
      have e0 : (0#32).toInt = 0 := by decide
      have e1 : (16383#32).toInt = 16383 := by decide
      rw [e0] at h3; rw [e1] at h4
      split_ifs at hI <;> omega
/-- An index of a matrix. -/
def ix2 {n k : ℕ} (i : ℕ) (hi : i < n) (j : Fin k) : (⟨2, ![n, k]⟩ : Shape).Idx := fun a => match a with
  | ⟨0, _⟩ => ⟨i, hi⟩
  | ⟨1, _⟩ => j
/-- An index of a stack of matrices of single blocks. -/
def ix4 (i : Fin 64) (j : Fin 1024) : S1x1x64x1024.Idx := fun a => match a with
  | ⟨0, _⟩ => ⟨0, Nat.one_pos⟩
  | ⟨1, _⟩ => ⟨0, Nat.one_pos⟩
  | ⟨2, _⟩ => i
  | ⟨3, _⟩ => j
/-- The rows device `c` gathers. -/
def own (c : Dev nD) : S128x1024.Idx → Elt F .f32 := fun i => tbl m c (ix2 (gix m c (i 0)) (clamp_lt c _) (i 1))
/-- The first table row of device `c`, as the kernel's word. -/
def base (c : Dev nD) : BitVec 32 := Scalar.muli (Scalar.remsi (Scalar.divsi (Dev.word c) 16#32) 2#32) 16384#32
/-- The indices of the block of device `c`, as read. -/
def idb (c : Dev nD) : Vec F S128x1 .i32 :=
  (Memref.whole cc0_stg1_0 : Memref sig .tc .vmem S2048x1 .i32).view.readAt (Elt F)
    (Rect.unit (s := S2048x1) (k0_off14 c) S128x1.size (k0_off14_inb c)).toLoadRect (ids2 m c)
/-- The gathered rows, those of the other half of the table zero. -/
def msk (c : Dev nD) : Vec F S128x1024 .f32 := k0_pay37 (base c) (idb m c) (own m c)
/-- The same, narrowed: what goes to the partner. -/
def sx (c : Dev nD) : Vec F S128x1024 .bf16 := k0_pay38 (base c) (idb m c) (own m c)
/-- The block of device `c` after the exchange. -/
def smm (c : Dev nD) : FVec F S128x1024 .f32 := k0_pay39 (msk m c) (sx m (partner c))
/-- Half `f` of the block, narrowed. -/
def hf (f : Fin 2) (c : Dev nD) : FVec F S1x1x64x1024 .bf16 :=
  if f = 0 then k0_pay41 (msk m c) (sx m (partner c)) else k0_pay42 (msk m c) (sx m (partner c))
/-- The device whose half is chunk `(r, p)` of flow `f`, among the devices of first coordinate `x`. -/
def dv (f : Fin 2) (x r p : ℕ) : Dev nD := if f = 0 then mk x r p else mk x p r
/-- What the exchange buffer of flow `f` holds in the end, on all devices of first coordinate `x`. -/
def FIN (f : Fin 2) (x : ℕ) : S4x4x64x1024.Idx → Elt F .bf16 := fun i => hf m f (dv f x (i 0).val (i 1).val) (ix4 (i 2) (i 3))
/-- The result on device `c`: its own block as summed, the others' as widened from what was exchanged. -/
def OUT (c : Dev nD) : S2048x1024.Idx → Elt F .f32 := fun i =>
  let b := (i 0).val / 128
  let d := mk (px c) (b / 4) (b % 4)
  let j : S64x1024.Idx := ix2 ((i 0).val % 64) (Nat.mod_lt _ (by decide)) (i 1)
  if d = c then (if (i 0).val % 128 < 64 then k0_pay43 (smm m c) j else k0_pay44 (smm m c) j)
  else k0_pay45 (hf m (if (i 0).val % 128 < 64 then 0 else 1) d) j

/-! ## Points-tos -/

/-- Elements `S` of the exchange buffer of flow `f` on device `c`, at share `q` and contents `X`. -/
def pts (f : Fin 2) (c : Dev nD) (S : Finset S4x4x64x1024.Idx) (q : PosShare TreeShare) (X : S4x4x64x1024.Idx → Elt F .bf16) : sProp 𝕄 :=
  match f with
  | 0 => (c : Thread nD τ).loc cc0_scratch3 ↦[S]{q} X
  | 1 => (c : Thread nD τ).loc cc0_scratch4 ↦[S]{q} X

/-- The elements of `w` chunks from chunk `a.2` of row `a.1`. -/
def reg (w : ℕ) (a : ℕ × ℕ) : Finset S4x4x64x1024.Idx :=
  Finset.univ.filter fun i => (i 0).val = a.1 ∧ a.2 ≤ (i 1).val ∧ (i 1).val < a.2 + w
/-- What slot `q` carries away from device `c`, as elements. -/
abbrev sreg (q : Slot) (c : Dev nD) : Finset S4x4x64x1024.Idx := reg (wid q) (sat q c)
/-- Where slot `q` lands on device `c`, as elements. -/
abbrev rreg (q : Slot) (c : Dev nD) : Finset S4x4x64x1024.Idx := reg (wid q) (rat q c)

/-- The place of the device a slot of the first phase goes to. -/
def lfIx : Fin 2 → Fin 3 → ℕ → Fin 4
  | 0, k, p => ⟨(p + k.val + 1) % 4, Nat.mod_lt _ (by decide)⟩
  | 1, k, p => ⟨(p + 4 - (k.val + 1)) % 4, Nat.mod_lt _ (by decide)⟩
/-- The share of the source that slot `q` borrows: the first phase four leaves of the right half (by where they go), the
    first hop of the second phase a quarter each way, the later hops the left half. -/
def shr : Slot → Dev nD → PosShare TreeShare
  | .inl (f, d, k), c => leaf 2 fullShare.right (lfIx d k (pos f c))
  | .inr (f, d, s, b), c => if s = 0 then (if d = 0 then fullShare.left.left else fullShare.left.right) else fullShare.left

instance pts_storable (f c S q X) : BI.Storable (upEmb : UEmb _ 𝕄) (pts (F := F) f c S q X) := by
  unfold pts; split <;> infer_instance

/-! ## The cells -/

/-- The scoped semaphores: gathering, sending to and receiving from the partner, and per slot sending and receiving. -/
abbrev Ok : Type := Fin 3 ⊕ (Fin 2 × Slot)
/-- All semaphores but the staging ones: the scoped ones and the start barrier (`none`). -/
abbrev Ck : Type := Option Ok

set_option synthInstance.maxSize 4096 in
instance decSlot : DecidableEq Slot := inferInstance
set_option synthInstance.maxSize 4096 in
instance decOk : DecidableEq Ok := inferInstance
instance decCk : DecidableEq Ck := inferInstance

abbrev oGat : Ok := .inl 0
abbrev oSx : Ok := .inl 1
abbrev oRx : Ok := .inl 2
abbrev oS (q : Slot) : Ok := .inr (0, q)
abbrev oR (q : Slot) : Ok := .inr (1, q)

/-- The number of a scoped semaphore in the pool. -/
def onum : Ok → ℕ
  | .inl i => 3 + i.val
  | .inr (a, .inl (f, d, k)) => 6 + 3 * (4 * f.val + 2 * d.val + a.val) + k.val
  | .inr (a, .inr (f, d, s, b)) => 30 + 6 * (4 * f.val + 2 * d.val + a.val) + 2 * s.val + b.val
theorem onum_lt (k : Ok) : onum k < 78 := by
  rcases k with i | ⟨a, ⟨f, d, k⟩ | ⟨f, d, s, b⟩⟩ <;> simp only [onum] <;> omega
def osem (k : Ok) : SemLoc sig := .dma (⟨onum k, onum_lt k⟩ : DmaSem sig)
abbrev barS : Sem sig := sig.barrier 0 rfl
def ksem : Ck → SemLoc sig
  | none => .reg barS
  | some k => osem k
def cell (c : Dev nD) (k : Ck) : GSem nD τ sig := ((c : Thread nD τ), ksem k)
abbrev barC (c : Dev nD) : GSem nD τ sig := cell c none
abbrev gatC (c : Dev nD) : GSem nD τ sig := cell c (some oGat)
abbrev sxC (c : Dev nD) : GSem nD τ sig := cell c (some oSx)
abbrev rxC (c : Dev nD) : GSem nD τ sig := cell c (some oRx)
abbrev sC (q : Slot) (c : Dev nD) : GSem nD τ sig := cell c (some (oS q))
abbrev rC (q : Slot) (c : Dev nD) : GSem nD τ sig := cell c (some (oR q))

theorem onum_inj {k k' : Ok} (h : onum k = onum k') : k = k' := by
  rcases k with i | ⟨a, ⟨f, d, k⟩ | ⟨f, d, s, b⟩⟩ <;> rcases k' with i' | ⟨a', ⟨f', d', k'⟩ | ⟨f', d', s', b'⟩⟩ <;>
    simp only [onum] at h <;> first
    | (exfalso; omega)
    | (have h1 : i = i' := by omega
       rw [h1])
    | (have h1 : a = a' := by omega
       have h2 : f = f' := by omega
       have h3 : d = d' := by omega
       have h4 : k = k' := by omega
       rw [h1, h2, h3, h4])
    | (have h1 : a = a' := by omega
       have h2 : f = f' := by omega
       have h3 : d = d' := by omega
       have h4 : s = s' := by omega
       have h5 : b = b' := by omega
       rw [h1, h2, h3, h4, h5])
theorem osem_inj : Function.Injective osem := fun k k' h => onum_inj (by
  unfold osem at h; exact congrArg Fin.val (SemLoc.dma.inj h))
theorem ksem_inj : Function.Injective ksem := by
  rintro (_ | k) (_ | k') h
  · rfl
  · simp [ksem, osem] at h
  · simp [ksem, osem] at h
  · exact congrArg some (osem_inj h)
theorem cell_inj {c c' : Dev nD} {k k' : Ck} (h : cell c k = cell c' k') : c = c' ∧ k = k' := by
  have h1 : c = c' := congrArg (fun g : GSem nD τ sig => g.1.1) h
  subst h1
  exact ⟨rfl, ksem_inj (congrArg Prod.snd h)⟩

/-- Which of the cells a semaphore is. -/
def ckOf (g : GSem nD τ sig) : Option Ck := by
  classical exact if h : ∃ k, cell g.1.1 k = g then some h.choose else none
theorem ckOf_cell (c : Dev nD) (k : Ck) : ckOf (cell c k) = some k := by
  have h : ∃ k', cell (cell c k).1.1 k' = cell c k := ⟨k, rfl⟩
  unfold ckOf
  rw [dif_pos h]
  exact congrArg some (cell_inj h.choose_spec).2

/-! ## The schedule -/

/-- The credit of a row of the gather. -/
def Ng : ℕ := (cc0_scratch0 : Ref sig .tc).dmaCredit S1x1024 .f32
/-- The credit of the block from the partner. -/
def Nx : ℕ := (cc0_scratch2 : Ref sig .tc).dmaCredit S128x1024 .bf16
/-- The credit of a slot's landing. -/
def Nq : Slot → ℕ
  | .inl (0, _, _) => (cc0_scratch3 : Ref sig .tc).dmaCredit S64x1024 .bf16
  | .inl (1, _, _) => (cc0_scratch4 : Ref sig .tc).dmaCredit S64x1024 .bf16
  | .inr (0, _, _, _) => (cc0_scratch3 : Ref sig .tc).dmaCredit S2x64x1024 .bf16
  | .inr (1, _, _, _) => (cc0_scratch4 : Ref sig .tc).dmaCredit S2x64x1024 .bf16
theorem Ng_pos : 0 < Ng := sig.dmaCredit_pos _ _ _ _ _ (by decide)
theorem Nx_pos : 0 < Nx := sig.dmaCredit_pos _ _ _ _ _ (by decide)
theorem Nq_pos : ∀ q, 0 < Nq q
  | .inl (0, _, _) => sig.dmaCredit_pos _ _ _ _ _ (by decide)
  | .inl (1, _, _) => sig.dmaCredit_pos _ _ _ _ _ (by decide)
  | .inr (0, _, _, _) => sig.dmaCredit_pos _ _ _ _ _ (by decide)
  | .inr (1, _, _, _) => sig.dmaCredit_pos _ _ _ _ _ (by decide)

/-- The payments onto a cell of device `c`. -/
def duties (c : Dev nD) : Ck → Finset Duty
  | none => (Finset.univ.filter fun p : Sg => sgRcv p c = true).map ⟨Duty.sig, fun _ _ h => Duty.sig.inj h⟩
  | some (.inl 0) => Finset.univ.map ⟨Duty.row, fun _ _ h => Duty.row.inj h⟩
  | some (.inl _) => {.u}
  | some (.inr (0, q)) => if snd q c then {.u} else ∅
  | some (.inr (1, q)) => if rcv q c then {.u} else ∅
/-- What one payment onto a cell counts. -/
def amount : Ck → ℕ
  | none => 1
  | some (.inl 0) => Ng
  | some (.inl _) => Nx
  | some (.inr (_, q)) => Nq q
theorem amount_pos : ∀ k, 0 < amount k
  | none => Nat.one_pos
  | some (.inl 0) => Ng_pos
  | some (.inl 1) => Nx_pos
  | some (.inl 2) => Nx_pos
  | some (.inr (_, q)) => Nq_pos q

/-- Row `t` of the gather buffer. -/
def rowS (t : Fin 128) : Finset S128x1024.Idx := Finset.univ.filter fun i => (i 0).val = t.val
/-- Row `r` of the table. -/
def tblS (r : ℕ) : Finset S16384x1024.Idx := Finset.univ.filter fun i => (i 0).val = r

/-- What the landing of gathered row `t` hands over: the row, and the share of the table row it was read from. -/
def rowPay (c : Dev nD) (t : Fin 128) : sProp 𝕄 :=
  iprop(((c : Thread nD τ).loc cc0_scratch0 ↦[rowS t]{fullShare} own m c)
    ∗ ((c : Thread nD τ).loc main_arg1 ↦[tblS (gix m c t)]{leaf 7 fullShare t} tbl m c))
/-- The sending buffer of the exchange with the partner. -/
def sxPts (c : Dev nD) : sProp 𝕄 := (c : Thread nD τ).loc cc0_scratch1 ↦{fullShare} sx m c
/-- The landing buffer of the exchange with the partner, at contents `X`. -/
def rxPts (c : Dev nD) (X : S128x1024.Idx → Elt F .bf16) : sProp 𝕄 := (c : Thread nD τ).loc cc0_scratch2 ↦{fullShare} X
/-- That every cell of device `c` is at its first round. -/
def rchd (c : Dev nD) : sProp 𝕄 := bigSep Finset.univ fun k : Ck => reached ER (cell c k) 0
instance rchd_pers (c : Dev nD) : BI.Persistent (rchd (F := F) c) := by unfold rchd; infer_instance
/-- Where slot `q` lands on `c`, at whatever contents, if it lands there. -/
def land (q : Slot) (c : Dev nD) : sProp 𝕄 := if rcv q c then iprop(∃ X, pts (F := F) (flow q) c (rreg q c) fullShare X) else iprop(emp)
/-- What device `c`'s signal `p` hands to the device it goes to: every place of `c` that device will send into, and
    that `c`'s cells are at their first round. -/
def sgPay (p : Sg) (c : Dev nD) : sProp 𝕄 :=
  iprop(rchd c ∗ (if p = none then iprop(∃ X, rxPts (F := F) c X) else iprop(emp))
    ∗ bigSep (Finset.univ.filter fun q => sgOf q = p) fun q => land q c)
/-- What a payment onto cell `k` of device `c` hands over. -/
def payload (c : Dev nD) : Ck → Duty → sProp 𝕄
  | none, .sig p => sgPay p (sgSrc p c)
  | some (.inl 0), .row t => rowPay m c t
  | some (.inl 1), .u => sxPts m c
  | some (.inl 2), .u => rxPts c (sx m (partner c))
  | some (.inr (0, q)), .u => pts (flow q) c (sreg q c) (shr q c) (FIN m (flow q) (px c))
  | some (.inr (1, q)), .u => pts (flow q) c (rreg q c) fullShare (FIN m (flow q) (px c))
  | _, _ => iprop(emp)

instance land_storable (q c) : BI.Storable (upEmb : UEmb _ 𝕄) (land (F := F) q c) := by
  unfold land; split <;> infer_instance
instance rxPts_storable (c X) : BI.Storable (upEmb : UEmb _ 𝕄) (rxPts (F := F) c X) := by unfold rxPts; infer_instance
instance rchd_storable (c) : BI.Storable (upEmb : UEmb _ 𝕄) (rchd (F := F) c) := by unfold rchd; infer_instance
instance sgPay_storable (p c) : BI.Storable (upEmb : UEmb _ 𝕄) (sgPay (F := F) p c) := by
  unfold sgPay
  by_cases h : p = none
  · rw [if_pos h]; infer_instance
  · rw [if_neg h]; infer_instance
instance payload_storable (c k d) : BI.Storable (upEmb : UEmb _ 𝕄) (payload m c k d) := by
  unfold payload rowPay sxPts; split <;> infer_instance

/-- The schedule: one round on every cell. -/
def Rd : Rounds.Schedule (GSem nD τ sig) Duty 𝕄 where
  duties g r := if r = 0 then (ckOf g).elim ∅ (duties g.1.1) else ∅
  amount g _ _ := (ckOf g).elim 1 amount
  payload g _ d := (ckOf g).elim iprop(emp) fun k => payload m g.1.1 k d
  amount_pos g _ _ _ := by cases ckOf g with | none => exact Nat.one_pos | some k => exact amount_pos k
  unitless _ := False

instance Rd_storable (g : GSem nD τ sig) (r : ℕ) (d : Duty) : BI.Storable (upEmb : UEmb _ 𝕄) ((Rd m).payload g r d) := by
  show BI.Storable upEmb ((ckOf g).elim iprop(emp) fun k => payload m g.1.1 k d)
  cases ckOf g <;> simp only [Option.elim] <;> infer_instance

variable (c : Dev nD) (k : Ck)
theorem Rd_duties : (Rd m).duties (cell c k) 0 = duties c k := by
  show (if 0 = 0 then (ckOf (cell c k)).elim ∅ (duties c) else ∅) = _
  rw [if_pos rfl, ckOf_cell]; rfl
theorem Rd_later (g : GSem nD τ sig) : ∀ r, 1 ≤ r → (Rd m).duties g r = ∅ := fun r hr => if_neg (by omega)
theorem Rd_amount (d : Duty) : (Rd m).amount (cell c k) 0 d = amount k := by
  show (ckOf (cell c k)).elim 1 amount = _
  rw [ckOf_cell]; rfl
theorem Rd_payload (d : Duty) : (Rd m).payload (cell c k) 0 d = payload m c k d := by
  show (ckOf (cell c k)).elim iprop(emp) (fun k => payload m c k d) = _
  rw [ckOf_cell]; rfl
theorem Rd_expect : (Rd m).expect (cell c k) 0 = (duties c k).card * amount k := by
  unfold Schedule.expect Schedule.amountOf
  rw [Rd_duties, Finset.sum_congr rfl fun d _ => Rd_amount m c k d, Finset.sum_const, smul_eq_mul]

/-! ## Levels -/

/-- How late a cell is in the order of waiting. -/
def lvl : Ck → ℕ
  | none => 1
  | some (.inl 2) => 2
  | some (.inr (1, .inl _)) => 3
  | some (.inr (1, .inr (_, _, s, _))) => 4 + s.val
  | _ => 0
def L (g : GSem nD τ sig) : Finset Unit := if g.1.2 = .tc then {()} else ∅
def lv (g : GSem nD τ sig) (_ : Unit) : ℕ := (ckOf g).elim 0 lvl
theorem L_of_ne (g : GSem nD τ sig) (h : g.1.2 ≠ .tc) : L g = ∅ := if_neg h
theorem L_tc (c : Dev nD) (sm : SemLoc sig) : L ((c : Thread nD τ), sm) = {()} := if_pos rfl
theorem lv_cell (u : Unit) : lv (cell c k) u = lvl k := by unfold lv; rw [ckOf_cell]; rfl

end Cert.K

end
-- ==== Proof.Rules.lean ====
/-
One step of the kernel at a time: a transfer of a slot, and a wait, at the schedule's cells.
-/
module

public import proofs.«01_k».proof.Proof.Proto

@[expose] public section

set_option maxRecDepth 1000000

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]
local notation "𝕄" => MT nD τ sig Unit (Elt F) ℕ UU ℕ
variable (m : (ℓ : Loc nD τ sig) → Buf (Elt F) ℓ) (K : Dev nD × Ck → ℕ)

/-- The levels of the cells. -/
def lvls : sProp 𝕄 := levAts L lv
instance lvls_pers : BI.Persistent (lvls (F := F)) := by unfold lvls; infer_instance
/-- What every step may use again and again: the cells' invariants and the levels. -/
def ctx : sProp 𝕄 := iprop((bigSep Finset.univ fun x : Dev nD × Ck => cellInv ER (Rd m) (K x) (cell x.1 x.2)) ∗ lvls)
instance ctx_pers : BI.Persistent (ctx m K) := by unfold ctx; infer_instance
theorem ctx_inv (c : Dev nD) (k : Ck) : ctx m K ⊢ cellInv ER (Rd m) (K (c, k)) (cell c k) := by
  have h : ctx m K ⊢ bigSep Finset.univ fun x : Dev nD × Ck => cellInv ER (Rd m) (K x) (cell x.1 x.2) := by
    unfold ctx
    iintro ⟨H, -⟩
    iexact H
  exact h.trans (bigSep_elim (Φ := fun x : Dev nD × Ck => cellInv ER (Rd m) (K x) (cell x.1 x.2)) (Finset.mem_univ (c, k)))
theorem ctx_lev : ctx m K ⊢ lvls := by unfold ctx; iintro ⟨-, H⟩; iexact H
theorem rchd_at (c : Dev nD) (k : Ck) : rchd (F := F) c ⊢ reached ER (cell c k) 0 := by
  unfold rchd
  exact bigSep_elim (Φ := fun k : Ck => reached ER (cell c k) 0) (Finset.mem_univ k)

/-! ## Regions of the exchange buffers as views -/

/-- The exchange buffer of flow `f`. -/
def bufM : Fin 2 → Memref sig .tc .vmem S4x4x64x1024 .bf16
  | 0 => Memref.whole cc0_scratch3
  | 1 => Memref.whole cc0_scratch4
/-- A region of the exchange buffer of flow `f`, some axes of length one dropped. -/
abbrev vw (f : Fin 2) (r : Rect S4x4x64x1024) (st : ∀ a, r.stride a = 1) (s' : Shape) (hs : r.shape.Squeezes s') : Memref sig .tc .vmem s' .bf16 :=
  ((bufM f).slice r st).squeeze s' hs

theorem mem_unit4 {off sz : Fin 4 → ℕ} (inb : ∀ a, off a + sz a ≤ S4x4x64x1024.size a) (i : S4x4x64x1024.Idx) :
    i ∈ (Rect.unit (s := S4x4x64x1024) off sz inb).set ↔ ∀ a, off a ≤ (i a).val ∧ (i a).val < off a + sz a := by
  exact Rect.mem_set_unit

/-- A slice of `w` chunks from chunk `a.2` of row `a.1` is that region. -/
theorem unit_reg {off : Fin 4 → ℕ} {w : ℕ} {a : ℕ × ℕ} {sz : Fin 4 → ℕ} (hsz : sz = ![1, w, 64, 1024]) (hoff : off = ![a.1, a.2, 0, 0])
    (inb : ∀ a, off a + sz a ≤ S4x4x64x1024.size a) : (Rect.unit (s := S4x4x64x1024) off sz inb).set = reg w a := by
  subst hsz hoff
  ext i
  rw [mem_unit4, reg, Finset.mem_filter]
  have h2 : (i 2).val < 64 := (i 2).isLt
  have h3 : (i 3).val < 1024 := (i 3).isLt
  constructor
  · intro h
    have h0 := h 0; have h1 := h 1
    simp at h0 h1
    refine ⟨Finset.mem_univ _, by omega, by omega, by omega⟩
  · rintro ⟨-, h0, h1, h1'⟩ b
    match b with
    | 0 => simp; omega
    | 1 => simp; omega
    | 2 => simp; omega
    | 3 => simp; omega

/-! ## One transfer -/

/-- The source a slot borrows. -/
abbrev srcP (q : Slot) (c : Dev nD) : sProp 𝕄 := pts (flow q) c (sreg q c) (shr q c) (FIN m (flow q) (px c))
/-- What a device needs to start slot `q` besides the source: the right to pay at both ends, and the landing place. -/
def tok (q : Slot) (c : Dev nD) : sProp 𝕄 :=
  iprop(dutyTok ER (sC q c) 0 .u ∗ dutyTok ER (rC q (peer q c)) 0 .u ∗ reached ER (rC q (peer q c)) 0
    ∗ ∃ X, pts (F := F) (flow q) (peer q c) (sreg q c) fullShare X)

theorem duties_s {q : Slot} {c : Dev nD} (h : snd q c = true) : duties c (some (oS q)) = {.u} := if_pos h
theorem duties_r {q : Slot} {c : Dev nD} (h : rcv q c = true) : duties c (some (oR q)) = {.u} := if_pos h

/-- A device starts slot `q`: it borrows the source and the landing place away, and gets the credit of its sending end.
    Here for any view `v`, given what its points-tos are. -/
theorem slot_send_view {q : Slot} {c : Dev nD} (hq : snd q c = true) {s' : Shape} {v : Memref sig .tc .vmem s' .bf16}
    (fs : v.view.ty.Contents (Elt F))
    (hsrc : srcP m q c ⊣⊢ (v.view.loc (c : Thread nD τ) ↦[v.view.set]{shr q c} fs))
    (hdst : ∀ X, pts (F := F) (flow q) (peer q c) (sreg q c) fullShare X ⊢ iprop(∃ fd, v.view.loc (peer q c : Thread nD τ) ↦[v.view.set]{fullShare} fd))
    (hland : ∀ fd, (v.view.loc (peer q c : Thread nD τ) ↦[v.view.set]{fullShare} v.view.write (Elt F) fd (v.view.read (Elt F) fs) Finset.univ)
      ⊢ pts (flow q) (peer q c) (rreg q (peer q c)) fullShare (FIN m (flow q) (px (peer q c))))
    {s1 s2 : DmaSem sig} (h1 : SemLoc.dma s1 = osem (oS q)) (h2 : SemLoc.dma s2 = osem (oR q))
    (hN : v.view.dmaCredit = Nq q)
    {hsc : (v : Memref sig (Dev.tc (peer q c) : Thread nD τ).2.kind .vmem s' .bf16).view.ref.isScScratch = false}
    {w1 : v.view.WordExact} {w2 : v.view.WordExact}
    {ht : DmaTarget.Typed .vmem (.dma s2) (.remote (Dev.tc (peer q c) : Thread nD τ) v (.dma s1) hsc)}
    {α : Type} {Q : α → sProp 𝕄} {k : PUnit → Prog (TpuEff nD τ sig (Elt F) Λ₀ .tc) α} (O : CellTallies nD τ sig Unit) (W : Waits sig Unit) :
    iprop(ctx m K ∗ rchd c ∗ srcP m q c ∗ tok q c ∗ owes (c : Thread nD τ) (O + tallyAt (rC q (peer q c)) () (Nq q)) W)
      ⊢ iprop(((cred (tallyAt (sC q c) () (Nq q)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma v (.remote (Dev.tc (peer q c) : Thread nD τ) v (.dma s1) hsc) (.dma s2) w1 w2 ht) k) Q) := by
  obtain ⟨hr1, -, -, -⟩ := snd_peer q c hq
  have g1 : ((c : Thread nD τ), SemLoc.dma s1) = sC q c := by rw [h1]; rfl
  have g2 : ((peer q c : Thread nD τ), SemLoc.dma s2) = rC q (peer q c) := by rw [h2]; rfl
  have e1 : ctx m K ⊢ cellInv ER (Rd m) (K (c, some (oS q))) (sC q c) := ctx_inv m K c (some (oS q))
  have e2 : ctx m K ⊢ cellInv ER (Rd m) (K (peer q c, some (oR q))) (rC q (peer q c)) := ctx_inv m K (peer q c) (some (oR q))
  have e3 : rchd (F := F) c ⊢ reached ER (sC q c) 0 := rchd_at (F := F) c (some (oS q))
  unfold tok
  rw [← g1] at e1 e3 ⊢
  rw [← g2] at e2 ⊢
  iintro ⟨#Hc, #Hr, Hs, ⟨T1, T2, #R2, %X, Hd⟩, HO⟩ Hk
  ihave Hs := hsrc.1 $$ Hs
  ihave Hd := (hdst X) $$ Hd
  icases Hd with ⟨%fd, Hd⟩
  iapply (Rounds.wp_send_pointsTo 𝒱₀ ER (Rd m) (c : Thread nD τ) none (κ₁ := K (c, some (oS q))) (κ₂ := K (peer q c, some (oR q)))
      (r₁ := 0) (r₂ := 0) (d₁ := Duty.u) (d₂ := Duty.u) (q := shr q c) (fs := fs) (fd := fd)
      (by rw [g1, Rd_duties, duties_s hq]; exact Finset.mem_singleton_self _)
      (by rw [g2, Rd_duties, duties_r hr1]; exact Finset.mem_singleton_self _)
      () () (Nq q) ((View.amount_dma _ _).trans hN) (by rw [g1]; exact Rd_amount m c (some (oS q)) _) (by rw [g2]; exact Rd_amount m (peer q c) (some (oR q)) _) O
      rfl (W := W)
      (by rw [g1, Rd_payload]; exact hsrc.2) (by rw [g2, Rd_payload]; exact hland fd)) $$ [Hs T1 T2 Hd HO]
  · isplitr; · iapply e1; iexact Hc
    isplitr; · iapply e2; iexact Hc
    isplitl [Hs]; · iexact Hs
    isplitl [Hd]; · iexact Hd
    isplitl [HO]; · iexact HO
    isplitl [T1]; · iexact T1
    isplitr; · iapply e3; iexact Hr
    isplitl [T2]; · iexact T2
    iexact R2
  · iexact Hk

/-- The same at the region of an exchange buffer. -/
theorem slot_send {q : Slot} {c d : Dev nD} (hd : d = peer q c) (hq : snd q c = true) {f : Fin 2} (hf : flow q = f)
    {r : Rect S4x4x64x1024} {st : ∀ a, r.stride a = 1} {s' : Shape} {hs : r.shape.Squeezes s'} (hset : r.set = sreg q c)
    {s1 s2 : DmaSem sig} (h1 : SemLoc.dma s1 = osem (oS q)) (h2 : SemLoc.dma s2 = osem (oR q))
    (hN : (vw f r st s' hs).view.dmaCredit = Nq q)
    {hsc : (vw f r st s' hs : Memref sig (Dev.tc d : Thread nD τ).2.kind .vmem s' .bf16).view.ref.isScScratch = false}
    {w1 : (vw f r st s' hs).view.WordExact} {w2 : (vw f r st s' hs).view.WordExact}
    {ht : DmaTarget.Typed .vmem (.dma s2) (.remote (Dev.tc d : Thread nD τ) (vw f r st s' hs) (.dma s1) hsc)}
    {α : Type} {Q : α → sProp 𝕄} {k : PUnit → Prog (TpuEff nD τ sig (Elt F) Λ₀ .tc) α} (O : CellTallies nD τ sig Unit) (W : Waits sig Unit) :
    iprop(ctx m K ∗ rchd c ∗ srcP m q c ∗ tok q c ∗ owes (c : Thread nD τ) (O + tallyAt (rC q (peer q c)) () (Nq q)) W)
      ⊢ iprop(((cred (tallyAt (sC q c) () (Nq q)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vw f r st s' hs) (.remote (Dev.tc d : Thread nD τ) (vw f r st s' hs) (.dma s1) hsc) (.dma s2) w1 w2 ht) k) Q) := by
  subst hd
  obtain ⟨-, -, hr3, hr4⟩ := snd_peer q c hq
  have hin : rreg q (peer q c) = sreg q c := by unfold sreg rreg; rw [hr3]
  match f, hf, hN, w1, w2, ht with
  | 0, hf, hN, w1, w2, ht =>
    have hvs : (vw 0 r st s' hs).view.set = sreg q c := by
      rw [← hset]; exact (View.set_reshape _ _).trans (View.set_slice_whole _ _)
    have hp : ∀ (d : Dev nD) S sh X, pts (F := F) (flow q) d S sh X = ((d : Thread nD τ).loc cc0_scratch3 ↦[S]{sh} X) := by
      intro d S sh X; rw [hf]; rfl
    have hv : ∀ (d : Dev nD) sh (X : S4x4x64x1024.Idx → Elt F .bf16), ((d : Thread nD τ).loc cc0_scratch3 ↦[sreg q c]{sh} X : sProp 𝕄)
        = ((vw 0 r st s' hs).view.loc (d : Thread nD τ) ↦[(vw 0 r st s' hs).view.set]{sh} X) := fun d sh X =>
      congrArg (fun S : Finset S4x4x64x1024.Idx => ((d : Thread nD τ).loc cc0_scratch3 ↦[S]{sh} X : sProp 𝕄)) hvs.symm
    refine slot_send_view m K hq (fs := FIN m (flow q) (px c)) ?_ ?_ ?_ h1 h2 hN O W
    · rw [← hv]; unfold srcP; rw [hp]
    · intro X; rw [hp, hv]; iintro H; iexists X; iexact H
    · intro fd
      have hw := View.write_read_eq_piecewise (Val := Elt F) (v := (vw 0 r st s' hs).view) fd (FIN m (flow q) (px c)) Finset.univ
      refine (Entails.of_eq (pointsTo_congr (g := FIN m (flow q) (px c)) fun i hi => (congrFun hw i).trans (Finset.piecewise_eq_of_mem _ _ _ hi))).trans ?_
      exact Entails.of_eq ((hv (peer q c) fullShare _).symm.trans (by rw [hp, hin, hr4]))
  | 1, hf, hN, w1, w2, ht =>
    have hvs : (vw 1 r st s' hs).view.set = sreg q c := by
      rw [← hset]; exact (View.set_reshape _ _).trans (View.set_slice_whole _ _)
    have hp : ∀ (d : Dev nD) S sh X, pts (F := F) (flow q) d S sh X = ((d : Thread nD τ).loc cc0_scratch4 ↦[S]{sh} X) := by
      intro d S sh X; rw [hf]; rfl
    have hv : ∀ (d : Dev nD) sh (X : S4x4x64x1024.Idx → Elt F .bf16), ((d : Thread nD τ).loc cc0_scratch4 ↦[sreg q c]{sh} X : sProp 𝕄)
        = ((vw 1 r st s' hs).view.loc (d : Thread nD τ) ↦[(vw 1 r st s' hs).view.set]{sh} X) := fun d sh X =>
      congrArg (fun S : Finset S4x4x64x1024.Idx => ((d : Thread nD τ).loc cc0_scratch4 ↦[S]{sh} X : sProp 𝕄)) hvs.symm
    refine slot_send_view m K hq (fs := FIN m (flow q) (px c)) ?_ ?_ ?_ h1 h2 hN O W
    · rw [← hv]; unfold srcP; rw [hp]
    · intro X; rw [hp, hv]; iintro H; iexists X; iexact H
    · intro fd
      have hw := View.write_read_eq_piecewise (Val := Elt F) (v := (vw 1 r st s' hs).view) fd (FIN m (flow q) (px c)) Finset.univ
      refine (Entails.of_eq (pointsTo_congr (g := FIN m (flow q) (px c)) fun i hi => (congrFun hw i).trans (Finset.piecewise_eq_of_mem _ _ _ hi))).trans ?_
      exact Entails.of_eq ((hv (peer q c) fullShare _).symm.trans (by rw [hp, hin, hr4]))

/-! ## One wait -/

/-- A device waits for the only payment of one of its cells: it gets what the payment hands over, and closes the cell. -/
theorem cell_wait {c : Dev nD} {k : Ck} {s : DmaSem sig} (hs : SemLoc.dma s = ksem k) {d : Duty} (hd : duties c k = {d})
    {s1 s2 : Shape} {e1 e2 : EltTy} {p1 p2 : Space} {κ' : Kind}
    {a : Memref sig .tc p1 s1 e1} {b : Memref sig κ' p2 s2 e2} (hN : b.view.dmaCredit = amount k)
    {w1 : a.view.WordExact} {w2 : b.view.WordExact}
    {α : Type} {Q : α → sProp 𝕄} {kk : PUnit → Prog (TpuEff nD τ sig (Elt F) Λ₀ .tc) α} (O : CellTallies nD τ sig Unit) (W : Waits sig Unit)
    (hO : (lvls : sProp 𝕄) ⊢ MayWait (c : Thread nD τ) (ksem k) () O) :
    iprop(ctx m K ∗ cred (tallyAt (cell c k) () (amount k)) ∗ owes (c : Thread nD τ) O W ∗ atPos ER (cell c k) 0 ∅ 0)
      ⊢ iprop((((∃ W', owes (c : Thread nD τ) O W') ∗ semVal (cell c k) 0 ∗ payload m c k d)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s a b w1 w2) kk) Q) := by
  have g : ((c : Thread nD τ), SemLoc.dma s) = cell c k := by rw [hs]; rfl
  have e1 := ctx_inv m K c k
  have hx : (Rd m).expect (cell c k) 0 = amount k := by rw [Rd_expect, hd, Finset.card_singleton, Nat.one_mul]
  have hp : bigSep ((Rd m).duties (cell c k) 0 \ ∅) (fun d => (Rd m).payload (cell c k) 0 d) = payload m c k d := by
    rw [Finset.sdiff_empty, Rd_duties, hd, bigSep_singleton, Rd_payload]
  have hcl : iprop(cellInv ER (Rd m) (K (c, k)) (cell c k) ∗ atPos ER (cell c k) (0 + 1) ∅ 0) ⊢ (|={Set.univ}=> semVal (cell c k) 0 : sProp 𝕄) :=
    Rounds.cell_close ER (Rd m) (Set.mem_univ _) id (fun r hr => Rd_later m _ r hr)
  have hO' : ∀ z : SemLoc sig, z = ksem k → (ctx m K ⊢ MayWait (c : Thread nD τ) z () O) := fun z hz => by
    subst hz; exact (ctx_lev m K).trans hO
  rw [← g] at e1 hx hp hcl ⊢
  iintro ⟨#Hc, HC, HO, HA⟩ Hk
  iapply (Rounds.wp_wait_rest_token 𝒱₀ ER (Rd m) (c : Thread nD τ) none (κ := K (c, k))
      (wpE_waitDma2_eq 𝒱₀ (c : Thread nD τ) none Set.univ) (Set.mem_univ _) () (O := O) (W := W) (R := 0) (m := 0) (T := ∅)
      (by rw [Nat.zero_add, hx, hN])) $$ [HC HO HA]
  · isplitr; · iapply e1; iexact Hc
    isplitl [HC]; · rw [hN]; iexact HC
    isplitl [HO]; · iexact HO
    isplitr; · iapply (hO' _ hs); iexact Hc
    iexact HA
  iintro ⟨HO, HA, -, HP⟩
  ihave HP := (Entails.of_eq hp) $$ HP
  iapply (fupd_wp _ _ _ _ _)
  imod hcl $$ [HA] with HV
  · isplitr; · iapply e1; iexact Hc
    iexact HA
  imodintro
  iapply Hk
  isplitl [HO]; · iexists _; iexact HO
  isplitl [HV]; · iexact HV
  iexact HP

end Cert.K

end
-- ==== Proof.State.lean ====
/-
What a device has between two statements of the kernel.
-/
module

public import proofs.«01_k».proof.Proof.Rules

@[expose] public section

set_option maxRecDepth 1000000

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]
local notation "𝕄" => MT nD τ sig Unit (Elt F) ℕ UU ℕ
variable (m : (ℓ : Loc nD τ sig) → Buf (Elt F) ℓ) (K : Dev nD × Ck → ℕ)

/-! ## The state between two statements -/

/-- A run of the body from here on. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The payments that device `c` still owes when the transfers before number `n` are issued. -/
def Oq (c : Dev nD) (n : ℕ) : CellTallies nD τ sig Unit :=
  ∑ q : Slot, if n ≤ ordS q ∧ snd q c = true then tallyAt (rC q (peer q c)) () (Nq q) else 0

theorem Oq_send {q : Slot} {c : Dev nD} (h : snd q c = true) : Oq c (ordS q) = Oq c (ordS q + 1) + tallyAt (rC q (peer q c)) () (Nq q) := by
  unfold Oq
  have e (n : ℕ) := Finset.add_sum_erase (Finset.univ : Finset Slot)
    (fun q' => if n ≤ ordS q' ∧ snd q' c = true then (tallyAt (rC q' (peer q' c)) () (Nq q') : CellTallies nD τ sig Unit) else 0) (Finset.mem_univ q)
  rw [← e (ordS q), ← e (ordS q + 1)]
  rw [if_pos ⟨le_rfl, h⟩, if_neg (by omega), zero_add, add_comm]
  congr 1
  refine Finset.sum_congr rfl fun q' hq' => ?_
  have hne : ordS q ≠ ordS q' := fun e => (Finset.ne_of_mem_erase hq') (ordS_inj q q' e).symm
  refine if_congr ?_ rfl rfl
  constructor
  · rintro ⟨h1, h2⟩; exact ⟨by omega, h2⟩
  · rintro ⟨h1, h2⟩; exact ⟨by omega, h2⟩
theorem Oq_skip {q : Slot} {c : Dev nD} (h : ¬ snd q c = true) : Oq c (ordS q) = Oq c (ordS q + 1) := by
  unfold Oq
  refine Finset.sum_congr rfl fun q' _ => ?_
  refine if_congr ?_ rfl rfl
  constructor
  · rintro ⟨h1, h2⟩
    refine ⟨?_, h2⟩
    rcases Nat.lt_or_ge (ordS q) (ordS q') with h3 | h3
    · omega
    · exact absurd (ordS_inj q q' (by omega) ▸ h2) h
  · rintro ⟨h1, h2⟩; exact ⟨by omega, h2⟩
theorem Oq_pos {c : Dev nD} {n : ℕ} {g : GSem nD τ sig} {i : Unit} (h : 0 < Oq c n g i) :
    ∃ q : Slot, n ≤ ordS q ∧ g = rC q (peer q c) := by
  obtain ⟨q, -, hq⟩ := Pipeline.sum_pos_exists h
  by_cases hc : n ≤ ordS q ∧ snd q c = true
  · rw [if_pos hc, tallyAt_apply] at hq
    refine ⟨q, hc.1, ?_⟩
    by_contra hne
    rw [if_neg (fun e => hne e.1)] at hq
    exact absurd hq (lt_irrefl _)
  · rw [if_neg hc] at hq; exact absurd hq (lt_irrefl _)
/-- A cell may be waited on when the landings still owed are later in the order. -/
theorem may_wait {c : Dev nD} {k : Ck} {n : ℕ} (h : ∀ q : Slot, n ≤ ordS q → lvl k < lvl (some (oR q))) :
    (lvls : sProp 𝕄) ⊢ MayWait (c : Thread nD τ) (ksem k) () (Oq c n) := by
  unfold lvls
  refine Pipeline.mayWait_of_levAts (by rw [L_tc]; exact Finset.mem_singleton_self _) fun g i hg => ?_
  obtain ⟨q, hq, rfl⟩ := Oq_pos hg
  refine ⟨by show i ∈ L ((peer q c : Thread nD τ), ksem (some (oR q))); rw [L_tc]; exact Finset.mem_singleton_self _, ?_⟩
  show lv (cell c k) () < lv (cell (peer q c) (some (oR q))) i
  rw [lv_cell, lv_cell]
  exact h q hq

/-- The next hop of a slot. -/
def nx : Slot → Option Slot
  | .inl _ => none
  | .inr (f, d, s, b) => if h : s.val + 1 < 3 then some (.inr (f, d, ⟨s.val + 1, h⟩, b)) else none
/-- The first hops of the second phase. -/
def isFst : Slot → Bool
  | .inl _ => false
  | .inr (_, _, s, _) => s = 0
/-- Whether the source of a slot is the device's own before the slot is issued, in stage `B`. -/
def early (B : Bool) : Slot → Bool
  | .inl _ => true
  | .inr (_, _, s, _) => B && decide (s = 0)
def hasSrc (q : Slot) (c : Dev nD) : Bool := snd q c || isFst q
/-- Whether the left half of a landing is lent to the next hop. -/
def lent (n : ℕ) (q : Slot) (c : Dev nD) : Bool := match nx q with
  | none => false
  | some q' => snd q' c && decide (ordS q' < n)

/-- The sending end of a slot before it is issued. -/
def sInit (B : Bool) (q : Slot) (c : Dev nD) : sProp 𝕄 :=
  iprop((if snd q c = true then tok q c else iprop(emp)) ∗ (if hasSrc q c = true ∧ early B q = true then srcP m q c else iprop(emp)))
/-- The sending end of a slot on the way. -/
def sMid (q : Slot) (c : Dev nD) : sProp 𝕄 :=
  if snd q c = true then cred (tallyAt (sC q c) () (Nq q)) else if hasSrc q c = true then srcP m q c else iprop(emp)
/-- The sending end of a slot when done. -/
def sEnd (q : Slot) (c : Dev nD) : sProp 𝕄 := if hasSrc q c = true then srcP m q c else iprop(emp)
/-- The sending end of a slot: before it is issued, on the way, done. -/
def SS (B : Bool) (ns nw : ℕ) (c : Dev nD) (q : Slot) : sProp 𝕄 :=
  if ordR q < nw then iprop(semVal (sC q c) 0 ∗ sEnd m q c)
  else iprop(atPos ER (sC q c) 0 ∅ 0 ∗ if ordS q < ns then sMid m q c else sInit m B q c)
/-- What is held of a landing. -/
def held (B : Bool) (ns : ℕ) (q : Slot) (c : Dev nD) : sProp 𝕄 := match q with
  | .inl p => if B = true then iprop(emp) else pts (flow (.inl p)) c (rreg (.inl p) c) fullShare (FIN m (flow (.inl p)) (px c))
  | .inr p => iprop(pts (flow (.inr p)) c (rreg (.inr p) c) fullShare.right (FIN m (flow (.inr p)) (px c))
      ∗ if lent ns (.inr p) c = true then iprop(emp) else pts (flow (.inr p)) c (rreg (.inr p) c) fullShare.left (FIN m (flow (.inr p)) (px c)))
/-- The receiving end of a slot: awaited, landed. -/
def RR (B : Bool) (nr ns : ℕ) (c : Dev nD) (q : Slot) : sProp 𝕄 :=
  if ordR q < nr then iprop(semVal (rC q c) 0 ∗ if rcv q c = true then held m B ns q c else iprop(emp))
  else iprop(atPos ER (rC q c) 0 ∅ 0 ∗ if rcv q c = true then cred (tallyAt (rC q c) () (Nq q)) else iprop(emp))

/-- Everything device `c` has when the transfers before `ns` are issued, the landings before `nr` and the
    departures before `nw` are waited for, with `X` besides. -/
def St (c : Dev nD) (B : Bool) (ns nr nw : ℕ) (X : sProp 𝕄) : sProp 𝕄 :=
  iprop(ctx m K ∗ rchd c ∗ (∃ W, owes (c : Thread nD τ) (Oq c ns) W) ∗ bigSep Finset.univ (SS m B ns nw c) ∗ bigSep Finset.univ (RR m B nr ns c) ∗ X)

/-- One element of a family changes, the others stay. -/
theorem upd {I : Type} [Fintype I] [DecidableEq I] (i : I) {Φ Ψ : I → sProp 𝕄} (h : ∀ j, j ≠ i → Φ j = Ψ j) :
    bigSep Finset.univ Φ ⊢ iprop(Φ i ∗ (Ψ i -∗ bigSep Finset.univ Ψ)) := by
  have e1 : bigSep Finset.univ Φ = iprop(Φ i ∗ bigSep (Finset.univ.erase i) Φ) := BI.bigSep_erase (Finset.mem_univ i)
  have e2 : bigSep Finset.univ Ψ = iprop(Ψ i ∗ bigSep (Finset.univ.erase i) Ψ) := BI.bigSep_erase (Finset.mem_univ i)
  have e3 : bigSep (Finset.univ.erase i) Φ = bigSep (Finset.univ.erase i) Ψ :=
    BI.bigSep_congr fun j hj => h j (Finset.ne_of_mem_erase hj)
  rw [e1, e2, e3]
  iintro ⟨H, R⟩
  isplitl [H]; · iexact H
  iintro H'
  isplitl [H']; · iexact H'
  iexact R

theorem ordS_ne {q j : Slot} (h : j ≠ q) : ordS j ≠ ordS q := fun e => h (ordS_inj j q e)
theorem ordR_ne {q j : Slot} (h : j ≠ q) : ordR j ≠ ordR q := fun e => h (ordR_inj j q e)

/-- The same run, by any way of writing the program. -/
theorem run_eq {c : Dev nD} {α : Type} {p p' : Prog (TpuEff nD τ sig (Elt F) Λ₀ .tc) α} {Q : α → sProp 𝕄} (e : p = p') {P : sProp 𝕄}
    (h : P ⊢ Run c p' Q) : P ⊢ Run c p Q := e ▸ h
/-- One part of the body after another. -/
theorem run_seq {c : Dev nD} {α β : Type} {p : Prog (TpuEff nD τ sig (Elt F) Λ₀ .tc) α} {k : α → Prog (TpuEff nD τ sig (Elt F) Λ₀ .tc) β}
    {Q : β → sProp 𝕄} {P : sProp 𝕄} {R : α → sProp 𝕄} (h : P ⊢ Run c p R) (h' : ∀ a, R a ⊢ Run c (k a) Q) : P ⊢ Run c (p >>= k) Q := by
  unfold Run
  rw [wp_bind]
  exact h.trans (wp_mono _ _ _ h')

/-- A part that only computes. -/
theorem run_ret {c : Dev nD} {α : Type} {a : α} {Q : α → sProp 𝕄} {P : sProp 𝕄} (h : P ⊢ Q a) : P ⊢ Run c (.ret a) Q := by
  unfold Run
  rw [wp_ret]
  exact h.trans fupd_intro

end Cert.K

end
-- ==== Proof.Steps.lean ====
/-
One statement of the kernel at a time: issuing a transfer, waiting for a landing, waiting for a departure.
-/
module

public import proofs.«01_k».proof.Proof.State

@[expose] public section

set_option maxRecDepth 1000000

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]
local notation "𝕄" => MT nD τ sig Unit (Elt F) ℕ UU ℕ
variable (m : (ℓ : Loc nD τ sig) → Buf (Elt F) ℓ) (K : Dev nD × Ck → ℕ)

variable {c : Dev nD} {B : Bool} {ns nr nw : ℕ} {X : sProp (MT nD τ sig Unit (Elt F) ℕ UU ℕ)}

theorem pts_share (f : Fin 2) (c : Dev nD) (S) {q q₁ q₂ : PosShare TreeShare} (h : q ∈ PCS.op q₁ q₂) (Y) :
    pts (F := F) f c S q Y ⊣⊢ iprop(pts f c S q₁ Y ∗ pts f c S q₂ Y) :=
  match f with
  | 0 => pointsTo_share h
  | 1 => pointsTo_share h

theorem cell_empty (c : Dev nD) (k : Ck) (h : duties c k = ∅) :
    iprop(ctx m K ∗ atPos ER (cell c k) 0 ∅ 0) ⊢ (|={Set.univ}=> semVal (cell c k) 0 : sProp 𝕄) := by
  have e1 := ctx_inv m K c k
  have hcl : iprop(cellInv ER (Rd m) (K (c, k)) (cell c k) ∗ atPos ER (cell c k) 0 ∅ 0) ⊢ (|={Set.univ}=> semVal (cell c k) 0 : sProp 𝕄) :=
    Rounds.cell_close ER (Rd m) (Set.mem_univ _) id (fun r _ => by
      rcases Nat.eq_zero_or_pos r with h0 | h0
      · subst h0; rw [Rd_duties, h]
      · exact Rd_later m _ r h0)
  refine BIBase.Entails.trans ?_ hcl
  iintro ⟨#Hc, HA⟩
  isplitr; · iapply e1; iexact Hc
  iexact HA

/-! ### What the step of one slot leaves alone -/

theorem SS_send {q j : Slot} (h : j ≠ q) : SS m B (ordS q) nw c j = SS m B (ordS q + 1) nw c j := by
  have := ordS_ne h
  unfold SS
  by_cases h1 : ordS j < ordS q
  · rw [if_pos (c := ordS j < ordS q) h1, if_pos (c := ordS j < ordS q + 1) (by omega)]
  · rw [if_neg (c := ordS j < ordS q) h1, if_neg (c := ordS j < ordS q + 1) (by omega)]
theorem SS_dep {q j : Slot} (h : j ≠ q) : SS m B ns (ordR q) c j = SS m B ns (ordR q + 1) c j := by
  have := ordR_ne h
  unfold SS
  by_cases h1 : ordR j < ordR q
  · rw [if_pos (c := ordR j < ordR q) h1, if_pos (c := ordR j < ordR q + 1) (by omega)]
  · rw [if_neg (c := ordR j < ordR q) h1, if_neg (c := ordR j < ordR q + 1) (by omega)]
theorem RR_recv {q j : Slot} (h : j ≠ q) : RR m B (ordR q) ns c j = RR m B (ordR q + 1) ns c j := by
  have := ordR_ne h
  unfold RR
  by_cases h1 : ordR j < ordR q
  · rw [if_pos (c := ordR j < ordR q) h1, if_pos (c := ordR j < ordR q + 1) (by omega)]
  · rw [if_neg (c := ordR j < ordR q) h1, if_neg (c := ordR j < ordR q + 1) (by omega)]
theorem lent_send {q j : Slot} (h : nx j = some q → snd q c = false) : lent (ordS q) j c = lent (ordS q + 1) j c := by
  unfold lent
  cases e : nx j with
  | none => rfl
  | some q' =>
    by_cases hq : q' = q
    · subst hq; simp [h e]
    · have := ordS_ne hq
      have e2 : decide (ordS q' < ordS q) = decide (ordS q' < ordS q + 1) := by rw [decide_eq_decide]; omega
      simp [e2]
theorem RR_send {q j : Slot} (h : nx j = some q → snd q c = false) : RR m B nr (ordS q) c j = RR m B nr (ordS q + 1) c j := by
  unfold RR held
  cases j with
  | inl p => rfl
  | inr p => simp only [lent_send h]

/-! ### Issuing a slot -/

theorem issue {q : Slot} {f : Fin 2} (hf : flow q = f) (hq : snd q c = true) {d : Dev nD} (hd : d = peer q c)
    {r : Rect S4x4x64x1024} {st : ∀ a, r.stride a = 1} {s' : Shape} {hs : r.shape.Squeezes s'} (hset : r.set = sreg q c)
    {s1 s2 : DmaSem sig} (h1 : SemLoc.dma s1 = osem (oS q)) (h2 : SemLoc.dma s2 = osem (oR q))
    (hN : (vw f r st s' hs).view.dmaCredit = Nq q)
    {hsc : (vw f r st s' hs : Memref sig (Dev.tc d : Thread nD τ).2.kind .vmem s' .bf16).view.ref.isScScratch = false}
    {w1 : (vw f r st s' hs).view.WordExact} {w2 : (vw f r st s' hs).view.WordExact}
    {ht : DmaTarget.Typed .vmem (.dma s2) (.remote (Dev.tc d : Thread nD τ) (vw f r st s' hs) (.dma s1) hsc)}
    {α : Type} {Q : α → sProp 𝕄} {Kc : Prog (TpuEff nD τ sig (Elt F) Λ₀ .tc) α} :
    iprop(ctx m K ∗ rchd c ∗ srcP m q c ∗ tok q c ∗ ∃ W, owes (c : Thread nD τ) (Oq c (ordS q)) W)
      ⊢ iprop(((cred (tallyAt (sC q c) () (Nq q)) ∗ ∃ W, owes (c : Thread nD τ) (Oq c (ordS q + 1)) W) -∗ Run c Kc Q)
          -∗ Run c (.op (.enqueueDma (vw f r st s' hs) (.remote (Dev.tc d : Thread nD τ) (vw f r st s' hs) (.dma s1) hsc) (.dma s2) w1 w2 ht) (fun _ => Kc)) Q) := by
  rw [Oq_send hq]
  iintro ⟨#Hc, #Hr, Hs, HT, ⟨%W, HO⟩⟩ Hk
  iapply (slot_send m K (k := fun _ => Kc) (hsc := hsc) (w1 := w1) (w2 := w2) (ht := ht) hd hq hf hset h1 h2 hN (Oq c (ordS q + 1)) W) $$ [Hs HT HO]
  · isplitr; · iexact Hc
    isplitr; · iexact Hr
    isplitl [Hs]; · iexact Hs
    isplitl [HT]; · iexact HT
    iexact HO
  iintro ⟨HC, HO⟩
  iapply Hk
  isplitl [HC]; · iexact HC
  iexists W; iexact HO

/-- The statement that issues slot `q`, given where the source comes from. -/
theorem st_issue (q : Slot) {f : Fin 2} (hf : flow q = f) (hns : ordS q = ns) (hnw : nw = 0)
    (hfst : isFst q = true → early B q = true)
    (hget : snd q c = true → iprop(bigSep Finset.univ (RR m B nr (ordS q) c) ∗ (if hasSrc q c = true ∧ early B q = true then srcP m q c else iprop(emp)))
      ⊢ iprop(srcP m q c ∗ bigSep Finset.univ (RR m B nr (ordS q + 1) c)))
    {cond : Dev nD → BitVec 1} {off : Dev nD → Fin 4 → ℕ} {dev : Dev nD → ℕ} {sz : Fin 4 → ℕ}
    {inb : ∀ h : cond c = 1#1, ∀ a, off c a + sz a ≤ S4x4x64x1024.size a}
    {st : ∀ h : cond c = 1#1, ∀ a, (Rect.unit (s := S4x4x64x1024) (off c) sz (inb h)).stride a = 1} {s' : Shape}
    {hs : ∀ h : cond c = 1#1, (Rect.unit (s := S4x4x64x1024) (off c) sz (inb h)).shape.Squeezes s'}
    {dlt : ∀ h : cond c = 1#1, dev c < nD} {s1 s2 : DmaSem sig}
    {hsc : ∀ h : cond c = 1#1, (vw f (Rect.unit (off c) sz (inb h)) (st h) s' (hs h) : Memref sig (Dev.tc (⟨dev c, dlt h⟩ : Dev nD) : Thread nD τ).2.kind .vmem s' .bf16).view.ref.isScScratch = false}
    {w1 : ∀ h : cond c = 1#1, (vw f (Rect.unit (off c) sz (inb h)) (st h) s' (hs h)).view.WordExact}
    {w2 : ∀ h : cond c = 1#1, (vw f (Rect.unit (off c) sz (inb h)) (st h) s' (hs h)).view.WordExact}
    {ht : ∀ h : cond c = 1#1, DmaTarget.Typed .vmem (.dma s2) (.remote (Dev.tc (⟨dev c, dlt h⟩ : Dev nD) : Thread nD τ) (vw f (Rect.unit (off c) sz (inb h)) (st h) s' (hs h)) (.dma s1) (hsc h))}
    {α : Type} {Q : α → sProp 𝕄} {A : cond c = 1#1 → Prog (TpuEff nD τ sig (Elt F) Λ₀ .tc) α} {Kc : Prog (TpuEff nD τ sig (Elt F) Λ₀ .tc) α}
    (hA : ∀ h, A h = (Prog.lift (.enqueueDma (vw f (Rect.unit (off c) sz (inb h)) (st h) s' (hs h))
      (.remote (Dev.tc (⟨dev c, dlt h⟩ : Dev nD) : Thread nD τ) (vw f (Rect.unit (off c) sz (inb h)) (st h) s' (hs h)) (.dma s1) (hsc h)) (.dma s2) (w1 h) (w2 h) (ht h)) >>= fun _ => Kc))
    (h1 : SemLoc.dma s1 = osem (oS q)) (h2 : SemLoc.dma s2 = osem (oR q))
    (hN : ∀ h, (vw f (Rect.unit (off c) sz (inb h)) (st h) s' (hs h)).view.dmaCredit = Nq q) (hsz : sz = ![1, wid q, 64, 1024])
    (hfact : ∀ c, (cond c = 1#1 ↔ snd q c = true) ∧ (cond c = 1#1 → dev c = (peer q c).val ∧ off c = ![(sat q c).1, (sat q c).2, 0, 0]))
    (hK : St m K c B (ns + 1) nr nw X ⊢ Run c Kc Q) :
    St m K c B ns nr nw X ⊢ Run c (dite (cond c = 1#1) A (fun _ => Kc)) Q := by
  subst hns hnw
  obtain ⟨hc1, hc2⟩ := hfact c
  by_cases hq : snd q c = true
  · have h := hc1.mpr hq
    obtain ⟨hd, ho⟩ := hc2 h
    rw [dif_pos h, (hA h).trans (rfl : _ = Prog.op _ (fun _ => Kc))]
    have hu := upd (F := F) q (Φ := SS m B (ordS q) 0 c) (Ψ := SS m B (ordS q + 1) 0 c) (fun j hj => SS_send m hj)
    have hb : SS m B (ordS q) 0 c q = iprop(atPos ER (sC q c) 0 ∅ 0 ∗ (tok q c ∗ (if hasSrc q c = true ∧ early B q = true then srcP m q c else iprop(emp)))) := by
      unfold SS sInit; rw [if_neg (by omega), if_neg (by omega), if_pos hq]
    have ha : SS m B (ordS q + 1) 0 c q = iprop(atPos ER (sC q c) 0 ∅ 0 ∗ cred (tallyAt (sC q c) () (Nq q))) := by
      unfold SS sMid; rw [if_neg (by omega), if_pos (by omega), if_pos hq]
    rw [hb, ha] at hu
    unfold St at hK ⊢
    iintro ⟨#Hc, #Hr, HO, HS, HR, HX⟩
    ihave HS := hu $$ HS
    icases HS with ⟨⟨HA, HT, HP⟩, HSb⟩
    ihave HR := (hget hq) $$ [HR HP]
    · isplitl [HR]; · iexact HR
      iexact HP
    icases HR with ⟨HP, HR⟩
    iapply (issue m K hf hq (Fin.ext hd) (unit_reg hsz ho (inb h)) h1 h2 (hN h)) $$ [HP HT HO]
    · isplitr; · iexact Hc
      isplitr; · iexact Hr
      isplitl [HP]; · iexact HP
      isplitl [HT]; · iexact HT
      iexact HO
    iintro ⟨HC, HO⟩
    iapply hK
    isplitr; · iexact Hc
    isplitr; · iexact Hr
    isplitl [HO]; · iexact HO
    isplitl [HSb HA HC]
    · iapply HSb
      isplitl [HA]; · iexact HA
      iexact HC
    isplitl [HR]; · iexact HR
    iexact HX
  · have hq' : snd q c = false := by simpa using hq
    rw [dif_neg (fun h => hq (hc1.mp h))]
    refine BIBase.Entails.trans ?_ hK
    have hu := upd (F := F) q (Φ := SS m B (ordS q) 0 c) (Ψ := SS m B (ordS q + 1) 0 c) (fun j hj => SS_send m hj)
    have hb : SS m B (ordS q) 0 c q = iprop(atPos ER (sC q c) 0 ∅ 0 ∗ (emp ∗ (if hasSrc q c = true ∧ early B q = true then srcP m q c else iprop(emp)))) := by
      unfold SS sInit; rw [if_neg (by omega), if_neg (by omega), if_neg hq]
    have ha : SS m B (ordS q + 1) 0 c q = iprop(atPos ER (sC q c) 0 ∅ 0 ∗ (if hasSrc q c = true ∧ early B q = true then srcP m q c else iprop(emp))) := by
      unfold SS sMid; rw [if_neg (by omega), if_pos (by omega), if_neg hq]
      congr 1
      refine if_congr ⟨fun h => ⟨h, hfst ?_⟩, And.left⟩ rfl rfl
      unfold hasSrc at h; rw [hq'] at h; simpa using h
    have hrr : (fun j => RR m B nr (ordS q) c j) = fun j => RR m B nr (ordS q + 1) c j := funext fun j => RR_send m fun _ => hq'
    rw [hb, ha] at hu
    unfold St
    rw [← Oq_skip hq, show RR m B nr (ordS q + 1) c = RR m B nr (ordS q) c from hrr.symm]
    iintro ⟨#Hc, #Hr, HO, HS, HR, HX⟩
    ihave HS := hu $$ HS
    icases HS with ⟨⟨HA, -, HP⟩, HSb⟩
    isplitr; · iexact Hc
    isplitr; · iexact Hr
    isplitl [HO]; · iexact HO
    isplitl [HSb HA HP]
    · iapply HSb
      isplitl [HA]; · iexact HA
      iexact HP
    isplitl [HR]; · iexact HR
    iexact HX

/-- Where a slot's source is at hand before it is issued. -/
theorem get_early {q : Slot} (he : early B q = true) (hno : ∀ j, nx j ≠ some q) (hq : snd q c = true) :
    iprop(bigSep Finset.univ (RR m B nr (ordS q) c) ∗ (if hasSrc q c = true ∧ early B q = true then srcP m q c else iprop(emp)))
      ⊢ iprop(srcP m q c ∗ bigSep Finset.univ (RR m B nr (ordS q + 1) c)) := by
  have hrr : (fun j => RR m B nr (ordS q) c j) = fun j => RR m B nr (ordS q + 1) c j := funext fun j => RR_send m fun e => absurd e (hno j)
  rw [if_pos ⟨by unfold hasSrc; rw [hq]; rfl, he⟩, show RR m B nr (ordS q + 1) c = RR m B nr (ordS q) c from hrr.symm]
  iintro ⟨HR, HP⟩
  isplitl [HP]; · iexact HP
  iexact HR
/-- Where a slot's source is what the hop before landed. -/
theorem get_next {p q : P2} (hn : nx (.inr p) = some (.inr q)) (he : early B (.inr q) = false) (hr : ordR (.inr p) < nr)
    (hu : ∀ j, nx j = some (.inr q) → j = .inr p)
    (hfact : ∀ c, snd (.inr q) c = true → rcv (.inr p) c = true ∧ rreg (.inr p) c = sreg (.inr q) c ∧ shr (.inr q) c = fullShare.left)
    (hf : flow (.inr p) = flow (.inr q)) (hq : snd (.inr q) c = true) :
    iprop(bigSep Finset.univ (RR m B nr (ordS (.inr q)) c) ∗ (if hasSrc (.inr q) c = true ∧ early B (.inr q) = true then srcP m (.inr q) c else iprop(emp)))
      ⊢ iprop(srcP m (.inr q) c ∗ bigSep Finset.univ (RR m B nr (ordS (.inr q) + 1) c)) := by
  obtain ⟨h1, h2, h3⟩ := hfact c hq
  have hw := upd (F := F) (.inr p : Slot) (Φ := RR m B nr (ordS (.inr q)) c) (Ψ := RR m B nr (ordS (.inr q) + 1) c)
    (fun j hj => RR_send m fun e => absurd (hu j e) hj)
  have hl (n : ℕ) : lent n (.inr p) c = decide (ordS (.inr q) < n) := by unfold lent; rw [hn]; simp [hq]
  have hb : RR m B nr (ordS (.inr q)) c (.inr p) = iprop(semVal (rC (.inr p) c) 0 ∗ pts (flow (.inr p)) c (rreg (.inr p) c) fullShare.right (FIN m (flow (.inr p)) (px c)) ∗ srcP m (.inr q) c) := by
    unfold RR held; rw [if_pos hr, if_pos h1]; simp only [hl]; rw [if_neg (by simp)]
    unfold srcP; rw [← h2, h3, hf]
  have ha : RR m B nr (ordS (.inr q) + 1) c (.inr p) = iprop(semVal (rC (.inr p) c) 0 ∗ pts (flow (.inr p)) c (rreg (.inr p) c) fullShare.right (FIN m (flow (.inr p)) (px c)) ∗ emp) := by
    unfold RR held; rw [if_pos hr, if_pos h1]; simp only [hl]; rw [if_pos (by simp)]
  rw [hb, ha] at hw
  rw [if_neg (by rw [he]; simp)]
  iintro ⟨HR, -⟩
  ihave HR := hw $$ HR
  icases HR with ⟨⟨HV, HP, HS⟩, HR⟩
  isplitl [HS]; · iexact HS
  iapply HR
  isplitl [HV]; · iexact HV
  isplitl [HP]; · iexact HP
  iempintro

/-! ### Waiting for a landing -/

/-- The statement that waits for the landing of slot `q`. -/
theorem st_recv (q : Slot) (hnr : ordR q = nr) (hlv : ∀ q' : Slot, ns ≤ ordS q' → lvl (some (oR q)) < lvl (some (oR q')))
    (hB : (∃ p, q = .inl p) → B = false) (hnx : ∀ q', nx q = some q' → ns ≤ ordS q')
    {cond : Dev nD → BitVec 1} {s : DmaSem sig} {s1 s2 : Shape} {e1 e2 : EltTy} {p1 p2 : Space} {κ' : Kind}
    {a : cond c = 1#1 → Memref sig .tc p1 s1 e1} {b : cond c = 1#1 → Memref sig κ' p2 s2 e2}
    {w1 : ∀ h, (a h).view.WordExact} {w2 : ∀ h, (b h).view.WordExact}
    {α : Type} {Q : α → sProp 𝕄} {A : cond c = 1#1 → Prog (TpuEff nD τ sig (Elt F) Λ₀ .tc) α} {Kc : Prog (TpuEff nD τ sig (Elt F) Λ₀ .tc) α}
    (hA : ∀ h, A h = (Prog.lift (.waitDma2 s (a h) (b h) (w1 h) (w2 h)) >>= fun _ => Kc))
    (hs : SemLoc.dma s = osem (oR q)) (hN : ∀ h, (b h).view.dmaCredit = Nq q)
    (hfact : ∀ c, cond c = 1#1 ↔ rcv q c = true)
    (hK : St m K c B ns (nr + 1) nw X ⊢ Run c Kc Q) :
    St m K c B ns nr nw X ⊢ Run c (dite (cond c = 1#1) A (fun _ => Kc)) Q := by
  subst hnr
  have hc1 := hfact c
  have hu := upd (F := F) q (Φ := RR m B (ordR q) ns c) (Ψ := RR m B (ordR q + 1) ns c) (fun j hj => RR_recv m hj)
  by_cases hq : rcv q c = true
  · have h := hc1.mpr hq
    rw [dif_pos h, (hA h).trans (rfl : _ = Prog.op _ (fun _ => Kc))]
    have hb : RR m B (ordR q) ns c q = iprop(atPos ER (rC q c) 0 ∅ 0 ∗ cred (tallyAt (rC q c) () (Nq q))) := by
      unfold RR; rw [if_neg (by omega), if_pos hq]
    have ha : RR m B (ordR q + 1) ns c q = iprop(semVal (rC q c) 0 ∗ held m B ns q c) := by
      unfold RR; rw [if_pos (by omega), if_pos hq]
    have hl : lent ns q c = false := by
      unfold lent
      cases e : nx q with
      | none => rfl
      | some q' => have := hnx q' e; simp; intro _; omega
    have hp : payload m c (some (oR q)) .u ⊢ held m B ns q c := by
      show pts (flow q) c (rreg q c) fullShare (FIN m (flow q) (px c)) ⊢ _
      cases q with
      | inl p =>
        unfold held
        dsimp only
        rw [hB ⟨p, rfl⟩, if_neg (by simp)]
      | inr p =>
        unfold held
        dsimp only
        rw [hl, if_neg (by simp)]
        refine (pts_share _ _ _ (PosShare.mem_left_op_right fullShare) _).1.trans ?_
        iintro ⟨H1, H2⟩
        isplitl [H2]; · iexact H2
        iexact H1
    rw [hb, ha] at hu
    unfold St at hK ⊢
    iintro ⟨#Hc, #Hr, ⟨%W, HO⟩, HS, HR, HX⟩
    ihave HR := hu $$ HR
    icases HR with ⟨⟨HA, HC⟩, HR⟩
    iapply (cell_wait m K (k := some (oR q)) hs (duties_r hq) (hN h) (Oq c ns) W (may_wait hlv)) $$ [HC HO HA]
    · isplitr; · iexact Hc
      isplitl [HC]; · iexact HC
      isplitl [HO]; · iexact HO
      iexact HA
    iintro ⟨HO, HV, HP⟩
    iapply hK
    isplitr; · iexact Hc
    isplitr; · iexact Hr
    isplitl [HO]; · iexact HO
    isplitl [HS]; · iexact HS
    isplitl [HR HV HP]
    · iapply HR
      isplitl [HV]; · iexact HV
      iapply hp; iexact HP
    iexact HX
  · rw [dif_neg (fun h => hq (hc1.mp h))]
    have hb : RR m B (ordR q) ns c q = iprop(atPos ER (rC q c) 0 ∅ 0 ∗ emp) := by
      unfold RR; rw [if_neg (by omega), if_neg hq]
    have ha : RR m B (ordR q + 1) ns c q = iprop(semVal (rC q c) 0 ∗ emp) := by
      unfold RR; rw [if_pos (by omega), if_neg hq]
    have hcl := cell_empty m K c (some (oR q)) (if_neg hq)
    rw [hb, ha] at hu
    unfold St at hK ⊢
    iintro ⟨#Hc, #Hr, HO, HS, HR, HX⟩
    ihave HR := hu $$ HR
    icases HR with ⟨⟨HA, -⟩, HR⟩
    iapply (fupd_wp _ _ _ _ _)
    imod hcl $$ [HA] with HV
    · isplitr; · iexact Hc
      iexact HA
    imodintro
    iapply hK
    isplitr; · iexact Hc
    isplitr; · iexact Hr
    isplitl [HO]; · iexact HO
    isplitl [HS]; · iexact HS
    isplitl [HR HV]
    · iapply HR
      isplitl [HV]; · iexact HV
      iempintro
    iexact HX

/-! ### Waiting for a departure -/

/-- The statement that waits for slot `q` to have left. -/
theorem st_gone (q : Slot) (hnw : ordR q = nw) (hns : ns = 36)
    {cond : Dev nD → BitVec 1} {s : DmaSem sig} {s1 s2 : Shape} {e1 e2 : EltTy} {p1 p2 : Space} {κ' : Kind}
    {a : cond c = 1#1 → Memref sig .tc p1 s1 e1} {b : cond c = 1#1 → Memref sig κ' p2 s2 e2}
    {w1 : ∀ h, (a h).view.WordExact} {w2 : ∀ h, (b h).view.WordExact}
    {α : Type} {Q : α → sProp 𝕄} {A : cond c = 1#1 → Prog (TpuEff nD τ sig (Elt F) Λ₀ .tc) α} {Kc : Prog (TpuEff nD τ sig (Elt F) Λ₀ .tc) α}
    (hA : ∀ h, A h = (Prog.lift (.waitDma2 s (a h) (b h) (w1 h) (w2 h)) >>= fun _ => Kc))
    (hs : SemLoc.dma s = osem (oS q)) (hN : ∀ h, (b h).view.dmaCredit = Nq q)
    (hfact : ∀ c, cond c = 1#1 ↔ snd q c = true)
    (hK : St m K c B ns nr (nw + 1) X ⊢ Run c Kc Q) :
    St m K c B ns nr nw X ⊢ Run c (dite (cond c = 1#1) A (fun _ => Kc)) Q := by
  subst hnw hns
  have hlt : ∀ q : Slot, ordS q < 36 := by decide +kernel
  have hc1 := hfact c
  have hu := upd (F := F) q (Φ := SS m B 36 (ordR q) c) (Ψ := SS m B 36 (ordR q + 1) c) (fun j hj => SS_dep m hj)
  have hb : SS m B 36 (ordR q) c q = iprop(atPos ER (sC q c) 0 ∅ 0 ∗ sMid m q c) := by
    unfold SS; rw [if_neg (by omega), if_pos (hlt q)]
  have ha : SS m B 36 (ordR q + 1) c q = iprop(semVal (sC q c) 0 ∗ sEnd m q c) := by
    unfold SS; rw [if_pos (by omega)]
  rw [hb, ha] at hu
  by_cases hq : snd q c = true
  · have h := hc1.mpr hq
    rw [dif_pos h, (hA h).trans (rfl : _ = Prog.op _ (fun _ => Kc))]
    have hm : sMid m q c = cred (tallyAt (sC q c) () (Nq q)) := by unfold sMid; rw [if_pos hq]
    have he : sEnd m q c = payload m c (some (oS q)) .u := by unfold sEnd; rw [if_pos (by unfold hasSrc; rw [hq]; rfl)]; rfl
    rw [hm, he] at hu
    unfold St at hK ⊢
    iintro ⟨#Hc, #Hr, ⟨%W, HO⟩, HS, HR, HX⟩
    ihave HS := hu $$ HS
    icases HS with ⟨⟨HA, HC⟩, HS⟩
    iapply (cell_wait m K (k := some (oS q)) hs (duties_s hq) (hN h) (Oq c 36) W
      (may_wait fun q' h' => absurd (hlt q') (by omega))) $$ [HC HO HA]
    · isplitr; · iexact Hc
      isplitl [HC]; · iexact HC
      isplitl [HO]; · iexact HO
      iexact HA
    iintro ⟨HO, HV, HP⟩
    iapply hK
    isplitr; · iexact Hc
    isplitr; · iexact Hr
    isplitl [HO]; · iexact HO
    isplitl [HS HV HP]
    · iapply HS
      isplitl [HV]; · iexact HV
      iexact HP
    isplitl [HR]; · iexact HR
    iexact HX
  · rw [dif_neg (fun h => hq (hc1.mp h))]
    have hm : sMid m q c = sEnd m q c := by unfold sMid sEnd; rw [if_neg hq]
    have hcl := cell_empty m K c (some (oS q)) (if_neg hq)
    rw [hm] at hu
    unfold St at hK ⊢
    iintro ⟨#Hc, #Hr, HO, HS, HR, HX⟩
    ihave HS := hu $$ HS
    icases HS with ⟨⟨HA, HP⟩, HS⟩
    iapply (fupd_wp _ _ _ _ _)
    imod hcl $$ [HA] with HV
    · isplitr; · iexact Hc
      iexact HA
    imodintro
    iapply hK
    isplitr; · iexact Hc
    isplitr; · iexact Hr
    isplitl [HO]; · iexact HO
    isplitl [HS HV HP]
    · iapply HS
      isplitl [HV]; · iexact HV
      iexact HP
    isplitl [HR]; · iexact HR
    iexact HX

/-! ### The steps with their side conditions settled once for all slots -/

/-- How many transfers are issued when the landing `q` is waited for. -/
def nsAt : Slot → ℕ
  | .inl _ => 12
  | .inr q => min 36 (ordR (.inr q) + 8)
set_option synthInstance.maxSize 4096 in
theorem nsAt_lvl : ∀ q q' : Slot, nsAt q ≤ ordS q' → lvl (some (oR q)) < lvl (some (oR q')) := by decide +kernel
theorem nsAt_nx : ∀ q q' : Slot, nx q = some q' → nsAt q ≤ ordS q' := by
  intro q q' h
  have : ∀ q : Slot, ∀ q' ∈ nx q, nsAt q ≤ ordS q' := by decide +kernel
  exact this q q' h

/-- Waiting for the landing of slot `q`. -/
theorem recv (q : Slot)
    {cond : Dev nD → BitVec 1} {s : DmaSem sig} {s1 s2 : Shape} {e1 e2 : EltTy} {p1 p2 : Space} {κ' : Kind}
    {a : cond c = 1#1 → Memref sig .tc p1 s1 e1} {b : cond c = 1#1 → Memref sig κ' p2 s2 e2}
    {w1 : ∀ h, (a h).view.WordExact} {w2 : ∀ h, (b h).view.WordExact}
    {α : Type} {Q : α → sProp 𝕄} {A : cond c = 1#1 → Prog (TpuEff nD τ sig (Elt F) Λ₀ .tc) α} {Kc : Prog (TpuEff nD τ sig (Elt F) Λ₀ .tc) α}
    (hA : ∀ h, A h = (Prog.lift (.waitDma2 s (a h) (b h) (w1 h) (w2 h)) >>= fun _ => Kc))
    (hs : SemLoc.dma s = osem (oR q)) (hN : ∀ h, (b h).view.dmaCredit = Nq q)
    (hfact : ∀ c, cond c = 1#1 ↔ rcv q c = true)
    (hr : ordR q = nr) (hn : nsAt q = ns) (hB : (∃ p, q = .inl p) → B = false)
    (hK : St m K c B ns (nr + 1) nw X ⊢ Run c Kc Q) :
    St m K c B ns nr nw X ⊢ Run c (dite (cond c = 1#1) A (fun _ => Kc)) Q :=
  st_recv m K q hr (hn ▸ nsAt_lvl q) hB (hn ▸ nsAt_nx q) hA hs hN hfact hK
theorem recv1_ok (p : P1) (h : B = false) : (∃ p', (.inl p : Slot) = .inl p') → B = false := fun _ => h
theorem recv2_ok (p : P2) : (∃ p', (.inr p : Slot) = .inl p') → B = false := fun ⟨_, h⟩ => nomatch h

theorem nx_inl (p : P1) : ∀ j, nx j ≠ some (.inl p) := by
  have : ∀ p : P1, ∀ j, nx j ≠ some (.inl p) := by decide +kernel
  exact this p
theorem nx_fst (f d b : Fin 2) : ∀ j, nx j ≠ some (.inr (f, d, 0, b)) := by
  have : ∀ f d b : Fin 2, ∀ j, nx j ≠ some (.inr (f, d, 0, b)) := by decide +kernel
  exact this f d b
theorem nx_next : ∀ (f d b : Fin 2) (s : Fin 2), nx (.inr (f, d, s.castSucc, b)) = some (.inr (f, d, s.succ, b))
    ∧ ∀ j, nx j = some (.inr (f, d, s.succ, b)) → j = .inr (f, d, s.castSucc, b) := by decide +kernel
theorem hop_next : ∀ (f d b : Fin 2) (s : Fin 2) (c : Dev nD), snd (.inr (f, d, s.succ, b)) c = true →
    rcv (.inr (f, d, s.castSucc, b)) c = true ∧ rat (.inr (f, d, s.castSucc, b)) c = sat (.inr (f, d, s.succ, b)) c := by decide +kernel
theorem hop_fact (f d b : Fin 2) (s : Fin 2) (c : Dev nD) (h : snd (.inr (f, d, s.succ, b)) c = true) :
    rcv (.inr (f, d, s.castSucc, b)) c = true ∧ rreg (.inr (f, d, s.castSucc, b)) c = sreg (.inr (f, d, s.succ, b)) c
      ∧ shr (.inr (f, d, s.succ, b)) c = fullShare.left := by
  obtain ⟨h1, h2⟩ := hop_next f d b s c h
  refine ⟨h1, ?_, ?_⟩
  · unfold rreg sreg; rw [h2]; rfl
  · exact if_neg (t := if d = 0 then fullShare.left.left else fullShare.left.right) (Fin.succ_ne_zero s)
theorem fst1 (p : P1) : isFst (.inl p) = true → early B (.inl p) = true := fun _ => rfl
theorem fst2 (p : P2) : isFst (.inr p) = true → early true (.inr p) = true := fun h => h
/-- Where the source of a transfer of the first phase comes from. -/
theorem get1 (p : P1) (hq : snd (.inl p) c = true) :
    iprop(bigSep Finset.univ (RR m B nr (ordS (.inl p)) c) ∗ (if hasSrc (.inl p) c = true ∧ early B (.inl p) = true then srcP m (.inl p) c else iprop(emp)))
      ⊢ iprop(srcP m (.inl p) c ∗ bigSep Finset.univ (RR m B nr (ordS (.inl p) + 1) c)) := get_early m rfl (nx_inl p) hq
/-- Where the source of a first hop comes from. -/
theorem get2 (f d b : Fin 2) (hq : snd (.inr (f, d, 0, b)) c = true) :
    iprop(bigSep Finset.univ (RR m true nr (ordS (.inr (f, d, 0, b))) c) ∗ (if hasSrc (.inr (f, d, 0, b)) c = true ∧ early true (.inr (f, d, 0, b)) = true then srcP m (.inr (f, d, 0, b)) c else iprop(emp)))
      ⊢ iprop(srcP m (.inr (f, d, 0, b)) c ∗ bigSep Finset.univ (RR m true nr (ordS (.inr (f, d, 0, b)) + 1) c)) := get_early m rfl (nx_fst f d b) hq
/-- Where the source of a later hop comes from. -/
theorem get3 (f d b : Fin 2) (s : Fin 2) (hr : ordR (.inr (f, d, s.castSucc, b)) < nr) (hq : snd (.inr (f, d, s.succ, b)) c = true) :
    iprop(bigSep Finset.univ (RR m true nr (ordS (.inr (f, d, s.succ, b))) c) ∗ (if hasSrc (.inr (f, d, s.succ, b)) c = true ∧ early true (.inr (f, d, s.succ, b)) = true then srcP m (.inr (f, d, s.succ, b)) c else iprop(emp)))
      ⊢ iprop(srcP m (.inr (f, d, s.succ, b)) c ∗ bigSep Finset.univ (RR m true nr (ordS (.inr (f, d, s.succ, b)) + 1) c)) :=
  get_next m (nx_next f d b s).1 (by simp [early, Fin.succ_ne_zero]) hr (nx_next f d b s).2 (hop_fact f d b s) rfl hq

end Cert.K

end
-- ==== Proof.Conv.lean ====
/-
The statements that widen a chunk into the result.
-/
module

public import proofs.«01_k».proof.Proof.Steps
public import Idealize.ShloMosaic.Lib.Pipeline.Value

@[expose] public section

set_option maxRecDepth 1000000

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]
local notation "𝕄" => MT nD τ sig Unit (Elt F) ℕ UU ℕ
variable (m : (ℓ : Loc nD τ sig) → Buf (Elt F) ℓ) (K : Dev nD × Ck → ℕ)

variable {c : Dev nD} {B : Bool} {ns nr nw : ℕ} {X : sProp (MT nD τ sig Unit (Elt F) ℕ UU ℕ)}

/-- The result buffer. -/
abbrev outM : Memref sig .tc .vmem S2048x1024 .f32 := Memref.whole cc0_stg2_0

/-- The result buffer, right on the half blocks `D` (pairs of a block and a half). -/
def OUTst (c : Dev nD) (D : Finset (ℕ × ℕ)) : sProp 𝕄 :=
  iprop(∃ g : S2048x1024.Idx → Elt F .f32, ((c : Thread nD τ).loc cc0_stg2_0 ↦{fullShare} g)
    ∗ ⌜∀ i : S2048x1024.Idx, ((i 0).val / 128, (i 0).val % 128 / 64) ∈ D → g i = OUT m c i⌝)

theorem OUTst_mono {D D' : Finset (ℕ × ℕ)} (h : D' ⊆ D) : OUTst m c D ⊢ OUTst m c D' := by
  unfold OUTst
  iintro ⟨%g, H, %hg⟩
  iexists g
  isplitl [H]; · iexact H
  ipureintro
  exact fun i hi => hg i (h hi)

/-- A row of the result inside its half block. -/
theorem row_lt (i : S2048x1024.Idx) : (i 0).val % 64 < 64 := Nat.mod_lt _ (by decide)

/-- Storing one half block. -/
theorem out_store {D : Finset (ℕ × ℕ)} {b h : ℕ} (hh : h < 2) {off : Fin 2 → ℕ} (hoff : off = ![128 * b + 64 * h, 0])
    {inb : ∀ a, off a + S64x1024.size a ≤ S2048x1024.size a} {w : S64x1024.Idx → Elt F .f32}
    (hw : ∀ i : S2048x1024.Idx, (i 0).val / 128 = b → (i 0).val % 128 / 64 = h → w (ix2 ((i 0).val % 64) (row_lt i) (i 1)) = OUT m c i)
    {hl : outM.view.LoadsAt (Rect.unit (s := S2048x1024) off S64x1024.size inb).toLoadRect}
    {hx : (outM.access (Rect.unit (s := S2048x1024) off S64x1024.size inb)).Stores Finset.univ}
    {hm : (Finset.univ : Finset (Rect.unit (s := S2048x1024) off S64x1024.size inb).shape.Idx) = Finset.univ ∨ ∀ a, (Rect.unit (s := S2048x1024) off S64x1024.size inb).stride a = 1}
    {α : Type} {Q : α → sProp 𝕄} {Kc : Prog (TpuEff nD τ sig (Elt F) Λ₀ .tc) α} :
    OUTst m c D ⊢ iprop((OUTst m c (insert (b, h) D) -∗ Run c Kc Q)
      -∗ Run c (.op (.load outM (Rect.unit (s := S2048x1024) off S64x1024.size inb).toLoadRect hl) fun _ =>
          .op (.store outM (Rect.unit (s := S2048x1024) off S64x1024.size inb) w Finset.univ hx hm) fun _ => Kc) Q) := by
  unfold OUTst
  iintro ⟨%g, H, %hg⟩ Hk
  iapply (wp_load 𝒱₀ (c : Thread nD τ) none Set.univ (m := outM) (S := Finset.univ) (Finset.subset_univ _)) $$ H
  iintro H
  iapply (wp_store 𝒱₀ (c : Thread nD τ) none Set.univ (m := outM) (r := Rect.unit (s := S2048x1024) off S64x1024.size inb) (Mk := Finset.univ) (S := Finset.univ) (Finset.subset_univ _)) $$ H
  iintro H
  iapply Hk
  have he := View.write_whole_slice_unit (Val := Elt F) cc0_stg2_0 off S64x1024.size inb g w
  iexists (updateSlice g w off ⟨rfl, inb⟩)
  isplitl [H]
  · iapply (Entails.of_eq (pointsTo_congr (ℓ := (c : Thread nD τ).loc cc0_stg2_0) (I := Finset.univ) (q := fullShare) fun i _ => congrFun he i)); iexact H
  ipureintro
  intro i hi
  subst hoff
  have h0 : (i 0).val < 2048 := (i 0).isLt
  have h1 : (i 1).val < 1024 := (i 1).isLt
  unfold updateSlice
  split
  · next hin =>
    have hin0 : 128 * b + 64 * h ≤ (i 0).val ∧ (i 0).val < 128 * b + 64 * h + 64 := hin 0
    have e1 : (i 0).val / 128 = b := by omega
    have e2 : (i 0).val % 128 / 64 = h := by omega
    rw [← hw i e1 e2]
    congr 1
    funext a
    apply Fin.ext
    match a with
    | 0 => show (i 0).val - (128 * b + 64 * h) = (i 0).val % 64; omega
    | 1 => show (i 1).val - 0 = (i 1).val; omega
  · next hout =>
    rw [Finset.mem_insert] at hi
    rcases hi with hi | hi
    · exfalso; apply hout
      have e1 : (i 0).val / 128 = b := congrArg Prod.fst hi
      have e2 : (i 0).val % 128 / 64 = h := congrArg Prod.snd hi
      intro a
      match a with
      | 0 => show 128 * b + 64 * h ≤ (i 0).val ∧ (i 0).val < 128 * b + 64 * h + 64; omega
      | 1 => show 0 ≤ (i 1).val ∧ (i 1).val < 0 + 1024; omega
    · exact hg i hi

theorem dv_blk : ∀ (f : Fin 2) (c : Dev nD) (r p : Fin 4), mk (px c) (blk (dv f (px c) r.val p.val) / 4) (blk (dv f (px c) r.val p.val) % 4) = dv f (px c) r.val p.val
    ∧ px (dv f (px c) r.val p.val) = px c := by decide +kernel

/-- What the result holds on a half block of another device. -/
theorem OUT_other {f : Fin 2} {r p : Fin 4} (hne : dv f (px c) r.val p.val ≠ c) (i : S2048x1024.Idx)
    (h0 : (i 0).val / 128 = blk (dv f (px c) r.val p.val)) (h1 : (i 0).val % 128 / 64 = f.val) :
    (k0_pay45 (hf m f (dv f (px c) r.val p.val)) : S64x1024.Idx → Elt F .f32) (ix2 ((i 0).val % 64) (row_lt i) (i 1)) = OUT m c i := by
  unfold OUT
  dsimp only
  rw [h0, (dv_blk f c r p).1, if_neg hne]
  have hf2 : (if (i 0).val % 128 < 64 then (0 : Fin 2) else 1) = f := by
    match f, h1 with
    | 0, h1 => rw [if_pos (by simp at h1; omega)]
    | 1, h1 => rw [if_neg (by simp at h1; omega)]
  rw [hf2]

/-- A chunk of the exchange buffer, as read. -/
theorem FIN_read {f : Fin 2} {x : ℕ} {r p : Fin 4} {off : Fin 4 → ℕ} (hoff : off = ![r.val, p.val, 0, 0])
    (inb : ∀ a, off a + S1x1x64x1024.size a ≤ S4x4x64x1024.size a) :
    (fun j => FIN m f x ((Rect.unit (s := S4x4x64x1024) off S1x1x64x1024.size inb).emb j)) = hf m f (dv f x r.val p.val) := by
  subst hoff
  funext j
  have j0 : (j 0).val = 0 := by have : (j 0).val < 1 := (j 0).isLt; omega
  have j1 : (j 1).val = 0 := by have : (j 1).val < 1 := (j 1).isLt; omega
  unfold FIN
  have e0 : (((Rect.unit (s := S4x4x64x1024) ![r.val, p.val, 0, 0] S1x1x64x1024.size inb).emb j) 0).val = r.val := by
    show r.val + 1 * (j 0).val = r.val; omega
  have e1 : (((Rect.unit (s := S4x4x64x1024) ![r.val, p.val, 0, 0] S1x1x64x1024.size inb).emb j) 1).val = p.val := by
    show p.val + 1 * (j 1).val = p.val; omega
  rw [e0, e1]
  congr 1
  funext a
  apply Fin.ext
  match a with
  | 0 => show 0 = (j 0).val; omega
  | 1 => show 0 = (j 1).val; omega
  | 2 => show 0 + 1 * (j 2).val = (j 2).val; omega
  | 3 => show 0 + 1 * (j 3).val = (j 3).val; omega

/-- Loading one chunk of an exchange buffer. -/
theorem chunk_load {f : Fin 2} {S : Finset S4x4x64x1024.Idx} {sh : PosShare TreeShare} {r p : Fin 4} {off : Fin 4 → ℕ} (hoff : off = ![r.val, p.val, 0, 0])
    {inb : ∀ a, off a + S1x1x64x1024.size a ≤ S4x4x64x1024.size a} (hS : reg 1 (r.val, p.val) ⊆ S)
    {hl : (bufM f).view.LoadsAt (Rect.unit (s := S4x4x64x1024) off S1x1x64x1024.size inb).toLoadRect}
    {α : Type} {Q : α → sProp 𝕄} {k : (S1x1x64x1024.Idx → Elt F .bf16) → Prog (TpuEff nD τ sig (Elt F) Λ₀ .tc) α} :
    pts f c S sh (FIN m f (px c)) ⊢ iprop((pts f c S sh (FIN m f (px c)) -∗ Run c (k (hf m f (dv f (px c) r.val p.val))) Q)
      -∗ Run c (.op (.load (bufM f) (Rect.unit (s := S4x4x64x1024) off S1x1x64x1024.size inb).toLoadRect hl) k) Q) := by
  have hset : (Rect.unit (s := S4x4x64x1024) off S1x1x64x1024.size inb).set = reg 1 (r.val, p.val) := unit_reg (a := (r.val, p.val)) rfl hoff inb
  rw [← FIN_read m hoff inb]
  match f with
  | 0 => exact wp_load 𝒱₀ (c : Thread nD τ) none Set.univ (m := (Memref.whole cc0_scratch3 : Memref sig .tc .vmem S4x4x64x1024 .bf16)) (S := S) (f := FIN m 0 (px c))
          (by rw [← hset] at hS; refine Finset.Subset.trans ?_ hS; intro i hi
              obtain ⟨y, hy, rfl⟩ := Finset.mem_map.mp hi
              exact hy)
  | 1 => exact wp_load 𝒱₀ (c : Thread nD τ) none Set.univ (m := (Memref.whole cc0_scratch4 : Memref sig .tc .vmem S4x4x64x1024 .bf16)) (S := S) (f := FIN m 1 (px c))
          (by rw [← hset] at hS; refine Finset.Subset.trans ?_ hS; intro i hi
              obtain ⟨y, hy, rfl⟩ := Finset.mem_map.mp hi
              exact hy)

/-- One chunk: load it, load the place it goes to, store it widened. -/
def cp (f : Fin 2) {offa : Fin 4 → ℕ} {inba : ∀ a, offa a + S1x1x64x1024.size a ≤ S4x4x64x1024.size a}
    (hla : (bufM f).view.LoadsAt (Rect.unit (s := S4x4x64x1024) offa S1x1x64x1024.size inba).toLoadRect)
    {off : Fin 2 → ℕ} {inb : ∀ a, off a + S64x1024.size a ≤ S2048x1024.size a}
    (hl : outM.view.LoadsAt (Rect.unit (s := S2048x1024) off S64x1024.size inb).toLoadRect)
    (hx : (outM.access (Rect.unit (s := S2048x1024) off S64x1024.size inb)).Stores Finset.univ)
    (hm : (Finset.univ : Finset (Rect.unit (s := S2048x1024) off S64x1024.size inb).shape.Idx) = Finset.univ ∨ ∀ a, (Rect.unit (s := S2048x1024) off S64x1024.size inb).stride a = 1)
    {α : Type} (Kc : Prog (TpuEff nD τ sig (Elt F) Λ₀ .tc) α) : Prog (TpuEff nD τ sig (Elt F) Λ₀ .tc) α :=
  Prog.lift (.load (bufM f) (Rect.unit (s := S4x4x64x1024) offa S1x1x64x1024.size inba).toLoadRect hla) >>= fun v =>
    Prog.lift (.load outM (Rect.unit (s := S2048x1024) off S64x1024.size inb).toLoadRect hl) >>= fun _ =>
      Prog.lift (.store outM (Rect.unit (s := S2048x1024) off S64x1024.size inb) (k0_pay45 v) Finset.univ hx hm) >>= fun _ => Kc

theorem cp_run {f : Fin 2} {S : Finset S4x4x64x1024.Idx} {sh : PosShare TreeShare} {r p : Fin 4} (hS : reg 1 (r.val, p.val) ⊆ S)
    (hne : dv f (px c) r.val p.val ≠ c) {D : Finset (ℕ × ℕ)}
    {offa : Fin 4 → ℕ} {inba : ∀ a, offa a + S1x1x64x1024.size a ≤ S4x4x64x1024.size a} (ha : offa = ![r.val, p.val, 0, 0])
    {hla : (bufM f).view.LoadsAt (Rect.unit (s := S4x4x64x1024) offa S1x1x64x1024.size inba).toLoadRect}
    {off : Fin 2 → ℕ} {inb : ∀ a, off a + S64x1024.size a ≤ S2048x1024.size a} (ho : off = ![128 * blk (dv f (px c) r.val p.val) + 64 * f.val, 0])
    {hl : outM.view.LoadsAt (Rect.unit (s := S2048x1024) off S64x1024.size inb).toLoadRect}
    {hx : (outM.access (Rect.unit (s := S2048x1024) off S64x1024.size inb)).Stores Finset.univ}
    {hm : (Finset.univ : Finset (Rect.unit (s := S2048x1024) off S64x1024.size inb).shape.Idx) = Finset.univ ∨ ∀ a, (Rect.unit (s := S2048x1024) off S64x1024.size inb).stride a = 1}
    {α : Type} {Q : α → sProp 𝕄} {Kc : Prog (TpuEff nD τ sig (Elt F) Λ₀ .tc) α} :
    iprop(pts f c S sh (FIN m f (px c)) ∗ OUTst m c D)
      ⊢ iprop(((pts f c S sh (FIN m f (px c)) ∗ OUTst m c (insert (blk (dv f (px c) r.val p.val), f.val) D)) -∗ Run c Kc Q)
        -∗ Run c (cp f hla hl hx hm Kc) Q) := by
  unfold cp
  iintro ⟨HP, HO⟩ Hk
  iapply (chunk_load m ha hS) $$ HP
  iintro HP
  iapply (out_store m (h := f.val) f.isLt ho (fun i h0 h1 => OUT_other m hne i h0 h1)) $$ HO
  iintro HO
  iapply Hk
  isplitl [HP]; · iexact HP
  iexact HO

/-! ### The same in the state -/

/-- A statement that touches only what is besides. -/
theorem st_x {X X' : sProp 𝕄} {α : Type} {Q : α → sProp 𝕄} {p Kc : Prog (TpuEff nD τ sig (Elt F) Λ₀ .tc) α}
    (hX : X ⊢ iprop((X' -∗ Run c Kc Q) -∗ Run c p Q)) (hK : St m K c B ns nr nw X' ⊢ Run c Kc Q) : St m K c B ns nr nw X ⊢ Run c p Q := by
  unfold St at hK ⊢
  iintro ⟨#Hc, #Hr, HO, HS, HR, HX⟩
  iapply hX $$ HX
  iintro HX
  iapply hK
  isplitr; · iexact Hc
  isplitr; · iexact Hr
  isplitl [HO]; · iexact HO
  isplitl [HS]; · iexact HS
  isplitl [HR]; · iexact HR
  iexact HX

/-- The row a device has after the first phase, but for its own chunk, to read from. -/
def ownR (c : Dev nD) (f : Fin 2) : sProp 𝕄 :=
  pts f c (reg 4 (row f c, 0) \ reg 1 (row f c, pos f c)) fullShare.right (FIN m f (px c))
/-- What is besides in the second phase: the result right on `D`, the rows to read from, and `Y`. -/
def XB (c : Dev nD) (D : Finset (ℕ × ℕ)) (Y : sProp 𝕄) : sProp 𝕄 := iprop(OUTst m c D ∗ (bigSep Finset.univ (ownR m c)) ∗ Y)

/-- The half block of the device itself. -/
def evO (f : Fin 2) (c : Dev nD) : Finset (ℕ × ℕ) := {(blk c, f.val)}
/-- The half block a landing of the first phase brings. -/
def evP (q : P1) (c : Dev nD) : Finset (ℕ × ℕ) :=
  if rcv (.inl q) c = true then {(blk (dv q.1 (px c) (rat (.inl q) c).1 (rat (.inl q) c).2), q.1.val)} else ∅
/-- The half blocks that the two landings of a hop of the second phase bring. -/
def evS (f d : Fin 2) (s : Fin 3) (c : Dev nD) : Finset (ℕ × ℕ) :=
  if rcv (.inr (f, d, s, 0)) c = true then
    insert (blk (dv f (px c) (rat (.inr (f, d, s, 0)) c).1 3), f.val) (insert (blk (dv f (px c) (rat (.inr (f, d, s, 0)) c).1 2), f.val)
      (insert (blk (dv f (px c) (rat (.inr (f, d, s, 0)) c).1 1), f.val) {(blk (dv f (px c) (rat (.inr (f, d, s, 0)) c).1 0), f.val)})) else ∅

theorem rat1 : ∀ (q : P1) (c : Dev nD), rcv (.inl q) c = true → (rat (.inl q) c).1 = row q.1 c ∧ (rat (.inl q) c).1 < 4 ∧ (rat (.inl q) c).2 < 4
    ∧ (rat (.inl q) c).2 ≠ pos q.1 c ∧ dv q.1 (px c) (rat (.inl q) c).1 (rat (.inl q) c).2 ≠ c := by decide +kernel
theorem rat2 : ∀ (f d : Fin 2) (s : Fin 3) (c : Dev nD), rcv (.inr (f, d, s, 0)) c = true → (rat (.inr (f, d, s, 0)) c).1 < 4
    ∧ rcv (.inr (f, d, s, 1)) c = true ∧ ∀ p : Fin 4, dv f (px c) (rat (.inr (f, d, s, 0)) c).1 p.val ≠ c := by decide +kernel

theorem reg_sub {w w' : ℕ} {a a' : ℕ × ℕ} (h1 : a.1 = a'.1) (h2 : a'.2 ≤ a.2) (h3 : a.2 + w ≤ a'.2 + w') : reg w a ⊆ reg w' a' := by
  intro i hi
  rw [reg, Finset.mem_filter] at hi ⊢
  obtain ⟨-, e0, e1, e2⟩ := hi
  exact ⟨Finset.mem_univ _, e0.trans h1, by omega, by omega⟩

/-- The statement that widens what a landing of the first phase brought. -/
theorem st_conv (q : P1) {f : Fin 2} (hf : q.1 = f) {D D' : Finset (ℕ × ℕ)} (hD : D' = D ∪ evP q c) {Y : sProp 𝕄}
    {cond : Dev nD → BitVec 1} {offa : Dev nD → Fin 4 → ℕ} {off : Dev nD → Fin 2 → ℕ}
    {inba : ∀ h : cond c = 1#1, ∀ a, offa c a + S1x1x64x1024.size a ≤ S4x4x64x1024.size a}
    {hla : ∀ h : cond c = 1#1, (bufM f).view.LoadsAt (Rect.unit (s := S4x4x64x1024) (offa c) S1x1x64x1024.size (inba h)).toLoadRect}
    {inb : ∀ h : cond c = 1#1, ∀ a, off c a + S64x1024.size a ≤ S2048x1024.size a}
    {hl : ∀ h : cond c = 1#1, outM.view.LoadsAt (Rect.unit (s := S2048x1024) (off c) S64x1024.size (inb h)).toLoadRect}
    {hx : ∀ h : cond c = 1#1, (outM.access (Rect.unit (s := S2048x1024) (off c) S64x1024.size (inb h))).Stores Finset.univ}
    {hm : ∀ h : cond c = 1#1, (Finset.univ : Finset (Rect.unit (s := S2048x1024) (off c) S64x1024.size (inb h)).shape.Idx) = Finset.univ ∨ ∀ a, (Rect.unit (s := S2048x1024) (off c) S64x1024.size (inb h)).stride a = 1}
    {α : Type} {Q : α → sProp 𝕄} {A : cond c = 1#1 → Prog (TpuEff nD τ sig (Elt F) Λ₀ .tc) α} {Kc : Prog (TpuEff nD τ sig (Elt F) Λ₀ .tc) α}
    (hA : ∀ h, A h = cp f (hla h) (hl h) (hx h) (hm h) Kc)
    (hfact : ∀ c, (cond c = 1#1 ↔ rcv (.inl q) c = true) ∧ (cond c = 1#1 → offa c = ![(rat (.inl q) c).1, (rat (.inl q) c).2, 0, 0]
      ∧ off c = ![128 * blk (dv q.1 (px c) (rat (.inl q) c).1 (rat (.inl q) c).2) + 64 * q.1.val, 0]))
    (hK : St m K c B ns nr nw (XB m c D' Y) ⊢ Run c Kc Q) :
    St m K c B ns nr nw (XB m c D Y) ⊢ Run c (dite (cond c = 1#1) A (fun _ => Kc)) Q := by
  subst hf hD
  obtain ⟨hc1, hc2⟩ := hfact c
  by_cases hq : rcv (.inl q) c = true
  · have h := hc1.mpr hq
    obtain ⟨ha, ho⟩ := hc2 h
    obtain ⟨r1, r2, r3, r4, r5⟩ := rat1 q c hq
    rw [dif_pos h, hA]
    refine st_x m K ?_ hK
    have hu := upd (F := F) q.1 (Φ := ownR m c) (Ψ := ownR m c) (fun _ _ => rfl)
    have hS : reg 1 ((rat (.inl q) c).1, (rat (.inl q) c).2) ⊆ reg 4 (row q.1 c, 0) \ reg 1 (row q.1 c, pos q.1 c) := by
      intro i hi
      rw [reg, Finset.mem_filter] at hi
      obtain ⟨-, e0, e1, e2⟩ := hi
      have e3 : (i 1).val < 4 := (i 1).isLt
      rw [Finset.mem_sdiff, reg, reg, Finset.mem_filter, Finset.mem_filter]
      refine ⟨⟨Finset.mem_univ _, e0.trans r1, Nat.zero_le _, by omega⟩, fun e => ?_⟩
      obtain ⟨-, -, e4, e5⟩ := e
      dsimp only at e1 e2 e4 e5
      omega
    have hcp := cp_run m (Q := Q) (Kc := Kc) (f := q.1) (r := ⟨_, r2⟩) (p := ⟨_, r3⟩) (sh := fullShare.right) hS r5 (D := D) ha (hla := hla h) ho (hl := hl h) (hx := hx h) (hm := hm h)
    have he : evP q c = {(blk (dv q.1 (px c) (rat (.inl q) c).1 (rat (.inl q) c).2), q.1.val)} := if_pos hq
    rw [he, Finset.union_comm, ← Finset.insert_eq]
    unfold XB
    iintro ⟨HO, HW, HY⟩ Hk
    ihave HW := hu $$ HW
    icases HW with ⟨HP, HW⟩
    unfold ownR
    iapply hcp $$ [HP HO]
    · isplitl [HP]; · iexact HP
      iexact HO
    iintro ⟨HP, HO⟩
    iapply Hk
    isplitl [HO]; · iexact HO
    isplitl [HW HP]
    · iapply HW; iexact HP
    iexact HY
  · rw [dif_neg (fun h => hq (hc1.mp h))]
    have he : evP q c = ∅ := if_neg hq
    rw [he, Finset.union_empty] at hK
    exact hK

/-- Widening one chunk of what a landing of the second phase brought. -/
theorem st_cp (q : P2) {f : Fin 2} (hf : q.1 = f) (hr : ordR (.inr q) < nr) (hq : rcv (.inr q) c = true) {D : Finset (ℕ × ℕ)} {Y : sProp 𝕄}
    {r p : Fin 4} (h1 : r.val = (rat (.inr q) c).1) (h2 : (rat (.inr q) c).2 ≤ p.val) (h3 : p.val < (rat (.inr q) c).2 + 2)
    (hne : dv f (px c) r.val p.val ≠ c)
    {offa : Fin 4 → ℕ} {inba : ∀ a, offa a + S1x1x64x1024.size a ≤ S4x4x64x1024.size a} (ha : offa = ![r.val, p.val, 0, 0])
    {hla : (bufM f).view.LoadsAt (Rect.unit (s := S4x4x64x1024) offa S1x1x64x1024.size inba).toLoadRect}
    {off : Fin 2 → ℕ} {inb : ∀ a, off a + S64x1024.size a ≤ S2048x1024.size a} (ho : off = ![128 * blk (dv f (px c) r.val p.val) + 64 * f.val, 0])
    {hl : outM.view.LoadsAt (Rect.unit (s := S2048x1024) off S64x1024.size inb).toLoadRect}
    {hx : (outM.access (Rect.unit (s := S2048x1024) off S64x1024.size inb)).Stores Finset.univ}
    {hm : (Finset.univ : Finset (Rect.unit (s := S2048x1024) off S64x1024.size inb).shape.Idx) = Finset.univ ∨ ∀ a, (Rect.unit (s := S2048x1024) off S64x1024.size inb).stride a = 1}
    {α : Type} {Q : α → sProp 𝕄} {Kc : Prog (TpuEff nD τ sig (Elt F) Λ₀ .tc) α}
    (hK : St m K c B ns nr nw (XB m c (insert (blk (dv f (px c) r.val p.val), f.val) D) Y) ⊢ Run c Kc Q) :
    St m K c B ns nr nw (XB m c D Y) ⊢ Run c (cp f hla hl hx hm Kc) Q := by
  subst hf
  have hu := upd (F := F) (.inr q : Slot) (Φ := RR m B nr ns c) (Ψ := RR m B nr ns c) (fun _ _ => rfl)
  have hb : RR m B nr ns c (.inr q) = iprop(semVal (rC (.inr q) c) 0 ∗ pts q.1 c (rreg (.inr q) c) fullShare.right (FIN m q.1 (px c))
      ∗ if lent ns (.inr q) c = true then iprop(emp) else pts (flow (.inr q)) c (rreg (.inr q) c) fullShare.left (FIN m (flow (.inr q)) (px c))) := by
    unfold RR held; rw [if_pos hr, if_pos hq]; rfl
  rw [hb] at hu
  have hcp := cp_run m (Q := Q) (Kc := Kc) (f := q.1) (S := rreg (.inr q) c) (r := r) (p := p) (sh := fullShare.right)
    (reg_sub (w := 1) (w' := 2) h1 h2 (by omega)) hne (D := D) ha (hla := hla) ho (hl := hl) (hx := hx) (hm := hm)
  unfold St XB at hK ⊢
  iintro ⟨#Hc, #Hr, HO, HS, HR, HD, HW, HY⟩
  ihave HR := hu $$ HR
  icases HR with ⟨⟨HV, HP, HL⟩, HR⟩
  iapply hcp $$ [HP HD]
  · isplitl [HP]; · iexact HP
    iexact HD
  iintro ⟨HP, HD⟩
  iapply hK
  isplitr; · iexact Hc
  isplitr; · iexact Hr
  isplitl [HO]; · iexact HO
  isplitl [HS]; · iexact HS
  isplitl [HR HV HP HL]
  · iapply HR
    isplitl [HV]; · iexact HV
    isplitl [HP]; · iexact HP
    iexact HL
  isplitl [HD]; · iexact HD
  isplitl [HW]; · iexact HW
  iexact HY

/-- The statement that widens the strip that a hop of the second phase brought. -/
theorem st_strip (f d : Fin 2) (s : Fin 3) (hr0 : ordR (.inr (f, d, s, 0)) < nr) (hr1 : ordR (.inr (f, d, s, 1)) < nr)
    {D D' : Finset (ℕ × ℕ)} (hD : D' = D ∪ evS f d s c) {Y : sProp 𝕄}
    {cond : Dev nD → BitVec 1} {offa : Fin 4 → Dev nD → Fin 4 → ℕ} {off : Fin 4 → Dev nD → Fin 2 → ℕ}
    {inba : ∀ p, ∀ h : cond c = 1#1, ∀ a, offa p c a + S1x1x64x1024.size a ≤ S4x4x64x1024.size a}
    {hla : ∀ p, ∀ h : cond c = 1#1, (bufM f).view.LoadsAt (Rect.unit (s := S4x4x64x1024) (offa p c) S1x1x64x1024.size (inba p h)).toLoadRect}
    {inb : ∀ p, ∀ h : cond c = 1#1, ∀ a, off p c a + S64x1024.size a ≤ S2048x1024.size a}
    {hl : ∀ p, ∀ h : cond c = 1#1, outM.view.LoadsAt (Rect.unit (s := S2048x1024) (off p c) S64x1024.size (inb p h)).toLoadRect}
    {hx : ∀ p, ∀ h : cond c = 1#1, (outM.access (Rect.unit (s := S2048x1024) (off p c) S64x1024.size (inb p h))).Stores Finset.univ}
    {hm : ∀ p, ∀ h : cond c = 1#1, (Finset.univ : Finset (Rect.unit (s := S2048x1024) (off p c) S64x1024.size (inb p h)).shape.Idx) = Finset.univ ∨ ∀ a, (Rect.unit (s := S2048x1024) (off p c) S64x1024.size (inb p h)).stride a = 1}
    {α : Type} {Q : α → sProp 𝕄} {A : cond c = 1#1 → Prog (TpuEff nD τ sig (Elt F) Λ₀ .tc) α} {Kc : Prog (TpuEff nD τ sig (Elt F) Λ₀ .tc) α}
    (hA : ∀ h, A h = cp f (hla 0 h) (hl 0 h) (hx 0 h) (hm 0 h) (cp f (hla 1 h) (hl 1 h) (hx 1 h) (hm 1 h)
      (cp f (hla 2 h) (hl 2 h) (hx 2 h) (hm 2 h) (cp f (hla 3 h) (hl 3 h) (hx 3 h) (hm 3 h) Kc))))
    (hfact : ∀ c, (cond c = 1#1 ↔ rcv (.inr (f, d, s, 0)) c = true) ∧ (cond c = 1#1 → ∀ p : Fin 4, offa p c = ![(rat (.inr (f, d, s, 0)) c).1, p.val, 0, 0]
      ∧ off p c = ![128 * blk (dv f (px c) (rat (.inr (f, d, s, 0)) c).1 p.val) + 64 * f.val, 0]))
    (hK : St m K c B ns nr nw (XB m c D' Y) ⊢ Run c Kc Q) :
    St m K c B ns nr nw (XB m c D Y) ⊢ Run c (dite (cond c = 1#1) A (fun _ => Kc)) Q := by
  subst hD
  obtain ⟨hc1, hc2⟩ := hfact c
  by_cases hq : rcv (.inr (f, d, s, 0)) c = true
  · have h := hc1.mpr hq
    have hp := hc2 h
    obtain ⟨r1, r2, r3⟩ := rat2 f d s c hq
    rw [dif_pos h, hA]
    have he : evS f d s c = insert (blk (dv f (px c) (rat (.inr (f, d, s, 0)) c).1 3), f.val) (insert (blk (dv f (px c) (rat (.inr (f, d, s, 0)) c).1 2), f.val)
      (insert (blk (dv f (px c) (rat (.inr (f, d, s, 0)) c).1 1), f.val) {(blk (dv f (px c) (rat (.inr (f, d, s, 0)) c).1 0), f.val)})) := if_pos hq
    rw [he, Finset.union_comm] at hK
    simp only [Finset.insert_union, ← Finset.insert_eq] at hK
    refine st_cp m K (f, d, s, 0) rfl hr0 hq (r := ⟨_, r1⟩) (p := 0) rfl (by simp [rat]) (by simp [rat]) (r3 0) (hp 0).1 (hp 0).2 ?_
    refine st_cp m K (f, d, s, 0) rfl hr0 hq (r := ⟨_, r1⟩) (p := 1) rfl (by simp [rat]) (by simp [rat]) (r3 1) (hp 1).1 (hp 1).2 ?_
    refine st_cp m K (f, d, s, 1) rfl hr1 r2 (r := ⟨_, r1⟩) (p := 2) rfl (by simp [rat]) (by simp [rat]) (r3 2) (hp 2).1 (hp 2).2 ?_
    refine st_cp m K (f, d, s, 1) rfl hr1 r2 (r := ⟨_, r1⟩) (p := 3) rfl (by simp [rat]) (by simp [rat]) (r3 3) (hp 3).1 (hp 3).2 ?_
    exact hK
  · rw [dif_neg (fun h => hq (hc1.mp h))]
    have he : evS f d s c = ∅ := if_neg hq
    rw [he, Finset.union_empty] at hK
    exact hK

/-- Everything that gets stored into the result, in order. -/
def evs : List (Dev nD → Finset (ℕ × ℕ)) :=
  [evO 0, evO 1, evP (0, 0, 0), evP (0, 1, 0), evP (1, 0, 0), evP (1, 1, 0), evP (0, 0, 1), evP (0, 1, 1), evP (1, 0, 1), evP (1, 1, 1),
   evP (0, 0, 2), evP (0, 1, 2), evP (1, 0, 2), evP (1, 1, 2), evS 0 0 0, evS 0 1 0, evS 1 0 0, evS 1 1 0, evS 0 0 1, evS 0 1 1, evS 1 0 1, evS 1 1 1,
   evS 0 0 2, evS 0 1 2, evS 1 0 2, evS 1 1 2]
/-- What of the result is right after the first `n` of them. -/
def done (n : ℕ) (c : Dev nD) : Finset (ℕ × ℕ) := (evs.take n).foldl (fun D e => D ∪ e c) ∅
theorem done_all : ∀ (c : Dev nD) (b : Fin 16) (h : Fin 2), (b.val, h.val) ∈ done 26 c := by decide +kernel

theorem loads4 (f : Fin 2) {off : Fin 4 → ℕ} {inb : ∀ a, off a + S1x1x64x1024.size a ≤ S4x4x64x1024.size a} :
    (bufM f).view.LoadsAt (Rect.unit (s := S4x4x64x1024) off S1x1x64x1024.size inb).toLoadRect := by
  match f with
  | 0 => exact View.loadsAt_vmem h_S1x1x64x1024
  | 1 => exact View.loadsAt_vmem h_S1x1x64x1024

theorem storesO {off : Fin 2 → ℕ} {inb : ∀ a, off a + S64x1024.size a ≤ S2048x1024.size a} :
    (outM.access (Rect.unit (s := S2048x1024) off S64x1024.size inb)).Stores Finset.univ := View.stores_vmem_bits_univ h_S64x1024 rfl

/-- `st_strip` with the four chunks named one by one. -/
theorem strip (f d : Fin 2) (s : Fin 3) {D D' : Finset (ℕ × ℕ)} {Y : sProp 𝕄}
    {cond : Dev nD → BitVec 1} {o0 o1 o2 o3 : Dev nD → Fin 4 → ℕ} {off : Fin 4 → Dev nD → Fin 2 → ℕ}
    (i0 : ∀ c, ∀ h : cond c = 1#1, ∀ a, o0 c a + S1x1x64x1024.size a ≤ S4x4x64x1024.size a)
    (i1 : ∀ c, ∀ h : cond c = 1#1, ∀ a, o1 c a + S1x1x64x1024.size a ≤ S4x4x64x1024.size a)
    (i2 : ∀ c, ∀ h : cond c = 1#1, ∀ a, o2 c a + S1x1x64x1024.size a ≤ S4x4x64x1024.size a)
    (i3 : ∀ c, ∀ h : cond c = 1#1, ∀ a, o3 c a + S1x1x64x1024.size a ≤ S4x4x64x1024.size a)
    (inb : ∀ c, ∀ h : cond c = 1#1, ∀ p, ∀ a, off p c a + S64x1024.size a ≤ S2048x1024.size a)
    {α : Type} {Q : α → sProp 𝕄} {A : cond c = 1#1 → Prog (TpuEff nD τ sig (Elt F) Λ₀ .tc) α} {Kc : Prog (TpuEff nD τ sig (Elt F) Λ₀ .tc) α}
    (hA : ∀ h, A h = cp f (loads4 f (inb := i0 c h)) (View.loadsAt_vmem h_S64x1024) (storesO (inb := inb c h 0)) (.inl rfl)
      (cp f (loads4 f (inb := i1 c h)) (View.loadsAt_vmem h_S64x1024) (storesO (inb := inb c h 1)) (.inl rfl)
      (cp f (loads4 f (inb := i2 c h)) (View.loadsAt_vmem h_S64x1024) (storesO (inb := inb c h 2)) (.inl rfl)
      (cp f (loads4 f (inb := i3 c h)) (View.loadsAt_vmem h_S64x1024) (storesO (inb := inb c h 3)) (.inl rfl) Kc))))
    (hr0 : ordR (.inr (f, d, s, 0)) < nr) (hr1 : ordR (.inr (f, d, s, 1)) < nr) (hD : D' = D ∪ evS f d s c)
    (hfact : ∀ c, (cond c = 1#1 ↔ rcv (.inr (f, d, s, 0)) c = true) ∧ (cond c = 1#1 → ∀ p : Fin 4,
      (![o0 c, o1 c, o2 c, o3 c] p) = ![(rat (.inr (f, d, s, 0)) c).1, p.val, 0, 0]
      ∧ off p c = ![128 * blk (dv f (px c) (rat (.inr (f, d, s, 0)) c).1 p.val) + 64 * f.val, 0]))
    (hK : St m K c B ns nr nw (XB m c D' Y) ⊢ Run c Kc Q) :
    St m K c B ns nr nw (XB m c D Y) ⊢ Run c (dite (cond c = 1#1) A (fun _ => Kc)) Q :=
  st_strip m K f d s hr0 hr1 hD (offa := fun p c => ![o0 c, o1 c, o2 c, o3 c] p) (off := off)
    (inba := fun p h => match p with | 0 => i0 c h | 1 => i1 c h | 2 => i2 c h | 3 => i3 c h)
    (inb := fun p h => inb c h p) (hla := fun p h => loads4 f) (hl := fun p h => View.loadsAt_vmem h_S64x1024)
    (hx := fun p h => storesO) (hm := fun p h => .inl rfl) hA hfact hK

end Cert.K

end
-- ==== Proof.Chunks.lean ====
/-
How the elements of the exchange buffers are split between the transfers, and put together again.
-/
module

public import proofs.«01_k».proof.Proof.Conv
public import Idealize.ShloMosaic.Lib.SparseCore.Launch

@[expose] public section

set_option maxRecDepth 1000000

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]
local notation "𝕄" => MT nD τ sig Unit (Elt F) ℕ UU ℕ
variable (m : (ℓ : Loc nD τ sig) → Buf (Elt F) ℓ) (K : Dev nD × Ck → ℕ)

/-! ## Elements of the exchange buffers, along sets and shares -/

theorem pts_empty (f : Fin 2) (c : Dev nD) (q : PosShare TreeShare) (Y) : pts (F := F) f c ∅ q Y = iprop(emp) :=
  match f with
  | 0 => pointsTo_empty
  | 1 => pointsTo_empty
theorem pts_union (f : Fin 2) (c : Dev nD) {S T} (h : Disjoint S T) (q : PosShare TreeShare) (Y) :
    pts (F := F) f c (S ∪ T) q Y = iprop(pts f c S q Y ∗ pts f c T q Y) :=
  match f with
  | 0 => BI.Entails.antisymm (pointsTo_union h).1 (pointsTo_union h).2
  | 1 => BI.Entails.antisymm (pointsTo_union h).1 (pointsTo_union h).2
theorem pts_split (f : Fin 2) (c : Dev nD) (S) {q q₁ q₂ : PosShare TreeShare} (h : q ∈ PCS.op q₁ q₂) (Y) :
    pts (F := F) f c S q Y = iprop(pts f c S q₁ Y ∗ pts f c S q₂ Y) :=
  BI.Entails.antisymm (pts_share f c S h Y).1 (pts_share f c S h Y).2
theorem pts_leaves (f : Fin 2) (c : Dev nD) (S) (q : PosShare TreeShare) (Y) :
    pts (F := F) f c S q Y = bigSep Finset.univ fun i : Fin (2 ^ 2) => pts f c S (leaf 2 q i) Y := by
  match f with
  | 0 => exact Idealize.ShloMosaic.ShareLeaves.pointsTo_leaves (ℓ := (c : Thread nD τ).loc cc0_scratch3) S Y 2 q
  | 1 => exact Idealize.ShloMosaic.ShareLeaves.pointsTo_leaves (ℓ := (c : Thread nD τ).loc cc0_scratch4) S Y 2 q
theorem pts_family {T : Type} [Fintype T] [DecidableEq T] (f : Fin 2) (c : Dev nD) (S : T → Finset S4x4x64x1024.Idx) (b : T → Bool)
    (h : ∀ t t', t ≠ t' → b t = true → b t' = true → Disjoint (S t) (S t')) (q : PosShare TreeShare) (Y) :
    pts (F := F) f c ((Finset.univ.filter fun t => b t = true).biUnion S) q Y = bigSep Finset.univ fun t => if b t = true then pts f c (S t) q Y else iprop(emp) := by
  refine Eq.trans ?_ (BI.bigSep_filter _ _ _)
  have h' : ∀ t ∈ Finset.univ.filter (fun t => b t = true), ∀ t' ∈ Finset.univ.filter (fun t => b t = true), t ≠ t' → Disjoint (S t) (S t') :=
    fun t ht t' ht' hne => h t t' hne (Finset.mem_filter.mp ht).2 (Finset.mem_filter.mp ht').2
  match f with
  | 0 => exact pointsTo_biUnion (ℓ := (c : Thread nD τ).loc cc0_scratch3) (q := q) (f := Y) _ S h'
  | 1 => exact pointsTo_biUnion (ℓ := (c : Thread nD τ).loc cc0_scratch4) (q := q) (f := Y) _ S h'

/-! ## Families -/

theorem mono2 {I : Type} (s : Finset I) {Φ Ψ : I → sProp 𝕄} (h : ∀ i, Φ i ⊢ Ψ i) : bigSep s Φ ⊢ bigSep s Ψ := BI.bigSep_mono fun i _ => h i
theorem sep2 {I : Type} (s : Finset I) (Φ Ψ : I → sProp 𝕄) : bigSep s (fun i => iprop(Φ i ∗ Ψ i)) = iprop(bigSep s Φ ∗ bigSep s Ψ) := BI.bigSep_sep s Φ Ψ

/-! ## The places where things land, and the device's own chunk, tile the buffers -/

theorem mem_reg {w : ℕ} {a : ℕ × ℕ} {i : S4x4x64x1024.Idx} : i ∈ reg w a ↔ (i 0).val = a.1 ∧ a.2 ≤ (i 1).val ∧ (i 1).val < a.2 + w := by
  rw [reg, Finset.mem_filter]
  exact ⟨fun h => h.2, fun h => ⟨Finset.mem_univ _, h⟩⟩
theorem reg_disj {w w' : ℕ} {a a' : ℕ × ℕ} (h : a.1 ≠ a'.1 ∨ a.2 + w ≤ a'.2 ∨ a'.2 + w' ≤ a.2) : Disjoint (reg w a) (reg w' a') := by
  rw [Finset.disjoint_left]
  intro i hi hi'
  obtain ⟨h1, h2, h3⟩ := mem_reg.mp hi
  obtain ⟨h4, h5, h6⟩ := mem_reg.mp hi'
  omega

theorem tile1_ne : ∀ (f : Fin 2) (c : Dev nD) (t t' : Fin 2 × Fin 3), t ≠ t' → rcv (.inl (f, t)) c = true → rcv (.inl (f, t')) c = true →
    (rat (.inl (f, t)) c).1 ≠ (rat (.inl (f, t')) c).1 ∨ (rat (.inl (f, t)) c).2 + 1 ≤ (rat (.inl (f, t')) c).2
      ∨ (rat (.inl (f, t')) c).2 + 1 ≤ (rat (.inl (f, t)) c).2 := by decide +kernel
theorem tile1_cov : ∀ (f : Fin 2) (c : Dev nD) (p : Fin 4), p.val ≠ pos f c → ∃ t : Fin 2 × Fin 3, rcv (.inl (f, t)) c = true ∧ rat (.inl (f, t)) c = (row f c, p.val) := by
  decide +kernel
theorem tile2_ne : ∀ (f : Fin 2) (c : Dev nD) (t t' : Fin 2 × Fin 3 × Fin 2), t ≠ t' → rcv (.inr (f, t)) c = true → rcv (.inr (f, t')) c = true →
    (rat (.inr (f, t)) c).1 ≠ (rat (.inr (f, t')) c).1 ∨ (rat (.inr (f, t)) c).2 + 2 ≤ (rat (.inr (f, t')) c).2
      ∨ (rat (.inr (f, t')) c).2 + 2 ≤ (rat (.inr (f, t)) c).2 := by decide +kernel
theorem tile2_cov : ∀ (f : Fin 2) (c : Dev nD) (r p : Fin 4), r.val ≠ row f c → ∃ t : Fin 2 × Fin 3 × Fin 2, rcv (.inr (f, t)) c = true
    ∧ (rat (.inr (f, t)) c).1 = r.val ∧ (rat (.inr (f, t)) c).2 ≤ p.val ∧ p.val < (rat (.inr (f, t)) c).2 + 2 := by
  decide +kernel
theorem tile2_off : ∀ (f : Fin 2) (c : Dev nD) (t : Fin 2 × Fin 3 × Fin 2), rcv (.inr (f, t)) c = true → (rat (.inr (f, t)) c).1 ≠ row f c := by decide +kernel
theorem rowpos_lt : ∀ (f : Fin 2) (c : Dev nD), row f c < 4 ∧ pos f c < 4 := by decide +kernel

/-- The device's row of flow `f`, and its own chunk. -/
abbrev rowReg (f : Fin 2) (c : Dev nD) := reg 4 (row f c, 0)
abbrev ownReg (f : Fin 2) (c : Dev nD) := reg 1 (row f c, pos f c)
theorem own_sub (f : Fin 2) (c : Dev nD) : ownReg f c ⊆ rowReg f c :=
  reg_sub rfl (Nat.zero_le _) (by have := (rowpos_lt f c).2; show pos f c + 1 ≤ 0 + 4; omega)

/-- The rest of the row is where the landings of the first phase go. -/
theorem row_rest (f : Fin 2) (c : Dev nD) (q : PosShare TreeShare) (Y) : pts (F := F) f c (rowReg f c \ ownReg f c) q Y =
    bigSep Finset.univ fun t : Fin 2 × Fin 3 => if rcv (.inl (f, t)) c = true then pts f c (rreg (.inl (f, t)) c) q Y else iprop(emp) := by
  rw [← pts_family f c (fun t => rreg (.inl (f, t)) c) (fun t => rcv (.inl (f, t)) c) (fun t t' hne h h' => reg_disj (tile1_ne f c t t' hne h h'))]
  congr 1
  ext i
  rw [Finset.mem_sdiff, mem_reg, mem_reg, Finset.mem_biUnion]
  have hi : (i 1).val < 4 := (i 1).isLt
  constructor
  · rintro ⟨⟨h1, -, -⟩, h2⟩
    have hp : (i 1).val ≠ pos f c := fun e => h2 ⟨h1, by show pos f c ≤ _; omega, by show _ < pos f c + 1; omega⟩
    obtain ⟨t, ht, e⟩ := tile1_cov f c ⟨(i 1).val, hi⟩ hp
    refine ⟨t, Finset.mem_filter.mpr ⟨Finset.mem_univ _, ht⟩, mem_reg.mpr ?_⟩
    rw [e]
    exact ⟨h1, le_rfl, Nat.lt_succ_self _⟩
  · rintro ⟨t, ht, h⟩
    obtain ⟨r1, r2, r3, r4, r5⟩ := rat1 (f, t) c (Finset.mem_filter.mp ht).2
    obtain ⟨h1, h2, h3⟩ := mem_reg.mp h
    refine ⟨⟨h1.trans r1, Nat.zero_le _, by show _ < 0 + 4; omega⟩, fun e => r4 ?_⟩
    obtain ⟨-, h4, h5⟩ := e
    have h3' : (i 1).val < (rat (.inl (f, t)) c).2 + 1 := h3
    dsimp only at h4 h5 ⊢
    omega
/-- A row is the device's own chunk and the rest. -/
theorem row_own (f : Fin 2) (c : Dev nD) (q : PosShare TreeShare) (Y) : pts (F := F) f c (rowReg f c) q Y =
    iprop(pts f c (ownReg f c) q Y ∗ pts f c (rowReg f c \ ownReg f c) q Y) := by
  rw [← pts_union f c Finset.disjoint_sdiff, Finset.union_sdiff_of_subset (own_sub f c)]
/-- A row is its two halves. -/
theorem row_two (f : Fin 2) (c : Dev nD) (q : PosShare TreeShare) (Y) : pts (F := F) f c (rowReg f c) q Y =
    iprop(pts f c (reg 2 (row f c, 0)) q Y ∗ pts f c (reg 2 (row f c, 2)) q Y) := by
  rw [← pts_union f c (reg_disj (.inr (.inl le_rfl)))]
  congr 1
  ext i
  rw [Finset.mem_union, mem_reg, mem_reg, mem_reg]
  dsimp only
  omega
/-- The whole buffer is the device's row and where the landings of the second phase go. -/
theorem buf_tile (f : Fin 2) (c : Dev nD) (q : PosShare TreeShare) (Y) : pts (F := F) f c Finset.univ q Y =
    iprop(pts f c (rowReg f c) q Y
      ∗ bigSep Finset.univ fun t : Fin 2 × Fin 3 × Fin 2 => if rcv (.inr (f, t)) c = true then pts f c (rreg (.inr (f, t)) c) q Y else iprop(emp)) := by
  rw [← pts_family f c (fun t => rreg (.inr (f, t)) c) (fun t => rcv (.inr (f, t)) c) (fun t t' hne h h' => reg_disj (tile2_ne f c t t' hne h h')),
    ← pts_union f c ?_]
  · congr 1
    ext i
    rw [Finset.mem_union, mem_reg, Finset.mem_biUnion]
    refine ⟨fun _ => ?_, fun _ => Finset.mem_univ _⟩
    have hi : (i 1).val < 4 := (i 1).isLt
    have hi' : (i 0).val < 4 := (i 0).isLt
    by_cases h : (i 0).val = row f c
    · exact .inl ⟨h, Nat.zero_le _, by show _ < 0 + 4; omega⟩
    · obtain ⟨t, ht, e1, e2, e3⟩ := tile2_cov f c ⟨(i 0).val, hi'⟩ ⟨(i 1).val, hi⟩ h
      exact .inr ⟨t, Finset.mem_filter.mpr ⟨Finset.mem_univ _, ht⟩, mem_reg.mpr ⟨e1.symm, e2, e3⟩⟩
  · rw [Finset.disjoint_biUnion_right]
    exact fun t ht => reg_disj (.inl fun e => tile2_off f c t (Finset.mem_filter.mp ht).2 e.symm)

/-! ## Families over the slots -/

theorem fin3 (Φ : Fin 3 → sProp 𝕄) : bigSep Finset.univ Φ = iprop(Φ 0 ∗ Φ 1 ∗ Φ 2) := by
  rw [show (Finset.univ : Finset (Fin 3)) = {0, 1, 2} by decide, BI.bigSep_insert (by decide), BI.bigSep_insert (by decide), BI.bigSep_singleton]
  rfl
/-- The slots by flow. -/
theorem slots (Φ : Slot → sProp 𝕄) : bigSep Finset.univ Φ = bigSep Finset.univ fun f : Fin 2 =>
    iprop(bigSep Finset.univ (fun t : Fin 2 × Fin 3 => Φ (.inl (f, t))) ∗ bigSep Finset.univ fun t : Fin 2 × Fin 3 × Fin 2 => Φ (.inr (f, t))) := by
  rw [BI.bigSep_univ_sum, BI.bigSep_univ_prod, BI.bigSep_univ_prod]
  exact (sep2 _ _ _).symm
/-- The slots of the second phase by direction and half. -/
theorem hops (Φ : Fin 2 × Fin 3 × Fin 2 → sProp 𝕄) : bigSep Finset.univ Φ = bigSep Finset.univ fun x : Fin 2 × Fin 2 =>
    iprop(Φ (x.1, 0, x.2) ∗ Φ (x.1, 1, x.2) ∗ Φ (x.1, 2, x.2)) := by
  rw [BI.bigSep_univ_prod, BI.bigSep_univ_prod]
  refine BI.bigSep_congr fun d _ => ?_
  rw [BI.bigSep_univ_prod, BI.bigSep_univ_comm]
  exact BI.bigSep_congr fun b _ => fin3 _

/-! ## The start of the first phase -/

/-- A sending end before anything: at its round, with what it needs to pay. -/
def tokS (c : Dev nD) (q : Slot) : sProp 𝕄 := iprop(atPos ER (sC q c) 0 ∅ 0 ∗ if snd q c = true then tok (F := F) q c else iprop(emp))
/-- What a device keeps of its own chunk of flow `f` in the first phase. -/
def ownK (c : Dev nD) (f : Fin 2) : sProp 𝕄 :=
  iprop(pts f c (ownReg f c) fullShare.left (FIN m f (px c)) ∗ pts f c (ownReg f c) (leaf 2 fullShare.right ⟨pos f c, (rowpos_lt f c).2⟩) (FIN m f (px c)))

theorem lf_img : ∀ (f : Fin 2) (c : Dev nD), (Finset.univ.filter fun t : Fin 2 × Fin 3 => snd (.inl (f, t)) c = true).image (fun t => lfIx t.1 t.2 (pos f c))
    = Finset.univ.erase ⟨pos f c, (rowpos_lt f c).2⟩ := by decide +kernel
theorem lf_inj : ∀ (f : Fin 2) (c : Dev nD) (t t' : Fin 2 × Fin 3), snd (.inl (f, t)) c = true → snd (.inl (f, t')) c = true →
    lfIx t.1 t.2 (pos f c) = lfIx t'.1 t'.2 (pos f c) → t = t' := by decide +kernel

/-- The right half of the own chunk is the shares lent to the slots of the first phase, and one more. -/
theorem own_leaves (c : Dev nD) (f : Fin 2) (Y) : pts (F := F) f c (ownReg f c) fullShare.right Y =
    iprop(pts f c (ownReg f c) (leaf 2 fullShare.right ⟨pos f c, (rowpos_lt f c).2⟩) Y
      ∗ bigSep Finset.univ fun t : Fin 2 × Fin 3 => if snd (.inl (f, t)) c = true then pts f c (sreg (.inl (f, t)) c) (shr (.inl (f, t)) c) Y else iprop(emp)) := by
  have e := Idealize.ShloMosaic.SparseCore.bigSep_image_of_injOn (M := 𝕄) (f := fun t : Fin 2 × Fin 3 => lfIx t.1 t.2 (pos f c))
    (s := Finset.univ.filter fun t : Fin 2 × Fin 3 => snd (.inl (f, t)) c = true)
    (fun t ht t' ht' => lf_inj f c t t' (Finset.mem_filter.mp ht).2 (Finset.mem_filter.mp ht').2)
    (fun i : Fin 4 => pts (F := F) f c (ownReg f c) (leaf 2 fullShare.right i) Y)
  refine (pts_leaves f c (ownReg f c) fullShare.right Y).trans ((BI.bigSep_erase (Finset.mem_univ (⟨pos f c, (rowpos_lt f c).2⟩ : Fin 4))).trans ?_)
  exact congrArg (fun P => iprop(pts f c (ownReg f c) (leaf 2 fullShare.right ⟨pos f c, (rowpos_lt f c).2⟩) Y ∗ P))
    ((congrArg (fun s => bigSep s fun i : Fin 4 => pts (F := F) f c (ownReg f c) (leaf 2 fullShare.right i) Y) (lf_img f c).symm).trans
      (e.trans (BI.bigSep_filter _ _ _)))

theorem flow_inl (f : Fin 2) (t : Fin 2 × Fin 3) : flow (.inl (f, t)) = f := rfl
theorem flow_inr (f : Fin 2) (t : Fin 2 × Fin 3 × Fin 2) : flow (.inr (f, t)) = f := rfl

/-- With the own chunks stored, the sending ends have their sources. -/
theorem start_SS (c : Dev nD) : iprop(bigSep Finset.univ (tokS (F := F) c) ∗ bigSep Finset.univ fun f : Fin 2 => pts f c (ownReg f c) fullShare (FIN m f (px c)))
    ⊢ iprop(bigSep Finset.univ (SS m false 0 0 c) ∗ bigSep Finset.univ (ownK m c)) := by
  rw [slots, slots, ← sep2, ← sep2]
  refine mono2 _ fun f => ?_
  rw [pts_split f c (ownReg f c) (PosShare.mem_left_op_right fullShare), own_leaves]
  have h1 : iprop(bigSep Finset.univ (fun t : Fin 2 × Fin 3 => tokS (F := F) c (.inl (f, t)))
      ∗ bigSep Finset.univ fun t : Fin 2 × Fin 3 => if snd (.inl (f, t)) c = true then pts f c (sreg (.inl (f, t)) c) (shr (.inl (f, t)) c) (FIN m f (px c)) else iprop(emp))
      ⊢ bigSep Finset.univ fun t : Fin 2 × Fin 3 => SS m false 0 0 c (.inl (f, t)) := by
    rw [← sep2]
    refine mono2 _ fun t => ?_
    unfold SS sInit tokS
    rw [if_neg (Nat.not_lt_zero _), if_neg (Nat.not_lt_zero _)]
    by_cases h : snd (.inl (f, t)) c = true
    · have h2 : hasSrc (.inl (f, t)) c = true ∧ early false (.inl (f, t)) = true := ⟨by unfold hasSrc; rw [h]; rfl, rfl⟩
      rw [if_pos h, if_pos h, if_pos h2]
      iintro ⟨⟨H1, H2⟩, H3⟩
      isplitl [H1]; · iexact H1
      isplitl [H2]; · iexact H2
      iexact H3
    · have h2 : ¬ (hasSrc (.inl (f, t)) c = true ∧ early false (.inl (f, t)) = true) := fun e => by
        obtain ⟨e, -⟩ := e
        unfold hasSrc at e
        rw [Bool.or_eq_true] at e
        exact e.elim h (fun e => Bool.noConfusion e)
      rw [if_neg h, if_neg h, if_neg h2]
      iintro ⟨⟨H1, H2⟩, H3⟩
      isplitl [H1]; · iexact H1
      isplitl [H2]; · iexact H2
      iexact H3
  have h2 : bigSep Finset.univ (fun t : Fin 2 × Fin 3 × Fin 2 => tokS (F := F) c (.inr (f, t))) ⊢ bigSep Finset.univ fun t : Fin 2 × Fin 3 × Fin 2 => SS m false 0 0 c (.inr (f, t)) := by
    refine mono2 _ fun t => ?_
    unfold SS sInit tokS
    have h2 : ¬ (hasSrc (.inr (f, t)) c = true ∧ early false (.inr (f, t)) = true) := fun e => Bool.noConfusion e.2
    rw [if_neg (Nat.not_lt_zero _), if_neg (Nat.not_lt_zero _), if_neg h2]
    iintro ⟨H1, H2⟩
    isplitl [H1]; · iexact H1
    isplitl [H2]; · iexact H2
    iempintro
  iintro ⟨⟨Ha, Hb⟩, Hl, Hk, Hr⟩
  isplitl [Ha Hb Hr]
  · isplitl [Ha Hr]
    · iapply h1
      isplitl [Ha]; · iexact Ha
      iexact Hr
    · iapply h2; iexact Hb
  unfold ownK
  isplitl [Hl]; · iexact Hl
  iexact Hk

/-- Before anything, a buffer is the own chunk and the places where things land. -/
theorem start_land (f : Fin 2) (c : Dev nD) (Y) : pts (F := F) f c Finset.univ fullShare Y
    ⊢ iprop(pts f c (ownReg f c) fullShare Y ∗ bigSep Finset.univ (fun t : Fin 2 × Fin 3 => land (F := F) (.inl (f, t)) c)
      ∗ bigSep Finset.univ fun t : Fin 2 × Fin 3 × Fin 2 => land (F := F) (.inr (f, t)) c) := by
  have h (q : Slot) (hq : flow q = f) : (if rcv q c = true then pts f c (rreg q c) fullShare Y else iprop(emp)) ⊢ land (F := F) q c := by
    unfold land
    subst hq
    by_cases h : rcv q c = true
    · rw [if_pos h, if_pos h]
      iintro H
      iexists Y
      iexact H
    · rw [if_neg h, if_neg h]
  rw [buf_tile, row_own, row_rest]
  iintro ⟨⟨Ho, H1⟩, H2⟩
  isplitl [Ho]; · iexact Ho
  isplitl [H1]
  · iapply (mono2 _ fun t => h (.inl (f, t)) rfl)
    iexact H1
  · iapply (mono2 _ fun t => h (.inr (f, t)) rfl)
    iexact H2

/-! ## From the first phase to the second -/

/-- What a landing of the first phase leaves. -/
def got (c : Dev nD) (f : Fin 2) : sProp 𝕄 :=
  bigSep Finset.univ fun t : Fin 2 × Fin 3 => if rcv (.inl (f, t)) c = true then pts f c (rreg (.inl (f, t)) c) fullShare (FIN m f (px c)) else iprop(emp)
/-- The sources of the first hops of the second phase. -/
def srcs (c : Dev nD) (f : Fin 2) : sProp 𝕄 := bigSep Finset.univ fun x : Fin 2 × Fin 2 => srcP m (.inr (f, x.1, 0, x.2)) c

theorem srcs_eq (c : Dev nD) (f : Fin 2) : srcs m c f = pts f c (rowReg f c) fullShare.left (FIN m f (px c)) := by
  unfold srcs
  have h0 : (row f c - (0 : Fin 3).val, 2 * (0 : Fin 2).val) = (row f c, 0) := rfl
  rw [row_two, pts_split f c (reg 2 (row f c, 0)) (PosShare.mem_left_op_right fullShare.left), pts_split f c (reg 2 (row f c, 2)) (PosShare.mem_left_op_right fullShare.left),
    BI.bigSep_univ_prod, BI.bigSep_fin_two, BI.bigSep_fin_two, BI.bigSep_fin_two]
  have e (d b : Fin 2) : srcP m (.inr (f, d, 0, b)) c = pts f c (reg 2 (row f c, 2 * b.val)) (if d = 0 then fullShare.left.left else fullShare.left.right) (FIN m f (px c)) := by
    match d with
    | 0 => rfl
    | 1 => rfl
  rw [e, e, e, e]
  have h1 (A B C D : sProp 𝕄) : iprop((A ∗ B) ∗ C ∗ D) ⊢ iprop((A ∗ C) ∗ B ∗ D) := by
    iintro ⟨⟨A, B⟩, C, D⟩
    isplitl [A C]
    · isplitl [A]; · iexact A
      iexact C
    · isplitl [B]; · iexact B
      iexact D
  exact BI.Entails.antisymm (h1 _ _ _ _) (h1 _ _ _ _)

/-- A receiving end gives what it holds of a landing of the first phase. -/
theorem turn_RR (c : Dev nD) : bigSep Finset.univ (RR m false 12 12 c) ⊢ iprop(bigSep Finset.univ (RR m true 12 12 c) ∗ bigSep Finset.univ (got m c)) := by
  rw [slots, slots, ← sep2]
  refine mono2 _ fun f => ?_
  have h1 : bigSep Finset.univ (fun t : Fin 2 × Fin 3 => RR m false 12 12 c (.inl (f, t)))
      ⊢ iprop(bigSep Finset.univ (fun t : Fin 2 × Fin 3 => RR m true 12 12 c (.inl (f, t))) ∗ got m c f) := by
    unfold got
    rw [← sep2]
    refine mono2 _ fun t => ?_
    have ho : ordR (.inl (f, t)) < 12 := by
      obtain ⟨d, k⟩ := t
      show 6 * f.val + 2 * k.val + d.val < 12
      omega
    unfold RR
    rw [if_pos ho, if_pos ho]
    have e1 : held m false 12 (.inl (f, t)) c = pts f c (rreg (.inl (f, t)) c) fullShare (FIN m f (px c)) := rfl
    have e2 : held m true 12 (.inl (f, t)) c = iprop(emp) := rfl
    rw [e1, e2]
    by_cases h : rcv (.inl (f, t)) c = true
    · rw [if_pos h, if_pos h]
      iintro ⟨H1, H2⟩
      isplitl [H1]
      · isplitl [H1]; · iexact H1
        iempintro
      iexact H2
    · rw [if_neg h, if_neg h]
      iintro ⟨H1, H2⟩
      isplitl [H1]
      · isplitl [H1]; · iexact H1
        iempintro
      iexact H2
  iintro ⟨H1, H2⟩
  ihave H1 := h1 $$ H1
  icases H1 with ⟨H1, H3⟩
  isplitl [H1 H2]
  · isplitl [H1]; · iexact H1
    iexact H2
  iexact H3

/-- The sending ends of the first hops of the second phase get their sources. -/
theorem turn_SS (c : Dev nD) : iprop(bigSep Finset.univ (SS m false 12 0 c) ∗ bigSep Finset.univ (srcs m c)) ⊢ bigSep Finset.univ (SS m true 12 0 c) := by
  rw [slots, slots, ← sep2]
  refine mono2 _ fun f => ?_
  unfold srcs
  rw [hops, hops]
  have h1 (t : Fin 2 × Fin 3) : SS m false 12 0 c (.inl (f, t)) = SS m true 12 0 c (.inl (f, t)) := rfl
  have hS (B : Bool) (d : Fin 2) (s : Fin 3) (b : Fin 2) : SS m B 12 0 c (.inr (f, d, s, b)) = iprop(atPos ER (sC (.inr (f, d, s, b)) c) 0 ∅ 0 ∗ sInit m B (.inr (f, d, s, b)) c) := by
    unfold SS
    rw [if_neg (Nat.not_lt_zero _), if_neg]
    show ¬ (if s.val = 0 then 12 + 4 * f.val + 2 * b.val + d.val else 12 + 8 * s.val + 4 * b.val + 2 * f.val + d.val) < 12
    split <;> omega
  have h0 (d b : Fin 2) : iprop(SS m false 12 0 c (.inr (f, d, 0, b)) ∗ srcP m (.inr (f, d, 0, b)) c) ⊢ SS m true 12 0 c (.inr (f, d, 0, b)) := by
    rw [hS, hS]
    unfold sInit
    have e1 : ¬ (hasSrc (.inr (f, d, 0, b)) c = true ∧ early false (.inr (f, d, 0, b)) = true) := fun e => Bool.noConfusion e.2
    have e2 : hasSrc (.inr (f, d, 0, b)) c = true ∧ early true (.inr (f, d, 0, b)) = true := ⟨by unfold hasSrc; exact Bool.or_true _, rfl⟩
    rw [if_neg e1, if_pos e2]
    iintro ⟨⟨H1, H2, -⟩, H3⟩
    isplitl [H1]; · iexact H1
    isplitl [H2]; · iexact H2
    iexact H3
  have hn (d b : Fin 2) (s : Fin 3) (hs : s.val ≠ 0) : SS m false 12 0 c (.inr (f, d, s, b)) ⊢ SS m true 12 0 c (.inr (f, d, s, b)) := by
    rw [hS, hS]
    unfold sInit
    have e1 : ¬ (hasSrc (.inr (f, d, s, b)) c = true ∧ early false (.inr (f, d, s, b)) = true) := fun e => Bool.noConfusion e.2
    have e2 : ¬ (hasSrc (.inr (f, d, s, b)) c = true ∧ early true (.inr (f, d, s, b)) = true) := fun e => by
      have e' : (true && decide (s = 0)) = true := e.2
      exact hs (congrArg Fin.val (of_decide_eq_true e'))
    rw [if_neg e1, if_neg e2]
  have h2 : iprop(bigSep Finset.univ (fun x : Fin 2 × Fin 2 => iprop(SS m false 12 0 c (.inr (f, x.1, 0, x.2)) ∗ SS m false 12 0 c (.inr (f, x.1, 1, x.2)) ∗ SS m false 12 0 c (.inr (f, x.1, 2, x.2))))
      ∗ bigSep Finset.univ fun x : Fin 2 × Fin 2 => srcP m (.inr (f, x.1, 0, x.2)) c)
      ⊢ bigSep Finset.univ (fun x : Fin 2 × Fin 2 => iprop(SS m true 12 0 c (.inr (f, x.1, 0, x.2)) ∗ SS m true 12 0 c (.inr (f, x.1, 1, x.2)) ∗ SS m true 12 0 c (.inr (f, x.1, 2, x.2)))) := by
    rw [← sep2]
    refine mono2 _ fun x => ?_
    iintro ⟨⟨A, B, C⟩, D⟩
    isplitl [A D]
    · iapply h0 x.1 x.2
      isplitl [A]; · iexact A
      iexact D
    isplitl [B]
    · iapply hn x.1 x.2 1 (by decide); iexact B
    · iapply hn x.1 x.2 2 (by decide); iexact C
  iintro ⟨⟨H1, H2⟩, H3⟩
  isplitl [H1]; · iexact H1
  iapply h2
  isplitl [H2]; · iexact H2
  iexact H3

/-- The share of the own chunk that nothing ever borrows. -/
def ownL (c : Dev nD) (f : Fin 2) : sProp 𝕄 := pts f c (ownReg f c) (leaf 2 fullShare.right ⟨pos f c, (rowpos_lt f c).2⟩) (FIN m f (px c))

/-- Between the phases, a row is complete: its left half goes to the first hops, its right half stays to read from. -/
theorem turn_row (c : Dev nD) (f : Fin 2) : iprop(ownK m c f ∗ got m c f) ⊢ iprop(srcs m c f ∗ ownR m c f ∗ ownL m c f) := by
  unfold ownK got ownR ownL
  rw [srcs_eq, row_own, ← row_rest, pts_split f c (rowReg f c \ ownReg f c) (PosShare.mem_left_op_right fullShare)]
  iintro ⟨⟨A, B⟩, C, D⟩
  isplitl [A C]
  · isplitl [A]; · iexact A
    iexact C
  isplitl [D]; · iexact D
  iexact B

variable {K} in
/-- From the first phase to the second. -/
theorem turn (c : Dev nD) (D : Finset (ℕ × ℕ)) (Y : sProp 𝕄) : St m K c false 12 12 0 iprop(OUTst m c D ∗ bigSep Finset.univ (ownK m c) ∗ Y)
    ⊢ St m K c true 12 12 0 (XB m c D iprop(bigSep Finset.univ (ownL m c) ∗ Y)) := by
  have h : iprop(bigSep Finset.univ (ownK m c) ∗ bigSep Finset.univ (got m c))
      ⊢ iprop(bigSep Finset.univ (srcs m c) ∗ bigSep Finset.univ (ownR m c) ∗ bigSep Finset.univ (ownL m c)) := by
    rw [← sep2, ← sep2, ← sep2]
    exact mono2 _ fun f => turn_row m c f
  unfold St XB
  iintro ⟨#Hc, #Hr, HO, HS, HR, HX, HK, HY⟩
  ihave HR := (turn_RR m c) $$ HR
  icases HR with ⟨HR, HG⟩
  ihave HK := h $$ [HK HG]
  · isplitl [HK]; · iexact HK
    iexact HG
  icases HK with ⟨H1, H2, H3⟩
  isplitr; · iexact Hc
  isplitr; · iexact Hr
  isplitl [HO]; · iexact HO
  isplitl [HS H1]
  · iapply turn_SS
    isplitl [HS]; · iexact HS
    iexact H1
  isplitl [HR]; · iexact HR
  isplitl [HX]; · iexact HX
  isplitl [H2]; · iexact H2
  isplitl [H3]; · iexact H3
  iexact HY

/-! ## The end -/

theorem nx_back : ∀ (f d b : Fin 2) (s : Fin 2) (c : Dev nD), snd (.inr (f, d, s.succ, b)) c = true →
    rcv (.inr (f, d, s.castSucc, b)) c = true ∧ sat (.inr (f, d, s.succ, b)) c = rat (.inr (f, d, s.castSucc, b)) c := by decide +kernel

/-- A landing of the second phase, whole. -/
def full2 (c : Dev nD) (f : Fin 2) (t : Fin 2 × Fin 3 × Fin 2) : sProp 𝕄 :=
  if rcv (.inr (f, t)) c = true then pts f c (rreg (.inr (f, t)) c) fullShare (FIN m f (px c)) else iprop(emp)
/-- What is held of a landing of the second phase in the end. -/
def part2 (c : Dev nD) (f : Fin 2) (t : Fin 2 × Fin 3 × Fin 2) : sProp 𝕄 := if rcv (.inr (f, t)) c = true then held m true 36 (.inr (f, t)) c else iprop(emp)

theorem lent_end (c : Dev nD) (f d b : Fin 2) (s : Fin 2) : lent 36 (.inr (f, d, s.castSucc, b)) c = snd (.inr (f, d, s.succ, b)) c := by
  have h : nx (.inr (f, d, s.castSucc, b)) = some (.inr (f, d, s.succ, b)) := by
    unfold nx
    dsimp only
    rw [dif_pos (by show s.val + 1 < 3; omega)]
    rfl
  unfold lent
  rw [h]
  have ho : ordS (.inr (f, d, s.succ, b)) < 36 := by
    show (if s.succ.val = 0 then 12 + 4 * f.val + 2 * b.val + d.val else 12 + 8 * s.succ.val + 4 * b.val + 2 * f.val + d.val) < 36
    have := s.isLt
    have e : s.succ.val = s.val + 1 := rfl
    rw [e]
    split <;> omega
  show (snd (.inr (f, d, s.succ, b)) c && decide (ordS (.inr (f, d, s.succ, b)) < 36)) = _
  rw [decide_eq_true ho, Bool.and_true]

/-- What a landing lent to the next hop comes back. -/
theorem end_hop (c : Dev nD) (f d b : Fin 2) (s : Fin 2) : iprop(part2 m c f (d, s.castSucc, b) ∗ sEnd m (.inr (f, d, s.succ, b)) c) ⊢ full2 m c f (d, s.castSucc, b) := by
  unfold part2 sEnd full2 held
  have hh : hasSrc (.inr (f, d, s.succ, b)) c = snd (.inr (f, d, s.succ, b)) c := by
    unfold hasSrc
    have : isFst (.inr (f, d, s.succ, b)) = false := by
      show decide (s.succ = 0) = false
      exact decide_eq_false (Fin.succ_ne_zero s)
    rw [this, Bool.or_false]
  dsimp only
  rw [lent_end, hh]
  by_cases h : snd (.inr (f, d, s.succ, b)) c = true
  · obtain ⟨h1, h2⟩ := nx_back f d b s c h
    have e : srcP m (.inr (f, d, s.succ, b)) c = pts f c (rreg (.inr (f, d, s.castSucc, b)) c) fullShare.left (FIN m f (px c)) := by
      show pts f c (reg 2 (sat (.inr (f, d, s.succ, b)) c)) (if s.succ = 0 then (if d = 0 then fullShare.left.left else fullShare.left.right) else fullShare.left) (FIN m f (px c)) = _
      rw [if_neg (Fin.succ_ne_zero s), h2]
      rfl
    rw [if_pos h, if_pos h, if_pos h1, if_pos h1, e, pts_split f c (rreg (.inr (f, d, s.castSucc, b)) c) (PosShare.mem_left_op_right fullShare)]
    iintro ⟨⟨H1, -⟩, H2⟩
    isplitl [H2]; · iexact H2
    iexact H1
  · rw [if_neg h, if_neg h]
    by_cases h1 : rcv (.inr (f, d, s.castSucc, b)) c = true
    · rw [if_pos h1, if_pos h1, pts_split f c (rreg (.inr (f, d, s.castSucc, b)) c) (PosShare.mem_left_op_right fullShare)]
      iintro ⟨⟨H1, H2⟩, -⟩
      isplitl [H2]; · iexact H2
      iexact H1
    · rw [if_neg h1, if_neg h1]
      iintro ⟨H, -⟩
      iexact H
theorem end_last (c : Dev nD) (f d b : Fin 2) : part2 m c f (d, 2, b) ⊢ full2 m c f (d, 2, b) := by
  unfold part2 full2 held
  have h : lent 36 (.inr (f, d, 2, b)) c = false := rfl
  dsimp only
  rw [h]
  by_cases h1 : rcv (.inr (f, d, 2, b)) c = true
  · rw [if_pos h1, if_pos h1, if_neg Bool.false_ne_true, pts_split f c (rreg (.inr (f, d, 2, b)) c) (PosShare.mem_left_op_right fullShare)]
    iintro ⟨H1, H2⟩
    isplitl [H2]; · iexact H2
    iexact H1
  · rw [if_neg h1, if_neg h1]

/-- In the end, each buffer is whole again. -/
theorem end_buf (c : Dev nD) (f : Fin 2) :
    iprop((bigSep Finset.univ (fun t : Fin 2 × Fin 3 => sEnd m (.inl (f, t)) c) ∗ bigSep Finset.univ fun t : Fin 2 × Fin 3 × Fin 2 => sEnd m (.inr (f, t)) c)
      ∗ bigSep Finset.univ (part2 m c f) ∗ ownR m c f ∗ ownL m c f) ⊢ pts f c Finset.univ fullShare (FIN m f (px c)) := by
  have h1 : bigSep Finset.univ (fun t : Fin 2 × Fin 3 => sEnd m (.inl (f, t)) c) ⊢ bigSep Finset.univ fun t : Fin 2 × Fin 3 =>
      if snd (.inl (f, t)) c = true then pts f c (sreg (.inl (f, t)) c) (shr (.inl (f, t)) c) (FIN m f (px c)) else iprop(emp) := by
    refine mono2 _ fun t => ?_
    unfold sEnd
    have hh : hasSrc (.inl (f, t)) c = snd (.inl (f, t)) c := Bool.or_false _
    rw [hh]
    exact BIBase.Entails.rfl
  have h2 : iprop(bigSep Finset.univ (fun t : Fin 2 × Fin 3 × Fin 2 => sEnd m (.inr (f, t)) c) ∗ bigSep Finset.univ (part2 m c f))
      ⊢ iprop(srcs m c f ∗ bigSep Finset.univ (full2 m c f)) := by
    unfold srcs
    rw [hops, hops, hops, ← sep2, ← sep2]
    refine mono2 _ fun x => ?_
    have e0 : sEnd m (.inr (f, x.1, 0, x.2)) c = srcP m (.inr (f, x.1, 0, x.2)) c := by
      unfold sEnd
      exact if_pos (by unfold hasSrc; exact Bool.or_true _)
    have e1 := end_hop m c f x.1 x.2 0
    have e2 := end_hop m c f x.1 x.2 1
    rw [e0]
    iintro ⟨⟨A, B, C⟩, D, E, G⟩
    isplitl [A]; · iexact A
    isplitl [B D]
    · iapply e1
      isplitl [D]; · iexact D
      iexact B
    isplitl [C E]
    · iapply e2
      isplitl [E]; · iexact E
      iexact C
    iapply end_last
    iexact G
  rw [buf_tile, pts_split f c (rowReg f c) (PosShare.mem_left_op_right fullShare), row_own f c fullShare.right, own_leaves]
  iintro ⟨⟨A, B⟩, C, D, E⟩
  ihave BC := h2 $$ [B C]
  · isplitl [B]; · iexact B
    iexact C
  icases BC with ⟨B, C⟩
  ihave A := h1 $$ A
  ihave B := (BIBase.Entails.trans (BIBase.Entails.of_eq (srcs_eq m c f)) BIBase.Entails.rfl) $$ B
  isplitl [A B D E]
  · isplitl [B]; · iexact B
    isplitl [A E]
    · unfold ownL
      isplitl [E]; · iexact E
      iexact A
    unfold ownR
    iexact D
  unfold full2
  iexact C

variable {K} in
/-- The end of the run: the result, the buffers whole, the semaphores at zero. -/
theorem fin_state (c : Dev nD) (Y : sProp 𝕄) : St m K c true 36 36 36 (XB m c (done 26 c) iprop(bigSep Finset.univ (ownL m c) ∗ Y))
    ⊢ iprop(ctx m K ∗ (∃ W, owes (c : Thread nD τ) (Oq c 36) W) ∗ OUTst m c (done 26 c)
      ∗ (bigSep Finset.univ fun f : Fin 2 => pts f c Finset.univ fullShare (FIN m f (px c)))
      ∗ (bigSep Finset.univ fun q : Slot => semVal (sC q c) 0) ∗ (bigSep Finset.univ fun q : Slot => semVal (rC q c) 0) ∗ Y) := by
  have ho : ∀ q : Slot, ordR q < 36 := by decide +kernel
  have hS : bigSep Finset.univ (SS m true 36 36 c) ⊢ iprop((bigSep Finset.univ fun q : Slot => semVal (sC q c) 0) ∗ bigSep Finset.univ fun q : Slot => sEnd m q c) := by
    rw [← sep2]
    refine mono2 _ fun q => ?_
    unfold SS
    rw [if_pos (ho q)]
  have hR : bigSep Finset.univ (RR m true 36 36 c) ⊢ iprop((bigSep Finset.univ fun q : Slot => semVal (rC q c) 0)
      ∗ bigSep Finset.univ fun q : Slot => if rcv q c = true then held m true 36 q c else iprop(emp)) := by
    rw [← sep2]
    refine mono2 _ fun q => ?_
    unfold RR
    rw [if_pos (ho q)]
  have hB : iprop((bigSep Finset.univ fun q : Slot => sEnd m q c) ∗ (bigSep Finset.univ fun q : Slot => if rcv q c = true then held m true 36 q c else iprop(emp))
      ∗ bigSep Finset.univ (ownR m c) ∗ bigSep Finset.univ (ownL m c)) ⊢ bigSep Finset.univ fun f : Fin 2 => pts f c Finset.univ fullShare (FIN m f (px c)) := by
    rw [slots, slots, ← sep2, ← sep2, ← sep2]
    refine mono2 _ fun f => ?_
    iintro ⟨A, ⟨-, B⟩, C⟩
    iapply end_buf
    isplitl [A]; · iexact A
    unfold part2
    isplitl [B]; · iexact B
    iexact C
  unfold St XB
  iintro ⟨#Hc, #Hr, HO, HS, HR, HX, HW, HL, HY⟩
  ihave HS := hS $$ HS
  icases HS with ⟨S1, S2⟩
  ihave HR := hR $$ HR
  icases HR with ⟨R1, R2⟩
  isplitr; · iexact Hc
  isplitl [HO]; · iexact HO
  isplitl [HX]; · iexact HX
  isplitl [S2 R2 HW HL]
  · iapply hB
    isplitl [S2]; · iexact S2
    isplitl [R2]; · iexact R2
    isplitl [HW]; · iexact HW
    iexact HL
  isplitl [S1]; · iexact S1
  isplitl [R1]; · iexact R1
  iexact HY

end Cert.K

end
-- ==== Proof.Talk.lean ====
/-
The parts of the body that pass chunks along the two axes, up to the first two hops of the second phase.
-/
module

public import proofs.«01_k».proof.Proof.Conv

@[expose] public section

set_option maxRecDepth 1000000

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]
local notation "𝕄" => MT nD τ sig Unit (Elt F) ℕ UU ℕ
variable (m : (ℓ : Loc nD τ sig) → Buf (Elt F) ℓ) (K : Dev nD × Ck → ℕ)

variable {c : Dev nD} {X : sProp (MT nD τ sig Unit (Elt F) ℕ UU ℕ)}

/-- A part of the body on the buffers and semaphores it runs with. -/
abbrev atBuf {α : Type 1} (p : (a : Memref sig .tc .smem S2048 .i32) → a.IsWhole → (a : Memref sig .tc .vmem S2048x1 .i32) → a.IsWhole → (a : Memref sig .tc .hbm S16384x1024 .f32) → a.IsWhole → (a : Memref sig .tc .vmem S2048x1024 .f32) → a.IsWhole → (a : Memref sig .tc .vmem S128x1024 .f32) → a.IsWhole → (a : Memref sig .tc .vmem S128x1024 .bf16) → a.IsWhole → (a : Memref sig .tc .vmem S128x1024 .bf16) → a.IsWhole → (a : Memref sig .tc .vmem S4x4x64x1024 .bf16) → a.IsWhole → (a : Memref sig .tc .vmem S4x4x64x1024 .bf16) → a.IsWhole →  DmaSems sig S_ → DmaSems sig S_ → DmaSems sig S_ → DmaSems sig S8x3 → DmaSems sig S8x3x2 → α) : α :=
  p (Memref.whole cc0_stg0_0) (Memref.isWhole_whole _) (Memref.whole cc0_stg1_0) (Memref.isWhole_whole _) (Memref.whole main_arg1) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9
attribute [local irreducible] wp

set_option maxHeartbeats 2000000 in
theorem part19_run (v2 v5 v8 v165) : St m K c false 2 0 0 X ⊢ Run c (atBuf k0_part19 c v2 v5 v8 v165) fun _ => St m K c false 8 0 0 X := by
  rw [k0_part19_eq_skeleton]; unfold k0_part19_skel atBuf; beta_reduce; extract_lets
  refine st_issue m K (.inl (0, 0, 1)) (cond := k0_cond15) (off := k0_off18) (dev := k0_dev17) rfl rfl rfl (fst1 _) (get1 m _) (fun _ => rfl) rfl rfl (fun _ => rfl) rfl (by decide +kernel) ?_
  refine st_issue m K (.inl (0, 1, 1)) (cond := k0_cond16) (off := k0_off19) (dev := k0_dev18) rfl rfl rfl (fst1 _) (get1 m _) (fun _ => rfl) rfl rfl (fun _ => rfl) rfl (by decide +kernel) ?_
  refine st_issue m K (.inl (0, 0, 2)) (cond := k0_cond17) (off := k0_off20) (dev := k0_dev19) rfl rfl rfl (fst1 _) (get1 m _) (fun _ => rfl) rfl rfl (fun _ => rfl) rfl (by decide +kernel) ?_
  refine st_issue m K (.inl (0, 1, 2)) (cond := k0_cond18) (off := k0_off21) (dev := k0_dev20) rfl rfl rfl (fst1 _) (get1 m _) (fun _ => rfl) rfl rfl (fun _ => rfl) rfl (by decide +kernel) ?_
  refine st_issue m K (.inl (1, 0, 0)) (cond := k0_cond19) (off := k0_off22) (dev := k0_dev21) rfl rfl rfl (fst1 _) (get1 m _) (fun _ => rfl) rfl rfl (fun _ => rfl) rfl (by decide +kernel) ?_
  refine st_issue m K (.inl (1, 1, 0)) (cond := k0_cond20) (off := k0_off23) (dev := k0_dev22) rfl rfl rfl (fst1 _) (get1 m _) (fun _ => rfl) rfl rfl (fun _ => rfl) rfl (by decide +kernel) ?_
  exact run_ret BIBase.Entails.rfl
set_option maxHeartbeats 2000000 in
theorem part21_run (v2 v5 v8 v216) : St m K c false 12 1 0 X ⊢ Run c (atBuf k0_part21 c v2 v5 v8 v216) fun _ => St m K c false 12 7 0 X := by
  rw [k0_part21_eq_skeleton]; unfold k0_part21_skel atBuf; beta_reduce; extract_lets
  refine recv m K (.inl (0, 1, 0)) (cond := k0_cond26) (fun _ => rfl) rfl (fun _ => rfl) (by decide +kernel) rfl rfl (recv1_ok _ rfl) ?_
  refine recv m K (.inl (0, 0, 1)) (cond := k0_cond27) (fun _ => rfl) rfl (fun _ => rfl) (by decide +kernel) rfl rfl (recv1_ok _ rfl) ?_
  refine recv m K (.inl (0, 1, 1)) (cond := k0_cond28) (fun _ => rfl) rfl (fun _ => rfl) (by decide +kernel) rfl rfl (recv1_ok _ rfl) ?_
  refine recv m K (.inl (0, 0, 2)) (cond := k0_cond29) (fun _ => rfl) rfl (fun _ => rfl) (by decide +kernel) rfl rfl (recv1_ok _ rfl) ?_
  refine recv m K (.inl (0, 1, 2)) (cond := k0_cond30) (fun _ => rfl) rfl (fun _ => rfl) (by decide +kernel) rfl rfl (recv1_ok _ rfl) ?_
  refine recv m K (.inl (1, 0, 0)) (cond := k0_cond31) (fun _ => rfl) rfl (fun _ => rfl) (by decide +kernel) rfl rfl (recv1_ok _ rfl) ?_
  exact run_ret BIBase.Entails.rfl
set_option maxHeartbeats 2000000 in
theorem part22_run (v2 v5 v8 v240) : St m K c false 12 7 0 X ⊢ Run c (atBuf k0_part22 c v2 v5 v8 v240) fun _ => St m K c false 12 12 0 X := by
  rw [k0_part22_eq_skeleton]; unfold k0_part22_skel atBuf; beta_reduce; extract_lets
  refine recv m K (.inl (1, 1, 0)) (cond := k0_cond32) (fun _ => rfl) rfl (fun _ => rfl) (by decide +kernel) rfl rfl (recv1_ok _ rfl) ?_
  refine recv m K (.inl (1, 0, 1)) (cond := k0_cond33) (fun _ => rfl) rfl (fun _ => rfl) (by decide +kernel) rfl rfl (recv1_ok _ rfl) ?_
  refine recv m K (.inl (1, 1, 1)) (cond := k0_cond34) (fun _ => rfl) rfl (fun _ => rfl) (by decide +kernel) rfl rfl (recv1_ok _ rfl) ?_
  refine recv m K (.inl (1, 0, 2)) (cond := k0_cond35) (fun _ => rfl) rfl (fun _ => rfl) (by decide +kernel) rfl rfl (recv1_ok _ rfl) ?_
  refine recv m K (.inl (1, 1, 2)) (cond := k0_cond36) (fun _ => rfl) rfl (fun _ => rfl) (by decide +kernel) rfl rfl (recv1_ok _ rfl) ?_
  exact run_ret BIBase.Entails.rfl
theorem part23_run (v5 v8 v264 c0_i32_209) {P : sProp 𝕄} : P ⊢ Run c (atBuf k0_part23 v5 v8 v264 c0_i32_209) fun _ => P := by
  rw [k0_part23_eq_skeleton]; unfold k0_part23_skel atBuf; beta_reduce; extract_lets
  exact run_ret BIBase.Entails.rfl
set_option maxHeartbeats 2000000 in
theorem part24_run (v2 v5 v8 v295) : St m K c true 12 12 0 (XB m c (done 2 c) X) ⊢ Run c (atBuf k0_part24 c v2 v5 v8 v295) fun _ => St m K c true 19 12 0 (XB m c (done 2 c) X) := by
  rw [k0_part24_eq_skeleton]; unfold k0_part24_skel atBuf; beta_reduce; extract_lets
  refine st_issue m K (.inr (0, 0, 0, 0)) (cond := k0_cond37) (off := k0_off42) (dev := k0_dev27) rfl rfl rfl (fst2 _) (get2 m 0 0 0) (fun _ => rfl) rfl rfl (fun _ => rfl) rfl (by decide +kernel) ?_
  refine st_issue m K (.inr (0, 1, 0, 0)) (cond := k0_cond38) (off := k0_off43) (dev := k0_dev28) rfl rfl rfl (fst2 _) (get2 m 0 1 0) (fun _ => rfl) rfl rfl (fun _ => rfl) rfl (by decide +kernel) ?_
  refine st_issue m K (.inr (0, 0, 0, 1)) (cond := k0_cond39) (off := k0_off44) (dev := k0_dev29) rfl rfl rfl (fst2 _) (get2 m 0 0 1) (fun _ => rfl) rfl rfl (fun _ => rfl) rfl (by decide +kernel) ?_
  refine st_issue m K (.inr (0, 1, 0, 1)) (cond := k0_cond40) (off := k0_off45) (dev := k0_dev30) rfl rfl rfl (fst2 _) (get2 m 0 1 1) (fun _ => rfl) rfl rfl (fun _ => rfl) rfl (by decide +kernel) ?_
  refine st_issue m K (.inr (1, 0, 0, 0)) (cond := k0_cond41) (off := k0_off46) (dev := k0_dev31) rfl rfl rfl (fst2 _) (get2 m 1 0 0) (fun _ => rfl) rfl rfl (fun _ => rfl) rfl (by decide +kernel) ?_
  refine st_issue m K (.inr (1, 1, 0, 0)) (cond := k0_cond42) (off := k0_off47) (dev := k0_dev32) rfl rfl rfl (fst2 _) (get2 m 1 1 0) (fun _ => rfl) rfl rfl (fun _ => rfl) rfl (by decide +kernel) ?_
  refine st_issue m K (.inr (1, 0, 0, 1)) (cond := k0_cond43) (off := k0_off48) (dev := k0_dev33) rfl rfl rfl (fst2 _) (get2 m 1 0 1) (fun _ => rfl) rfl rfl (fun _ => rfl) rfl (by decide +kernel) ?_
  exact run_ret BIBase.Entails.rfl
set_option maxHeartbeats 2000000 in
theorem part25_run (v2 v5 v8 v259 v260 v262 v263 v265 v266 v268 v269 v271 v272 v274 v275 v277 v278 v280 v281 v283 v284 v286 v287 v289 v290 v292 v293) : St m K c true 19 12 0 (XB m c (done 2 c) X) ⊢ Run c (atBuf k0_part25 c v2 v5 v8 v259 v260 v262 v263 v265 v266 v268 v269 v271 v272 v274 v275 v277 v278 v280 v281 v283 v284 v286 v287 v289 v290 v292 v293) fun _ => St m K c true 20 12 0 (XB m c (done 14 c) X) := by
  rw [k0_part25_eq_skeleton]; unfold k0_part25_skel atBuf; beta_reduce; extract_lets
  refine st_issue m K (.inr (1, 1, 0, 1)) (cond := k0_cond44) (off := k0_off49) (dev := k0_dev34) rfl rfl rfl (fst2 _) (get2 m 1 1 1) (fun _ => rfl) rfl rfl (fun _ => rfl) rfl (by decide +kernel) ?_
  refine st_conv m K (0, 0, 0) (f := 0) rfl rfl (cond := k0_cond45) (offa := k0_off50) (off := k0_off51) (fun _ => rfl) (by decide +kernel) ?_
  refine st_conv m K (0, 1, 0) (f := 0) rfl rfl (cond := k0_cond46) (offa := k0_off52) (off := k0_off53) (fun _ => rfl) (by decide +kernel) ?_
  refine st_conv m K (1, 0, 0) (f := 1) rfl rfl (cond := k0_cond47) (offa := k0_off54) (off := k0_off55) (fun _ => rfl) (by decide +kernel) ?_
  refine st_conv m K (1, 1, 0) (f := 1) rfl rfl (cond := k0_cond48) (offa := k0_off56) (off := k0_off57) (fun _ => rfl) (by decide +kernel) ?_
  refine st_conv m K (0, 0, 1) (f := 0) rfl rfl (cond := k0_cond49) (offa := k0_off58) (off := k0_off59) (fun _ => rfl) (by decide +kernel) ?_
  refine st_conv m K (0, 1, 1) (f := 0) rfl rfl (cond := k0_cond50) (offa := k0_off60) (off := k0_off61) (fun _ => rfl) (by decide +kernel) ?_
  refine st_conv m K (1, 0, 1) (f := 1) rfl rfl (cond := k0_cond51) (offa := k0_off62) (off := k0_off63) (fun _ => rfl) (by decide +kernel) ?_
  refine st_conv m K (1, 1, 1) (f := 1) rfl rfl (cond := k0_cond52) (offa := k0_off64) (off := k0_off65) (fun _ => rfl) (by decide +kernel) ?_
  refine st_conv m K (0, 0, 2) (f := 0) rfl rfl (cond := k0_cond53) (offa := k0_off66) (off := k0_off67) (fun _ => rfl) (by decide +kernel) ?_
  refine st_conv m K (0, 1, 2) (f := 0) rfl rfl (cond := k0_cond54) (offa := k0_off68) (off := k0_off69) (fun _ => rfl) (by decide +kernel) ?_
  refine st_conv m K (1, 0, 2) (f := 1) rfl rfl (cond := k0_cond55) (offa := k0_off70) (off := k0_off71) (fun _ => rfl) (by decide +kernel) ?_
  refine st_conv m K (1, 1, 2) (f := 1) rfl rfl (cond := k0_cond56) (offa := k0_off72) (off := k0_off73) (fun _ => rfl) (by decide +kernel) ?_
  exact run_ret BIBase.Entails.rfl
set_option maxHeartbeats 2000000 in
theorem part26_run (v2 v5 v8 v347) : St m K c true 20 12 0 (XB m c (done 14 c) X) ⊢ Run c (atBuf k0_part26 c v2 v5 v8 v347) fun _ => St m K c true 22 14 0 (XB m c (done 14 c) X) := by
  rw [k0_part26_eq_skeleton]; unfold k0_part26_skel atBuf; beta_reduce; extract_lets
  refine recv m K (.inr (0, 0, 0, 0)) (cond := k0_cond57) (fun _ => rfl) rfl (fun _ => rfl) (by decide +kernel) rfl rfl (recv2_ok _) ?_
  refine st_issue m K (.inr (0, 0, 1, 0)) (cond := k0_cond58) (off := k0_off75) (dev := k0_dev35) rfl rfl rfl (fst2 _) (get3 m 0 0 0 0 (by decide)) (fun _ => rfl) rfl rfl (fun _ => rfl) rfl (by decide +kernel) ?_
  refine recv m K (.inr (0, 1, 0, 0)) (cond := k0_cond59) (fun _ => rfl) rfl (fun _ => rfl) (by decide +kernel) rfl rfl (recv2_ok _) ?_
  refine st_issue m K (.inr (0, 1, 1, 0)) (cond := k0_cond60) (off := k0_off77) (dev := k0_dev36) rfl rfl rfl (fst2 _) (get3 m 0 1 0 0 (by decide)) (fun _ => rfl) rfl rfl (fun _ => rfl) rfl (by decide +kernel) ?_
  exact run_ret BIBase.Entails.rfl
set_option maxHeartbeats 2000000 in
theorem part27_run (v2 v5 v8 v375) : St m K c true 22 14 0 (XB m c (done 14 c) X) ⊢ Run c (atBuf k0_part27 c v2 v5 v8 v375) fun _ => St m K c true 24 16 0 (XB m c (done 14 c) X) := by
  rw [k0_part27_eq_skeleton]; unfold k0_part27_skel atBuf; beta_reduce; extract_lets
  refine recv m K (.inr (1, 0, 0, 0)) (cond := k0_cond61) (fun _ => rfl) rfl (fun _ => rfl) (by decide +kernel) rfl rfl (recv2_ok _) ?_
  refine st_issue m K (.inr (1, 0, 1, 0)) (cond := k0_cond62) (off := k0_off79) (dev := k0_dev37) rfl rfl rfl (fst2 _) (get3 m 1 0 0 0 (by decide)) (fun _ => rfl) rfl rfl (fun _ => rfl) rfl (by decide +kernel) ?_
  refine recv m K (.inr (1, 1, 0, 0)) (cond := k0_cond63) (fun _ => rfl) rfl (fun _ => rfl) (by decide +kernel) rfl rfl (recv2_ok _) ?_
  refine st_issue m K (.inr (1, 1, 1, 0)) (cond := k0_cond64) (off := k0_off81) (dev := k0_dev38) rfl rfl rfl (fst2 _) (get3 m 1 1 0 0 (by decide)) (fun _ => rfl) rfl rfl (fun _ => rfl) rfl (by decide +kernel) ?_
  exact run_ret BIBase.Entails.rfl
set_option maxHeartbeats 2000000 in
theorem part28_run (v2 v5 v8 v403) : St m K c true 24 16 0 (XB m c (done 14 c) X) ⊢ Run c (atBuf k0_part28 c v2 v5 v8 v403) fun _ => St m K c true 26 18 0 (XB m c (done 14 c) X) := by
  rw [k0_part28_eq_skeleton]; unfold k0_part28_skel atBuf; beta_reduce; extract_lets
  refine recv m K (.inr (0, 0, 0, 1)) (cond := k0_cond65) (fun _ => rfl) rfl (fun _ => rfl) (by decide +kernel) rfl rfl (recv2_ok _) ?_
  refine st_issue m K (.inr (0, 0, 1, 1)) (cond := k0_cond66) (off := k0_off83) (dev := k0_dev39) rfl rfl rfl (fst2 _) (get3 m 0 0 1 0 (by decide)) (fun _ => rfl) rfl rfl (fun _ => rfl) rfl (by decide +kernel) ?_
  refine recv m K (.inr (0, 1, 0, 1)) (cond := k0_cond67) (fun _ => rfl) rfl (fun _ => rfl) (by decide +kernel) rfl rfl (recv2_ok _) ?_
  refine st_issue m K (.inr (0, 1, 1, 1)) (cond := k0_cond68) (off := k0_off85) (dev := k0_dev40) rfl rfl rfl (fst2 _) (get3 m 0 1 1 0 (by decide)) (fun _ => rfl) rfl rfl (fun _ => rfl) rfl (by decide +kernel) ?_
  exact run_ret BIBase.Entails.rfl
set_option maxHeartbeats 2000000 in
theorem part29_run (v2 v5 v8 v431) : St m K c true 26 18 0 (XB m c (done 14 c) X) ⊢ Run c (atBuf k0_part29 c v2 v5 v8 v431) fun _ => St m K c true 28 20 0 (XB m c (done 14 c) X) := by
  rw [k0_part29_eq_skeleton]; unfold k0_part29_skel atBuf; beta_reduce; extract_lets
  refine recv m K (.inr (1, 0, 0, 1)) (cond := k0_cond69) (fun _ => rfl) rfl (fun _ => rfl) (by decide +kernel) rfl rfl (recv2_ok _) ?_
  refine st_issue m K (.inr (1, 0, 1, 1)) (cond := k0_cond70) (off := k0_off87) (dev := k0_dev41) rfl rfl rfl (fst2 _) (get3 m 1 0 1 0 (by decide)) (fun _ => rfl) rfl rfl (fun _ => rfl) rfl (by decide +kernel) ?_
  refine recv m K (.inr (1, 1, 0, 1)) (cond := k0_cond71) (fun _ => rfl) rfl (fun _ => rfl) (by decide +kernel) rfl rfl (recv2_ok _) ?_
  refine st_issue m K (.inr (1, 1, 1, 1)) (cond := k0_cond72) (off := k0_off89) (dev := k0_dev42) rfl rfl rfl (fst2 _) (get3 m 1 1 1 0 (by decide)) (fun _ => rfl) rfl rfl (fun _ => rfl) rfl (by decide +kernel) ?_
  exact run_ret BIBase.Entails.rfl

end Cert.K

end
-- ==== Proof.Exch.lean ====
/-
The exchange with the partner, the own chunks, and the device's own part of the result.
-/
module

public import proofs.«01_k».proof.Proof.Chunks
public import proofs.«01_k».proof.Proof.Talk

@[expose] public section

set_option maxRecDepth 1000000

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]
local notation "𝕄" => MT nD τ sig Unit (Elt F) ℕ UU ℕ
variable (m : (ℓ : Loc nD τ sig) → Buf (Elt F) ℓ) (K : Dev nD × Ck → ℕ)

variable {c : Dev nD}

/-! ## Storing the own chunks -/

theorem own_chunk : ∀ (f : Fin 2) (c : Dev nD), dv f (px c) (row f c) (pos f c) = c := by decide +kernel

/-- What the device's own chunk ends as. -/
theorem FIN_own (f : Fin 2) (c : Dev nD) {off : Fin 4 → ℕ} (hoff : off = ![row f c, pos f c, 0, 0])
    (inb : ∀ a, off a + S1x1x64x1024.size a ≤ S4x4x64x1024.size a) (g : S4x4x64x1024.Idx → Elt F .bf16) :
    ∀ i ∈ ownReg f c, updateSlice (s := S4x4x64x1024) g (hf m f c) off ⟨rfl, inb⟩ i = FIN m f (px c) i := by
  intro i hi
  obtain ⟨h0, h1, h2⟩ := mem_reg.mp hi
  have e0 : (i 0).val = row f c := h0
  have e1 : (i 1).val = pos f c := by dsimp only at h1 h2; omega
  have i2 : (i 2).val < 64 := (i 2).isLt
  have i3 : (i 3).val < 1024 := (i 3).isLt
  subst hoff
  have e : dv f (px c) (i 0).val (i 1).val = c := by rw [e0, e1]; exact own_chunk f c
  have hf' : FIN m f (px c) i = hf m f c (ix4 (i 2) (i 3)) := by unfold FIN; rw [e]
  rw [hf']
  unfold updateSlice
  refine (dif_pos (by
    intro a
    match a with
    | 0 => show row f c ≤ (i 0).val ∧ (i 0).val < row f c + 1; omega
    | 1 => show pos f c ≤ (i 1).val ∧ (i 1).val < pos f c + 1; omega
    | 2 => show 0 ≤ (i 2).val ∧ (i 2).val < 0 + 64; omega
    | 3 => show 0 ≤ (i 3).val ∧ (i 3).val < 0 + 1024; omega)).trans ?_
  congr 1
  funext a
  apply Fin.ext
  match a with
  | 0 => show (i 0).val - row f c = 0; omega
  | 1 => show (i 1).val - pos f c = 0; omega
  | 2 => show (i 2).val - 0 = (i 2).val; omega
  | 3 => show (i 3).val - 0 = (i 3).val; omega

/-- Storing the own chunk of flow `f`. -/
theorem own_store (f : Fin 2) {off : Fin 4 → ℕ} (hoff : off = ![row f c, pos f c, 0, 0])
    {inb : ∀ a, off a + S1x1x64x1024.size a ≤ S4x4x64x1024.size a}
    {hl : (bufM f).view.LoadsAt (Rect.unit (s := S4x4x64x1024) off S1x1x64x1024.size inb).toLoadRect}
    {hx : ((bufM f).access (Rect.unit (s := S4x4x64x1024) off S1x1x64x1024.size inb)).Stores Finset.univ}
    {hm : (Finset.univ : Finset (Rect.unit (s := S4x4x64x1024) off S1x1x64x1024.size inb).shape.Idx) = Finset.univ ∨ ∀ a, (Rect.unit (s := S4x4x64x1024) off S1x1x64x1024.size inb).stride a = 1}
    {α : Type} {Q : α → sProp 𝕄} {Kc : Prog (TpuEff nD τ sig (Elt F) Λ₀ .tc) α} (Y : S4x4x64x1024.Idx → Elt F .bf16) :
    pts f c (ownReg f c) fullShare Y ⊢ iprop((pts f c (ownReg f c) fullShare (FIN m f (px c)) -∗ Run c Kc Q)
      -∗ Run c (.op (.load (bufM f) (Rect.unit (s := S4x4x64x1024) off S1x1x64x1024.size inb).toLoadRect hl) fun _ =>
          .op (.store (bufM f) (Rect.unit (s := S4x4x64x1024) off S1x1x64x1024.size inb) (hf m f c) Finset.univ hx hm) fun _ => Kc) Q) := by
  have hset : (Rect.unit (s := S4x4x64x1024) off S1x1x64x1024.size inb).set = ownReg f c := unit_reg (a := (row f c, pos f c)) rfl hoff inb
  have hin := FIN_own m f c hoff inb Y
  match f, hl, hx, hm with
  | 0, hl, hx, hm =>
    have he := View.write_whole_slice_unit (Val := Elt F) cc0_scratch3 off S1x1x64x1024.size inb Y (hf m 0 c)
    iintro H Hk
    ihave H := (BIBase.Entails.of_eq (show pts 0 c (ownReg 0 c) fullShare Y = ((c : Thread nD τ).loc cc0_scratch3 ↦[ownReg 0 c]{fullShare} Y) from rfl)) $$ H
    iapply (wp_load 𝒱₀ (c : Thread nD τ) none Set.univ (m := (Memref.whole cc0_scratch3 : Memref sig .tc .vmem S4x4x64x1024 .bf16)) (S := ownReg 0 c)
      (by rw [← hset]; intro i hi; obtain ⟨y, hy, rfl⟩ := Finset.mem_map.mp hi; exact hy)) $$ H
    iintro H
    iapply (wp_store 𝒱₀ (c : Thread nD τ) none Set.univ (m := (Memref.whole cc0_scratch3 : Memref sig .tc .vmem S4x4x64x1024 .bf16))
      (r := Rect.unit (s := S4x4x64x1024) off S1x1x64x1024.size inb) (Mk := Finset.univ) (S := ownReg 0 c)
      (by rw [← hset]; intro i hi; obtain ⟨y, hy, rfl⟩ := Finset.mem_map.mp hi; exact LoadRect.idx_mem _ y)) $$ H
    iintro H
    iapply Hk
    ihave H := (BIBase.Entails.of_eq (pointsTo_congr (ℓ := (c : Thread nD τ).loc cc0_scratch3) (I := ownReg 0 c) (q := fullShare) fun i hi => (congrFun he i).trans (hin i hi))) $$ H
    unfold pts
    iexact H
  | 1, hl, hx, hm =>
    have he := View.write_whole_slice_unit (Val := Elt F) cc0_scratch4 off S1x1x64x1024.size inb Y (hf m 1 c)
    iintro H Hk
    ihave H := (BIBase.Entails.of_eq (show pts 1 c (ownReg 1 c) fullShare Y = ((c : Thread nD τ).loc cc0_scratch4 ↦[ownReg 1 c]{fullShare} Y) from rfl)) $$ H
    iapply (wp_load 𝒱₀ (c : Thread nD τ) none Set.univ (m := (Memref.whole cc0_scratch4 : Memref sig .tc .vmem S4x4x64x1024 .bf16)) (S := ownReg 1 c)
      (by rw [← hset]; intro i hi; obtain ⟨y, hy, rfl⟩ := Finset.mem_map.mp hi; exact hy)) $$ H
    iintro H
    iapply (wp_store 𝒱₀ (c : Thread nD τ) none Set.univ (m := (Memref.whole cc0_scratch4 : Memref sig .tc .vmem S4x4x64x1024 .bf16))
      (r := Rect.unit (s := S4x4x64x1024) off S1x1x64x1024.size inb) (Mk := Finset.univ) (S := ownReg 1 c)
      (by rw [← hset]; intro i hi; obtain ⟨y, hy, rfl⟩ := Finset.mem_map.mp hi; exact LoadRect.idx_mem _ y)) $$ H
    iintro H
    iapply Hk
    ihave H := (BIBase.Entails.of_eq (pointsTo_congr (ℓ := (c : Thread nD τ).loc cc0_scratch4) (I := ownReg 1 c) (q := fullShare) fun i hi => (congrFun he i).trans (hin i hi))) $$ H
    unfold pts
    iexact H

/-! ## The block from the partner, and the own chunks -/

/-- What a device has before it waits for its partner's block. -/
def E18 (c : Dev nD) (X : sProp 𝕄) : sProp 𝕄 :=
  iprop(ctx m K ∗ rchd c ∗ (∃ W, owes (c : Thread nD τ) (Oq c 0) W) ∗ bigSep Finset.univ (tokS c) ∗ bigSep Finset.univ (RR m false 0 0 c)
    ∗ atPos ER (rxC c) 0 ∅ 0 ∗ cred (tallyAt (rxC c) () Nx) ∗ (bigSep Finset.univ fun f : Fin 2 => iprop(∃ Y, pts (F := F) f c (ownReg f c) fullShare Y)) ∗ X)

abbrev rxM : Memref sig .tc .vmem S128x1024 .bf16 := Memref.whole cc0_scratch2
abbrev sxM : Memref sig .tc .vmem S128x1024 .bf16 := Memref.whole cc0_scratch1
theorem inb128 : ∀ a, (![0, 0] : Fin 2 → ℕ) a + S128x1024.size a ≤ S128x1024.size a := inb_S128x1024_S128x1024_0_0
abbrev all128 : Rect S128x1024 := Rect.unit (s := S128x1024) ![0, 0] S128x1024.size inb_S128x1024_S128x1024_0_0

theorem rx_read (X : S128x1024.Idx → Elt F .bf16) : rxM.view.readAt (Elt F) all128.toLoadRect X = X := by
  funext j
  show X (all128.emb j) = X j
  congr 1
  funext a
  apply Fin.ext
  match a with
  | 0 => show 0 + 1 * (j 0).val = (j 0).val; omega
  | 1 => show 0 + 1 * (j 1).val = (j 1).val; omega

variable (X : sProp (MT nD τ sig Unit (Elt F) ℕ UU ℕ))

/-- What it has once its own chunks are stored. -/
abbrev X18 (c : Dev nD) : sProp 𝕄 := iprop(bigSep Finset.univ (ownK m c) ∗ semVal (rxC c) 0 ∗ rxPts c (sx m (partner c)) ∗ X)

theorem lvl_rx : ∀ q : Slot, 0 ≤ ordS q → lvl (some oRx) < lvl (some (oR q)) := by
  rintro (⟨f, d, k⟩ | ⟨f, d, s, b⟩) -
  · show 2 < 3; omega
  · show 2 < 4 + s.val; omega

attribute [local irreducible] wp in
set_option maxHeartbeats 2000000 in
/-- It waits for the partner's block, reads it and stores its own chunks. -/
theorem exch18 {o0 o1 : Fin 4 → ℕ} (h0 : o0 = ![row 0 c, pos 0 c, 0, 0]) (h1 : o1 = ![row 1 c, pos 1 c, 0, 0])
    {i0 : ∀ a, o0 a + S1x1x64x1024.size a ≤ S4x4x64x1024.size a} {i1 : ∀ a, o1 a + S1x1x64x1024.size a ≤ S4x4x64x1024.size a}
    {w1 : sxM.view.WordExact} {w2 : rxM.view.WordExact} {hl2 : rxM.view.LoadsAt all128.toLoadRect}
    {hl : (bufM 0).view.LoadsAt (Rect.unit (s := S4x4x64x1024) o0 S1x1x64x1024.size i0).toLoadRect}
    {hx : ((bufM 0).access (Rect.unit (s := S4x4x64x1024) o0 S1x1x64x1024.size i0)).Stores Finset.univ}
    {hm : (Finset.univ : Finset (Rect.unit (s := S4x4x64x1024) o0 S1x1x64x1024.size i0).shape.Idx) = Finset.univ ∨ ∀ a, (Rect.unit (s := S4x4x64x1024) o0 S1x1x64x1024.size i0).stride a = 1}
    {hl' : (bufM 1).view.LoadsAt (Rect.unit (s := S4x4x64x1024) o1 S1x1x64x1024.size i1).toLoadRect}
    {hx' : ((bufM 1).access (Rect.unit (s := S4x4x64x1024) o1 S1x1x64x1024.size i1)).Stores Finset.univ}
    {hm' : (Finset.univ : Finset (Rect.unit (s := S4x4x64x1024) o1 S1x1x64x1024.size i1).shape.Idx) = Finset.univ ∨ ∀ a, (Rect.unit (s := S4x4x64x1024) o1 S1x1x64x1024.size i1).stride a = 1}
    {α : Type} {Q : α → sProp 𝕄} {Kc : FVec F S128x1024 .bf16 → Prog (TpuEff nD τ sig (Elt F) Λ₀ .tc) α}
    (hK : St m K c false 0 0 0 (X18 m X c) ⊢ Run c (Kc (sx m (partner c))) Q) :
    E18 m K c X ⊢ Run c (Prog.lift (.waitDma2 cc0_scratch7.sem sxM rxM w1 w2) >>= fun _ => Prog.lift (.load rxM all128.toLoadRect hl2) >>= fun v =>
      Prog.lift (.load (bufM 0) (Rect.unit (s := S4x4x64x1024) o0 S1x1x64x1024.size i0).toLoadRect hl) >>= fun _ =>
      Prog.lift (.store (bufM 0) (Rect.unit (s := S4x4x64x1024) o0 S1x1x64x1024.size i0) (k0_pay41 (msk m c) v) Finset.univ hx hm) >>= fun _ =>
      Prog.lift (.load (bufM 1) (Rect.unit (s := S4x4x64x1024) o1 S1x1x64x1024.size i1).toLoadRect hl') >>= fun _ =>
      Prog.lift (.store (bufM 1) (Rect.unit (s := S4x4x64x1024) o1 S1x1x64x1024.size i1) (k0_pay42 (msk m c) v) Finset.univ hx' hm') >>= fun _ => Kc v) Q := by
  refine run_eq (p' := .op (.waitDma2 cc0_scratch7.sem sxM rxM w1 w2) fun _ => .op (.load rxM all128.toLoadRect hl2) fun v =>
      .op (.load (bufM 0) (Rect.unit (s := S4x4x64x1024) o0 S1x1x64x1024.size i0).toLoadRect hl) fun _ =>
      .op (.store (bufM 0) (Rect.unit (s := S4x4x64x1024) o0 S1x1x64x1024.size i0) (k0_pay41 (msk m c) v) Finset.univ hx hm) fun _ =>
      .op (.load (bufM 1) (Rect.unit (s := S4x4x64x1024) o1 S1x1x64x1024.size i1).toLoadRect hl') fun _ =>
      .op (.store (bufM 1) (Rect.unit (s := S4x4x64x1024) o1 S1x1x64x1024.size i1) (k0_pay42 (msk m c) v) Finset.univ hx' hm') fun _ => Kc v) rfl ?_
  have hw := fun W => cell_wait m K (c := c) (k := some oRx) (s := cc0_scratch7.sem) rfl (d := .u) rfl (a := sxM) (b := rxM) rfl (w1 := w1) (w2 := w2)
    (kk := fun _ => .op (.load rxM all128.toLoadRect hl2) fun v =>
      .op (.load (bufM 0) (Rect.unit (s := S4x4x64x1024) o0 S1x1x64x1024.size i0).toLoadRect hl) fun _ =>
      .op (.store (bufM 0) (Rect.unit (s := S4x4x64x1024) o0 S1x1x64x1024.size i0) (k0_pay41 (msk m c) v) Finset.univ hx hm) fun _ =>
      .op (.load (bufM 1) (Rect.unit (s := S4x4x64x1024) o1 S1x1x64x1024.size i1).toLoadRect hl') fun _ =>
      .op (.store (bufM 1) (Rect.unit (s := S4x4x64x1024) o1 S1x1x64x1024.size i1) (k0_pay42 (msk m c) v) Finset.univ hx' hm') fun _ => Kc v) (Q := Q) (Oq c 0) W (may_wait lvl_rx)
  have s0 := fun Y => own_store m (c := c) (Q := Q) 0 h0 (hl := hl) (hx := hx) (hm := hm) (Kc := .op (.load (bufM 1) (Rect.unit (s := S4x4x64x1024) o1 S1x1x64x1024.size i1).toLoadRect hl') fun _ =>
      .op (.store (bufM 1) (Rect.unit (s := S4x4x64x1024) o1 S1x1x64x1024.size i1) (k0_pay42 (msk m c) (sx m (partner c))) Finset.univ hx' hm') fun _ => Kc (sx m (partner c))) Y
  have s1 := fun Y => own_store m (c := c) (Q := Q) 1 h1 (hl := hl') (hx := hx') (hm := hm') (Kc := Kc (sx m (partner c))) Y
  have hb : (bigSep Finset.univ fun f : Fin 2 => iprop(∃ Y, pts (F := F) f c (ownReg f c) fullShare Y)) = iprop((∃ Y, pts (F := F) 0 c (ownReg 0 c) fullShare Y) ∗ ∃ Y, pts (F := F) 1 c (ownReg 1 c) fullShare Y) := BI.bigSep_fin_two _
  unfold E18
  rw [hb]
  iintro ⟨#Hc, #Hr, ⟨%W, HO⟩, HS, HR, HA, HC, ⟨⟨%Y0, H0⟩, ⟨%Y1, H1⟩⟩, HX⟩
  iapply (hw W) $$ [HO HA HC]
  · isplitr; · iexact Hc
    isplitl [HC]; · iexact HC
    isplitl [HO]; · iexact HO
    iexact HA
  iintro ⟨HO, HV, HP⟩
  ihave HP := (BIBase.Entails.of_eq (show payload m c (some oRx) .u = ((c : Thread nD τ).loc cc0_scratch2 ↦{fullShare} sx m (partner c)) from rfl)) $$ HP
  iapply (wp_load 𝒱₀ (c : Thread nD τ) none Set.univ (m := rxM) (r := all128.toLoadRect) (S := Finset.univ) (Finset.subset_univ _)) $$ HP
  rw [rx_read]
  iintro HP
  iapply (s0 Y0) $$ H0
  iintro H0
  iapply (s1 Y1) $$ H1
  iintro H1
  iapply hK
  ihave HS := (start_SS m c) $$ [HS H0 H1]
  · isplitl [HS]; · iexact HS
    iapply (BIBase.Entails.of_eq (show iprop(pts 0 c (ownReg 0 c) fullShare (FIN m 0 (px c)) ∗ pts 1 c (ownReg 1 c) fullShare (FIN m 1 (px c))) = bigSep Finset.univ (fun f : Fin 2 => pts f c (ownReg f c) fullShare (FIN m f (px c))) from (BI.bigSep_fin_two (fun f : Fin 2 => pts f c (ownReg f c) fullShare (FIN m f (px c)))).symm))
    isplitl [H0]; · iexact H0
    iexact H1
  icases HS with ⟨HS, HK⟩
  unfold St
  isplitr; · iexact Hc
  isplitr; · iexact Hr
  isplitl [HO]; · iexact HO
  isplitl [HS]; · iexact HS
  isplitl [HR]; · iexact HR
  isplitl [HK]; · iexact HK
  isplitl [HV]; · iexact HV
  isplitl [HP]; · unfold rxPts; iexact HP
  iexact HX

theorem off15_0 : ∀ c : Dev nD, k0_off15 c 4#32 1#32 = ![row 0 c, pos 0 c, 0, 0] := by decide +kernel
theorem off15_1 : ∀ c : Dev nD, k0_off15 c 1#32 4#32 = ![row 1 c, pos 1 c, 0, 0] := by decide +kernel

attribute [local irreducible] wp

set_option maxHeartbeats 2000000 in
theorem part18_run (v2 v5 v8 v132) : E18 m K c X ⊢ Run c (atBuf k0_part18 c v2 v5 v8 (msk m c) v132) fun a => iprop(⌜a.1 = smm m c⌝ ∗ St m K c false 2 0 0 (X18 m X c)) := by
  rw [k0_part18_eq_skeleton]; unfold k0_part18_skel atBuf; beta_reduce; extract_lets
  refine exch18 m K X (off15_0 c) (off15_1 c) ?_
  refine st_issue m K (.inl (0, 0, 0)) (cond := k0_cond13) (off := k0_off16) (dev := k0_dev15) rfl rfl rfl (fst1 _) (get1 m _) (fun _ => rfl) rfl rfl (fun _ => rfl) rfl (by decide +kernel) ?_
  refine st_issue m K (.inl (0, 1, 0)) (cond := k0_cond14) (off := k0_off17) (dev := k0_dev16) rfl rfl rfl (fst1 _) (get1 m _) (fun _ => rfl) rfl rfl (fun _ => rfl) rfl (by decide +kernel) ?_
  refine run_ret ?_
  iintro H
  isplitr
  · ipureintro; rfl
  iexact H

theorem blk_own : ∀ c : Dev nD, mk (px c) (blk c / 4) (blk c % 4) = c := by decide +kernel

/-- What the result holds on the device's own block. -/
theorem OUT_own (i : S2048x1024.Idx) (h0 : (i 0).val / 128 = blk c) : OUT m c i =
    if (i 0).val % 128 < 64 then (k0_pay43 (smm m c) : S64x1024.Idx → Elt F .f32) (ix2 ((i 0).val % 64) (row_lt i) (i 1))
    else (k0_pay44 (smm m c) : S64x1024.Idx → Elt F .f32) (ix2 ((i 0).val % 64) (row_lt i) (i 1)) := by
  unfold OUT
  dsimp only
  rw [h0, blk_own, if_pos rfl]

theorem off28_eq : ∀ c : Dev nD, k0_off28 c = ![128 * blk c + 64 * 0, 0] := by decide +kernel
theorem off29_eq : ∀ c : Dev nD, k0_off29 c = ![128 * blk c + 64 * 1, 0] := by decide +kernel

theorem done2_sub : ∀ c : Dev nD, done 2 c ⊆ insert (blk c, 1) (insert (blk c, 0) ∅) := by decide +kernel

/-- The two halves of the device's own block of the result. -/
theorem own_out {ns nr nw : ℕ} {B : Bool} {Z : sProp 𝕄} {α : Type} {Q : α → sProp 𝕄} {Kc : Prog (TpuEff nD τ sig (Elt F) Λ₀ .tc) α}
    {hl : outM.view.LoadsAt (Rect.unit (s := S2048x1024) (k0_off28 c) S64x1024.size (k0_off28_inb c)).toLoadRect}
    {hx : (outM.access (Rect.unit (s := S2048x1024) (k0_off28 c) S64x1024.size (k0_off28_inb c))).Stores Finset.univ}
    {hm : (Finset.univ : Finset (Rect.unit (s := S2048x1024) (k0_off28 c) S64x1024.size (k0_off28_inb c)).shape.Idx) = Finset.univ ∨ ∀ a, (Rect.unit (s := S2048x1024) (k0_off28 c) S64x1024.size (k0_off28_inb c)).stride a = 1}
    {hl' : outM.view.LoadsAt (Rect.unit (s := S2048x1024) (k0_off29 c) S64x1024.size (k0_off29_inb c)).toLoadRect}
    {hx' : (outM.access (Rect.unit (s := S2048x1024) (k0_off29 c) S64x1024.size (k0_off29_inb c))).Stores Finset.univ}
    {hm' : (Finset.univ : Finset (Rect.unit (s := S2048x1024) (k0_off29 c) S64x1024.size (k0_off29_inb c)).shape.Idx) = Finset.univ ∨ ∀ a, (Rect.unit (s := S2048x1024) (k0_off29 c) S64x1024.size (k0_off29_inb c)).stride a = 1}
    (hK : St m K c B ns nr nw iprop(OUTst m c (done 2 c) ∗ Z) ⊢ Run c Kc Q) :
    St m K c B ns nr nw iprop(OUTst m c ∅ ∗ Z) ⊢ Run c (Prog.lift (.load outM (Rect.unit (s := S2048x1024) (k0_off28 c) S64x1024.size (k0_off28_inb c)).toLoadRect hl) >>= fun _ =>
      Prog.lift (.store outM (Rect.unit (s := S2048x1024) (k0_off28 c) S64x1024.size (k0_off28_inb c)) (k0_pay43 (smm m c)) Finset.univ hx hm) >>= fun _ =>
      Prog.lift (.load outM (Rect.unit (s := S2048x1024) (k0_off29 c) S64x1024.size (k0_off29_inb c)).toLoadRect hl') >>= fun _ =>
      Prog.lift (.store outM (Rect.unit (s := S2048x1024) (k0_off29 c) S64x1024.size (k0_off29_inb c)) (k0_pay44 (smm m c)) Finset.univ hx' hm') >>= fun _ => Kc) Q := by
  refine run_eq (p' := .op (.load outM (Rect.unit (s := S2048x1024) (k0_off28 c) S64x1024.size (k0_off28_inb c)).toLoadRect hl) fun _ =>
      .op (.store outM (Rect.unit (s := S2048x1024) (k0_off28 c) S64x1024.size (k0_off28_inb c)) (k0_pay43 (smm m c)) Finset.univ hx hm) fun _ =>
      .op (.load outM (Rect.unit (s := S2048x1024) (k0_off29 c) S64x1024.size (k0_off29_inb c)).toLoadRect hl') fun _ =>
      .op (.store outM (Rect.unit (s := S2048x1024) (k0_off29 c) S64x1024.size (k0_off29_inb c)) (k0_pay44 (smm m c)) Finset.univ hx' hm') fun _ => Kc) rfl ?_
  refine st_x m K (X' := iprop(OUTst m c (done 2 c) ∗ Z)) (Kc := Kc) ?_ hK
  have a0 := out_store m (c := c) (D := ∅) (b := blk c) (h := 0) (by decide) (off28_eq c) (inb := k0_off28_inb c) (w := k0_pay43 (smm m c))
    (fun i h0 h1 => ((OUT_own m i h0).trans (if_pos (by omega))).symm) (hl := hl) (hx := hx) (hm := hm) (Q := Q)
    (Kc := .op (.load outM (Rect.unit (s := S2048x1024) (k0_off29 c) S64x1024.size (k0_off29_inb c)).toLoadRect hl') fun _ =>
      .op (.store outM (Rect.unit (s := S2048x1024) (k0_off29 c) S64x1024.size (k0_off29_inb c)) (k0_pay44 (smm m c)) Finset.univ hx' hm') fun _ => Kc)
  have a1 := out_store m (c := c) (D := insert (blk c, 0) ∅) (b := blk c) (h := 1) (by decide) (off29_eq c) (inb := k0_off29_inb c) (w := k0_pay44 (smm m c))
    (fun i h0 h1 => ((OUT_own m i h0).trans (if_neg (by omega))).symm) (hl := hl') (hx := hx') (hm := hm') (Q := Q) (Kc := Kc)
  iintro ⟨H, HZ⟩ Hk
  iapply a0 $$ H
  iintro H
  iapply a1 $$ H
  iintro H
  iapply Hk
  isplitl [H]
  · iapply (OUTst_mono m (done2_sub c)) $$ H
  iexact HZ

set_option maxHeartbeats 2000000 in
theorem part20_run (v2 v5 v8 v13 v189) (Z : sProp 𝕄) : St m K c false 8 0 0 iprop(OUTst m c ∅ ∗ Z)
    ⊢ Run c (atBuf k0_part20 c v2 v5 v8 v13 (smm m c) v189) fun _ => St m K c false 12 1 0 iprop(OUTst m c (done 2 c) ∗ Z) := by
  rw [k0_part20_eq_skeleton]; unfold k0_part20_skel atBuf; beta_reduce; extract_lets
  refine st_issue m K (.inl (1, 0, 1)) (cond := k0_cond21) (off := k0_off24) (dev := k0_dev23) rfl rfl rfl (fst1 _) (get1 m _) (fun _ => rfl) rfl rfl (fun _ => rfl) rfl (by decide +kernel) ?_
  refine st_issue m K (.inl (1, 1, 1)) (cond := k0_cond22) (off := k0_off25) (dev := k0_dev24) rfl rfl rfl (fst1 _) (get1 m _) (fun _ => rfl) rfl rfl (fun _ => rfl) rfl (by decide +kernel) ?_
  refine st_issue m K (.inl (1, 0, 2)) (cond := k0_cond23) (off := k0_off26) (dev := k0_dev25) rfl rfl rfl (fst1 _) (get1 m _) (fun _ => rfl) rfl rfl (fun _ => rfl) rfl (by decide +kernel) ?_
  refine st_issue m K (.inl (1, 1, 2)) (cond := k0_cond24) (off := k0_off27) (dev := k0_dev26) rfl rfl rfl (fst1 _) (get1 m _) (fun _ => rfl) rfl rfl (fun _ => rfl) rfl (by decide +kernel) ?_
  refine own_out m K ?_
  refine recv m K (.inl (0, 0, 0)) (cond := k0_cond25) (fun _ => rfl) rfl (fun _ => rfl) (by decide +kernel) rfl rfl (recv1_ok _ rfl) ?_
  exact run_ret BIBase.Entails.rfl

end Cert.K

end
-- ==== Proof.Bar.lean ====
/-
The start barrier: the signals every device sends, and what comes with those it receives.
-/
module

public import proofs.«01_k».proof.Proof.Exch

@[expose] public section

set_option maxRecDepth 1000000

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]
local notation "𝕄" => MT nD τ sig Unit (Elt F) ℕ UU ℕ
variable (m : (ℓ : Loc nD τ sig) → Buf (Elt F) ℓ) (K : Dev nD × Ck → ℕ)

variable {c : Dev nD}

/-! ## What is owed before the first phase -/

/-- The signals of the start barrier owed from number `n` on. -/
def Sq (c : Dev nD) (n : ℕ) : CellTallies nD τ sig Unit :=
  ∑ p : Sg, if n ≤ ordG p ∧ sgSnd p c = true then tallyAt (barC (sgPeer p c)) () 1 else 0
/-- What is owed beside the signals. -/
def Ox (c : Dev nD) : CellTallies nD τ sig Unit := Oq c 0 + tallyAt (rxC (partner c)) () Nx

theorem Sq_send {p : Sg} (h : sgSnd p c = true) : Sq c (ordG p) = Sq c (ordG p + 1) + tallyAt (barC (sgPeer p c)) () 1 := by
  unfold Sq
  have e (n : ℕ) := Finset.add_sum_erase (Finset.univ : Finset Sg)
    (fun p' => if n ≤ ordG p' ∧ sgSnd p' c = true then (tallyAt (barC (sgPeer p' c)) () 1 : CellTallies nD τ sig Unit) else 0) (Finset.mem_univ p)
  rw [← e (ordG p), ← e (ordG p + 1)]
  rw [if_pos ⟨le_rfl, h⟩, if_neg (by omega), zero_add, add_comm]
  congr 1
  refine Finset.sum_congr rfl fun p' hp' => ?_
  have hne : ordG p ≠ ordG p' := fun e => (Finset.ne_of_mem_erase hp') (ordG_inj p p' e).symm
  exact if_congr ⟨fun ⟨h1, h2⟩ => ⟨by omega, h2⟩, fun ⟨h1, h2⟩ => ⟨by omega, h2⟩⟩ rfl rfl
theorem Sq_skip {p : Sg} (h : ¬ sgSnd p c = true) : Sq c (ordG p) = Sq c (ordG p + 1) := by
  unfold Sq
  refine Finset.sum_congr rfl fun p' _ => if_congr ⟨fun ⟨h1, h2⟩ => ⟨?_, h2⟩, fun ⟨h1, h2⟩ => ⟨by omega, h2⟩⟩ rfl rfl
  rcases Nat.lt_or_ge (ordG p) (ordG p') with h3 | h3
  · omega
  · exact absurd (ordG_inj p p' (by omega) ▸ h2) h
theorem ordG_lt : ∀ p : Sg, ordG p < 13 := by decide +kernel
theorem Sq_end : Sq c 13 = 0 := Finset.sum_eq_zero fun p _ => if_neg fun h => absurd (ordG_lt p) (by omega)

/-- A cell may be waited on when all that is owed is on later cells. -/
theorem may_wait_of {k : Ck} {O : CellTallies nD τ sig Unit} (h : ∀ g i, 0 < O g i → ∃ d k', g = cell d k' ∧ lvl k < lvl k') :
    (lvls : sProp 𝕄) ⊢ MayWait (c : Thread nD τ) (ksem k) () O := by
  unfold lvls
  refine Pipeline.mayWait_of_levAts (by rw [L_tc]; exact Finset.mem_singleton_self _) fun g i hg => ?_
  obtain ⟨d, k', rfl, hk⟩ := h g i hg
  refine ⟨by show i ∈ L ((d : Thread nD τ), ksem k'); rw [L_tc]; exact Finset.mem_singleton_self _, ?_⟩
  show lv (cell c k) () < lv (cell d k') i
  rw [lv_cell, lv_cell]
  exact hk
theorem may_x {k : Ck} (h : lvl k < 2) : (lvls : sProp 𝕄) ⊢ MayWait (c : Thread nD τ) (ksem k) () (Ox c) := by
  refine may_wait_of fun g i hg => ?_
  have hs : 0 < Oq c 0 g i + tallyAt (rxC (partner c)) () Nx g i := hg
  rcases Nat.pos_of_ne_zero (n := Oq c 0 g i) |> fun z => Classical.em (Oq c 0 g i = 0) with h0 | h0
  · rw [h0, zero_add, tallyAt_apply] at hs
    by_cases hc : g = rxC (partner c) ∧ i = ()
    · exact ⟨partner c, some oRx, hc.1, h⟩
    · rw [if_neg hc] at hs; exact absurd hs (lt_irrefl _)
  · obtain ⟨q, -, hq⟩ := Oq_pos (Nat.pos_of_ne_zero h0)
    refine ⟨peer q c, some (oR q), hq, lt_of_lt_of_le h ?_⟩
    match q with
    | .inl (f, d, k) => show 2 ≤ 3; omega
    | .inr (f, d, s, b) => show 2 ≤ 4 + s.val; omega

/-! ## The signals -/

/-- What a device has for a signal before it is sent. -/
def sgTok (n : ℕ) (c : Dev nD) (p : Sg) : sProp 𝕄 :=
  if n ≤ ordG p ∧ sgSnd p c = true then iprop(dutyTok ER (barC (sgPeer p c)) 0 (.sig p) ∗ sgPay p c ∗ reached ER (barC (sgPeer p c)) 0) else iprop(emp)
/-- What a device has when the signals before number `n` are sent. -/
def Sig (c : Dev nD) (n : ℕ) (X : sProp 𝕄) : sProp 𝕄 :=
  iprop(ctx m K ∗ (∃ W, owes (c : Thread nD τ) (Sq c n + Ox c) W) ∗ bigSep Finset.univ (sgTok (F := F) n c) ∗ X)

theorem bar_duty {p : Sg} (h : sgSnd p c = true) : Duty.sig p ∈ duties (sgPeer p c) none := by
  unfold duties
  exact Finset.mem_map_of_mem _ (Finset.mem_filter.mpr ⟨Finset.mem_univ _, (sg_snd_peer p c h).1⟩)

/-- One signal. -/
theorem signal {p : Sg} (h : sgSnd p c = true) {X : sProp 𝕄} {α : Type} {Q : α → sProp 𝕄} {k : PUnit → Prog (TpuEff nD τ sig (Elt F) Λ₀ .tc) α}
    {d : Dev nD} (hd : d = sgPeer p c)
    (hK : Sig m K c (ordG p + 1) X ⊢ Run c (k ⟨⟩) Q) : Sig m K c (ordG p) X ⊢ Run c (.op (.semSignal ((d : Dev nD), Proc.tc) barS (1 : ℕ)) k) Q := by
  subst hd
  have hu := upd (F := F) p (Φ := sgTok (F := F) (ordG p) c) (Ψ := sgTok (F := F) (ordG p + 1) c) (fun j hj => by
    have hne : ordG p ≠ ordG j := fun e => hj (ordG_inj p j e).symm
    exact if_congr ⟨fun ⟨h1, h2⟩ => ⟨by omega, h2⟩, fun ⟨h1, h2⟩ => ⟨by omega, h2⟩⟩ rfl rfl)
  have e1 : sgTok (F := F) (ordG p) c p = iprop(dutyTok ER (barC (sgPeer p c)) 0 (.sig p) ∗ sgPay p c ∗ reached ER (barC (sgPeer p c)) 0) := if_pos ⟨le_rfl, h⟩
  have e2 : sgTok (F := F) (ordG p + 1) c p = iprop(emp) := if_neg (by omega)
  have hp : (Rd m).payload ((sgPeer p c : Thread nD τ), SemLoc.reg barS) 0 (.sig p) = sgPay p c := by
    show (Rd m).payload (barC (sgPeer p c)) 0 (.sig p) = _
    rw [Rd_payload]; show sgPay p (sgSrc p (sgPeer p c)) = _; rw [(sg_snd_peer p c h).2]
  have hO : Sq c (ordG p) + Ox c = (Sq c (ordG p + 1) + Ox c) + tallyAt (barC (sgPeer p c)) () 1 := by rw [Sq_send h, add_right_comm]
  have hi := ctx_inv m K (sgPeer p c) none
  rw [e1, e2] at hu
  unfold Sig at hK ⊢
  iintro ⟨#Hc, ⟨%W, HO⟩, HS, HX⟩
  ihave HS := hu $$ HS
  icases HS with ⟨⟨HT, HP, #HR⟩, HS⟩
  iapply (Rounds.wp_signal 𝒱₀ ER (Rd m) (c : Thread nD τ) none (κ := K (sgPeer p c, none)) (dst := (sgPeer p c : Thread nD τ)) (sem := barS) (r := 0) (d := Duty.sig p) (k' := 1)
    (by show Duty.sig p ∈ (Rd m).duties (barC (sgPeer p c)) 0; rw [Rd_duties]; exact bar_duty h) (Rd_amount m (sgPeer p c) none _) () (Sq c (ordG p + 1) + Ox c) hO (W := W)) $$ [HO HT HP]
  · isplitr; · iapply hi; iexact Hc
    isplitl [HO]; · iexact HO
    isplitl [HT]; · iexact HT
    isplitl [HP]; · iapply (BIBase.Entails.of_eq hp.symm); iexact HP
    iexact HR
  iintro HO
  iapply hK
  isplitr; · iexact Hc
  isplitl [HO]; · iexists W; iexact HO
  isplitl [HS]; · iapply HS; iempintro
  iexact HX

/-- A signal sent on a condition. -/
theorem sig_step (p : Sg) {n : ℕ} (hn : ordG p = n) {cond : Dev nD → BitVec 1} {dev : Dev nD → ℕ} {dlt : ∀ h : cond c = 1#1, dev c < nD}
    {X : sProp 𝕄} {α : Type} {Q : α → sProp 𝕄} {A : cond c = 1#1 → Prog (TpuEff nD τ sig (Elt F) Λ₀ .tc) α} {Kc : Prog (TpuEff nD τ sig (Elt F) Λ₀ .tc) α}
    (hA : ∀ h, A h = (semSignalWord (⟨dev c, dlt h⟩ : Dev nD) barS 1#32 >>= fun _ => Kc))
    (hfact : ∀ c, (cond c = 1#1 ↔ sgSnd p c = true) ∧ (cond c = 1#1 → dev c = (sgPeer p c).val))
    (hK : Sig m K c (n + 1) X ⊢ Run c Kc Q) : Sig m K c n X ⊢ Run c (dite (cond c = 1#1) A (fun _ => Kc)) Q := by
  subst hn
  obtain ⟨hc1, hc2⟩ := hfact c
  by_cases hq : sgSnd p c = true
  · have h := hc1.mpr hq
    rw [dif_pos h]
    refine run_eq ((hA h).trans (rfl : _ = Prog.op (.semSignal ((⟨dev c, dlt h⟩ : Dev nD), Proc.tc) barS (1 : ℕ)) fun _ => Kc)) ?_
    exact signal m K hq (Fin.ext (hc2 h)) hK
  · rw [dif_neg fun h => hq (hc1.mp h)]
    refine BIBase.Entails.trans ?_ hK
    unfold Sig
    rw [Sq_skip hq]
    have e : sgTok (F := F) (ordG p) c = sgTok (F := F) (ordG p + 1) c := by
      funext j
      refine if_congr ⟨fun ⟨h1, h2⟩ => ⟨?_, h2⟩, fun ⟨h1, h2⟩ => ⟨by omega, h2⟩⟩ rfl rfl
      rcases Nat.lt_or_ge (ordG p) (ordG j) with h3 | h3
      · omega
      · exact absurd (ordG_inj p j (by omega) ▸ h2) hq
    rw [e]

/-! ## Families -/

/-- What may be used again holds for every element of a family. -/
theorem rep {I : Type} [DecidableEq I] (s : Finset I) (P : sProp 𝕄) [BI.Persistent P] : P ⊢ bigSep s fun _ => P := by
  induction s using Finset.induction_on with
  | empty => rw [BI.bigSep_empty]; iintro -; iempintro
  | insert i s hi ih =>
    have e : (bigSep (insert i s) fun _ => P) = iprop(P ∗ bigSep s fun _ => P) := BI.bigSep_insert hi
    rw [e]
    iintro #H
    isplitr; · iexact H
    iapply ih; iexact H
/-- Element by element, with something that may be used again. -/
theorem monoP {I : Type} [DecidableEq I] (s : Finset I) {P : sProp 𝕄} [BI.Persistent P] {Φ Ψ : I → sProp 𝕄} (h : ∀ i ∈ s, iprop(P ∗ Φ i) ⊢ Ψ i) :
    iprop(P ∗ bigSep s Φ) ⊢ bigSep s Ψ := by
  have e : iprop((bigSep s fun _ => P) ∗ bigSep s Φ) ⊢ bigSep s Ψ := (BIBase.Entails.of_eq (sep2 s (fun _ => P) Φ).symm).trans (BI.bigSep_mono h)
  iintro ⟨#H, HF⟩
  iapply e
  isplitr; · iapply (rep s P); iexact H
  iexact HF

/-! ## The landing places, by signal -/

/-- A family over the slots, by the signal that travels against each. -/
theorem by_signal (Φ : Slot → sProp 𝕄) : bigSep Finset.univ Φ = bigSep Finset.univ fun p : Sg => bigSep (Finset.univ.filter fun q => sgOf q = p) Φ := by
  have e1 : (fun p : Sg => bigSep (Finset.univ.filter fun q => sgOf q = p) Φ) = fun p : Sg => bigSep Finset.univ fun q => if sgOf q = p then Φ q else iprop(emp) :=
    funext fun p => BI.bigSep_filter _ _ _
  rw [e1, BI.bigSep_univ_comm]
  refine BI.bigSep_congr fun q _ => ?_
  refine Eq.trans ?_ (BI.bigSep_filter Finset.univ (fun p => sgOf q = p) (fun _ => Φ q))
  rw [Finset.filter_eq, if_pos (Finset.mem_univ _), BI.bigSep_singleton]

/-- What a device hands over with its signals. -/
theorem sg_pays : iprop(rchd c ∗ (∃ X, rxPts (F := F) c X) ∗ bigSep Finset.univ fun q => land (F := F) q c) ⊢ bigSep Finset.univ fun p : Sg => sgPay (F := F) p c := by
  have e1 : (bigSep Finset.univ fun p : Sg => if p = none then iprop(∃ X, rxPts (F := F) c X) else iprop(emp)) = iprop(∃ X, rxPts (F := F) c X) := by
    refine (BI.bigSep_filter Finset.univ (fun p : Sg => p = none) (fun _ => iprop(∃ X, rxPts (F := F) c X))).symm.trans ?_
    have hf : (Finset.univ.filter fun p : Sg => p = none) = {none} := by ext p; simp
    rw [hf, BI.bigSep_singleton]
  have e2 := by_signal (F := F) (fun q => land q c)
  unfold sgPay
  iintro ⟨H1, H2, H3⟩
  iapply (BIBase.Entails.of_eq (sep2 (F := F) _ _ _).symm)
  isplitl [H1]; · iapply (rep _ _); iexact H1
  iapply (BIBase.Entails.of_eq (sep2 (F := F) _ _ _).symm)
  isplitl [H2]; · iapply (BIBase.Entails.of_eq e1.symm); iexact H2
  iapply (BIBase.Entails.of_eq e2); iexact H3

/-- What comes with the signals a device receives: per slot it sends, the landing place on the other device, and where
    to land in the exchange with the partner. -/
theorem sg_got : (bigSep (Finset.univ.filter fun p : Sg => sgRcv p c = true) fun p => sgPay (F := F) p (sgSrc p c))
    ⊢ iprop(rchd (F := F) (partner c) ∗ (∃ X, rxPts (F := F) (partner c) X) ∗ bigSep Finset.univ fun q : Slot =>
        if snd q c = true then iprop(reached ER (rC q (peer q c)) 0 ∗ ∃ X, pts (F := F) (flow q) (peer q c) (sreg q c) fullShare X) else iprop(emp)) := by
  have hn : (none : Sg) ∈ Finset.univ.filter fun p : Sg => sgRcv p c = true := Finset.mem_filter.mpr ⟨Finset.mem_univ _, rfl⟩
  have e0 : (bigSep (Finset.univ.filter fun p : Sg => sgRcv p c = true) fun p => sgPay (F := F) p (sgSrc p c))
      ⊢ iprop((bigSep (Finset.univ.filter fun p : Sg => sgRcv p c = true) fun p => rchd (F := F) (sgSrc p c))
        ∗ (bigSep (Finset.univ.filter fun p : Sg => sgRcv p c = true) fun p => if p = none then iprop(∃ X, rxPts (F := F) (sgSrc p c) X) else iprop(emp))
        ∗ bigSep (Finset.univ.filter fun p : Sg => sgRcv p c = true) fun p => bigSep (Finset.univ.filter fun q => sgOf q = p) fun q => land (F := F) q (sgSrc p c)) := by
    unfold sgPay
    rw [sep2, sep2]
  have e1 : (bigSep (Finset.univ.filter fun p : Sg => sgRcv p c = true) fun p => rchd (F := F) (sgSrc p c)) ⊢ rchd (F := F) (partner c) :=
    BI.bigSep_elim hn
  have e2 : (bigSep (Finset.univ.filter fun p : Sg => sgRcv p c = true) fun p => if p = none then iprop(∃ X, rxPts (F := F) (sgSrc p c) X) else iprop(emp))
      ⊢ iprop(∃ X, rxPts (F := F) (partner c) X) := by
    have e : (if (none : Sg) = none then iprop(∃ X, rxPts (F := F) (sgSrc none c) X) else iprop(emp)) = iprop(∃ X, rxPts (F := F) (partner c) X) := if_pos rfl
    rw [← e]
    exact BI.bigSep_elim hn
  have e3 : (bigSep (Finset.univ.filter fun p : Sg => sgRcv p c = true) fun p => bigSep (Finset.univ.filter fun q => sgOf q = p) fun q => land (F := F) q (sgSrc p c))
      = bigSep Finset.univ fun q => if sgRcv (sgOf q) c = true then land (F := F) q (sgSrc (sgOf q) c) else iprop(emp) := by
    rw [by_signal, BI.bigSep_filter]
    refine BI.bigSep_congr fun p _ => ?_
    by_cases h : sgRcv p c = true
    · rw [if_pos h]
      refine BI.bigSep_congr fun q hq => ?_
      rw [(Finset.mem_filter.mp hq).2, if_pos h]
    · rw [if_neg h]
      refine ((BI.bigSep_congr fun q hq => ?_).trans (BI.bigSep_emp_const _)).symm
      rw [(Finset.mem_filter.mp hq).2, if_neg h]
      rfl
  have e4 : iprop((bigSep (Finset.univ.filter fun p : Sg => sgRcv p c = true) fun p => rchd (F := F) (sgSrc p c))
        ∗ bigSep Finset.univ fun q => if sgRcv (sgOf q) c = true then land (F := F) q (sgSrc (sgOf q) c) else iprop(emp))
      ⊢ bigSep Finset.univ fun q : Slot =>
        if snd q c = true then iprop(reached ER (rC q (peer q c)) 0 ∗ ∃ X, pts (F := F) (flow q) (peer q c) (sreg q c) fullShare X) else iprop(emp) := by
    refine monoP _ fun q _ => ?_
    by_cases h : snd q c = true
    · obtain ⟨h1, h2⟩ := sgOf_rcv q c h
      obtain ⟨hr1, -, hr3, -⟩ := snd_peer q c h
      have hr : (bigSep (Finset.univ.filter fun p : Sg => sgRcv p c = true) fun p => rchd (F := F) (sgSrc p c)) ⊢ rchd (F := F) (sgSrc (sgOf q) c) :=
        BI.bigSep_elim (i := sgOf q) (Finset.mem_filter.mpr ⟨Finset.mem_univ (sgOf q), h1⟩)
      have hr' : rchd (F := F) (peer q c) ⊢ reached ER (rC q (peer q c)) 0 := rchd_at (F := F) (peer q c) (some (oR q))
      have hl : land (F := F) q (peer q c) = iprop(∃ X, pts (F := F) (flow q) (peer q c) (sreg q c) fullShare X) := by
        unfold land; rw [if_pos hr1]; unfold rreg sreg; rw [hr3]
      rw [h2] at hr
      rw [if_pos h, if_pos h1, h2, hl]
      iintro ⟨H, HL⟩
      isplitl [H]; · iapply hr'; iapply hr; iexact H
      iexact HL
    · rw [if_neg h]
      iintro -
      iempintro
  iintro H
  ihave H := e0 $$ H
  icases H with ⟨#H1, H2, H3⟩
  isplitr; · iapply e1; iexact H1
  isplitl [H2]; · iapply e2; iexact H2
  iapply e4
  isplitr; · iexact H1
  iapply (BIBase.Entails.of_eq e3); iexact H3

/-- What a device has of the landing places it sends into. -/
abbrev gotB (c : Dev nD) : sProp 𝕄 := iprop(rchd (F := F) (partner c) ∗ (∃ X, rxPts (F := F) (partner c) X) ∗ bigSep Finset.univ fun q : Slot =>
        if snd q c = true then iprop(reached ER (rC q (peer q c)) 0 ∗ ∃ X, pts (F := F) (flow q) (peer q c) (sreg q c) fullShare X) else iprop(emp))

/-- A device waits for the seven signals it receives. -/
theorem bar_wait {α : Type} {Q : α → sProp 𝕄} {kk : PUnit → Prog (TpuEff nD τ sig (Elt F) Λ₀ .tc) α} (W : Waits sig Unit) :
    iprop(ctx m K ∗ cred (tallyAt (barC c) () 7) ∗ owes (c : Thread nD τ) (Ox c) W ∗ atPos ER (barC c) 0 ∅ 0)
      ⊢ iprop((((∃ W', owes (c : Thread nD τ) (Ox c) W') ∗ semVal (barC c) 0 ∗ gotB (F := F) c) -∗ Run c (kk ⟨⟩) Q)
          -∗ Run c (.op (.semWait barS (7 : ℕ)) kk) Q) := by
  have e1 := ctx_inv m K c none
  have hx : (Rd m).expect (barC c) 0 = 7 := by
    rw [Rd_expect]
    show (duties c none).card * 1 = 7
    rw [Nat.mul_one]
    show (Finset.map _ _).card = 7
    rw [Finset.card_map]
    exact sgRcv_card c
  have hp : bigSep ((Rd m).duties ((c : Thread nD τ), SemLoc.reg barS) 0 \ ∅) (fun d => (Rd m).payload ((c : Thread nD τ), SemLoc.reg barS) 0 d) = bigSep (Finset.univ.filter fun p : Sg => sgRcv p c = true) fun p => sgPay (F := F) p (sgSrc p c) := by
    show bigSep ((Rd m).duties (barC c) 0 \ ∅) (fun d => (Rd m).payload (barC c) 0 d) = _
    show bigSep ((Rd m).duties (barC c) 0 \ ∅) (fun d => (Rd m).payload (barC c) 0 d) = _
    rw [Finset.sdiff_empty, Rd_duties]
    show bigSep (Finset.map _ _) _ = _
    rw [BI.bigSep_map]
    exact BI.bigSep_congr fun p _ => Rd_payload m c none _
  have hcl : iprop(cellInv ER (Rd m) (K (c, none)) (barC c) ∗ atPos ER (barC c) (0 + 1) ∅ 0) ⊢ (|={Set.univ}=> semVal (barC c) 0 : sProp 𝕄) :=
    Rounds.cell_close ER (Rd m) (Set.mem_univ _) id (fun r hr => Rd_later m _ r hr)
  have hO : ctx m K ⊢ MayWait (c : Thread nD τ) (ksem none) () (Ox c) := (ctx_lev m K).trans (may_x (k := none) (by decide))
  iintro ⟨#Hc, HC, HO, HA⟩ Hk
  iapply (Rounds.wp_wait_rest_token 𝒱₀ ER (Rd m) (c : Thread nD τ) none (κ := K (c, none)) (sm := .reg barS) (k' := 7)
      (wpE_semWait_eq 𝒱₀ (c : Thread nD τ) none Set.univ) (Set.mem_univ _) () (O := Ox c) (W := W) (R := 0) (m := 0) (T := ∅)
      (by rw [Nat.zero_add]; exact hx.symm)) $$ [HC HO HA]
  · isplitr; · iapply e1; iexact Hc
    isplitl [HC]; · iexact HC
    isplitl [HO]; · iexact HO
    isplitr; · iapply hO; iexact Hc
    iexact HA
  iintro ⟨HO, HA, -, HP⟩
  ihave HP := ((BIBase.Entails.of_eq hp).trans sg_got) $$ HP
  iapply (fupd_wp _ _ _ _ _)
  imod hcl $$ [HA] with HV
  · isplitr; · iapply e1; iexact Hc
    iexact HA
  imodintro
  iapply Hk
  isplitl [HO]; · iexists _; iexact HO
  isplitl [HV]; · iexact HV
  iexact HP

end Cert.K

end
-- ==== Proof.Fund.lean ====
/-
What the launch deals every device: the payments it will make, and the credit it will wait with.

-/
module

public import proofs.«01_k».proof.Proof.Bar

@[expose] public section

set_option maxRecDepth 1000000

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]
local notation "𝕄" => MT nD τ sig Unit (Elt F) ℕ UU ℕ
variable (m : (ℓ : Loc nD τ sig) → Buf (Elt F) ℓ) (K : Dev nD × Ck → ℕ)

/-! ## Families over devices, carried along a partial bijection -/

/-- A family over the devices with `b` is the family over the devices with `a` at where they go. -/
theorem carry (a b : Dev nD → Bool) (f g : Dev nD → Dev nD) (h1 : ∀ c, a c = true → b (f c) = true ∧ g (f c) = c)
    (h2 : ∀ c, b c = true → a (g c) = true ∧ f (g c) = c) (Φ : Dev nD → sProp 𝕄) :
    (bigSep Finset.univ fun c => if b c = true then Φ c else iprop(emp)) = bigSep Finset.univ fun c => if a c = true then Φ (f c) else iprop(emp) := by
  have e1 := BI.bigSep_filter Finset.univ (fun c : Dev nD => b c = true) Φ
  have e2 := BI.bigSep_filter Finset.univ (fun c : Dev nD => a c = true) (fun c => Φ (f c))
  have e3 : (Finset.univ.filter fun c : Dev nD => b c = true) = (Finset.univ.filter fun c : Dev nD => a c = true).image f := by
    ext c
    rw [Finset.mem_image, Finset.mem_filter]
    constructor
    · rintro ⟨-, h⟩
      exact ⟨g c, Finset.mem_filter.mpr ⟨Finset.mem_univ _, (h2 c h).1⟩, (h2 c h).2⟩
    · rintro ⟨d, hd, rfl⟩
      exact ⟨Finset.mem_univ _, (h1 d (Finset.mem_filter.mp hd).2).1⟩
  refine e1.symm.trans (Eq.trans ?_ e2)
  rw [e3]
  refine bigSep_image_of_injOn (fun x hx y hy hxy => ?_) Φ
  rw [← (h1 x (Finset.mem_filter.mp hx).2).2, ← (h1 y (Finset.mem_filter.mp hy).2).2, hxy]
/-- The same, for families in a second variable too. -/
theorem carryJ {J : Type} [Fintype J] (a b : J → Dev nD → Bool) (f g : J → Dev nD → Dev nD)
    (h1 : ∀ j c, a j c = true → b j (f j c) = true ∧ g j (f j c) = c) (h2 : ∀ j c, b j c = true → a j (g j c) = true ∧ f j (g j c) = c)
    (Φ : J → Dev nD → sProp 𝕄) :
    (bigSep Finset.univ fun c => bigSep Finset.univ fun j => if b j c = true then Φ j c else iprop(emp))
      = bigSep Finset.univ fun c => bigSep Finset.univ fun j => if a j c = true then Φ j (f j c) else iprop(emp) := by
  rw [BI.bigSep_univ_comm, BI.bigSep_univ_comm (fun c j => if a j c = true then Φ j (f j c) else iprop(emp))]
  exact BI.bigSep_congr fun j _ => carry (a j) (b j) (f j) (g j) (h1 j) (h2 j) (Φ j)

/-! ## The credit -/

/-- What all the devices owe a cell, when each device with `a` owes `n` to cell `k` of where it goes. -/
theorem owed_at (a b : Dev nD → Bool) (f g : Dev nD → Dev nD) (h1 : ∀ c, a c = true → b (f c) = true ∧ g (f c) = c)
    (h2 : ∀ c, b c = true → a (g c) = true ∧ f (g c) = c) (k k' : Ck) (n : ℕ) (c : Dev nD) :
    (∑ d : Dev nD, (if a d = true then (tallyAt (cell (f d) k) () n : CellTallies nD τ sig Unit) else 0) (cell c k') ()) = if k' = k ∧ b c = true then n else 0 := by
  have hz : ∀ d : Dev nD, ¬ (k' = k ∧ a d = true ∧ f d = c) →
      (if a d = true then (tallyAt (cell (f d) k) () n : CellTallies nD τ sig Unit) else 0) (cell c k') () = 0 := by
    intro d hd
    by_cases ha : a d = true
    · rw [if_pos ha, tallyAt_apply, if_neg]
      rintro ⟨e, -⟩
      exact hd ⟨(cell_inj e).2, ha, (cell_inj e).1.symm⟩
    · rw [if_neg ha]; rfl
  by_cases h : k' = k ∧ b c = true
  · obtain ⟨rfl, hb⟩ := h
    rw [if_pos ⟨rfl, hb⟩, Finset.sum_eq_single (g c)]
    · rw [if_pos (h2 c hb).1, (h2 c hb).2, tallyAt_apply, if_pos ⟨rfl, rfl⟩]
    · intro d _ hd
      refine hz d fun ⟨_, ha, e⟩ => hd ?_
      rw [← e, (h1 d ha).2]
    · intro h; exact absurd (Finset.mem_univ _) h
  · rw [if_neg h]
    refine Finset.sum_eq_zero fun d _ => hz d ?_
    rintro ⟨e, ha, rfl⟩
    exact h ⟨e, (h1 d ha).1⟩

/-- The value of a sum of tallies at a cell. -/
theorem sum_tally {J : Type} [Fintype J] (T : J → CellTallies nD τ sig Unit) (g : GSem nD τ sig) : (∑ j, T j) g () = ∑ j, T j g () := by
  rw [Finset.sum_apply, Finsupp.finset_sum_apply]

theorem cred_eq {x y : CellTallies nD τ sig Unit} (h : x = y) : (cred x : sProp 𝕄) ⊢ cred y := by subst h; exact .rfl
theorem to_emp (P : sProp 𝕄) : P ⊢ iprop(emp) := by iintro -; iempintro

variable {J : Type} [Fintype J] [DecidableEq J] (a b : J → Dev nD → Bool) (f g : J → Dev nD → Dev nD)
  (h1 : ∀ j c, a j c = true → b j (f j c) = true ∧ g j (f j c) = c) (h2 : ∀ j c, b j c = true → a j (g j c) = true ∧ f j (g j c) = c)
  (k : J → Ck) (n : J → ℕ) (c : Dev nD)
include h1 h2
theorem credit_at (k' : Ck) :
    launchCredit (Pipeline.owing fun d => ∑ j : J, if a j d = true then (tallyAt (cell (f j d) (k j)) () (n j) : CellTallies nD τ sig Unit) else 0) 0 (cell c k') ()
      = ∑ j : J, if k' = k j ∧ b j c = true then n j else 0 := by
  rw [Pipeline.launchCredit_owing]
  simp only [sum_tally]
  rw [Finset.sum_comm]
  exact Finset.sum_congr rfl fun j _ => owed_at (a j) (b j) (f j) (g j) (h1 j) (h2 j) (k j) k' (n j) c
theorem credit_one (k' : Ck) (v : ℕ) (hv : (∑ j : J, if k' = k j ∧ b j c = true then n j else 0) = v) :
    tallyOn (cell c k') (launchCredit (Pipeline.owing fun d => ∑ j : J, if a j d = true then (tallyAt (cell (f j d) (k j)) () (n j) : CellTallies nD τ sig Unit) else 0) 0 (cell c k'))
      = (tallyAt (cell c k') () v : CellTallies nD τ sig Unit) := by
  unfold tallyAt
  have h := credit_at a b f g h1 h2 k n c k'
  unfold tallyAt at h
  refine congrArg _ (Finsupp.ext fun u => ?_)
  cases u
  rw [Finsupp.single_eq_same]
  exact h.trans hv
/-- The credit of cells that one kind of payment goes to, each to a different cell. -/
theorem credits (hk : Function.Injective k) :
    (Pipeline.launchCred (fun d => ∑ j : J, if a j d = true then (tallyAt (cell (f j d) (k j)) () (n j) : CellTallies nD τ sig Unit) else 0) c : sProp 𝕄)
      ⊢ bigSep Finset.univ fun j : J => if b j c = true then cred (tallyAt (cell c (k j)) () (n j)) else iprop(emp) := by
  unfold Pipeline.launchCred
  have hsub (Φ : SemLoc sig → sProp 𝕄) : bigSep Finset.univ Φ ⊢ bigSep (Finset.univ.image fun j : J => ksem (k j)) Φ :=
    BI.bigSep_subset (Finset.subset_univ (Finset.univ.image fun j : J => ksem (k j)))
  have hs := hsub (fun sm : SemLoc sig => (cred (tallyOn ((c : Thread nD τ), sm) (launchCredit (Pipeline.owing fun d => ∑ j : J, if a j d = true then (tallyAt (cell (f j d) (k j)) () (n j) : CellTallies nD τ sig Unit) else 0) 0 ((c : Thread nD τ), sm))) : sProp 𝕄))
  rw [bigSep_image_of_injOn (fun x _ y _ e => hk (ksem_inj e))] at hs
  refine hs.trans (BI.bigSep_mono fun j _ => ?_)
  by_cases hb : b j c = true
  · rw [if_pos hb]
    refine cred_eq (F := F) (credit_one a b f g h1 h2 k n c (k j) (n j) ?_)
    rw [Finset.sum_eq_single j]
    · rw [if_pos ⟨rfl, hb⟩]
    · intro j' _ hj; exact if_neg fun e => hj (hk e.1).symm
    · intro h; exact absurd (Finset.mem_univ _) h
  · rw [if_neg hb]
    exact to_emp _
/-- The credit of one cell that all the payments go to. -/
theorem credits_bar (k0 : Ck) (hk : ∀ j, k j = k0) (v : ℕ) (hv : (∑ j : J, if b j c = true then n j else 0) = v) :
    (Pipeline.launchCred (fun d => ∑ j : J, if a j d = true then (tallyAt (cell (f j d) (k j)) () (n j) : CellTallies nD τ sig Unit) else 0) c : sProp 𝕄)
      ⊢ cred (tallyAt (cell c k0) () v) := by
  refine (Pipeline.launchCred_elim _ c (ksem k0)).trans (cred_eq (F := F) (credit_one a b f g h1 h2 k n c k0 v ?_))
  rw [← hv]
  refine Finset.sum_congr rfl fun j _ => ?_
  rw [hk j]
  exact if_congr ⟨fun h => h.2, fun h => ⟨rfl, h⟩⟩ rfl rfl
omit h1 h2

/-- What a device owes at the start. -/
def O₀ (c : Dev nD) : CellTallies nD τ sig Unit := Sq c 0 + Ox c
theorem Sq_zero (c : Dev nD) : Sq c 0 = ∑ p : Sg, if sgSnd p c = true then (tallyAt (cell (sgPeer p c) none) () 1 : CellTallies nD τ sig Unit) else 0 :=
  Finset.sum_congr rfl fun p _ => if_congr ⟨fun h => h.2, fun h => ⟨Nat.zero_le _, h⟩⟩ rfl rfl
theorem Oq_zero (c : Dev nD) : Oq c 0 = ∑ q : Slot, if snd q c = true then (tallyAt (cell (peer q c) (some (oR q))) () (Nq q) : CellTallies nD τ sig Unit) else 0 :=
  Finset.sum_congr rfl fun q _ => if_congr ⟨fun h => h.2, fun h => ⟨Nat.zero_le _, h⟩⟩ rfl rfl
theorem x_zero (c : Dev nD) : (tallyAt (rxC (partner c)) () Nx : CellTallies nD τ sig Unit)
    = ∑ u : Unit, if true = true then (tallyAt (cell (partner c) (some oRx)) () Nx : CellTallies nD τ sig Unit) else 0 := by
  rw [Finset.univ_unique, Finset.sum_singleton, if_pos rfl]
theorem oR_inj : Function.Injective fun q : Slot => (some (oR q) : Ck) := fun q q' h => by
  have h1 := Option.some.inj h
  exact congrArg Prod.snd (Sum.inr.inj h1)
/-- The credit a device starts with: of the start barrier, of the partner's block, and of every slot that lands on it. -/
theorem creds (c : Dev nD) : (Pipeline.launchCred O₀ c : sProp 𝕄) ⊢ iprop(cred (tallyAt (barC c) () 7) ∗ cred (tallyAt (rxC c) () Nx)
    ∗ bigSep Finset.univ fun q : Slot => if rcv q c = true then cred (tallyAt (rC q c) () (Nq q)) else iprop(emp)) := by
  have e : O₀ = fun d => (∑ p : Sg, if sgSnd p d = true then (tallyAt (cell (sgPeer p d) none) () 1 : CellTallies nD τ sig Unit) else 0)
      + ((∑ q : Slot, if snd q d = true then (tallyAt (cell (peer q d) (some (oR q))) () (Nq q) : CellTallies nD τ sig Unit) else 0)
        + ∑ u : Unit, if true = true then (tallyAt (cell (partner d) (some oRx)) () Nx : CellTallies nD τ sig Unit) else 0) := by
    funext d
    unfold O₀ Ox
    rw [Sq_zero, Oq_zero]
    exact congrArg _ (congrArg _ (x_zero d))
  rw [e, Pipeline.launchCred_add, Pipeline.launchCred_add]
  iintro ⟨H1, H2, H3⟩
  isplitl [H1]
  · iapply (credits_bar (F := F) sgSnd sgRcv sgPeer sgSrc sg_snd_peer sg_rcv_src (fun _ => none) (fun _ => 1) c none (fun _ => rfl) 7
      (by rw [← Finset.sum_filter, Finset.sum_const, sgRcv_card]; rfl)) $$ H1
  isplitl [H3]
  · have h := credits (F := F) (fun _ : Unit => fun _ => true) (fun _ _ => true) (fun _ => partner) (fun _ => partner) (fun _ c _ => ⟨rfl, partner_partner c⟩)
      (fun _ c _ => ⟨rfl, partner_partner c⟩) (fun _ => some oRx) (fun _ => Nx) c (fun _ _ _ => rfl)
    have h' := h.trans (bigSep_elim (Φ := fun _ : Unit => if true = true then (cred (tallyAt (cell c (some oRx)) () Nx) : sProp 𝕄) else iprop(emp)) (Finset.mem_univ ()))
    rw [if_pos rfl] at h'
    iapply h'
    iexact H3
  · iapply (credits (F := F) snd rcv peer src (fun q c h => ⟨(snd_peer q c h).1, (snd_peer q c h).2.1⟩) (fun q c h => ⟨(rcv_src q c h).1, (rcv_src q c h).2.1⟩)
      (fun q => some (oR q)) Nq c oR_inj)
    iexact H2

/-! ## The payments -/

/-- The barrier cells. -/
def barE : Dev nD ↪ GSem nD τ sig := ⟨fun c => barC c, fun _ _ h => (cell_inj h).1⟩
/-- The scoped cells. -/
def ownE : Dev nD × Ok ↪ GSem nD τ sig := ⟨fun x => cell x.1 (some x.2), fun _ _ h => Prod.ext (cell_inj h).1 (Option.some.inj (cell_inj h).2)⟩
abbrev barCs : Finset (GSem nD τ sig) := Finset.univ.map barE
abbrev ownCs : Finset (GSem nD τ sig) := Finset.univ.map ownE
theorem cells_disj : Disjoint barCs ownCs := by
  rw [Finset.disjoint_left]
  rintro g h h'
  obtain ⟨c, -, rfl⟩ := Finset.mem_map.mp h
  obtain ⟨x, -, e⟩ := Finset.mem_map.mp h'
  exact absurd (cell_inj e).2 (by simp)
theorem cells_mem (c : Dev nD) (k : Ck) : cell c k ∈ barCs ∪ ownCs := by
  cases k with
  | none => exact Finset.mem_union_left _ (Finset.mem_map_of_mem barE (Finset.mem_univ c))
  | some k => exact Finset.mem_union_right _ (Finset.mem_map_of_mem ownE (Finset.mem_univ (c, k)))

/-- A family over disjoint sets together. -/
theorem over_all {A B : Type} [DecidableEq A] [DecidableEq B] (s : Finset A) (t : A → Finset B) (Φ : B → sProp 𝕄) (hd : ∀ x ∈ s, ∀ y ∈ s, x ≠ y → Disjoint (t x) (t y)) :
    bigSep (s.biUnion t) Φ = bigSep s fun x => bigSep (t x) Φ := by
  induction s using Finset.induction_on with
  | empty => rw [Finset.biUnion_empty, BI.bigSep_empty, BI.bigSep_empty]
  | insert x s hx ih =>
    have h : Disjoint (t x) (s.biUnion t) := (Finset.disjoint_biUnion_right _ _ _).mpr fun y hy =>
      hd x (Finset.mem_insert_self _ _) y (Finset.mem_insert_of_mem hy) fun e => hx (e ▸ hy)
    rw [Finset.biUnion_insert, BI.bigSep_union h, BI.bigSep_insert hx, ih fun y hy z hz => hd y (Finset.mem_insert_of_mem hy) z (Finset.mem_insert_of_mem hz)]

/-- The payments onto one cell. -/
def toksOf (x : Dev nD × Ck) : Finset (GSem nD τ sig × ℕ × Duty) := (duties x.1 x.2).image fun d => (cell x.1 x.2, 0, d)
/-- All the payments. -/
def toksAll : Finset (GSem nD τ sig × ℕ × Duty) := Finset.univ.biUnion toksOf
theorem toksAll_eq : (bigSep toksAll fun x => (dutyTok ER x.1 x.2.1 x.2.2 : sProp 𝕄))
    = bigSep Finset.univ fun c : Dev nD => bigSep Finset.univ fun k : Ck => bigSep (duties c k) fun d => dutyTok ER (cell c k) 0 d := by
  unfold toksAll
  rw [over_all, BI.bigSep_univ_prod]
  · refine BI.bigSep_congr fun c _ => BI.bigSep_congr fun k _ => ?_
    unfold toksOf
    rw [bigSep_image_of_injOn]
    intro d _ d' _ h
    exact congrArg (fun x : GSem nD τ sig × ℕ × Duty => x.2.2) h
  · intro x _ y _ hxy
    refine Finset.disjoint_left.mpr fun t ht ht' => hxy ?_
    obtain ⟨d, -, rfl⟩ := Finset.mem_image.mp ht
    obtain ⟨d', -, e⟩ := Finset.mem_image.mp ht'
    have e1 := cell_inj (congrArg Prod.fst e)
    exact Prod.ext e1.1.symm e1.2.symm

/-- A family over the cells of a device. -/
theorem cks (Φ : Ck → sProp 𝕄) : bigSep Finset.univ Φ = iprop(Φ none ∗ bigSep Finset.univ fun k : Ok => Φ (some k)) := by
  rw [bigSep_univ_at Φ none]
  have e : (Finset.univ.erase none : Finset Ck) = Finset.univ.map ⟨some, Option.some_injective _⟩ := by
    ext k
    cases k <;> simp
  rw [e, BI.bigSep_map]
  rfl
theorem oks (Φ : Ok → sProp 𝕄) : bigSep Finset.univ Φ = iprop(Φ oGat ∗ Φ oSx ∗ Φ oRx ∗ (bigSep Finset.univ fun q => Φ (oS q)) ∗ bigSep Finset.univ fun q => Φ (oR q)) := by
  rw [BI.bigSep_univ_sum, BI.bigSep_univ_prod, BI.bigSep_fin_two, bigSep_univ_eq_bigSepL [(0 : Fin 3), 1, 2] (by decide) (by decide)]
  show iprop((Φ oGat ∗ Φ oSx ∗ Φ oRx) ∗ (bigSep Finset.univ fun q => Φ (oS q)) ∗ bigSep Finset.univ fun q => Φ (oR q)) = _
  have h1 : iprop((Φ oGat ∗ Φ oSx ∗ Φ oRx) ∗ (bigSep Finset.univ fun q => Φ (oS q)) ∗ bigSep Finset.univ fun q => Φ (oR q))
      ⊢ iprop(Φ oGat ∗ Φ oSx ∗ Φ oRx ∗ (bigSep Finset.univ fun q => Φ (oS q)) ∗ bigSep Finset.univ fun q => Φ (oR q)) := by
    iintro ⟨⟨H1, H2, H3⟩, H4⟩
    isplitl [H1]; · iexact H1
    isplitl [H2]; · iexact H2
    isplitl [H3]; · iexact H3
    iexact H4
  have h2 : iprop(Φ oGat ∗ Φ oSx ∗ Φ oRx ∗ (bigSep Finset.univ fun q => Φ (oS q)) ∗ bigSep Finset.univ fun q => Φ (oR q))
      ⊢ iprop((Φ oGat ∗ Φ oSx ∗ Φ oRx) ∗ (bigSep Finset.univ fun q => Φ (oS q)) ∗ bigSep Finset.univ fun q => Φ (oR q)) := by
    iintro ⟨H1, H2, H3, H4⟩
    isplitr [H4]
    · isplitl [H1]; · iexact H1
      isplitl [H2]; · iexact H2
      iexact H3
    iexact H4
  exact BI.Entails.antisymm h1 h2

end Cert.K

end
-- ==== Proof.Gather.lean ====
/-
The gather: one copy per row, each started at the row its index names.
-/
module

public import proofs.«01_k».proof.Proof.Bar

@[expose] public section

set_option maxRecDepth 1000000

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]
local notation "𝕄" => MT nD τ sig Unit (Elt F) ℕ UU ℕ
variable (m : (ℓ : Loc nD τ sig) → Buf (Elt F) ℓ) (K : Dev nD × Ck → ℕ)

attribute [local irreducible] wp
variable {c : Dev nD}

/-! ## One row -/

abbrev arg0M : Memref sig .tc .smem S2048 .i32 := Memref.whole cc0_stg0_0
abbrev tabM : Memref sig .tc .hbm S16384x1024 .f32 := Memref.whole main_arg1
abbrev gatM : Memref sig .tc .vmem S128x1024 .f32 := Memref.whole cc0_scratch0

theorem unit_row {off : Fin 2 → ℕ} {t : Fin 128} (hoff : off = ![t.val, 0])
    (inb : ∀ a, off a + S1x1024.size a ≤ S128x1024.size a) : (Rect.unit (s := S128x1024) off S1x1024.size inb).set = rowS t := by
  subst hoff
  ext i
  rw [Rect.mem_set_unit, rowS, Finset.mem_filter]
  have h1 : (i 1).val < 1024 := (i 1).isLt
  constructor
  · intro h
    have h0 := h 0
    simp at h0
    exact ⟨Finset.mem_univ _, by omega⟩
  · rintro ⟨-, h0⟩ b
    match b with
    | 0 => simp; omega
    | 1 => simp; omega
theorem unit_tbl {off : Fin 2 → ℕ} {r : ℕ} (hoff : off = ![r, 0])
    (inb : ∀ a, off a + S1x1024.size a ≤ S16384x1024.size a) : (Rect.unit (s := S16384x1024) off S1x1024.size inb).set = tblS r := by
  subst hoff
  ext i
  rw [Rect.mem_set_unit, tblS, Finset.mem_filter]
  have h1 : (i 1).val < 1024 := (i 1).isLt
  constructor
  · intro h
    have h0 := h 0
    simp at h0
    exact ⟨Finset.mem_univ _, by omega⟩
  · rintro ⟨-, h0⟩ b
    match b with
    | 0 => simp; omega
    | 1 => simp; omega

theorem off3_eq (c : Dev nD) (v : BitVec 32) : k0_off3 c v = ![k0_off3 c v 0, 0] := by
  funext a
  match a with
  | 0 => rfl
  | 1 => rfl
/-- Whatever the index, the row fetched for it is in the table. -/
theorem off3_inb (c : Dev nD) (v : BitVec 32) : ∀ a, k0_off3 c v a + S1x1024.size a ≤ S16384x1024.size a := by
  intro a
  match a with
  | 0 => show k0_off3 c v 0 + 1 ≤ 16384; have := clamp_lt c v; omega
  | 1 => show 0 + 1024 ≤ 1024; omega

/-- The index read for row `t`. -/
theorem id_read {off : Fin 1 → ℕ} {t : Fin 128} (hoff : off = ![128 * blk c + t.val]) {inb : ∀ a, off a + S1.size a ≤ S2048.size a}
    {x : (Rect.unit (s := S2048) off S1.size inb).shape.Idx} :
    (arg0M.access (Rect.unit (s := S2048) off S1.size inb)).read (Elt F) (ids m c) x = ids m c (idAt c t) := by
  subst hoff
  show ids m c ((Rect.unit (s := S2048) _ S1.size inb).emb x) = ids m c (idAt c t)
  congr 1
  funext a
  apply Fin.ext
  match a with
  | 0 =>
    have hx : (x 0).val < 1 := (x 0).isLt
    show 128 * blk c + t.val + 1 * (x 0).val = 128 * blk c + t.val
    omega

/-- Reading that index. -/
theorem id_load {off : Fin 1 → ℕ} {t : Fin 128} (hoff : off = ![128 * blk c + t.val]) {inb : ∀ a, off a + S1.size a ≤ S2048.size a}
    {x : (Rect.unit (s := S2048) off S1.size inb).shape.Idx} {hw : (arg0M.access (Rect.unit (s := S2048) off S1.size inb)).Loads}
    {α : Type} {Q : α → sProp 𝕄} {k : Elt F .i32 → Prog (TpuEff nD τ sig (Elt F) Λ₀ .tc) α} :
    ((c : Thread nD τ).loc cc0_stg0_0 ↦{fullShare} ids m c : sProp 𝕄)
      ⊢ iprop((((c : Thread nD τ).loc cc0_stg0_0 ↦{fullShare} ids m c) -∗ Run c (k (ids m c (idAt c t))) Q)
        -∗ Run c (smemLoadElt arg0M (Rect.unit (s := S2048) off S1.size inb) hw x k) Q) := by
  have h : ((c : Thread nD τ).loc cc0_stg0_0 ↦{fullShare} ids m c : sProp 𝕄)
      ⊢ iprop((((c : Thread nD τ).loc cc0_stg0_0 ↦{fullShare} ids m c) -∗ Run c (k ((arg0M.access (Rect.unit (s := S2048) off S1.size inb)).read (Elt F) (ids m c) x)) Q)
        -∗ Run c (smemLoadElt arg0M (Rect.unit (s := S2048) off S1.size inb) hw x k) Q) :=
    wp_smemLoadElt (defs := defs₀ (F := F)) 𝒱₀ (c : Thread nD τ) none Set.univ (Q := Q) (m := arg0M) (r := Rect.unit (s := S2048) off S1.size inb) (hw := hw) (x := x)
      (k := k) (S := Finset.univ) (q := fullShare) (f := ids m c) (Finset.subset_univ _)
  rw [id_read m hoff] at h
  exact h

/-- A side condition that holds is passed. -/
theorem run_assume {P : Prop} {d : Decidable P} (h : P) {α : Type} {Q : α → sProp 𝕄} {k : PLift P → Prog (TpuEff nD τ sig (Elt F) Λ₀ .tc) α} :
    Run c (k ⟨h⟩) Q ⊢ Run c (.op (.assume P d) k) Q := by
  unfold Run
  rw [wp_op, wpE_assume_eq]
  iintro H
  iexists ⟨h⟩
  iexact H

/-- What a device has for row `t` before and after its copy starts. -/
def gRow (n : ℕ) (c : Dev nD) (t : Fin 128) : sProp 𝕄 :=
  if t.val < n then iprop(cred (tallyAt (gatC c) () Ng) ∗ ((c : Thread nD τ).loc main_arg1 ↦[Finset.univ \ tblS (gix m c t)]{leaf 7 fullShare t} tbl m c))
  else iprop(dutyTok ER (gatC c) 0 (.row t) ∗ (∃ Y : S128x1024.Idx → Elt F .f32, (c : Thread nD τ).loc cc0_scratch0 ↦[rowS t]{fullShare} Y)
    ∗ ((c : Thread nD τ).loc main_arg1 ↦{leaf 7 fullShare t} tbl m c))
/-- What a device has when the copies before row `n` are started. -/
def Gi (c : Dev nD) (n : ℕ) (X : sProp 𝕄) : sProp 𝕄 :=
  iprop(ctx m K ∗ rchd c ∗ ((c : Thread nD τ).loc cc0_stg0_0 ↦{fullShare} ids m c) ∗ bigSep Finset.univ (gRow m n c) ∗ X)

theorem gat_duty (t : Fin 128) : Duty.row t ∈ duties c (some oGat) := Finset.mem_map_of_mem ⟨Duty.row, fun _ _ h => Duty.row.inj h⟩ (Finset.mem_univ t)

theorem own_at {i : S128x1024.Idx} {t : Fin 128} (h : i 0 = t) : own m c i = tbl m c (ix2 (gix m c t) (clamp_lt c _) (i 1)) := by
  subst h
  rfl
/-- What the landing of a row leaves in it. -/
theorem row_land {t : Fin 128} {offR offT : Fin 2 → ℕ} (hR : offR = ![t.val, 0]) (hT : offT = ![gix m c t, 0])
    {inbR : ∀ a, offR a + S1x1024.size a ≤ S128x1024.size a} {inbT : ∀ a, offT a + S1x1024.size a ≤ S16384x1024.size a}
    {stR : ∀ a, (Rect.unit (s := S128x1024) offR S1x1024.size inbR).stride a = 1} {stT : ∀ a, (Rect.unit (s := S16384x1024) offT S1x1024.size inbT).stride a = 1}
    (Y : S128x1024.Idx → Elt F .f32) : ∀ i ∈ rowS t,
    (gatM.slice (Rect.unit (s := S128x1024) offR S1x1024.size inbR) stR).view.write (Elt F) Y ((tabM.slice (Rect.unit (s := S16384x1024) offT S1x1024.size inbT) stT).view.read (Elt F) (tbl m c)) Finset.univ i
      = own m c i := by
  intro i hi
  have h0 : (i 0).val = t.val := (Finset.mem_filter.mp hi).2
  have h1 : (i 1).val < 1024 := (i 1).isLt
  subst hR hT
  obtain ⟨x, hx0, hx1⟩ : ∃ x : S1x1024.Idx, (x 0).val = 0 ∧ (x 1).val = (i 1).val :=
    ⟨fun a => match a with | 0 => (⟨0, by decide⟩ : Fin 1) | 1 => (⟨(i 1).val, h1⟩ : Fin 1024), rfl, rfl⟩
  have hi' : i = (gatM.slice (Rect.unit (s := S128x1024) ![t.val, 0] S1x1024.size inbR) stR).view.emb x := by
    funext a
    apply Fin.ext
    match a with
    | 0 => show (i 0).val = t.val + 1 * (x 0).val; omega
    | 1 => show (i 1).val = 0 + 1 * (x 1).val; omega
  have ht : i 0 = t := Fin.ext h0
  rw [own_at m ht]
  refine (congrArg _ hi').trans ((View.write_emb_of_mem _ _ (Finset.mem_univ x)).trans ?_)
  show tbl m c ((Rect.unit (s := S16384x1024) ![gix m c t, 0] S1x1024.size inbT).emb x) = _
  congr 1
  funext a
  apply Fin.ext
  match a with
  | 0 => show gix m c t + 1 * (x 0).val = gix m c t; omega
  | 1 => show 0 + 1 * (x 1).val = (i 1).val; omega

/-- The copy of one row. -/
theorem row_copy {t : Fin 128} {offR offT : Fin 2 → ℕ} (hR : offR = ![t.val, 0]) (hT : offT = ![gix m c t, 0])
    {inbR : ∀ a, offR a + S1x1024.size a ≤ S128x1024.size a} {inbT : ∀ a, offT a + S1x1024.size a ≤ S16384x1024.size a}
    {stR : ∀ a, (Rect.unit (s := S128x1024) offR S1x1024.size inbR).stride a = 1} {stT : ∀ a, (Rect.unit (s := S16384x1024) offT S1x1024.size inbT).stride a = 1}
    {w1 : (tabM.slice (Rect.unit (s := S16384x1024) offT S1x1024.size inbT) stT).view.WordExact} {w2 : (gatM.slice (Rect.unit (s := S128x1024) offR S1x1024.size inbR) stR).view.WordExact}
    {ht : DmaTarget.Typed (nD := nD) (τ := τ) (p := .tc) .hbm (.dma cc0_scratch5.sem) (.here (gatM.slice (Rect.unit (s := S128x1024) offR S1x1024.size inbR) stR))}
    {α : Type} {Q : α → sProp 𝕄} {k : PUnit → Prog (TpuEff nD τ sig (Elt F) Λ₀ .tc) α} {X : sProp 𝕄}
    (hK : Gi m K c (t.val + 1) X ⊢ Run c (k ⟨⟩) Q) :
    Gi m K c t.val X ⊢ Run c (.op (.enqueueDma (tabM.slice (Rect.unit (s := S16384x1024) offT S1x1024.size inbT) stT) (.here (gatM.slice (Rect.unit (s := S128x1024) offR S1x1024.size inbR) stR)) (.dma cc0_scratch5.sem) w1 w2 ht) k) Q := by
  have hu := upd (F := F) t (Φ := gRow m t.val c) (Ψ := gRow m (t.val + 1) c) (fun j hj => by
    have hne : j.val ≠ t.val := fun e => hj (Fin.ext e)
    exact if_congr ⟨fun h => by omega, fun h => by omega⟩ rfl rfl)
  have e1 : gRow m t.val c t = iprop(dutyTok ER (gatC c) 0 (.row t) ∗ (∃ Y : S128x1024.Idx → Elt F .f32, (c : Thread nD τ).loc cc0_scratch0 ↦[rowS t]{fullShare} Y)
    ∗ ((c : Thread nD τ).loc main_arg1 ↦{leaf 7 fullShare t} tbl m c)) := if_neg (lt_irrefl _)
  have e2 : gRow m (t.val + 1) c t = iprop(cred (tallyAt (gatC c) () Ng) ∗ ((c : Thread nD τ).loc main_arg1 ↦[Finset.univ \ tblS (gix m c t)]{leaf 7 fullShare t} tbl m c)) := if_pos (Nat.lt_succ_self _)
  have hi := ctx_inv m K c (some oGat)
  have hr : rchd (F := F) c ⊢ reached ER (gatC c) 0 := rchd_at (F := F) c (some oGat)
  have hs : ((c : Thread nD τ).loc main_arg1 ↦{leaf 7 fullShare t} tbl m c : sProp 𝕄) ⊣⊢ _ := pointsTo_split_subset (ℓ := (c : Thread nD τ).loc main_arg1) (q := leaf 7 fullShare t) (f := tbl m c) (Finset.subset_univ (tblS (gix m c t)))
  have hvR : (gatM.slice (Rect.unit (s := S128x1024) offR S1x1024.size inbR) stR).view.set = rowS t := by
    rw [← unit_row hR inbR]; exact View.set_slice_whole _ _
  have hvT : (tabM.slice (Rect.unit (s := S16384x1024) offT S1x1024.size inbT) stT).view.set = tblS (gix m c t) := by
    rw [← unit_tbl hT inbT]; exact View.set_slice_whole _ _
  have pR : ∀ Y : S128x1024.Idx → Elt F .f32, ((c : Thread nD τ).loc cc0_scratch0 ↦[rowS t]{fullShare} Y : sProp 𝕄)
      = ((gatM.slice (Rect.unit (s := S128x1024) offR S1x1024.size inbR) stR).view.loc (c : Thread nD τ) ↦[(gatM.slice (Rect.unit (s := S128x1024) offR S1x1024.size inbR) stR).view.set]{fullShare} Y) :=
    fun Y => congrArg (fun S : Finset S128x1024.Idx => ((c : Thread nD τ).loc cc0_scratch0 ↦[S]{fullShare} Y : sProp 𝕄)) hvR.symm
  have pT : ((c : Thread nD τ).loc main_arg1 ↦[tblS (gix m c t)]{leaf 7 fullShare t} tbl m c : sProp 𝕄)
      = ((tabM.slice (Rect.unit (s := S16384x1024) offT S1x1024.size inbT) stT).view.loc (c : Thread nD τ) ↦[(tabM.slice (Rect.unit (s := S16384x1024) offT S1x1024.size inbT) stT).view.set]{leaf 7 fullShare t} tbl m c) :=
    congrArg (fun S : Finset S16384x1024.Idx => ((c : Thread nD τ).loc main_arg1 ↦[S]{leaf 7 fullShare t} tbl m c : sProp 𝕄)) hvT.symm
  have hpay : ∀ Z : S128x1024.Idx → Elt F .f32, (∀ i ∈ rowS t, Z i = own m c i) →
      iprop(((gatM.slice (Rect.unit (s := S128x1024) offR S1x1024.size inbR) stR).view.loc (c : Thread nD τ) ↦[(gatM.slice (Rect.unit (s := S128x1024) offR S1x1024.size inbR) stR).view.set]{fullShare} Z)
        ∗ ((tabM.slice (Rect.unit (s := S16384x1024) offT S1x1024.size inbT) stT).view.loc (c : Thread nD τ) ↦[(tabM.slice (Rect.unit (s := S16384x1024) offT S1x1024.size inbT) stT).view.set]{leaf 7 fullShare t} tbl m c)) ⊢ rowPay m c t := by
    intro Z hZ
    have e : ((c : Thread nD τ).loc cc0_scratch0 ↦[rowS t]{fullShare} Z : sProp 𝕄) = ((c : Thread nD τ).loc cc0_scratch0 ↦[rowS t]{fullShare} own m c) := pointsTo_congr (ℓ := (c : Thread nD τ).loc cc0_scratch0) (I := rowS t) (q := fullShare) (f := Z) (g := own m c) hZ
    rw [← pR, ← pT]
    unfold rowPay
    iintro ⟨HY, HS⟩
    isplitl [HY]
    · iapply (BIBase.Entails.of_eq e); iexact HY
    · iexact HS
  rw [e1, e2] at hu
  unfold Gi at hK ⊢
  iintro ⟨#Hc, #Hr, HI, HG, HX⟩
  ihave HG := hu $$ HG
  icases HG with ⟨⟨HT, ⟨%Y, HY⟩, HS⟩, HG⟩
  ihave HS := hs.1 $$ HS
  icases HS with ⟨HS, HS'⟩
  ihave HS := (BIBase.Entails.of_eq pT) $$ HS
  ihave HY := (BIBase.Entails.of_eq (pR Y)) $$ HY
  iapply (Rounds.wp_copy_pointsTo 𝒱₀ ER (Rd m) (c : Thread nD τ) none (κ := K (c, some oGat)) (sem := .dma cc0_scratch5.sem) (r := 0) (d := Duty.row t)
      (by show Duty.row t ∈ (Rd m).duties (gatC c) 0; rw [Rd_duties]; exact gat_duty t) () Ng (View.amount_dma _ _) (Rd_amount m c (some oGat) _)
      (by
        show _ ⊢ (Rd m).payload (gatC c) 0 (.row t)
        rw [Rd_payload]
        show _ ⊢ rowPay m c t
        exact hpay _ (row_land m hR hT Y))) $$ [HS HY HT]
  · isplitr; · iapply hi; iexact Hc
    isplitl [HS]; · iexact HS
    isplitl [HY]; · iexact HY
    isplitl [HT]; · iexact HT
    iapply hr; iexact Hr
  iintro HC
  iapply hK
  isplitr; · iexact Hc
  isplitr; · iexact Hr
  isplitl [HI]; · iexact HI
  isplitl [HG HC HS']
  · iapply HG
    isplitl [HC]; · iexact HC
    iexact HS'
  iexact HX

/-- The index of a row is read, and its copy started. -/
theorem row_issue {t : Fin 128} {n : ℕ} (hn : t.val = n) {offI : Fin 1 → ℕ} {offR : Fin 2 → ℕ} {offT : BitVec 32 → Fin 2 → ℕ} (hI : offI = ![128 * blk c + t.val]) (hR : offR = ![t.val, 0])
    (hT : ∀ v, offT v = k0_off3 c v) {chk : BitVec 32 → Prop} (hchk : ∀ v, chk v) {dec : ∀ v, Decidable (chk v)}
    {inbI : ∀ a, offI a + S1.size a ≤ S2048.size a} {h1 : (Rect.unit (s := S2048) offI S1.size inbI).shape.numel = 1} {hp : EltTy.packing .i32 = 1}
    {inbR : ∀ a, offR a + S1x1024.size a ≤ S128x1024.size a} {inbT : ∀ v, chk v → ∀ a, offT v a + S1x1024.size a ≤ S16384x1024.size a}
    {stR : ∀ a, (Rect.unit (s := S128x1024) offR S1x1024.size inbR).stride a = 1} {stT : ∀ v h, ∀ a, (Rect.unit (s := S16384x1024) (offT v) S1x1024.size (inbT v h)).stride a = 1}
    {w1 : ∀ v h, (tabM.slice (Rect.unit (s := S16384x1024) (offT v) S1x1024.size (inbT v h)) (stT v h)).view.WordExact} {w2 : (gatM.slice (Rect.unit (s := S128x1024) offR S1x1024.size inbR) stR).view.WordExact}
    {ht : DmaTarget.Typed (nD := nD) (τ := τ) (p := .tc) .hbm (.dma cc0_scratch5.sem) (.here (gatM.slice (Rect.unit (s := S128x1024) offR S1x1024.size inbR) stR))}
    {α : Type} {Q : α → sProp 𝕄} {Kc : Prog (TpuEff nD τ sig (Elt F) Λ₀ .tc) α} {X : sProp 𝕄}
    (hK : Gi m K c (n + 1) X ⊢ Run c Kc Q) :
    Gi m K c n X ⊢ Run c (smemLoad arg0M (Rect.unit (s := S2048) offI S1.size inbI) h1 hp >>= fun v =>
      Prog.lift (.assume (chk v) (dec v)) >>= fun h =>
      Prog.lift (.enqueueDma (tabM.slice (Rect.unit (s := S16384x1024) (offT v) S1x1024.size (inbT v h.down)) (stT v h.down)) (.here (gatM.slice (Rect.unit (s := S128x1024) offR S1x1024.size inbR) stR)) (.dma cc0_scratch5.sem) (w1 v h.down) w2 ht) >>= fun _ => Kc) Q := by
  subst hn
  refine run_eq (p' := smemLoadElt arg0M (Rect.unit (s := S2048) offI S1.size inbI) (View.loads_smem_one hp h1) (Shape.Idx.first (h1.symm ▸ Nat.one_pos)) fun v =>
      .op (.assume (chk v) (dec v)) fun h =>
      .op (.enqueueDma (tabM.slice (Rect.unit (s := S16384x1024) (offT v) S1x1024.size (inbT v h.down)) (stT v h.down)) (.here (gatM.slice (Rect.unit (s := S128x1024) offR S1x1024.size inbR) stR)) (.dma cc0_scratch5.sem) (w1 v h.down) w2 ht) fun _ => Kc) rfl ?_
  have hc := row_copy m K (c := c) (t := t) (X := X) (Q := Q) (k := fun _ => Kc) hR (offT := offT (ids m c (idAt c t)))
    (by rw [hT]; exact off3_eq c _) (inbR := inbR) (inbT := inbT _ (hchk _)) (stR := stR) (stT := stT _ (hchk _)) (w1 := w1 _ (hchk _)) (w2 := w2) (ht := ht) hK
  unfold Gi at hc ⊢
  iintro ⟨#Hc, #Hr, HI, HG, HX⟩
  iapply (id_load m hI) $$ HI
  iintro HI
  iapply (run_assume (hchk _))
  iapply hc
  isplitr; · iexact Hc
  isplitr; · iexact Hr
  isplitl [HI]; · iexact HI
  isplitl [HG]; · iexact HG
  iexact HX

end Cert.K

end
-- ==== Proof.Gather2.lean ====
/-
The two loops of the gather, and what it starts from and leaves.
-/
module

public import proofs.«01_k».proof.Proof.Gather
public import proofs.«01_k».proof.Proof.Talk

@[expose] public section

set_option maxRecDepth 1000000

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]
local notation "𝕄" => MT nD τ sig Unit (Elt F) ℕ UU ℕ
variable (m : (ℓ : Loc nD τ sig) → Buf (Elt F) ℓ) (K : Dev nD × Ck → ℕ)

attribute [local irreducible] wp
variable {c : Dev nD}

/-! ## The issuing loop -/

theorem offI_fact : ∀ (c : Dev nD) (t : Fin k0_t1_loop.trips), k0_off1 c t 0 = 128 * blk c + (4 * t.val) ∧ k0_off4 c t 0 = 128 * blk c + (4 * t.val + 1)
    ∧ k0_off7 c t 0 = 128 * blk c + (4 * t.val + 2) ∧ k0_off10 c t 0 = 128 * blk c + (4 * t.val + 3) := by decide +kernel
theorem offR_fact : ∀ t : Fin k0_t1_loop.trips, k0_off2 t = ![4 * t.val, 0] ∧ k0_off5 t = ![4 * t.val + 1, 0]
    ∧ k0_off8 t = ![4 * t.val + 2, 0] ∧ k0_off11 t = ![4 * t.val + 3, 0] := by decide +kernel
theorem one_fun {f : Fin 1 → ℕ} {n : ℕ} (h : f 0 = n) : f = ![n] := by
  funext a
  match a with
  | 0 => exact h
theorem trips_lt (t : Fin k0_t1_loop.trips) : 4 * t.val + 3 < 128 := by
  have h : t.val < 32 := t.isLt
  omega

theorem part1_run (X : sProp 𝕄) (v10 v13 : BitVec 32) (t : Fin k0_t1_loop.trips) :
    Gi m K c (4 * t.val) X ⊢ Run c (atBuf k0_part1 c v10 v13 0#32 1#32 t) fun _ => Gi m K c (4 * t.val + 3) X := by
  rw [k0_part1_eq_skeleton]; unfold k0_part1_skel atBuf; beta_reduce; extract_lets
  have h3 := trips_lt t
  refine row_issue m K (t := ⟨4 * t.val, by omega⟩) rfl (one_fun (offI_fact c t).1) (offR_fact t).1 (fun _ => rfl) (off3_inb c) ?_
  refine row_issue m K (t := ⟨4 * t.val + 1, by omega⟩) rfl (one_fun (offI_fact c t).2.1) (offR_fact t).2.1 (fun _ => rfl) (off3_inb c) ?_
  refine row_issue m K (t := ⟨4 * t.val + 2, by omega⟩) rfl (one_fun (offI_fact c t).2.2.1) (offR_fact t).2.2.1 (fun _ => rfl) (off3_inb c) ?_
  exact run_ret BIBase.Entails.rfl

theorem t1_run (X : sProp 𝕄) (v2 v5 v8 v9 v10 v13 v14 v87 v88 v100) (t : Fin k0_t1_loop.trips) (u : Unit) :
    Gi m K c (4 * t.val) X ⊢ Run c (atBuf k0_t1_body c v2 v5 v8 v9 v10 v13 v14 v87 v88 v100 t u) fun _ => Gi m K c (4 * (t.val + 1)) X := by
  unfold k0_t1_body atBuf; beta_reduce
  have h3 := trips_lt t
  refine run_seq (part1_run m K X v10 v13 t) fun v => ?_
  refine row_issue m K (t := ⟨4 * t.val + 3, by omega⟩) rfl (one_fun (offI_fact c t).2.2.2) (offR_fact t).2.2.2 (fun _ => rfl) (off3_inb c) ?_
  exact run_ret BIBase.Entails.rfl

/-! ## The draining loop -/

/-- What a device has taken from its gather cell after `n` waits. -/
def drained (c : Dev nD) (n : ℕ) : sProp 𝕄 :=
  if n < 128 then iprop(∃ S : Finset Duty, ⌜S ⊆ duties c (some oGat)⌝ ∗ atPos ER (gatC c) 0 S (n * Ng) ∗ bigSep S (payload m c (some oGat)))
  else iprop(semVal (gatC c) 0 ∗ bigSep (duties c (some oGat)) (payload m c (some oGat)))
def gCred (c : Dev nD) (n : ℕ) (t : Fin 128) : sProp 𝕄 := if n ≤ t.val then cred (tallyAt (gatC c) () Ng) else iprop(emp)
def Dr (c : Dev nD) (n : ℕ) (X : sProp 𝕄) : sProp 𝕄 :=
  iprop(ctx m K ∗ (∃ W, owes (c : Thread nD τ) (Ox c) W) ∗ bigSep Finset.univ (gCred (F := F) c n) ∗ drained m c n ∗ X)

theorem gat_expect : (Rd m).expect (gatC c) 0 = 128 * Ng := by
  refine (Rd_expect m c (some oGat)).trans ?_
  show (Finset.univ.map ⟨Duty.row, fun _ _ h => Duty.row.inj h⟩).card * Ng = _
  rw [Finset.card_map]
  rfl
theorem off13_fact : ∀ t : Fin k0_t2_loop.trips, k0_off13 t = ![t.val, 0] := by decide +kernel

theorem drain_step {n : ℕ} (hn : n < 128) {s1 s2 : Shape} {e1 e2 : EltTy} {p1 p2 : Space} {κ' : Kind}
    {a : Memref sig .tc p1 s1 e1} {b : Memref sig κ' p2 s2 e2} (hN : b.view.dmaCredit = Ng)
    {w1 : a.view.WordExact} {w2 : b.view.WordExact}
    {α : Type} {Q : α → sProp 𝕄} {kk : PUnit → Prog (TpuEff nD τ sig (Elt F) Λ₀ .tc) α} {X : sProp 𝕄}
    (hK : Dr m K c (n + 1) X ⊢ Run c (kk ⟨⟩) Q) : Dr m K c n X ⊢ Run c (.op (.waitDma2 cc0_scratch5.sem a b w1 w2) kk) Q := by
  have hu := upd (F := F) (⟨n, hn⟩ : Fin 128) (Φ := gCred c n) (Ψ := gCred c (n + 1)) (fun j hj => by
    have hne : j.val ≠ n := fun e => hj (Fin.ext e)
    exact if_congr ⟨fun h => by omega, fun h => by omega⟩ rfl rfl)
  have g1 : gCred (F := F) c n ⟨n, hn⟩ = cred (tallyAt (gatC c) () Ng) := if_pos (le_refl _)
  have g2 : gCred (F := F) c (n + 1) ⟨n, hn⟩ = iprop(emp) := if_neg (by simp)
  rw [g1, g2] at hu
  have hi := ctx_inv m K c (some oGat)
  have hO : ctx m K ⊢ MayWait (c : Thread nD τ) (ksem (some oGat)) () (Ox c) := (ctx_lev m K).trans (may_x (k := some oGat) (by decide))
  have hx := gat_expect m (c := c)
  have hd : (Rd m).duties (gatC c) 0 = duties c (some oGat) := Rd_duties m c (some oGat)
  have hp : (fun d => (Rd m).payload (gatC c) 0 d) = payload m c (some oGat) := funext fun d => Rd_payload m c (some oGat) d
  have hcl : iprop(cellInv ER (Rd m) (K (c, some oGat)) (gatC c) ∗ atPos ER (gatC c) (0 + 1) ∅ 0) ⊢ (|={Set.univ}=> semVal (gatC c) 0 : sProp 𝕄) :=
    Rounds.cell_close ER (Rd m) (Set.mem_univ _) id (fun r hr => Rd_later m _ r hr)
  have d1 : drained m c n = iprop(∃ S : Finset Duty, ⌜S ⊆ duties c (some oGat)⌝ ∗ atPos ER (gatC c) 0 S (n * Ng) ∗ bigSep S (payload m c (some oGat))) := if_pos hn
  have hjoin : ∀ S T : Finset Duty, S ⊆ T → iprop(bigSep S (payload m c (some oGat)) ∗ bigSep (T \ S) (payload m c (some oGat))) ⊢ bigSep T (payload m c (some oGat)) := fun S T h => by
    have e : bigSep T (payload m c (some oGat)) = iprop(bigSep S (payload m c (some oGat)) ∗ bigSep (T \ S) (payload m c (some oGat))) := BI.bigSep_sdiff_split h
    rw [e]
  unfold Dr at hK ⊢
  rw [d1]
  by_cases hl : n + 1 < 128
  · have d2 : drained m c (n + 1) = iprop(∃ S : Finset Duty, ⌜S ⊆ duties c (some oGat)⌝ ∗ atPos ER (gatC c) 0 S ((n + 1) * Ng) ∗ bigSep S (payload m c (some oGat))) := if_pos hl
    rw [d2] at hK
    iintro ⟨#Hc, ⟨%W, HO⟩, HC, ⟨%S, %hS, HA, HP⟩, HX⟩
    ihave HC := hu $$ HC
    icases HC with ⟨HC, HC'⟩
    iapply (Rounds.wp_wait 𝒱₀ ER (Rd m) (c : Thread nD τ) none (κ := K (c, some oGat)) (sm := .dma cc0_scratch5.sem)
        (wpE_waitDma2_eq 𝒱₀ (c : Thread nD τ) none Set.univ) (Set.mem_univ _) (O := Ox c) (W := W) {(SemLoc.dma cc0_scratch5.sem, ())} (cr := Finsupp.single () Ng) (R := 0) (m := n * Ng) (T := S)
        (by rw [Util.total_single, hN]) (image_single_subset _ () Ng)) $$ [HC HO HA]
    · isplitr; · iapply hi; iexact Hc
      isplitl [HC]; · iexact HC
      isplitl [HO]; · iexact HO
      isplitr; · iapply hO; iexact Hc
      iexact HA
    iintro %S' ⟨%hS', HO, HA, HP'⟩
    iapply hK
    isplitr; · iexact Hc
    isplitl [HO]; · iexists _; iexact HO
    isplitl [HC']; · iapply HC'; iempintro
    isplitr [HX]
    · iexists S'
      isplitr
      · ipureintro
        have h2 := hS'.2.1
        change S' ⊆ (Rd m).duties (gatC c) 0 at h2
        rw [hd] at h2
        exact h2
      isplitl [HA]
      · have e : n * Ng + b.view.dmaCredit = (n + 1) * Ng := by rw [hN, Nat.succ_mul]
        iapply (BIBase.Entails.of_eq (congrArg (fun z => (atPos ER (gatC c) 0 S' z : sProp 𝕄)) e)); iexact HA
      · iapply (hjoin S S' hS'.1)
        isplitl [HP]; · iexact HP
        iapply (BIBase.Entails.of_eq (congrArg (fun f : Duty → sProp 𝕄 => bigSep (S' \ S) f) hp)); iexact HP'
    iexact HX
  · have e127 : n + 1 = 128 := by omega
    have d2 : drained m c (n + 1) = iprop(semVal (gatC c) 0 ∗ bigSep (duties c (some oGat)) (payload m c (some oGat))) := if_neg hl
    rw [d2] at hK
    iintro ⟨#Hc, ⟨%W, HO⟩, HC, ⟨%S, %hS, HA, HP⟩, HX⟩
    ihave HC := hu $$ HC
    icases HC with ⟨HC, HC'⟩
    iapply (Rounds.wp_wait_rest_token 𝒱₀ ER (Rd m) (c : Thread nD τ) none (κ := K (c, some oGat)) (sm := .dma cc0_scratch5.sem)
        (wpE_waitDma2_eq 𝒱₀ (c : Thread nD τ) none Set.univ) (Set.mem_univ _) () (O := Ox c) (W := W) (R := 0) (m := n * Ng) (T := S)
        (by show n * Ng + b.view.dmaCredit = (Rd m).expect (gatC c) 0; rw [hx, hN, ← e127, Nat.succ_mul])) $$ [HC HO HA]
    · isplitr; · iapply hi; iexact Hc
      isplitl [HC]; · rw [hN]; iexact HC
      isplitl [HO]; · iexact HO
      isplitr; · iapply hO; iexact Hc
      iexact HA
    iintro ⟨HO, HA, -, HP'⟩
    iapply (fupd_wp _ _ _ _ _)
    imod hcl $$ [HA] with HV
    · isplitr; · iapply hi; iexact Hc
      iexact HA
    imodintro
    iapply hK
    isplitr; · iexact Hc
    isplitl [HO]; · iexists _; iexact HO
    isplitl [HC']; · iapply HC'; iempintro
    isplitr [HX]
    · isplitl [HV]; · iexact HV
      iapply (hjoin S _ hS)
      isplitl [HP]; · iexact HP
      iapply (BIBase.Entails.of_eq (congrArg₂ (fun (T : Finset Duty) (f : Duty → sProp 𝕄) => bigSep (T \ S) f) hd hp)); iexact HP'
    iexact HX

theorem t2_run (X : sProp 𝕄) (v2 v5 v8 v9 v10 v13 v14 v87 v88 v100) (t : Fin k0_t2_loop.trips) (u : Unit) :
    Dr m K c t.val X ⊢ Run c (atBuf k0_t2_body c v2 v5 v8 v9 v10 v13 v14 v87 v88 v100 t u) fun _ => Dr m K c (t.val + 1) X := by
  unfold k0_t2_body atBuf; beta_reduce; extract_lets
  have h : t.val < 128 := t.isLt
  refine run_eq (p' := Prog.op _ fun _ => Prog.ret _) rfl ?_
  exact drain_step m K h rfl (run_ret BIBase.Entails.rfl)

/-! ## The rows and the shares of the table -/

theorem rows_disj (t t' : Fin 128) (h : t ≠ t') : Disjoint (rowS t) (rowS t') := by
  rw [Finset.disjoint_left]
  intro i hi hi'
  exact h (Fin.ext ((Finset.mem_filter.mp hi).2.symm.trans (Finset.mem_filter.mp hi').2))
theorem rows_all : (Finset.univ : Finset (Fin 128)).biUnion rowS = Finset.univ := by
  ext i
  simp only [Finset.mem_biUnion, Finset.mem_univ, true_and, iff_true]
  exact ⟨i 0, Finset.mem_filter.mpr ⟨Finset.mem_univ _, rfl⟩⟩
theorem gat_rows (c : Dev nD) (Y : S128x1024.Idx → Elt F .f32) :
    ((c : Thread nD τ).loc cc0_scratch0 ↦{fullShare} Y : sProp 𝕄) = bigSep Finset.univ fun t => (c : Thread nD τ).loc cc0_scratch0 ↦[rowS t]{fullShare} Y := by
  have h : ((c : Thread nD τ).loc cc0_scratch0 ↦[(Finset.univ : Finset (Fin 128)).biUnion rowS]{fullShare} Y : sProp 𝕄) = _ :=
    pointsTo_biUnion (ℓ := (c : Thread nD τ).loc cc0_scratch0) (q := fullShare) (f := Y) Finset.univ rowS fun t _ t' _ hne => rows_disj t t' hne
  rw [rows_all] at h
  exact h
theorem tbl_leaves (c : Dev nD) :
    ((c : Thread nD τ).loc main_arg1 ↦{fullShare} tbl m c : sProp 𝕄) = bigSep Finset.univ fun t : Fin 128 => (c : Thread nD τ).loc main_arg1 ↦{leaf 7 fullShare t} tbl m c :=
  Idealize.ShloMosaic.ShareLeaves.pointsTo_leaves (ℓ := (c : Thread nD τ).loc main_arg1) Finset.univ (tbl m c) 7 fullShare

/-- What a device needs of its own for the gather. -/
theorem gather_start (c : Dev nD) :
    iprop((bigSep Finset.univ fun t : Fin 128 => dutyTok ER (gatC c) 0 (.row t)) ∗ (∃ Y : S128x1024.Idx → Elt F .f32, (c : Thread nD τ).loc cc0_scratch0 ↦{fullShare} Y)
      ∗ ((c : Thread nD τ).loc main_arg1 ↦{fullShare} tbl m c)) ⊢ bigSep Finset.univ (gRow m 0 c) := by
  have e : gRow m 0 c = fun t => iprop(dutyTok ER (gatC c) 0 (.row t) ∗ (∃ Y : S128x1024.Idx → Elt F .f32, (c : Thread nD τ).loc cc0_scratch0 ↦[rowS t]{fullShare} Y)
    ∗ ((c : Thread nD τ).loc main_arg1 ↦{leaf 7 fullShare t} tbl m c)) := funext fun t => if_neg (Nat.not_lt_zero _)
  have hY : ∀ Y : S128x1024.Idx → Elt F .f32, (bigSep Finset.univ fun t => (c : Thread nD τ).loc cc0_scratch0 ↦[rowS t]{fullShare} Y : sProp 𝕄)
      ⊢ bigSep Finset.univ fun t => iprop(∃ Y : S128x1024.Idx → Elt F .f32, (c : Thread nD τ).loc cc0_scratch0 ↦[rowS t]{fullShare} Y) := fun Y =>
    mono2 _ fun t => by iintro H; iexists Y; iexact H
  rw [e, sep2, sep2, tbl_leaves]
  iintro ⟨HD, ⟨%Y, HY⟩, HT⟩
  isplitl [HD]; · iexact HD
  isplitl [HY]
  · iapply (hY Y); iapply (BIBase.Entails.of_eq (gat_rows c Y)); iexact HY
  iexact HT

/-- All copies started, nothing waited for. -/
theorem gather_turn (X : sProp 𝕄) : iprop((∃ W, owes (c : Thread nD τ) (Ox c) W) ∗ atPos ER (gatC c) 0 ∅ 0 ∗ Gi m K c 128 X)
    ⊢ Dr m K c 0 iprop(rchd c ∗ ((c : Thread nD τ).loc cc0_stg0_0 ↦{fullShare} ids m c)
        ∗ (bigSep Finset.univ fun t : Fin 128 => (c : Thread nD τ).loc main_arg1 ↦[Finset.univ \ tblS (gix m c t)]{leaf 7 fullShare t} tbl m c) ∗ X) := by
  have e : gRow m 128 c = fun t => iprop(cred (tallyAt (gatC c) () Ng) ∗ ((c : Thread nD τ).loc main_arg1 ↦[Finset.univ \ tblS (gix m c t)]{leaf 7 fullShare t} tbl m c)) := funext fun t => if_pos t.isLt
  have e2 : gCred (F := F) c 0 = fun t => cred (tallyAt (gatC c) () Ng) := funext fun t => if_pos (Nat.zero_le _)
  have d : drained m c 0 = iprop(∃ S : Finset Duty, ⌜S ⊆ duties c (some oGat)⌝ ∗ atPos ER (gatC c) 0 S (0 * Ng) ∗ bigSep S (payload m c (some oGat))) := if_pos (by omega)
  have ee : (bigSep (∅ : Finset Duty) (payload m c (some oGat)) : sProp 𝕄) = iprop(emp) := BI.bigSep_empty
  unfold Gi Dr
  rw [e, e2, d, sep2, Nat.zero_mul]
  iintro ⟨HO, HA, #Hc, Hr, HI, ⟨HC, HT⟩, HX⟩
  isplitr; · iexact Hc
  isplitl [HO]; · iexact HO
  isplitl [HC]; · iexact HC
  isplitl [HA]
  · iexists ∅
    isplitr; · ipureintro; exact Finset.empty_subset _
    isplitl [HA]; · iexact HA
    rw [ee]; iempintro
  isplitl [Hr]; · iexact Hr
  isplitl [HI]; · iexact HI
  isplitl [HT]; · iexact HT
  iexact HX

/-- Every row is in, and the table is whole again. -/
theorem gather_done (X : sProp 𝕄) : Dr m K c 128 iprop(rchd c ∗ ((c : Thread nD τ).loc cc0_stg0_0 ↦{fullShare} ids m c)
        ∗ (bigSep Finset.univ fun t : Fin 128 => (c : Thread nD τ).loc main_arg1 ↦[Finset.univ \ tblS (gix m c t)]{leaf 7 fullShare t} tbl m c) ∗ X)
    ⊢ iprop(ctx m K ∗ (∃ W, owes (c : Thread nD τ) (Ox c) W) ∗ semVal (gatC c) 0 ∗ rchd c ∗ ((c : Thread nD τ).loc cc0_stg0_0 ↦{fullShare} ids m c)
      ∗ ((c : Thread nD τ).loc cc0_scratch0 ↦{fullShare} own m c) ∗ ((c : Thread nD τ).loc main_arg1 ↦{fullShare} tbl m c) ∗ X) := by
  have d : drained m c 128 = iprop(semVal (gatC c) 0 ∗ bigSep (duties c (some oGat)) (payload m c (some oGat))) := if_neg (by omega)
  have hp : bigSep (duties c (some oGat)) (payload m c (some oGat)) = bigSep Finset.univ (rowPay m c) := BI.bigSep_map (M := 𝕄) (s := Finset.univ) ⟨Duty.row, fun _ _ h => Duty.row.inj h⟩
  have hj : ∀ t : Fin 128, iprop(((c : Thread nD τ).loc main_arg1 ↦[tblS (gix m c t)]{leaf 7 fullShare t} tbl m c) ∗ ((c : Thread nD τ).loc main_arg1 ↦[Finset.univ \ tblS (gix m c t)]{leaf 7 fullShare t} tbl m c))
      ⊢ ((c : Thread nD τ).loc main_arg1 ↦{leaf 7 fullShare t} tbl m c : sProp 𝕄) := fun t =>
    (pointsTo_split_subset (ℓ := (c : Thread nD τ).loc main_arg1) (q := leaf 7 fullShare t) (f := tbl m c) (Finset.subset_univ (tblS (gix m c t)))).2
  have hr : rowPay m c = fun t => iprop(((c : Thread nD τ).loc cc0_scratch0 ↦[rowS t]{fullShare} own m c) ∗ (c : Thread nD τ).loc main_arg1 ↦[tblS (gix m c t)]{leaf 7 fullShare t} tbl m c) := rfl
  have hT := mono2 (Finset.univ : Finset (Fin 128)) hj
  rw [sep2] at hT
  unfold Dr
  rw [d, hp, hr, sep2, gat_rows, tbl_leaves]
  iintro ⟨#Hc, HO, -, ⟨HV, HY, HT⟩, Hr, HI, HT', HX⟩
  isplitr; · iexact Hc
  isplitl [HO]; · iexact HO
  isplitl [HV]; · iexact HV
  isplitl [Hr]; · iexact Hr
  isplitl [HI]; · iexact HI
  isplitl [HY]; · iexact HY
  isplitl [HT HT']
  · iapply hT
    isplitl [HT]; · iexact HT
    iexact HT'
  iexact HX

end Cert.K

end
-- ==== Proof.Front.lean ====
/-
From the start of the kernel to the exchange with the partner.
-/
module

public import proofs.«01_k».proof.Proof.Gather2
public import proofs.«01_k».proof.Proof.Exch

@[expose] public section

set_option maxRecDepth 1000000

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]
local notation "𝕄" => MT nD τ sig Unit (Elt F) ℕ UU ℕ
variable (m : (ℓ : Loc nD τ sig) → Buf (Elt F) ℓ) (K : Dev nD × Ck → ℕ)

attribute [local irreducible] wp
variable {c : Dev nD}

/-! ## The exchange with the partner -/

abbrev tab2M : Memref sig .tc .vmem S2048x1 .i32 := Memref.whole cc0_stg1_0

theorem emb_all (i : S128x1024.Idx) : (sxM.access all128).emb i = i := by
  funext a
  apply Fin.ext
  match a with
  | 0 => show 0 + 1 * (i 0).val = (i 0).val; omega
  | 1 => show 0 + 1 * (i 1).val = (i 1).val; omega
/-- Storing over all of the sending buffer. -/
theorem sx_write (Y w : S128x1024.Idx → Elt F .bf16) : (sxM.access all128).write (Elt F) Y w Finset.univ = w := by
  funext i
  refine (congrArg _ (emb_all i).symm).trans ((View.write_emb_of_mem _ _ (Finset.mem_univ i)).trans rfl)
theorem gat_read (X : S128x1024.Idx → Elt F .f32) : gatM.view.readAt (Elt F) all128.toLoadRect X = X := by
  funext j
  show X (all128.emb j) = X j
  exact congrArg X (emb_all j)

set_option maxHeartbeats 2000000 in
/-- The block goes to the partner. -/
theorem x_send {d : Dev nD} (hd : d = partner c) {hsc : (rxM : Memref sig (Dev.tc d : Thread nD τ).2.kind .vmem S128x1024 .bf16).view.ref.isScScratch = false}
    {w1 : sxM.view.WordExact} {w2 : rxM.view.WordExact} {ht : DmaTarget.Typed .vmem (.dma cc0_scratch7.sem) (.remote (Dev.tc d : Thread nD τ) rxM (.dma cc0_scratch6.sem) hsc)}
    {α : Type} {Q : α → sProp 𝕄} {k : PUnit → Prog (TpuEff nD τ sig (Elt F) Λ₀ .tc) α} (W : Waits sig Unit) :
    iprop(ctx m K ∗ rchd c ∗ rchd (partner c) ∗ sxPts m c ∗ (∃ X, rxPts (F := F) (partner c) X) ∗ dutyTok ER (sxC c) 0 .u ∗ dutyTok ER (rxC (partner c)) 0 .u ∗ owes (c : Thread nD τ) (Ox c) W)
      ⊢ iprop(((cred (tallyAt (sxC c) () Nx) ∗ owes (c : Thread nD τ) (Oq c 0) W) -∗ Run c (k ⟨⟩) Q)
          -∗ Run c (.op (.enqueueDma sxM (.remote (Dev.tc d : Thread nD τ) rxM (.dma cc0_scratch6.sem) hsc) (.dma cc0_scratch7.sem) w1 w2 ht) k) Q) := by
  subst hd
  have e1 := ctx_inv m K c (some oSx)
  have e2 := ctx_inv m K (partner c) (some oRx)
  have e3 : rchd (F := F) c ⊢ reached ER (sxC c) 0 := rchd_at (F := F) c (some oSx)
  have e4 : rchd (F := F) (partner c) ⊢ reached ER (rxC (partner c)) 0 := rchd_at (F := F) (partner c) (some oRx)
  have v1 : (sxM.view.set : Finset S128x1024.Idx) = Finset.univ := View.set_whole cc0_scratch1
  have v2 : (rxM.view.set : Finset S128x1024.Idx) = Finset.univ := View.set_whole cc0_scratch2
  have hs : sxPts m c = (sxM.view.loc (c : Thread nD τ) ↦[sxM.view.set]{fullShare} sx m c) :=
    congrArg (fun S : Finset S128x1024.Idx => ((c : Thread nD τ).loc cc0_scratch1 ↦[S]{fullShare} sx m c : sProp 𝕄)) v1.symm
  have hr : ∀ X : S128x1024.Idx → Elt F .bf16, rxPts (partner c) X = (rxM.view.loc (partner c : Thread nD τ) ↦[rxM.view.set]{fullShare} X) := fun X =>
    congrArg (fun S : Finset S128x1024.Idx => ((partner c : Thread nD τ).loc cc0_scratch2 ↦[S]{fullShare} X : sProp 𝕄)) v2.symm
  have hland : ∀ fd : S128x1024.Idx → Elt F .bf16, (rxM.view.loc (partner c : Thread nD τ) ↦[rxM.view.set]{fullShare} rxM.view.write (Elt F) fd (sxM.view.read (Elt F) (sx m c)) Finset.univ)
      ⊢ payload m (partner c) (some oRx) .u := fun fd => by
    have e : payload m (partner c) (some oRx) .u = rxPts (partner c) (sx m (partner (partner c))) := rfl
    rw [e, partner_partner, hr]
    have hw : rxM.view.write (Elt F) fd (sxM.view.read (Elt F) (sx m c)) Finset.univ = sx m c := View.write_whole_univ (Val := Elt F) cc0_scratch2 fd (sx m c)
    rw [hw]
  iintro ⟨#Hc, #Hr, #Hr', Hs, ⟨%X, Hd⟩, T1, T2, HO⟩ Hk
  ihave Hs := (BIBase.Entails.of_eq hs) $$ Hs
  ihave Hd := (BIBase.Entails.of_eq (hr X)) $$ Hd
  iapply (Rounds.wp_send_pointsTo 𝒱₀ ER (Rd m) (c : Thread nD τ) none (κ₁ := K (c, some oSx)) (κ₂ := K (partner c, some oRx))
      (r₁ := 0) (r₂ := 0) (d₁ := Duty.u) (d₂ := Duty.u) (q := fullShare) (fs := sx m c) (fd := X)
      (by show Duty.u ∈ (Rd m).duties (sxC c) 0; rw [Rd_duties]; exact Finset.mem_singleton_self _)
      (by show Duty.u ∈ (Rd m).duties (rxC (partner c)) 0; rw [Rd_duties]; exact Finset.mem_singleton_self _)
      () () Nx (View.amount_dma _ _) (Rd_amount m c (some oSx) _) (Rd_amount m (partner c) (some oRx) _) (Oq c 0)
      rfl (W := W)
      (by show _ ⊢ (Rd m).payload (sxC c) 0 .u; rw [Rd_payload]; exact BIBase.Entails.of_eq hs.symm) (by show _ ⊢ (Rd m).payload (rxC (partner c)) 0 .u; rw [Rd_payload]; exact hland X)) $$ [Hs T1 T2 Hd HO]
  · isplitr; · iapply e1; iexact Hc
    isplitr; · iapply e2; iexact Hc
    isplitl [Hs]; · iexact Hs
    isplitl [Hd]; · iexact Hd
    isplitl [HO]; · iexact HO
    isplitl [T1]; · iexact T1
    isplitr; · iapply e3; iexact Hr
    isplitl [T2]; · iexact T2
    iapply e4; iexact Hr'
  · iexact Hk

/-! ## From the barrier to the exchange -/

/-- What a device has of slot `q` before the barrier. -/
def tokS0 (c : Dev nD) (q : Slot) : sProp 𝕄 :=
  iprop(atPos ER (sC q c) 0 ∅ 0 ∗ if snd q c = true then iprop(dutyTok ER (sC q c) 0 .u ∗ dutyTok ER (rC q (peer q c)) 0 .u) else iprop(emp))
theorem toks (c : Dev nD) : iprop(bigSep Finset.univ (tokS0 (F := F) c) ∗ (bigSep Finset.univ fun q : Slot => if snd q c = true then iprop(reached ER (rC q (peer q c)) 0 ∗ ∃ X, pts (F := F) (flow q) (peer q c) (sreg q c) fullShare X) else iprop(emp)))
    ⊢ bigSep Finset.univ (tokS (F := F) c) := by
  rw [← sep2]
  refine mono2 _ fun q => ?_
  unfold tokS0 tokS
  by_cases h : snd q c = true
  · rw [if_pos h, if_pos h, if_pos h]
    unfold tok
    iintro ⟨⟨HA, HD, HD'⟩, HR, HP⟩
    isplitl [HA]; · iexact HA
    isplitl [HD]; · iexact HD
    isplitl [HD']; · iexact HD'
    isplitl [HR]; · iexact HR
    iexact HP
  · rw [if_neg h, if_neg h, if_neg h]
    iintro ⟨⟨HA, -⟩, -⟩
    isplitl [HA]; · iexact HA
    iempintro

/-- What is not touched until the exchange is over. -/
def rest17 (c : Dev nD) (X : sProp 𝕄) : sProp 𝕄 :=
  iprop(bigSep Finset.univ (RR m false 0 0 c) ∗ atPos ER (rxC c) 0 ∅ 0 ∗ cred (tallyAt (rxC c) () Nx) ∗ (bigSep Finset.univ fun f : Fin 2 => iprop(∃ Y, pts (F := F) f c (ownReg f c) fullShare Y)) ∗ X)
/-- What the barrier and the exchange need. -/
def M17 (c : Dev nD) (X : sProp 𝕄) : sProp 𝕄 :=
  iprop(((c : Thread nD τ).loc cc0_stg1_0 ↦{fullShare} ids2 m c) ∗ cred (tallyAt (barC c) () 7) ∗ atPos ER (barC c) 0 ∅ 0
    ∗ (∃ Y : S128x1024.Idx → Elt F .bf16, (c : Thread nD τ).loc cc0_scratch1 ↦{fullShare} Y) ∗ dutyTok ER (sxC c) 0 .u ∗ dutyTok ER (rxC (partner c)) 0 .u ∗ atPos ER (sxC c) 0 ∅ 0
    ∗ bigSep Finset.univ (tokS0 (F := F) c) ∗ rest17 m c X)
/-- What a device has when all its rows are in. -/
def G17 (c : Dev nD) (X : sProp 𝕄) : sProp 𝕄 :=
  iprop(ctx m K ∗ (∃ W, owes (c : Thread nD τ) (Ox c) W) ∗ semVal (gatC c) 0 ∗ rchd c ∗ ((c : Thread nD τ).loc cc0_stg0_0 ↦{fullShare} ids m c)
      ∗ ((c : Thread nD τ).loc cc0_scratch0 ↦{fullShare} own m c) ∗ ((c : Thread nD τ).loc main_arg1 ↦{fullShare} tbl m c) ∗ M17 m c X)
/-- What is put aside at the exchange. -/
def D17 (c : Dev nD) (X : sProp 𝕄) : sProp 𝕄 :=
  iprop(((c : Thread nD τ).loc cc0_stg0_0 ↦{fullShare} ids m c) ∗ ((c : Thread nD τ).loc cc0_stg1_0 ↦{fullShare} ids2 m c) ∗ ((c : Thread nD τ).loc main_arg1 ↦{fullShare} tbl m c)
    ∗ ((c : Thread nD τ).loc cc0_scratch0 ↦{fullShare} own m c) ∗ sxPts m c ∗ semVal (gatC c) 0 ∗ semVal (barC c) 0 ∗ semVal (sxC c) 0 ∗ X)

/-- The block is masked and narrowed, and, once the barrier is passed, sent to the partner. -/
theorem mid17 (X : sProp 𝕄) {d : Dev nD} (hd : d = partner c) {hl1 : tab2M.view.LoadsAt (Rect.unit (s := S2048x1) (k0_off14 c) S128x1.size (k0_off14_inb c)).toLoadRect}
    {hl2 : gatM.view.LoadsAt all128.toLoadRect} {hl3 : sxM.view.LoadsAt all128.toLoadRect} {hx : (sxM.access all128).Stores Finset.univ}
    {hm : (Finset.univ : Finset all128.shape.Idx) = Finset.univ ∨ ∀ a, all128.stride a = 1}
    {hsc : (rxM : Memref sig (Dev.tc d : Thread nD τ).2.kind .vmem S128x1024 .bf16).view.ref.isScScratch = false}
    {w1 w1' : sxM.view.WordExact} {w2 w2' : rxM.view.WordExact} {ht : DmaTarget.Typed .vmem (.dma cc0_scratch7.sem) (.remote (Dev.tc d : Thread nD τ) rxM (.dma cc0_scratch6.sem) hsc)}
    {α : Type} {Q : α → sProp 𝕄} {Kc : Vec F S128x1 .i32 → Vec F S128x1024 .f32 → Prog (TpuEff nD τ sig (Elt F) Λ₀ .tc) α}
    (hK : E18 m K c (D17 m c X) ⊢ Run c (Kc (idb m c) (own m c)) Q) :
    G17 m K c X ⊢ Run c (Prog.lift (.load tab2M (Rect.unit (s := S2048x1) (k0_off14 c) S128x1.size (k0_off14_inb c)).toLoadRect hl1) >>= fun v =>
      Prog.lift (.load gatM all128.toLoadRect hl2) >>= fun w => Prog.lift (.load sxM all128.toLoadRect hl3) >>= fun _ =>
      Prog.lift (.store sxM all128 (k0_pay38 (base c) v w) Finset.univ hx hm) >>= fun _ =>
      semWaitWord barS 7#32 >>= fun _ =>
      Prog.lift (.enqueueDma sxM (.remote (Dev.tc d : Thread nD τ) rxM (.dma cc0_scratch6.sem) hsc) (.dma cc0_scratch7.sem) w1 w2 ht) >>= fun _ =>
      Prog.lift (.waitDma2 cc0_scratch6.sem rxM sxM w2' w1') >>= fun _ => Kc v w) Q := by
  refine run_eq (p' := Prog.op (.load tab2M (Rect.unit (s := S2048x1) (k0_off14 c) S128x1.size (k0_off14_inb c)).toLoadRect hl1) fun v =>
      .op (.load gatM all128.toLoadRect hl2) fun w => .op (.load sxM all128.toLoadRect hl3) fun _ =>
      .op (.store sxM all128 (k0_pay38 (base c) v w) Finset.univ hx hm) fun _ =>
      .op (.semWait barS (7 : ℕ)) fun _ =>
      .op (.enqueueDma sxM (.remote (Dev.tc d : Thread nD τ) rxM (.dma cc0_scratch6.sem) hsc) (.dma cc0_scratch7.sem) w1 w2 ht) fun _ =>
      .op (.waitDma2 cc0_scratch6.sem rxM sxM w2' w1') fun _ => Kc v w) rfl ?_
  have hw := fun W => bar_wait m K (c := c) (Q := Q) (kk := fun _ => .op (.enqueueDma sxM (.remote (Dev.tc d : Thread nD τ) rxM (.dma cc0_scratch6.sem) hsc) (.dma cc0_scratch7.sem) w1 w2 ht) fun _ =>
      .op (.waitDma2 cc0_scratch6.sem rxM sxM w2' w1') fun _ => Kc (idb m c) (own m c)) W
  have hs := fun W => x_send m K (c := c) hd (Q := Q) (hsc := hsc) (w1 := w1) (w2 := w2) (ht := ht) (k := fun _ =>
      .op (.waitDma2 cc0_scratch6.sem rxM sxM w2' w1') fun _ => Kc (idb m c) (own m c)) W
  have hq := fun W => cell_wait m K (c := c) (k := some oSx) (s := cc0_scratch6.sem) rfl (d := .u) rfl (a := rxM) (b := sxM) rfl (w1 := w2') (w2 := w1')
    (kk := fun _ => Kc (idb m c) (own m c)) (Q := Q) (Oq c 0) W (may_wait (by decide))
  have ht := toks (F := F) c
  unfold G17 M17 rest17
  iintro ⟨#Hc, ⟨%W, HO⟩, HG, #Hr, HI, HY, HT, HI2, HB, HA, ⟨%Y, HS⟩, T1, T2, HAS, TS, HR, HAR, HCR, HF, HX⟩
  iapply (wp_load 𝒱₀ (c : Thread nD τ) none Set.univ (m := tab2M) (S := Finset.univ) (Finset.subset_univ _)) $$ HI2
  iintro HI2
  iapply (wp_load 𝒱₀ (c : Thread nD τ) none Set.univ (m := gatM) (r := all128.toLoadRect) (S := Finset.univ) (Finset.subset_univ _)) $$ HY
  rw [gat_read]
  iintro HY
  iapply (wp_load 𝒱₀ (c : Thread nD τ) none Set.univ (m := sxM) (r := all128.toLoadRect) (S := Finset.univ) (Finset.subset_univ _)) $$ HS
  iintro HS
  iapply (wp_store 𝒱₀ (c : Thread nD τ) none Set.univ (m := sxM) (r := all128) (Mk := Finset.univ) (S := Finset.univ) (Finset.subset_univ _)) $$ HS
  rw [sx_write]
  iintro HS
  iapply (hw W) $$ [HB HO HA]
  · isplitr; · iexact Hc
    isplitl [HB]; · iexact HB
    isplitl [HO]; · iexact HO
    iexact HA
  unfold gotB
  iintro ⟨⟨%W', HO⟩, HV, Hr', HRX, HQ⟩
  iapply (hs W') $$ [HO Hr' HRX HS T1 T2]
  · isplitr; · iexact Hc
    isplitr; · iexact Hr
    isplitl [Hr']; · iexact Hr'
    isplitl [HS]; · unfold sxPts sx idb; iexact HS
    isplitl [HRX]; · iexact HRX
    isplitl [T1]; · iexact T1
    isplitl [T2]; · iexact T2
    iexact HO
  iintro ⟨HC, HO⟩
  iapply (hq W') $$ [HC HO HAS]
  · isplitr; · iexact Hc
    isplitl [HC]; · iexact HC
    isplitl [HO]; · iexact HO
    iexact HAS
  iintro ⟨HO, HVS, HS⟩
  ihave HS := (BIBase.Entails.of_eq (show payload m c (some oSx) .u = sxPts m c from rfl)) $$ HS
  iapply hK
  unfold E18 D17
  isplitr; · iexact Hc
  isplitr; · iexact Hr
  isplitl [HO]; · iexact HO
  isplitl [TS HQ]
  · iapply ht
    isplitl [TS]; · iexact TS
    iexact HQ
  isplitl [HR]; · iexact HR
  isplitl [HAR]; · iexact HAR
  isplitl [HCR]; · iexact HCR
  isplitl [HF]; · iexact HF
  isplitl [HI]; · iexact HI
  isplitl [HI2]; · iexact HI2
  isplitl [HT]; · iexact HT
  isplitl [HY]; · iexact HY
  isplitl [HS]; · iexact HS
  isplitl [HG]; · iexact HG
  isplitl [HV]; · iexact HV
  isplitl [HVS]; · iexact HVS
  iexact HX

/-! ## The signals -/

/-- A device learns which it is. -/
theorem run_dev {α : Type} {Q : α → sProp 𝕄} {k : Dev nD → Prog (TpuEff nD τ sig (Elt F) Λ₀ .tc) α} : Run c (k c) Q ⊢ Run c (.op .deviceId k) Q := by
  unfold Run
  rw [wp_op, wpE_deviceId_eq]
  iintro H
  imodintro
  iexact H

theorem part14_run (X : sProp 𝕄) : Sig m K c 0 X ⊢ Run c (atBuf k0_part14) fun a => iprop(⌜c = a.1 ∧ base c = a.2.2.2.2.2.1 ∧ SemArray.scalar (sig.barrier 0 rfl) = a.2.2.2.2.2.2.2.1⌝ ∗ Sig m K c 1 X) := by
  rw [k0_part14_eq_skeleton]; unfold k0_part14_skel atBuf; beta_reduce
  refine run_eq (p' := Prog.op .deviceId fun d0 => Prog.op (.semSignal ((⟨k0_dev1 d0, k0_dev1_lt d0⟩ : Dev nD), Proc.tc) barS (1 : ℕ)) fun _ => _) rfl ?_
  refine BIBase.Entails.trans ?_ run_dev
  refine signal m K (p := none) rfl (dev1_eq c) ?_
  refine run_ret ?_
  iintro H
  isplitr
  · ipureintro; exact ⟨rfl, rfl, rfl⟩
  iexact H

theorem part15_run (X : sProp 𝕄) (v2 v5 v8 v22 v23 v25 v26 v28 v29 v31) :
    Sig m K c 1 X ⊢ Run c (atBuf k0_part15 c v2 v5 v8 (SemArray.scalar (sig.barrier 0 rfl)) v22 v23 v25 v26 v28 v29 v31) fun _ => Sig m K c 6 X := by
  rw [k0_part15_eq_skeleton]; unfold k0_part15_skel atBuf; beta_reduce; extract_lets
  refine sig_step m K (some (0, 1, 0)) rfl (cond := k0_cond1) (dev := k0_dev2) (fun _ => rfl) (by decide +kernel) ?_
  refine sig_step m K (some (0, 0, 0)) rfl (cond := k0_cond2) (dev := k0_dev3) (fun _ => rfl) (by decide +kernel) ?_
  refine sig_step m K (some (1, 1, 0)) rfl (cond := k0_cond3) (dev := k0_dev4) (fun _ => rfl) (by decide +kernel) ?_
  refine sig_step m K (some (1, 0, 0)) rfl (cond := k0_cond4) (dev := k0_dev5) (fun _ => rfl) (by decide +kernel) ?_
  refine sig_step m K (some (0, 1, 1)) rfl (cond := k0_cond5) (dev := k0_dev6) (fun _ => rfl) (by decide +kernel) ?_
  exact run_ret BIBase.Entails.rfl

theorem part16_run (X : sProp 𝕄) (v2 v5 v8 v53 v54 v56 v57 v59 v60 v64) :
    Sig m K c 6 X ⊢ Run c (atBuf k0_part16 c v2 v5 v8 (SemArray.scalar (sig.barrier 0 rfl)) v53 v54 v56 v57 v59 v60 v64) fun _ => Sig m K c 12 X := by
  rw [k0_part16_eq_skeleton]; unfold k0_part16_skel atBuf; beta_reduce; extract_lets
  refine sig_step m K (some (0, 0, 1)) rfl (cond := k0_cond6) (dev := k0_dev7) (fun _ => rfl) (by decide +kernel) ?_
  refine sig_step m K (some (1, 1, 1)) rfl (cond := k0_cond7) (dev := k0_dev8) (fun _ => rfl) (by decide +kernel) ?_
  refine sig_step m K (some (1, 0, 1)) rfl (cond := k0_cond8) (dev := k0_dev9) (fun _ => rfl) (by decide +kernel) ?_
  refine sig_step m K (some (0, 1, 2)) rfl (cond := k0_cond9) (dev := k0_dev10) (fun _ => rfl) (by decide +kernel) ?_
  refine sig_step m K (some (0, 0, 2)) rfl (cond := k0_cond10) (dev := k0_dev11) (fun _ => rfl) (by decide +kernel) ?_
  refine sig_step m K (some (1, 1, 2)) rfl (cond := k0_cond11) (dev := k0_dev12) (fun _ => rfl) (by decide +kernel) ?_
  exact run_ret BIBase.Entails.rfl

/-- What part 17 starts from. -/
def X17 (c : Dev nD) (X : sProp 𝕄) : sProp 𝕄 :=
  iprop(rchd c ∗ ((c : Thread nD τ).loc cc0_stg0_0 ↦{fullShare} ids m c) ∗ bigSep Finset.univ (gRow m 0 c) ∗ atPos ER (gatC c) 0 ∅ 0 ∗ M17 m c X)

theorem amt7 : ∀ c : Dev nD, k0_amt1 c = 7#32 := by decide +kernel

/-- A counted loop by an invariant. -/
theorem loop_run {l : Scf.Loop 32} {n : ℕ} (hn : l.trips = n) (I : ℕ → sProp 𝕄) (hok : l.OK) {body : Fin l.trips → Unit → Prog (TpuEff nD τ sig (Elt F) Λ₀ .tc) Unit}
    (hbody : ∀ k a, I k.val ⊢ Run c (body k a) fun _ => I (k.val + 1)) : I 0 ⊢ Run c (Scf.Loop.for l hok ⟨⟩ body) fun _ => I n := by
  subst hn
  have h := Scf.wp_for frame (wpE (defs₀ (F := F)) 𝒱₀ (c : Thread nD τ) none) Set.univ l.lb l.ub l.st hok ⟨⟩ body (fun n _ => I n) hbody (Q := fun _ => I l.trips)
  refine BIBase.Entails.trans ?_ h
  iintro H
  isplitl [H]; · iexact H
  iintro %a H
  iexact H

theorem loops17 (X : sProp 𝕄) (v2 v5 v8 v9 v10 v13 v14 v87 v88 v100) {α : Type} {Q : α → sProp 𝕄} {Kc : Prog (TpuEff nD τ sig (Elt F) Λ₀ .tc) α}
    (hK : G17 m K c X ⊢ Run c Kc Q) :
    Sig m K c 13 (X17 m c X) ⊢ Run c (Scf.Loop.for k0_t1_loop k0_t1_ok ⟨⟩ (atBuf k0_t1_body c v2 v5 v8 v9 v10 v13 v14 v87 v88 v100) >>= fun _ =>
      Scf.Loop.for k0_t2_loop k0_t2_ok ⟨⟩ (atBuf k0_t2_body c v2 v5 v8 v9 v10 v13 v14 v87 v88 v100) >>= fun _ => Kc) Q := by
  have n1 : k0_t1_loop.trips = 32 := by decide +kernel
  have n2 : k0_t2_loop.trips = 128 := by decide +kernel
  have l1 := loop_run (c := c) n1 (fun n => Gi m K c (4 * n) iprop((∃ W, owes (c : Thread nD τ) (Ox c) W) ∗ atPos ER (gatC c) 0 ∅ 0 ∗ M17 m c X)) k0_t1_ok
    (fun k a => t1_run m K _ v2 v5 v8 v9 v10 v13 v14 v87 v88 v100 k a)
  have l2 := loop_run (c := c) n2 (fun n => Dr m K c n iprop(rchd c ∗ ((c : Thread nD τ).loc cc0_stg0_0 ↦{fullShare} ids m c)
        ∗ (bigSep Finset.univ fun t : Fin 128 => (c : Thread nD τ).loc main_arg1 ↦[Finset.univ \ tblS (gix m c t)]{leaf 7 fullShare t} tbl m c) ∗ M17 m c X)) k0_t2_ok
    (fun k a => t2_run m K _ v2 v5 v8 v9 v10 v13 v14 v87 v88 v100 k a)
  have gt := gather_turn m K (c := c) (M17 m c X)
  have g0 : Sq c 13 + Ox c = Ox c := by rw [Sq_end, zero_add]
  refine BIBase.Entails.trans ?_ (run_seq l1 fun _ => ?_)
  · unfold Sig X17 Gi
    rw [g0]
    iintro ⟨#Hc, HO, -, Hr, HI, HG, HA, HM⟩
    isplitr; · iexact Hc
    isplitl [Hr]; · iexact Hr
    isplitl [HI]; · iexact HI
    isplitl [HG]; · iexact HG
    isplitl [HO]; · iexact HO
    isplitl [HA]; · iexact HA
    iexact HM
  refine BIBase.Entails.trans ?_ (run_seq l2 fun _ => ?_)
  · refine BIBase.Entails.trans ?_ gt
    unfold Gi
    iintro ⟨#Hc, Hr, HI, HG, HO, HA, HM⟩
    isplitl [HO]; · iexact HO
    isplitl [HA]; · iexact HA
    isplitr; · iexact Hc
    isplitl [Hr]; · iexact Hr
    isplitl [HI]; · iexact HI
    isplitl [HG]; · iexact HG
    iexact HM
  exact (gather_done m K (M17 m c X)).trans hK

set_option maxHeartbeats 2000000 in
theorem part17_run (X : sProp 𝕄) (v2 v5 v8 v9 v13 v87 v88 v100) :
    Sig m K c 12 (X17 m c X) ⊢ Run c (atBuf k0_part17 c v2 v5 v8 v9 (base c) v13 (SemArray.scalar (sig.barrier 0 rfl)) v87 v88 v100) fun a => iprop(⌜a.1 = msk m c⌝ ∗ E18 m K c (D17 m c X)) := by
  rw [k0_part17_eq_skeleton]; unfold k0_part17_skel atBuf; beta_reduce; extract_lets
  refine sig_step m K (some (1, 0, 2)) rfl (cond := k0_cond12) (dev := k0_dev13) (fun _ => rfl) (by decide +kernel) ?_
  refine loops17 m K X v2 v5 v8 v9 (base c) v13 _ v87 v88 v100 ?_
  rw [amt7]
  refine mid17 m K X (dev14_eq c) ?_
  refine run_ret ?_
  iintro H
  isplitr
  · ipureintro; rfl
  iexact H

end Cert.K

end
-- ==== Proof.Talk2.lean ====
/-
The later parts of the body: the last hops, what is read out of them, and the departures.
-/
module

public import proofs.«01_k».proof.Proof.Talk

@[expose] public section

set_option maxRecDepth 1000000

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]
local notation "𝕄" => MT nD τ sig Unit (Elt F) ℕ UU ℕ
variable (m : (ℓ : Loc nD τ sig) → Buf (Elt F) ℓ) (K : Dev nD × Ck → ℕ)

variable {c : Dev nD} {X : sProp (MT nD τ sig Unit (Elt F) ℕ UU ℕ)}

attribute [local irreducible] wp

set_option maxHeartbeats 2000000 in
theorem part30_run (v5 v8 v458 v459) : St m K c true 28 20 0 (XB m c (done 14 c) X) ⊢ Run c (atBuf k0_part30 c v5 v8 v458 v459) fun _ => St m K c true 28 20 0 (XB m c (done 18 c) X) := by
  rw [k0_part30_eq_skeleton]; unfold k0_part30_skel atBuf; beta_reduce; extract_lets
  refine strip m K 0 0 0 (cond := k0_cond73) (off := fun p c => k0_off91 c (BitVec.ofNat 32 (128 * p.val))) k0_off90_inb k0_off92_inb k0_off93_inb k0_off94_inb k0_off91_inb
    (fun _ => rfl) (by decide) (by decide) rfl (by decide +kernel) ?_
  refine strip m K 0 1 0 (cond := k0_cond74) (off := fun p c => k0_off96 c (BitVec.ofNat 32 (128 * p.val))) k0_off95_inb k0_off97_inb k0_off98_inb k0_off99_inb k0_off96_inb
    (fun _ => rfl) (by decide) (by decide) rfl (by decide +kernel) ?_
  refine strip m K 1 0 0 (cond := k0_cond75) (off := fun p c => k0_off101 c (BitVec.ofNat 32 (512 * p.val))) k0_off100_inb k0_off102_inb k0_off103_inb k0_off104_inb k0_off101_inb
    (fun _ => rfl) (by decide) (by decide) rfl (by decide +kernel) ?_
  refine strip m K 1 1 0 (cond := k0_cond76) (off := fun p c => k0_off106 c (BitVec.ofNat 32 (512 * p.val))) k0_off105_inb k0_off107_inb k0_off108_inb k0_off109_inb k0_off106_inb
    (fun _ => rfl) (by decide) (by decide) rfl (by decide +kernel) ?_
  exact run_ret BIBase.Entails.rfl
set_option maxHeartbeats 2000000 in
theorem part31_run (v2 v5 v8 v490 c1_i32_423) : St m K c true 28 20 0 (XB m c (done 18 c) X) ⊢ Run c (atBuf k0_part31 c v2 v5 v8 v490 c1_i32_423) fun _ => St m K c true 30 22 0 (XB m c (done 18 c) X) := by
  rw [k0_part31_eq_skeleton]; unfold k0_part31_skel atBuf; beta_reduce; extract_lets
  refine recv m K (.inr (0, 0, 1, 0)) (cond := k0_cond77) (fun _ => rfl) rfl (fun _ => rfl) (by decide +kernel) rfl rfl (recv2_ok _) ?_
  refine st_issue m K (.inr (0, 0, 2, 0)) (cond := k0_cond78) (off := k0_off111) (dev := k0_dev43) rfl rfl rfl (fst2 _) (get3 m 0 0 0 1 (by decide)) (fun _ => rfl) rfl rfl (fun _ => rfl) rfl (by decide +kernel) ?_
  refine recv m K (.inr (0, 1, 1, 0)) (cond := k0_cond79) (fun _ => rfl) rfl (fun _ => rfl) (by decide +kernel) rfl rfl (recv2_ok _) ?_
  refine st_issue m K (.inr (0, 1, 2, 0)) (cond := k0_cond80) (off := k0_off113) (dev := k0_dev44) rfl rfl rfl (fst2 _) (get3 m 0 1 0 1 (by decide)) (fun _ => rfl) rfl rfl (fun _ => rfl) rfl (by decide +kernel) ?_
  exact run_ret BIBase.Entails.rfl
set_option maxHeartbeats 2000000 in
theorem part32_run (v2 v5 v8 v518 c1_i32_451) : St m K c true 30 22 0 (XB m c (done 18 c) X) ⊢ Run c (atBuf k0_part32 c v2 v5 v8 v518 c1_i32_451) fun _ => St m K c true 32 24 0 (XB m c (done 18 c) X) := by
  rw [k0_part32_eq_skeleton]; unfold k0_part32_skel atBuf; beta_reduce; extract_lets
  refine recv m K (.inr (1, 0, 1, 0)) (cond := k0_cond81) (fun _ => rfl) rfl (fun _ => rfl) (by decide +kernel) rfl rfl (recv2_ok _) ?_
  refine st_issue m K (.inr (1, 0, 2, 0)) (cond := k0_cond82) (off := k0_off115) (dev := k0_dev45) rfl rfl rfl (fst2 _) (get3 m 1 0 0 1 (by decide)) (fun _ => rfl) rfl rfl (fun _ => rfl) rfl (by decide +kernel) ?_
  refine recv m K (.inr (1, 1, 1, 0)) (cond := k0_cond83) (fun _ => rfl) rfl (fun _ => rfl) (by decide +kernel) rfl rfl (recv2_ok _) ?_
  refine st_issue m K (.inr (1, 1, 2, 0)) (cond := k0_cond84) (off := k0_off117) (dev := k0_dev46) rfl rfl rfl (fst2 _) (get3 m 1 1 0 1 (by decide)) (fun _ => rfl) rfl rfl (fun _ => rfl) rfl (by decide +kernel) ?_
  exact run_ret BIBase.Entails.rfl
set_option maxHeartbeats 2000000 in
theorem part33_run (v2 v5 v8 v546 c1_i32_479) : St m K c true 32 24 0 (XB m c (done 18 c) X) ⊢ Run c (atBuf k0_part33 c v2 v5 v8 v546 c1_i32_479) fun _ => St m K c true 34 26 0 (XB m c (done 18 c) X) := by
  rw [k0_part33_eq_skeleton]; unfold k0_part33_skel atBuf; beta_reduce; extract_lets
  refine recv m K (.inr (0, 0, 1, 1)) (cond := k0_cond85) (fun _ => rfl) rfl (fun _ => rfl) (by decide +kernel) rfl rfl (recv2_ok _) ?_
  refine st_issue m K (.inr (0, 0, 2, 1)) (cond := k0_cond86) (off := k0_off119) (dev := k0_dev47) rfl rfl rfl (fst2 _) (get3 m 0 0 1 1 (by decide)) (fun _ => rfl) rfl rfl (fun _ => rfl) rfl (by decide +kernel) ?_
  refine recv m K (.inr (0, 1, 1, 1)) (cond := k0_cond87) (fun _ => rfl) rfl (fun _ => rfl) (by decide +kernel) rfl rfl (recv2_ok _) ?_
  refine st_issue m K (.inr (0, 1, 2, 1)) (cond := k0_cond88) (off := k0_off121) (dev := k0_dev48) rfl rfl rfl (fst2 _) (get3 m 0 1 1 1 (by decide)) (fun _ => rfl) rfl rfl (fun _ => rfl) rfl (by decide +kernel) ?_
  exact run_ret BIBase.Entails.rfl
set_option maxHeartbeats 2000000 in
theorem part34_run (v2 v5 v8 v574 c1_i32_507) : St m K c true 34 26 0 (XB m c (done 18 c) X) ⊢ Run c (atBuf k0_part34 c v2 v5 v8 v574 c1_i32_507) fun _ => St m K c true 36 28 0 (XB m c (done 18 c) X) := by
  rw [k0_part34_eq_skeleton]; unfold k0_part34_skel atBuf; beta_reduce; extract_lets
  refine recv m K (.inr (1, 0, 1, 1)) (cond := k0_cond89) (fun _ => rfl) rfl (fun _ => rfl) (by decide +kernel) rfl rfl (recv2_ok _) ?_
  refine st_issue m K (.inr (1, 0, 2, 1)) (cond := k0_cond90) (off := k0_off123) (dev := k0_dev49) rfl rfl rfl (fst2 _) (get3 m 1 0 1 1 (by decide)) (fun _ => rfl) rfl rfl (fun _ => rfl) rfl (by decide +kernel) ?_
  refine recv m K (.inr (1, 1, 1, 1)) (cond := k0_cond91) (fun _ => rfl) rfl (fun _ => rfl) (by decide +kernel) rfl rfl (recv2_ok _) ?_
  refine st_issue m K (.inr (1, 1, 2, 1)) (cond := k0_cond92) (off := k0_off125) (dev := k0_dev50) rfl rfl rfl (fst2 _) (get3 m 1 1 1 1 (by decide)) (fun _ => rfl) rfl rfl (fun _ => rfl) rfl (by decide +kernel) ?_
  exact run_ret BIBase.Entails.rfl
set_option maxHeartbeats 2000000 in
theorem part35_run (v5 v8 v602 c1_i32_535) : St m K c true 36 28 0 (XB m c (done 18 c) X) ⊢ Run c (atBuf k0_part35 c v5 v8 v602 c1_i32_535) fun _ => St m K c true 36 28 0 (XB m c (done 20 c) X) := by
  rw [k0_part35_eq_skeleton]; unfold k0_part35_skel atBuf; beta_reduce; extract_lets
  refine strip m K 0 0 1 (cond := k0_cond93) (off := fun p c => k0_off127 c (BitVec.ofNat 32 (128 * p.val))) k0_off126_inb k0_off128_inb k0_off129_inb k0_off130_inb k0_off127_inb
    (fun _ => rfl) (by decide) (by decide) rfl (by decide +kernel) ?_
  refine strip m K 0 1 1 (cond := k0_cond94) (off := fun p c => k0_off132 c (BitVec.ofNat 32 (128 * p.val))) k0_off131_inb k0_off133_inb k0_off134_inb k0_off135_inb k0_off132_inb
    (fun _ => rfl) (by decide) (by decide) rfl (by decide +kernel) ?_
  exact run_ret BIBase.Entails.rfl
set_option maxHeartbeats 2000000 in
theorem part36_run (v2 v5 v8 v622 v627 v629) : St m K c true 36 28 0 (XB m c (done 20 c) X) ⊢ Run c (atBuf k0_part36 c v2 v5 v8 v622 v627 v629) fun _ => St m K c true 36 31 0 (XB m c (done 22 c) X) := by
  rw [k0_part36_eq_skeleton]; unfold k0_part36_skel atBuf; beta_reduce; extract_lets
  refine strip m K 1 0 1 (cond := k0_cond95) (off := fun p c => k0_off137 c (BitVec.ofNat 32 (512 * p.val))) k0_off136_inb k0_off138_inb k0_off139_inb k0_off140_inb k0_off137_inb
    (fun _ => rfl) (by decide) (by decide) rfl (by decide +kernel) ?_
  refine strip m K 1 1 1 (cond := k0_cond96) (off := fun p c => k0_off142 c (BitVec.ofNat 32 (512 * p.val))) k0_off141_inb k0_off143_inb k0_off144_inb k0_off145_inb k0_off142_inb
    (fun _ => rfl) (by decide) (by decide) rfl (by decide +kernel) ?_
  refine recv m K (.inr (0, 0, 2, 0)) (cond := k0_cond97) (fun _ => rfl) rfl (fun _ => rfl) (by decide +kernel) rfl rfl (recv2_ok _) ?_
  refine recv m K (.inr (0, 1, 2, 0)) (cond := k0_cond98) (fun _ => rfl) rfl (fun _ => rfl) (by decide +kernel) rfl rfl (recv2_ok _) ?_
  refine recv m K (.inr (1, 0, 2, 0)) (cond := k0_cond99) (fun _ => rfl) rfl (fun _ => rfl) (by decide +kernel) rfl rfl (recv2_ok _) ?_
  exact run_ret BIBase.Entails.rfl
set_option maxHeartbeats 2000000 in
theorem part37_run (v2 v5 v8 v664) : St m K c true 36 31 0 (XB m c (done 22 c) X) ⊢ Run c (atBuf k0_part37 c v2 v5 v8 v664) fun _ => St m K c true 36 35 0 (XB m c (done 22 c) X) := by
  rw [k0_part37_eq_skeleton]; unfold k0_part37_skel atBuf; beta_reduce; extract_lets
  refine recv m K (.inr (1, 1, 2, 0)) (cond := k0_cond100) (fun _ => rfl) rfl (fun _ => rfl) (by decide +kernel) rfl rfl (recv2_ok _) ?_
  refine recv m K (.inr (0, 0, 2, 1)) (cond := k0_cond101) (fun _ => rfl) rfl (fun _ => rfl) (by decide +kernel) rfl rfl (recv2_ok _) ?_
  refine recv m K (.inr (0, 1, 2, 1)) (cond := k0_cond102) (fun _ => rfl) rfl (fun _ => rfl) (by decide +kernel) rfl rfl (recv2_ok _) ?_
  refine recv m K (.inr (1, 0, 2, 1)) (cond := k0_cond103) (fun _ => rfl) rfl (fun _ => rfl) (by decide +kernel) rfl rfl (recv2_ok _) ?_
  exact run_ret BIBase.Entails.rfl
set_option maxHeartbeats 2000000 in
theorem part38_run (v2 v5 v8 v692) : St m K c true 36 35 0 (XB m c (done 22 c) X) ⊢ Run c (atBuf k0_part38 c v2 v5 v8 v692) fun _ => St m K c true 36 36 0 (XB m c (done 22 c) X) := by
  rw [k0_part38_eq_skeleton]; unfold k0_part38_skel atBuf; beta_reduce; extract_lets
  refine recv m K (.inr (1, 1, 2, 1)) (cond := k0_cond104) (fun _ => rfl) rfl (fun _ => rfl) (by decide +kernel) rfl rfl (recv2_ok _) ?_
  exact run_ret BIBase.Entails.rfl
set_option maxHeartbeats 2000000 in
theorem part39_run (v8 v700 v705 v707 v712 v714 v719 v721) : St m K c true 36 36 0 (XB m c (done 22 c) X) ⊢ Run c (atBuf k0_part39 c v8 v700 v705 v707 v712 v714 v719 v721) fun _ => St m K c true 36 36 4 (XB m c (done 26 c) X) := by
  rw [k0_part39_eq_skeleton]; unfold k0_part39_skel atBuf; beta_reduce; extract_lets
  refine strip m K 0 0 2 (cond := k0_cond105) (off := fun p c => k0_off155 c (BitVec.ofNat 32 (128 * p.val))) k0_off154_inb k0_off156_inb k0_off157_inb k0_off158_inb k0_off155_inb
    (fun _ => rfl) (by decide) (by decide) rfl (by decide +kernel) ?_
  refine strip m K 0 1 2 (cond := k0_cond106) (off := fun p c => k0_off160 c (BitVec.ofNat 32 (128 * p.val))) k0_off159_inb k0_off161_inb k0_off162_inb k0_off163_inb k0_off160_inb
    (fun _ => rfl) (by decide) (by decide) rfl (by decide +kernel) ?_
  refine strip m K 1 0 2 (cond := k0_cond107) (off := fun p c => k0_off165 c (BitVec.ofNat 32 (512 * p.val))) k0_off164_inb k0_off166_inb k0_off167_inb k0_off168_inb k0_off165_inb
    (fun _ => rfl) (by decide) (by decide) rfl (by decide +kernel) ?_
  refine strip m K 1 1 2 (cond := k0_cond108) (off := fun p c => k0_off170 c (BitVec.ofNat 32 (512 * p.val))) k0_off169_inb k0_off171_inb k0_off172_inb k0_off173_inb k0_off170_inb
    (fun _ => rfl) (by decide) (by decide) rfl (by decide +kernel) ?_
  refine st_gone m K (.inl (0, 0, 0)) (cond := k0_cond109) rfl rfl (fun _ => rfl) rfl (fun _ => rfl) (by decide +kernel) ?_
  refine st_gone m K (.inl (0, 1, 0)) (cond := k0_cond110) rfl rfl (fun _ => rfl) rfl (fun _ => rfl) (by decide +kernel) ?_
  refine st_gone m K (.inl (0, 0, 1)) (cond := k0_cond111) rfl rfl (fun _ => rfl) rfl (fun _ => rfl) (by decide +kernel) ?_
  refine st_gone m K (.inl (0, 1, 1)) (cond := k0_cond112) rfl rfl (fun _ => rfl) rfl (fun _ => rfl) (by decide +kernel) ?_
  exact run_ret BIBase.Entails.rfl
set_option maxHeartbeats 2000000 in
theorem part40_run (v5 v8 v748) : St m K c true 36 36 4 (XB m c (done 26 c) X) ⊢ Run c (atBuf k0_part40 c v5 v8 v748) fun _ => St m K c true 36 36 10 (XB m c (done 26 c) X) := by
  rw [k0_part40_eq_skeleton]; unfold k0_part40_skel atBuf; beta_reduce; extract_lets
  refine st_gone m K (.inl (0, 0, 2)) (cond := k0_cond113) rfl rfl (fun _ => rfl) rfl (fun _ => rfl) (by decide +kernel) ?_
  refine st_gone m K (.inl (0, 1, 2)) (cond := k0_cond114) rfl rfl (fun _ => rfl) rfl (fun _ => rfl) (by decide +kernel) ?_
  refine st_gone m K (.inl (1, 0, 0)) (cond := k0_cond115) rfl rfl (fun _ => rfl) rfl (fun _ => rfl) (by decide +kernel) ?_
  refine st_gone m K (.inl (1, 1, 0)) (cond := k0_cond116) rfl rfl (fun _ => rfl) rfl (fun _ => rfl) (by decide +kernel) ?_
  refine st_gone m K (.inl (1, 0, 1)) (cond := k0_cond117) rfl rfl (fun _ => rfl) rfl (fun _ => rfl) (by decide +kernel) ?_
  refine st_gone m K (.inl (1, 1, 1)) (cond := k0_cond118) rfl rfl (fun _ => rfl) rfl (fun _ => rfl) (by decide +kernel) ?_
  exact run_ret BIBase.Entails.rfl
set_option maxHeartbeats 2000000 in
theorem part41_run (v5 v8 v772) : St m K c true 36 36 10 (XB m c (done 26 c) X) ⊢ Run c (atBuf k0_part41 c v5 v8 v772) fun _ => St m K c true 36 36 15 (XB m c (done 26 c) X) := by
  rw [k0_part41_eq_skeleton]; unfold k0_part41_skel atBuf; beta_reduce; extract_lets
  refine st_gone m K (.inl (1, 0, 2)) (cond := k0_cond119) rfl rfl (fun _ => rfl) rfl (fun _ => rfl) (by decide +kernel) ?_
  refine st_gone m K (.inl (1, 1, 2)) (cond := k0_cond120) rfl rfl (fun _ => rfl) rfl (fun _ => rfl) (by decide +kernel) ?_
  refine st_gone m K (.inr (0, 0, 0, 0)) (cond := k0_cond121) rfl rfl (fun _ => rfl) rfl (fun _ => rfl) (by decide +kernel) ?_
  refine st_gone m K (.inr (0, 1, 0, 0)) (cond := k0_cond122) rfl rfl (fun _ => rfl) rfl (fun _ => rfl) (by decide +kernel) ?_
  refine st_gone m K (.inr (1, 0, 0, 0)) (cond := k0_cond123) rfl rfl (fun _ => rfl) rfl (fun _ => rfl) (by decide +kernel) ?_
  exact run_ret BIBase.Entails.rfl
set_option maxHeartbeats 2000000 in
theorem part42_run (v5 v8 v800) : St m K c true 36 36 15 (XB m c (done 26 c) X) ⊢ Run c (atBuf k0_part42 c v5 v8 v800) fun _ => St m K c true 36 36 20 (XB m c (done 26 c) X) := by
  rw [k0_part42_eq_skeleton]; unfold k0_part42_skel atBuf; beta_reduce; extract_lets
  refine st_gone m K (.inr (1, 1, 0, 0)) (cond := k0_cond124) rfl rfl (fun _ => rfl) rfl (fun _ => rfl) (by decide +kernel) ?_
  refine st_gone m K (.inr (0, 0, 0, 1)) (cond := k0_cond125) rfl rfl (fun _ => rfl) rfl (fun _ => rfl) (by decide +kernel) ?_
  refine st_gone m K (.inr (0, 1, 0, 1)) (cond := k0_cond126) rfl rfl (fun _ => rfl) rfl (fun _ => rfl) (by decide +kernel) ?_
  refine st_gone m K (.inr (1, 0, 0, 1)) (cond := k0_cond127) rfl rfl (fun _ => rfl) rfl (fun _ => rfl) (by decide +kernel) ?_
  refine st_gone m K (.inr (1, 1, 0, 1)) (cond := k0_cond128) rfl rfl (fun _ => rfl) rfl (fun _ => rfl) (by decide +kernel) ?_
  exact run_ret BIBase.Entails.rfl
set_option maxHeartbeats 2000000 in
theorem part43_run (v5 v8 v826 c1_i32_755) : St m K c true 36 36 20 (XB m c (done 26 c) X) ⊢ Run c (atBuf k0_part43 c v5 v8 v826 c1_i32_755) fun _ => St m K c true 36 36 24 (XB m c (done 26 c) X) := by
  rw [k0_part43_eq_skeleton]; unfold k0_part43_skel atBuf; beta_reduce; extract_lets
  refine st_gone m K (.inr (0, 0, 1, 0)) (cond := k0_cond129) rfl rfl (fun _ => rfl) rfl (fun _ => rfl) (by decide +kernel) ?_
  refine st_gone m K (.inr (0, 1, 1, 0)) (cond := k0_cond130) rfl rfl (fun _ => rfl) rfl (fun _ => rfl) (by decide +kernel) ?_
  refine st_gone m K (.inr (1, 0, 1, 0)) (cond := k0_cond131) rfl rfl (fun _ => rfl) rfl (fun _ => rfl) (by decide +kernel) ?_
  refine st_gone m K (.inr (1, 1, 1, 0)) (cond := k0_cond132) rfl rfl (fun _ => rfl) rfl (fun _ => rfl) (by decide +kernel) ?_
  exact run_ret BIBase.Entails.rfl
set_option maxHeartbeats 2000000 in
theorem part44_run (v5 v8 v854 c0_i32_783) : St m K c true 36 36 24 (XB m c (done 26 c) X) ⊢ Run c (atBuf k0_part44 c v5 v8 v854 c0_i32_783) fun _ => St m K c true 36 36 29 (XB m c (done 26 c) X) := by
  rw [k0_part44_eq_skeleton]; unfold k0_part44_skel atBuf; beta_reduce; extract_lets
  refine st_gone m K (.inr (0, 0, 1, 1)) (cond := k0_cond133) rfl rfl (fun _ => rfl) rfl (fun _ => rfl) (by decide +kernel) ?_
  refine st_gone m K (.inr (0, 1, 1, 1)) (cond := k0_cond134) rfl rfl (fun _ => rfl) rfl (fun _ => rfl) (by decide +kernel) ?_
  refine st_gone m K (.inr (1, 0, 1, 1)) (cond := k0_cond135) rfl rfl (fun _ => rfl) rfl (fun _ => rfl) (by decide +kernel) ?_
  refine st_gone m K (.inr (1, 1, 1, 1)) (cond := k0_cond136) rfl rfl (fun _ => rfl) rfl (fun _ => rfl) (by decide +kernel) ?_
  refine st_gone m K (.inr (0, 0, 2, 0)) (cond := k0_cond137) rfl rfl (fun _ => rfl) rfl (fun _ => rfl) (by decide +kernel) ?_
  exact run_ret BIBase.Entails.rfl
set_option maxHeartbeats 2000000 in
theorem part45_run (v5 v8 v880 v882) : St m K c true 36 36 29 (XB m c (done 26 c) X) ⊢ Run c (atBuf k0_part45 c v5 v8 v880 v882) fun _ => St m K c true 36 36 34 (XB m c (done 26 c) X) := by
  rw [k0_part45_eq_skeleton]; unfold k0_part45_skel atBuf; beta_reduce; extract_lets
  refine st_gone m K (.inr (0, 1, 2, 0)) (cond := k0_cond138) rfl rfl (fun _ => rfl) rfl (fun _ => rfl) (by decide +kernel) ?_
  refine st_gone m K (.inr (1, 0, 2, 0)) (cond := k0_cond139) rfl rfl (fun _ => rfl) rfl (fun _ => rfl) (by decide +kernel) ?_
  refine st_gone m K (.inr (1, 1, 2, 0)) (cond := k0_cond140) rfl rfl (fun _ => rfl) rfl (fun _ => rfl) (by decide +kernel) ?_
  refine st_gone m K (.inr (0, 0, 2, 1)) (cond := k0_cond141) rfl rfl (fun _ => rfl) rfl (fun _ => rfl) (by decide +kernel) ?_
  refine st_gone m K (.inr (0, 1, 2, 1)) (cond := k0_cond142) rfl rfl (fun _ => rfl) rfl (fun _ => rfl) (by decide +kernel) ?_
  exact run_ret BIBase.Entails.rfl

end Cert.K

end
-- ==== Proof.Body.lean ====
/-
The whole kernel on one device.
-/
module

public import proofs.«01_k».proof.Proof.Front
public import proofs.«01_k».proof.Proof.Talk2

@[expose] public section

set_option maxRecDepth 1000000

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]
local notation "𝕄" => MT nD τ sig Unit (Elt F) ℕ UU ℕ
variable (m : (ℓ : Loc nD τ sig) → Buf (Elt F) ℓ) (K : Dev nD × Ck → ℕ)

attribute [local irreducible] wp
variable {c : Dev nD}

theorem St_mono {B : Bool} {ns nr nw : ℕ} {X Y : sProp 𝕄} (h : X ⊢ Y) : St m K c B ns nr nw X ⊢ St m K c B ns nr nw Y := by
  unfold St
  iintro ⟨HC, HR, HO, HS, HR', HX⟩
  isplitl [HC]; · iexact HC
  isplitl [HR]; · iexact HR
  isplitl [HO]; · iexact HO
  isplitl [HS]; · iexact HS
  isplitl [HR']; · iexact HR'
  iapply h; iexact HX

/-- What is put aside from the exchange on. -/
def Y18 (c : Dev nD) (X : sProp 𝕄) : sProp 𝕄 := iprop(semVal (rxC c) 0 ∗ rxPts c (sx m (partner c)) ∗ D17 m c X)

theorem x18_out (X : sProp 𝕄) : X18 m (D17 m c iprop(OUTst m c ∅ ∗ X)) c ⊢ iprop(OUTst m c ∅ ∗ bigSep Finset.univ (ownK m c) ∗ Y18 m c X) := by
  unfold X18 Y18 D17
  iintro ⟨HK, HV, HP, H1, H2, H3, H4, H5, H6, H7, H8, HO, HX⟩
  isplitl [HO]; · iexact HO
  isplitl [HK]; · iexact HK
  isplitl [HV]; · iexact HV
  isplitl [HP]; · iexact HP
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HX

theorem Oq_end (c : Dev nD) : Oq c 36 = 0 := by
  have hlt : ∀ q : Slot, ordS q < 36 := by decide +kernel
  unfold Oq
  exact Finset.sum_eq_zero fun q _ => if_neg fun h => absurd (hlt q) (by omega)

/-- What a device has when the kernel is over. -/
def End (c : Dev nD) (X : sProp 𝕄) : sProp 𝕄 :=
  iprop(ctx m K ∗ (∃ W, owes (c : Thread nD τ) 0 W) ∗ ((c : Thread nD τ).loc cc0_stg2_0 ↦{fullShare} OUT m c)
      ∗ (bigSep Finset.univ fun f : Fin 2 => pts f c Finset.univ fullShare (FIN m f (px c)))
      ∗ (bigSep Finset.univ fun q : Slot => semVal (sC q c) 0) ∗ (bigSep Finset.univ fun q : Slot => semVal (rC q c) 0) ∗ Y18 m c X)

theorem out_all : OUTst m c (done 26 c) ⊢ ((c : Thread nD τ).loc cc0_stg2_0 ↦{fullShare} OUT m c : sProp 𝕄) := by
  unfold OUTst
  iintro ⟨%g, H, %hg⟩
  have e : g = OUT m c := funext fun i => hg i (by
    have h0 : (i 0).val < 2048 := (i 0).isLt
    exact done_all c ⟨(i 0).val / 128, by omega⟩ ⟨(i 0).val % 128 / 64, by omega⟩)
  subst e
  iexact H

set_option maxHeartbeats 4000000 in
/-- The whole kernel on one device. -/
theorem body_run (X : sProp 𝕄) : Sig m K c 0 (X17 m c iprop(OUTst m c ∅ ∗ X)) ⊢ Run c (atBuf (cc0_body (F := F))) fun _ => End m K c X := by
  rw [cc0_body_eq_skeleton]; unfold cc0_body_skel atBuf; beta_reduce
  refine run_seq (part14_run m K _) fun a => ?_
  obtain ⟨d0, v2, v5, v8, v9, v10, v13, v14, v22, v23, v25, v26, v28, v29, v31⟩ := a
  dsimp only
  iintro ⟨%h, H⟩
  obtain ⟨rfl, rfl, rfl⟩ := h
  istop
  refine run_seq (part15_run m K _ v2 v5 v8 v22 v23 v25 v26 v28 v29 v31) fun a => ?_
  refine run_seq (part16_run m K _ v2 v5 v8 _ _ _ _ _ _ _) fun a => ?_
  refine run_seq (part17_run m K _ v2 v5 v8 v9 v13 _ _ _) fun a => ?_
  obtain ⟨v120, v132⟩ := a
  dsimp only
  iintro ⟨%h, H⟩
  subst h
  istop
  refine run_seq (part18_run m K _ v2 v5 v8 v132) fun a => ?_
  obtain ⟨v139, v165⟩ := a
  dsimp only
  iintro ⟨%h, H⟩
  subst h
  istop
  refine (St_mono m K (x18_out m X)).trans ?_
  refine run_seq (by apply part19_run) fun _ => ?_
  refine run_seq (part20_run m K v2 v5 v8 v13 _ _) fun _ => ?_
  refine run_seq (by apply part21_run) fun _ => ?_
  refine run_seq (by apply part22_run) fun _ => ?_
  refine run_seq (by apply part23_run) fun _ => ?_
  refine (turn m c (done 2 c) (Y18 m c X)).trans ?_
  refine run_seq (by apply part24_run) fun _ => ?_
  refine run_seq (by apply part25_run) fun _ => ?_
  refine run_seq (by apply part26_run) fun _ => ?_
  refine run_seq (by apply part27_run) fun _ => ?_
  refine run_seq (by apply part28_run) fun _ => ?_
  refine run_seq (by apply part29_run) fun _ => ?_
  refine run_seq (by apply part30_run) fun _ => ?_
  refine run_seq (by apply part31_run) fun _ => ?_
  refine run_seq (by apply part32_run) fun _ => ?_
  refine run_seq (by apply part33_run) fun _ => ?_
  refine run_seq (by apply part34_run) fun _ => ?_
  refine run_seq (by apply part35_run) fun _ => ?_
  refine run_seq (by apply part36_run) fun _ => ?_
  refine run_seq (by apply part37_run) fun _ => ?_
  refine run_seq (by apply part38_run) fun _ => ?_
  refine run_seq (by apply part39_run) fun _ => ?_
  refine run_seq (by apply part40_run) fun _ => ?_
  refine run_seq (by apply part41_run) fun _ => ?_
  refine run_seq (by apply part42_run) fun _ => ?_
  refine run_seq (by apply part43_run) fun _ => ?_
  refine run_seq (by apply part44_run) fun _ => ?_
  refine run_seq (by apply part45_run) fun _ => ?_
  extract_lets
  refine st_gone m K (.inr (1, 0, 2, 1)) (cond := k0_cond143) rfl rfl (fun _ => rfl) rfl (fun _ => rfl) (by decide +kernel) ?_
  refine st_gone m K (.inr (1, 1, 2, 1)) (cond := k0_cond144) rfl rfl (fun _ => rfl) rfl (fun _ => rfl) (by decide +kernel) ?_
  refine run_ret ?_
  refine (fin_state m c (Y18 m c X)).trans ?_
  rw [Oq_end]
  unfold End
  iintro ⟨HC, HO, HT, HF, HS, HR, HX⟩
  isplitl [HC]; · iexact HC
  isplitl [HO]; · iexact HO
  isplitl [HT]; · iapply (out_all m); iexact HT
  isplitl [HF]; · iexact HF
  isplitl [HS]; · iexact HS
  isplitl [HR]; · iexact HR
  iexact HX

end Cert.K

end
-- ==== Proof.Deal.lean ====
/-
What the launch deals out. Every duty token belongs to the cell it pays, and goes to the device that pays it: signals and
remote copies are paid by another device. With them go the credit a device waits with, its position on its barrier cell, and
the right to open its scoped cells. When the call is entered the cells are opened and the device holds all its program starts
from; when it ends all counters are back at zero.
-/
module

public import proofs.«01_k».proof.Proof.Fund
public import proofs.«01_k».proof.Proof.Body

@[expose] public section

set_option maxRecDepth 1000000

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]
local notation "𝕄" => MT nD τ sig Unit (Elt F) ℕ UU ℕ
variable (m : (ℓ : Loc nD τ sig) → Buf (Elt F) ℓ) (K : Dev nD × Ck → ℕ)

variable (c : Dev nD)

/-! ## The tokens, by the device that pays with them -/

/-- The tokens of the cells of a device. -/
def mine (c : Dev nD) : sProp 𝕄 :=
  iprop((bigSep Finset.univ fun p : Sg => if sgRcv p c = true then dutyTok ER (barC c) 0 (.sig p) else iprop(emp))
    ∗ (bigSep Finset.univ fun t : Fin 128 => dutyTok ER (gatC c) 0 (.row t)) ∗ dutyTok ER (sxC c) 0 .u ∗ dutyTok ER (rxC c) 0 .u
    ∗ (bigSep Finset.univ fun q : Slot => if snd q c = true then dutyTok ER (sC q c) 0 .u else iprop(emp))
    ∗ bigSep Finset.univ fun q : Slot => if rcv q c = true then dutyTok ER (rC q c) 0 .u else iprop(emp))
/-- The tokens a device pays with. -/
def pays (c : Dev nD) : sProp 𝕄 :=
  iprop((bigSep Finset.univ fun p : Sg => if sgSnd p c = true then dutyTok ER (barC (sgPeer p c)) 0 (.sig p) else iprop(emp))
    ∗ (bigSep Finset.univ fun t : Fin 128 => dutyTok ER (gatC c) 0 (.row t)) ∗ dutyTok ER (sxC c) 0 .u ∗ dutyTok ER (rxC (partner c)) 0 .u
    ∗ (bigSep Finset.univ fun q : Slot => if snd q c = true then dutyTok ER (sC q c) 0 .u else iprop(emp))
    ∗ bigSep Finset.univ fun q : Slot => if snd q c = true then dutyTok ER (rC q (peer q c)) 0 .u else iprop(emp))

theorem one_if (b : Bool) (Φ : Duty → sProp 𝕄) : bigSep (if b = true then ({.u} : Finset Duty) else ∅) Φ = if b = true then Φ .u else iprop(emp) := by
  cases b
  · rw [if_neg (by decide), if_neg (by decide), BI.bigSep_empty]; rfl
  · rw [if_pos rfl, if_pos rfl, BI.bigSep_singleton]

theorem mine_eq : (bigSep Finset.univ fun k : Ck => bigSep (duties c k) fun d => (dutyTok ER (cell c k) 0 d : sProp 𝕄)) = mine c := by
  rw [cks, oks]
  unfold mine
  have e1 : (bigSep (duties c none) fun d => (dutyTok ER (cell c none) 0 d : sProp 𝕄))
      = bigSep Finset.univ fun p : Sg => if sgRcv p c = true then dutyTok ER (barC c) 0 (.sig p) else iprop(emp) := by
    unfold duties
    rw [BI.bigSep_map, BI.bigSep_filter]
    rfl
  have e2 : (bigSep (duties c (some oGat)) fun d => (dutyTok ER (cell c (some oGat)) 0 d : sProp 𝕄)) = bigSep Finset.univ fun t : Fin 128 => dutyTok ER (gatC c) 0 (.row t) := by
    show bigSep (Finset.univ.map _) _ = _
    rw [BI.bigSep_map]
    rfl
  have e3 : (bigSep (duties c (some oSx)) fun d => (dutyTok ER (cell c (some oSx)) 0 d : sProp 𝕄)) = dutyTok ER (sxC c) 0 .u := BI.bigSep_singleton
  have e4 : (bigSep (duties c (some oRx)) fun d => (dutyTok ER (cell c (some oRx)) 0 d : sProp 𝕄)) = dutyTok ER (rxC c) 0 .u := BI.bigSep_singleton
  rw [e1, e2, e3, e4]
  have e5 : (fun q : Slot => bigSep (duties c (some (oS q))) fun d => (dutyTok ER (cell c (some (oS q))) 0 d : sProp 𝕄))
      = fun q => if snd q c = true then dutyTok ER (sC q c) 0 .u else iprop(emp) := funext fun q => one_if (snd q c) _
  have e6 : (fun q : Slot => bigSep (duties c (some (oR q))) fun d => (dutyTok ER (cell c (some (oR q))) 0 d : sProp 𝕄))
      = fun q => if rcv q c = true then dutyTok ER (rC q c) 0 .u else iprop(emp) := funext fun q => one_if (rcv q c) _
  rw [e5, e6]

/-- The partner map permutes the devices. -/
def partnerE : Dev nD ≃ Dev nD := ⟨partner, partner, partner_partner, partner_partner⟩
theorem by_partner (Φ : Dev nD → sProp 𝕄) : bigSep Finset.univ Φ = bigSep Finset.univ fun c => Φ (partner c) :=
  BI.bigSep_univ_equiv partnerE Φ

theorem deal : (bigSep toksAll fun x => (dutyTok ER x.1 x.2.1 x.2.2 : sProp 𝕄)) = bigSep Finset.univ (pays (F := F)) := by
  have e1 := carryJ (F := F) sgSnd sgRcv sgPeer sgSrc sg_snd_peer sg_rcv_src (fun p c => dutyTok ER (barC c) 0 (.sig p))
  have e2 := carryJ (F := F) snd rcv peer src (fun q c h => ⟨(snd_peer q c h).1, (snd_peer q c h).2.1⟩) (fun q c h => ⟨(rcv_src q c h).1, (rcv_src q c h).2.1⟩)
    (fun q c => dutyTok ER (rC q c) 0 .u)
  have e3 := by_partner (F := F) fun c => dutyTok ER (rxC c) 0 .u
  rw [toksAll_eq]
  have e0 : (fun c => bigSep Finset.univ fun k : Ck => bigSep (duties c k) fun d => (dutyTok ER (cell c k) 0 d : sProp 𝕄)) = mine := funext mine_eq
  rw [e0]
  unfold mine pays
  rw [sep2, sep2, sep2, sep2, sep2, sep2, sep2, sep2, sep2, sep2, e1, e2, e3]

/-! ## What a device carries from the launch -/

/-- That every barrier cell is at its first round. -/
def barR : sProp 𝕄 := bigSep Finset.univ fun d : Dev nD => reached ER (barC d) 0
instance barR_pers : BI.Persistent (barR (F := F)) := by unfold barR; infer_instance
/-- The credit a device waits with. -/
def credC (c : Dev nD) : sProp 𝕄 := iprop(cred (tallyAt (barC c) () 7) ∗ cred (tallyAt (rxC c) () Nx)
    ∗ bigSep Finset.univ fun q : Slot => if rcv q c = true then cred (tallyAt (rC q c) () (Nq q)) else iprop(emp))
/-- Up to the call. -/
def Tk (c : Dev nD) : sProp 𝕄 :=
  iprop(∃ K, ctx m K ∗ barR ∗ atPos ER (barC c) 0 ∅ 0 ∗ (bigSep Finset.univ fun k : Ok => openTok ER (cell c (some k))) ∗ pays c ∗ credC c)
/-- With its scoped cells open. -/
def Xk (c : Dev nD) : sProp 𝕄 :=
  iprop(∃ K, ctx m K ∗ barR ∗ rchd c ∗ (bigSep Finset.univ fun k : Ck => atPos ER (cell c k) 0 ∅ 0) ∗ pays c ∗ credC c)

abbrev osemK : Ok → SemLoc sig := osem

theorem open_one (k : Ok) : iprop(ctx m K ∗ (openTok ER (cell c (some k)) ∗ semVal (cell c (some k)) 0))
    ⊢ iprop(|={Set.univ}=> (atPos ER (cell c (some k)) 0 ∅ 0 ∗ reached ER (cell c (some k)) 0) : sProp 𝕄) := by
  have h := Rounds.cell_open ER (Rd m) (g := cell c (some k)) (Set.mem_univ (K (c, some k)))
  iintro ⟨#Hc, Ho, Hs⟩
  ihave #Hi := (ctx_inv m K c (some k)) $$ Hc
  iapply h
  isplitr; · iexact Hi
  isplitl [Ho]; · iexact Ho
  iexact Hs

theorem open_all : iprop(Tk m c ∗ (bigSep Finset.univ fun k : Ok => semVal (cell c (some k)) 0)) ⊢ (|={Set.univ}=> Xk m c : sProp 𝕄) := by
  unfold Tk Xk
  iintro ⟨⟨%K, #Hc, #Hb, Hp, Ho, Ht, Hcr⟩, Hs⟩
  ihave Ha : (bigSep Finset.univ fun k : Ok => iprop(|={Set.univ}=> (atPos ER (cell c (some k)) 0 ∅ 0 ∗ reached ER (cell c (some k)) 0) : sProp 𝕄)) $$ [Ho Hs]
  · iapply (monoP Finset.univ (P := ctx m K) (Φ := fun k : Ok => iprop(openTok ER (cell c (some k)) ∗ semVal (cell c (some k)) 0)) fun k _ => open_one m K c k)
    isplitr; · iexact Hc
    rw [sep2]
    isplitl [Ho]; · iexact Ho
    iexact Hs
  imod (bigSep_fupd Finset.univ fun k : Ok => iprop(atPos ER (cell c (some k)) 0 ∅ 0 ∗ reached ER (cell c (some k)) 0)) $$ Ha with Ha
  ihave Ha := (BIBase.Entails.of_eq (sep2 Finset.univ (fun k : Ok => (atPos ER (cell c (some k)) 0 ∅ 0 : sProp 𝕄)) fun k => reached ER (cell c (some k)) 0)) $$ Ha
  icases Ha with ⟨Ha, Hr⟩
  have hb : barR (F := F) ⊢ reached ER (barC c) 0 := BI.bigSep_elim (Finset.mem_univ c)
  ihave #Hbc := hb $$ Hb
  imodintro
  iexists K
  isplitr; · iexact Hc
  isplitr; · iexact Hb
  isplitl [Hr]
  · unfold rchd; rw [cks]
    isplitr; · iexact Hbc
    iexact Hr
  isplitl [Hp Ha]
  · rw [cks]
    isplitl [Hp]; · iexact Hp
    iexact Ha
  isplitl [Ht]; · iexact Ht
  iexact Hcr

/-! ## What the program starts from -/

/-- The buffers the call brings, at contents not chosen. -/
def bufs0 (c : Dev nD) : sProp 𝕄 :=
  iprop((∃ Y : S128x1024.Idx → Elt F .f32, (c : Thread nD τ).loc cc0_scratch0 ↦{fullShare} Y) ∗ (∃ Y : S128x1024.Idx → Elt F .bf16, (c : Thread nD τ).loc cc0_scratch1 ↦{fullShare} Y)
    ∗ (∃ Y, rxPts (F := F) c Y) ∗ (∃ Y, pts (F := F) 0 c Finset.univ fullShare Y) ∗ ∃ Y, pts (F := F) 1 c Finset.univ fullShare Y)

theorem two (Φ : Fin 2 → sProp 𝕄) : bigSep Finset.univ Φ = iprop(Φ 0 ∗ Φ 1) := BI.bigSep_fin_two Φ

theorem lands : iprop((∃ Y, pts (F := F) 0 c Finset.univ fullShare Y) ∗ ∃ Y, pts (F := F) 1 c Finset.univ fullShare Y)
    ⊢ iprop((bigSep Finset.univ fun f : Fin 2 => iprop(∃ Y, pts (F := F) f c (ownReg f c) fullShare Y)) ∗ bigSep Finset.univ fun q => land (F := F) q c) := by
  have h (f : Fin 2) : iprop(∃ Y, pts (F := F) f c Finset.univ fullShare Y) ⊢ iprop((∃ Y, pts (F := F) f c (ownReg f c) fullShare Y)
      ∗ (bigSep Finset.univ (fun t : Fin 2 × Fin 3 => land (F := F) (.inl (f, t)) c) ∗ bigSep Finset.univ fun t : Fin 2 × Fin 3 × Fin 2 => land (F := F) (.inr (f, t)) c)) := by
    iintro ⟨%Y, H⟩
    ihave H := (start_land f c Y) $$ H
    icases H with ⟨H1, H2⟩
    isplitl [H1]; · iexists Y; iexact H1
    iexact H2
  rw [slots, ← sep2, two]
  iintro ⟨H0, H1⟩
  isplitl [H0]
  · iapply (h 0); iexact H0
  · iapply (h 1); iexact H1

theorem sg_toks : iprop(barR ∗ (bigSep Finset.univ fun p : Sg => if sgSnd p c = true then dutyTok ER (barC (sgPeer p c)) 0 (.sig p) else iprop(emp))
    ∗ bigSep Finset.univ fun p : Sg => sgPay (F := F) p c) ⊢ bigSep Finset.univ (sgTok (F := F) 0 c) := by
  rw [← sep2]
  refine monoP Finset.univ fun p _ => ?_
  unfold sgTok
  by_cases h : sgSnd p c = true
  · rw [if_pos h, if_pos ⟨Nat.zero_le _, h⟩]
    have hb : barR (F := F) ⊢ reached ER (barC (sgPeer p c)) 0 := BI.bigSep_elim (Finset.mem_univ (sgPeer p c))
    iintro ⟨#Hb, Ht, Hp⟩
    ihave #Hr := hb $$ Hb
    isplitl [Ht]; · iexact Ht
    isplitl [Hp]; · iexact Hp
    iexact Hr
  · rw [if_neg h, if_neg fun x => h x.2]
    iintro -; iempintro

theorem slot_toks : iprop((bigSep Finset.univ fun q : Slot => atPos ER (sC q c) 0 ∅ 0)
    ∗ (bigSep Finset.univ fun q : Slot => if snd q c = true then dutyTok ER (sC q c) 0 .u else iprop(emp))
    ∗ bigSep Finset.univ fun q : Slot => if snd q c = true then dutyTok ER (rC q (peer q c)) 0 .u else iprop(emp)) ⊢ bigSep Finset.univ (tokS0 (F := F) c) := by
  rw [← sep2, ← sep2]
  refine mono2 Finset.univ fun q => ?_
  unfold tokS0
  by_cases h : snd q c = true
  · rw [if_pos h, if_pos h, if_pos h]
  · rw [if_neg h, if_neg h, if_neg h]
    iintro ⟨Ha, -⟩
    isplitl [Ha]; · iexact Ha
    iempintro

theorem slot_recv : iprop((bigSep Finset.univ fun q : Slot => atPos ER (rC q c) 0 ∅ 0)
    ∗ bigSep Finset.univ fun q : Slot => if rcv q c = true then cred (tallyAt (rC q c) () (Nq q)) else iprop(emp)) ⊢ bigSep Finset.univ (RR m false 0 0 c) := by
  rw [← sep2]
  refine mono2 Finset.univ fun q => ?_
  unfold RR
  rw [if_neg (Nat.not_lt_zero _)]

theorem start (X : sProp 𝕄) (W : Waits sig Unit) : iprop(Xk m c ∗ bufs0 c ∗ owes (c : Thread nD τ) (O₀ c) W ∗ ((c : Thread nD τ).loc main_arg1 ↦{fullShare} tbl m c)
      ∗ ((c : Thread nD τ).loc cc0_stg0_0 ↦{fullShare} ids m c) ∗ ((c : Thread nD τ).loc cc0_stg1_0 ↦{fullShare} ids2 m c)
      ∗ (∃ g : S2048x1024.Idx → Elt F .f32, (c : Thread nD τ).loc cc0_stg2_0 ↦{fullShare} g) ∗ X)
    ⊢ iprop(∃ K, Sig m K c 0 (X17 m c iprop(OUTst m c ∅ ∗ X))) := by
  unfold Xk bufs0 pays credC
  rw [cks, oks]
  iintro ⟨⟨%K, #Hc, #Hb, #Hr, ⟨HaB, HaG, HaSx, HaRx, HaS, HaR⟩, ⟨Hsg, Hrow, Hsx, Hrx, HtS, HtR⟩, HcB, HcX, HcR⟩, ⟨Hs0, Hs1, Hs2, Hs3, Hs4⟩, HO, Ht, Hi, Hi2, ⟨%g, Hg⟩, HX⟩
  iexists K
  ihave Hl := (lands (F := F) c) $$ [Hs3 Hs4]
  · isplitl [Hs3]; · iexact Hs3
    iexact Hs4
  icases Hl with ⟨Hown, Hl⟩
  ihave Hp := (sg_pays (F := F) (c := c)) $$ [Hs2 Hl]
  · isplitr; · iexact Hr
    isplitl [Hs2]; · iexact Hs2
    iexact Hl
  unfold Sig
  isplitr; · iexact Hc
  isplitl [HO]; · iexists W; iexact HO
  isplitl [Hsg Hp]
  · iapply (sg_toks (F := F) c)
    isplitr; · iexact Hb
    isplitl [Hsg]; · iexact Hsg
    iexact Hp
  unfold X17
  isplitr; · iexact Hr
  isplitl [Hi]; · iexact Hi
  isplitl [Hrow Hs0 Ht]
  · iapply (gather_start m c)
    isplitl [Hrow]; · iexact Hrow
    isplitl [Hs0]; · iexact Hs0
    iexact Ht
  isplitl [HaG]; · iexact HaG
  unfold M17
  isplitl [Hi2]; · iexact Hi2
  isplitl [HcB]; · iexact HcB
  isplitl [HaB]; · iexact HaB
  isplitl [Hs1]; · iexact Hs1
  isplitl [Hsx]; · iexact Hsx
  isplitl [Hrx]; · iexact Hrx
  isplitl [HaSx]; · iexact HaSx
  isplitl [HaS HtS HtR]
  · iapply (slot_toks (F := F) c)
    isplitl [HaS]; · iexact HaS
    isplitl [HtS]; · iexact HtS
    iexact HtR
  unfold rest17
  isplitl [HaR HcR]
  · iapply (slot_recv m c)
    isplitl [HaR]; · iexact HaR
    iexact HcR
  isplitl [HaRx]; · iexact HaRx
  isplitl [HcX]; · iexact HcX
  isplitl [Hown]; · iexact Hown
  isplitl [Hg]
  · unfold OUTst
    iexists g
    isplitl [Hg]; · iexact Hg
    ipureintro; exact fun i h => absurd h (Finset.notMem_empty _)
  iexact HX

/-! ## What the program ends with -/

/-- All counters of the scoped cells at zero. -/
def sems0 (c : Dev nD) : sProp 𝕄 := bigSep Finset.univ fun k : Ok => semVal (cell c (some k)) 0

theorem finish (X : sProp 𝕄) : End m K c X ⊢ iprop((∃ W, owes (c : Thread nD τ) 0 W) ∗ ((c : Thread nD τ).loc cc0_stg2_0 ↦{fullShare} OUT m c)
    ∗ ((c : Thread nD τ).loc cc0_stg0_0 ↦{fullShare} ids m c) ∗ ((c : Thread nD τ).loc cc0_stg1_0 ↦{fullShare} ids2 m c)
    ∗ ((c : Thread nD τ).loc main_arg1 ↦{fullShare} tbl m c) ∗ semVal (barC c) 0 ∗ sems0 c ∗ bufs0 c ∗ X) := by
  unfold End Y18 D17 sems0 bufs0 sxPts
  rw [oks, two]
  iintro ⟨-, HO, Hout, ⟨H3, H4⟩, HsS, HsR, HsRx, Hrx, Hi, Hi2, Ht, Hs0, Hs1, HsG, HsB, HsSx, HX⟩
  isplitl [HO]; · iexact HO
  isplitl [Hout]; · iexact Hout
  isplitl [Hi]; · iexact Hi
  isplitl [Hi2]; · iexact Hi2
  isplitl [Ht]; · iexact Ht
  isplitl [HsB]; · iexact HsB
  isplitl [HsG HsSx HsRx HsS HsR]
  · isplitl [HsG]; · iexact HsG
    isplitl [HsSx]; · iexact HsSx
    isplitl [HsRx]; · iexact HsRx
    isplitl [HsS]; · iexact HsS
    iexact HsR
  isplitl [Hs0 Hs1 Hrx H3 H4]
  · isplitl [Hs0]; · iexists _; iexact Hs0
    isplitl [Hs1]; · iexists _; iexact Hs1
    isplitl [Hrx]; · iexists _; iexact Hrx
    isplitl [H3]; · iexists _; iexact H3
    iexists _; iexact H4
  iexact HX

end Cert.K

end
-- ==== Proof.Call.lean ====
/-
The call as a region: its proof data, the body's obligation from the run of the program, and what the region is entered and
left with.
-/
module

public import proofs.«01_k».proof.Proof.Deal
public import proofs.«01_k».proof.Proof.Gen.KernelIdeal.Frame
public import proofs.«01_k».proof.Proof.Gen.KernelIdeal.Points
public import Idealize.ShloMosaic.Lib.Pipeline.RegionTalk
public import Idealize.ShloMosaic.Harness.Basic

@[expose] public section

set_option maxRecDepth 1000000

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]
local notation "𝕄" => MT nD τ sig Unit (Elt F) ℕ UU ℕ
variable (m : (ℓ : Loc nD τ sig) → Buf (Elt F) ℓ) (K : Dev nD × Ck → ℕ)

open Idealize.ShloMosaic.Pipeline (Dat BodyObligation)
variable (c : Dev nD)

/-! ## The valuations -/

/-- The buffers as the host operation leaves them. -/
def V1 (c : Dev nD) : Valuation τ sig (Elt F) := StableHlo.after hostOps0 (fun b => m (c, b))
/-- And as the call leaves them. -/
def V2 (c : Dev nD) : Valuation τ sig (Elt F) := Function.update (V1 m c) (Proc.devRef .tc main_v2) (OUT m c)

theorem V2_out : V2 m c (Proc.devRef .tc main_v2) = OUT m c := Function.update_self _ _ _
theorem V2_ne (b : Ref sig .tc) (h : Proc.devRef (τ := τ) .tc b ≠ Proc.devRef .tc main_v2) : V2 m c (Proc.devRef .tc b) = V1 m c (Proc.devRef .tc b) :=
  Function.update_of_ne h _ _
theorem V1_arg0 : V1 m c (Proc.devRef .tc main_arg0) = ids m c := V_main_arg0 m c
theorem V1_arg1 : V1 m c (Proc.devRef .tc main_arg1) = tbl m c := V_main_arg1 m c
theorem V1_col : V1 m c (Proc.devRef .tc main_v1) = ids2 m c := rfl

/-! ## The windows' blocks are whole arrays -/

theorem iblk_ids : iblk m c 0 t0_0 = ids m c := by
  show (win0_0.blk t0_0).view.read (Elt F) (V1 m c (Proc.devRef .tc main_arg0)) = _
  rw [V1_arg0]
  exact Memref.read_access_unit_zero (Elt F) main_arg0
    (show (fun a => (win0_0.index t0_0) a * main_arg0.ty.shape.size a) = fun _ => 0 from funext fun a => by fin_cases a <;> decide) (fun a => by fin_cases a <;> decide) _
theorem iblk_col : iblk m c 1 t0_0 = ids2 m c :=
  Memref.read_access_unit_zero (Elt F) main_v1
    (show (fun a => (win0_1.index t0_0) a * main_v1.ty.shape.size a) = fun _ => 0 from funext fun a => by fin_cases a <;> decide) (fun a => by fin_cases a <;> decide) _
theorem read_out (f : Buf (Elt F) ((c : Thread nD τ).loc main_v2)) : (win0_2.blk t0_0).view.read (Elt F) f = f :=
  Memref.read_access_unit_zero (Elt F) main_v2
    (show (fun a => (win0_2.index t0_0) a * main_v2.ty.shape.size a) = fun _ => 0 from funext fun a => by fin_cases a <;> decide) (fun a => by fin_cases a <;> decide) f

/-! ## The proof data -/

/-- The table, which the program reads in place. -/
def tblPts (c : Dev nD) : sProp 𝕄 := (c : Thread nD τ).loc main_arg1 ↦{fullShare} tbl m c
/-- What the region carries into the program. -/
def Inv0 (c : Dev nD) : sProp 𝕄 := iprop(Xk m c ∗ bufs0 c ∗ tblPts m c ∗ ∃ r, prngReg c r)
/-- What it carries out. -/
def Inv1 (c : Dev nD) : sProp 𝕄 := iprop(semVal (barC c) 0 ∗ sems0 c ∗ bufs0 c ∗ tblPts m c ∗ ∃ r, prngReg c r)

def dat (c : Dev nD) : Dat τ (Elt F) Unit ℕ UU ℕ cfg0 c where
  A w := Gen.V m c (Pipeline.arrRef spec0 w)
  after := fun | 0 => iblk m c 0 | 1 => iblk m c 1 | 2 => fun _ => OUT m c | ⟨_ + 3, h⟩ => absurd h (Nat.not_lt.2 (Nat.le_add_left _ _))
  Φ t := if t.val = 0 then Inv0 m c else Inv1 m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem before_ids (d) : (dat m c).before 0 t0_0 d = ids m c :=
  (((dat m c).before_in_eq_fetched 0 rfl (fun _ => rfl) (fun _ _ _ => rfl) (fun t => rfl) t0_0 d).trans rfl).trans (iblk_ids m c)
theorem before_col (d) : (dat m c).before 1 t0_0 d = ids2 m c :=
  (((dat m c).before_in_eq_fetched 1 rfl (fun _ => rfl) (fun _ _ _ => rfl) (fun t => rfl) t0_0 d).trans rfl).trans (iblk_col m c)

theorem inv_first : (dat m c).Φ t0_0.castSucc = Inv0 m c := rfl
theorem inv_last : (dat m c).Φ t0_0.succ = Inv1 m c := rfl
theorem owed_first : (dat m c).owed t0_0.castSucc = O₀ c := rfl
theorem owed_last : (dat m c).owed t0_0.succ = 0 := rfl

theorem owesAt_of {t : Fin (cfg0.N + 1)} {O : CellTallies nD τ sig Unit} (h : (dat m c).owed t = O) (W : Waits sig Unit) :
    (owes (c : Thread nD τ) O W : sProp 𝕄) ⊢ (dat m c).owesAt () t := by
  unfold Dat.owesAt Pipeline.owesWithin Dat.bound; rw [h]
  iintro HO; iexists W; isplitr; · ipureintro; exact fun _ _ => Or.inl trivial
  iexact HO
theorem of_owesAt {t : Fin (cfg0.N + 1)} {O : CellTallies nD τ sig Unit} (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

/-! ## The body's obligation -/

/-- The three staging buffers. -/
theorem stg_ids (X) : (owns (c : Thread nD τ) (st0_0 t0_0) fullShare X : sProp 𝕄) = ((c : Thread nD τ).loc cc0_stg0_0 ↦{fullShare} X) := owns_whole (c : Thread nD τ) cc0_stg0_0 fullShare X
theorem stg_col (X) : (owns (c : Thread nD τ) (st0_1 t0_0) fullShare X : sProp 𝕄) = ((c : Thread nD τ).loc cc0_stg1_0 ↦{fullShare} X) := owns_whole (c : Thread nD τ) cc0_stg1_0 fullShare X
theorem stg_out (X) : (owns (c : Thread nD τ) (st0_2 t0_0) fullShare X : sProp 𝕄) = ((c : Thread nD τ).loc cc0_stg2_0 ↦{fullShare} X) := owns_whole (c : Thread nD τ) cc0_stg2_0 fullShare X

attribute [local irreducible] wp in
theorem whole_run (W : Waits sig Unit) : iprop(Inv0 m c ∗ owes (c : Thread nD τ) (O₀ c) W ∗ ((c : Thread nD τ).loc cc0_stg0_0 ↦{fullShare} ids m c)
      ∗ ((c : Thread nD τ).loc cc0_stg1_0 ↦{fullShare} ids2 m c) ∗ (∃ g : S2048x1024.Idx → Elt F .f32, (c : Thread nD τ).loc cc0_stg2_0 ↦{fullShare} g))
    ⊢ Run c (atBuf (cc0_body (F := F))) fun _ => iprop(Inv1 m c ∗ (∃ W, owes (c : Thread nD τ) 0 W) ∗ ((c : Thread nD τ).loc cc0_stg0_0 ↦{fullShare} ids m c)
      ∗ ((c : Thread nD τ).loc cc0_stg1_0 ↦{fullShare} ids2 m c) ∗ ((c : Thread nD τ).loc cc0_stg2_0 ↦{fullShare} OUT m c)) := by
  have hs := start m c iprop(∃ r, prngReg c r) W
  have hb (K : Dev nD × Ck → ℕ) := body_run m K (c := c) iprop(∃ r, prngReg c r)
  have hf (K : Dev nD × Ck → ℕ) : End m K c iprop(∃ r, prngReg c r) ⊢ iprop(Inv1 m c ∗ (∃ W, owes (c : Thread nD τ) 0 W) ∗ ((c : Thread nD τ).loc cc0_stg0_0 ↦{fullShare} ids m c)
      ∗ ((c : Thread nD τ).loc cc0_stg1_0 ↦{fullShare} ids2 m c) ∗ ((c : Thread nD τ).loc cc0_stg2_0 ↦{fullShare} OUT m c)) := by
    refine (finish m K c iprop(∃ r, prngReg c r)).trans ?_
    unfold Inv1 tblPts
    iintro ⟨HO, Hout, Hi, Hi2, Ht, HsB, Hss, Hbf, Hp⟩
    isplitl [Ht HsB Hss Hbf Hp]
    · isplitl [HsB]; · iexact HsB
      isplitl [Hss]; · iexact Hss
      isplitl [Hbf]; · iexact Hbf
      isplitl [Ht]; · iexact Ht
      iexact Hp
    isplitl [HO]; · iexact HO
    isplitl [Hi]; · iexact Hi
    isplitl [Hi2]; · iexact Hi2
    iexact Hout
  have hr (K : Dev nD × Ck → ℕ) := (hb K).trans (wp_mono _ _ _ fun _ => hf K)
  refine BIBase.Entails.trans ?_ (hs.trans (exists_elim hr))
  unfold Inv0 tblPts
  iintro ⟨⟨HX, Hbf, Ht, Hp⟩, HO, Hi, Hi2, Hg⟩
  isplitl [HX]; · iexact HX
  isplitl [Hbf]; · iexact Hbf
  isplitl [HO]; · iexact HO
  isplitl [Ht]; · iexact Ht
  isplitl [Hi]; · iexact Hi
  isplitl [Hi2]; · iexact Hi2
  isplitl [Hg]; · iexact Hg
  iexact Hp

attribute [local irreducible] wp in
theorem body_ok : BodyObligation (dat m c) defs₀ 𝒱₀ () Set.univ := fun t => by
  obtain rfl := fin_N0 t
  rw [bigSep_W0, bigSep_W0]
  have hpre : iprop((dat m c).Φ t0_0.castSucc ∗ (dat m c).owesAt () t0_0.castSucc
      ∗ (∃ d, owns (c : Thread nD τ) (st0_0 t0_0) fullShare ((dat m c).before 0 t0_0 d)) ∗ (∃ d, owns (c : Thread nD τ) (st0_1 t0_0) fullShare ((dat m c).before 1 t0_0 d))
      ∗ (∃ d, owns (c : Thread nD τ) (st0_2 t0_0) fullShare ((dat m c).before 2 t0_0 d)))
      ⊢ iprop(∃ W, Inv0 m c ∗ owes (c : Thread nD τ) (O₀ c) W ∗ ((c : Thread nD τ).loc cc0_stg0_0 ↦{fullShare} ids m c)
      ∗ ((c : Thread nD τ).loc cc0_stg1_0 ↦{fullShare} ids2 m c) ∗ (∃ g : S2048x1024.Idx → Elt F .f32, (c : Thread nD τ).loc cc0_stg2_0 ↦{fullShare} g)) := by
    rw [inv_first]
    iintro ⟨HI, HO, ⟨%d0, H0⟩, ⟨%d1, H1⟩, %d2, H2⟩
    ihave HO := (of_owesAt m c (owed_first m c)) $$ HO
    icases HO with ⟨%W, HO⟩
    iexists W
    isplitl [HI]; · iexact HI
    isplitl [HO]; · iexact HO
    isplitl [H0]; · iapply (BIBase.Entails.of_eq ((congrArg _ (before_ids m c d0)).trans (stg_ids (F := F) c _))) $$ H0
    isplitl [H1]; · iapply (BIBase.Entails.of_eq ((congrArg _ (before_col m c d1)).trans (stg_col (F := F) c _))) $$ H1
    iexists _; iapply (BIBase.Entails.of_eq (stg_out (F := F) c _)) $$ H2
  have hpost : iprop(Inv1 m c ∗ (∃ W, owes (c : Thread nD τ) 0 W) ∗ ((c : Thread nD τ).loc cc0_stg0_0 ↦{fullShare} ids m c)
      ∗ ((c : Thread nD τ).loc cc0_stg1_0 ↦{fullShare} ids2 m c) ∗ ((c : Thread nD τ).loc cc0_stg2_0 ↦{fullShare} OUT m c))
      ⊢ iprop((dat m c).Φ t0_0.succ ∗ (dat m c).owesAt () t0_0.succ ∗ owns (c : Thread nD τ) (st0_0 t0_0) fullShare ((dat m c).after 0 t0_0)
      ∗ owns (c : Thread nD τ) (st0_1 t0_0) fullShare ((dat m c).after 1 t0_0) ∗ owns (c : Thread nD τ) (st0_2 t0_0) fullShare ((dat m c).after 2 t0_0)) := by
    rw [inv_last]
    iintro ⟨HI, ⟨%W, HO⟩, H0, H1, H2⟩
    isplitl [HI]; · iexact HI
    isplitl [HO]; · iapply (owesAt_of m c (owed_last m c) W); iexact HO
    isplitl [H0]; · iapply (BIBase.Entails.of_eq ((congrArg _ (iblk_ids m c)).trans (stg_ids (F := F) c _)).symm) $$ H0
    isplitl [H1]; · iapply (BIBase.Entails.of_eq ((congrArg _ (iblk_col m c)).trans (stg_col (F := F) c _)).symm) $$ H1
    iapply (BIBase.Entails.of_eq (stg_out (F := F) c _).symm) $$ H2
  exact hpre.trans (exists_elim fun W => (whole_run m c W).trans (wp_mono _ _ _ fun _ => hpost))

/-! ## What the region is entered and left with -/

theorem own_facts : Pipeline.OwnSemFacts spec0 osem where
  isScoped := by decide +kernel
  inj := osem_inj
  disj := by decide +kernel

theorem kitP : Pipeline.PLaunchFacts (nD := nD) (τ := τ) (pcfgs (F := F)) 0 := launch0.toP

theorem O₀_pos {g : GSem nD τ sig} {i : Unit} (h : 0 < O₀ c g i) : ∃ d k, g = cell d k ∧ 0 < lvl k := by
  have hs : 0 < Sq c 0 g i + (Oq c 0 g i + tallyAt (rxC (partner c)) () Nx g i) := h
  rcases Classical.em (Sq c 0 g i = 0) with h0 | h0
  · rw [h0, zero_add] at hs
    rcases Classical.em (Oq c 0 g i = 0) with h1 | h1
    · rw [h1, zero_add, tallyAt_apply] at hs
      by_cases hc : g = rxC (partner c) ∧ i = ()
      · exact ⟨partner c, some oRx, hc.1, Nat.two_pos⟩
      · rw [if_neg hc] at hs; exact absurd hs (lt_irrefl _)
    · obtain ⟨q, -, hq⟩ := Oq_pos (Nat.pos_of_ne_zero h1)
      refine ⟨peer q c, some (oR q), hq, ?_⟩
      match q with
      | .inl (f, d, k) => show 0 < 3; omega
      | .inr (f, d, s, b) => show 0 < 4 + s.val; omega
  · obtain ⟨p, -, hp⟩ := Pipeline.sum_pos_exists (Nat.pos_of_ne_zero h0)
    by_cases hc : 0 ≤ ordG p ∧ sgSnd p c = true
    · rw [if_pos hc, tallyAt_apply] at hp
      refine ⟨sgPeer p c, none, ?_, Nat.one_pos⟩
      by_contra hne
      rw [if_neg (fun e => hne e.1)] at hp
      exact absurd hp (lt_irrefl _)
    · rw [if_neg hc] at hp; exact absurd hp (lt_irrefl _)

theorem lv_stage (w : Fin 3) (s : Fin (spec0 w).nbuf) : lv ((c : Thread nD τ), .dma ((spec0 w).sem s)) () = 0 := by
  unfold lv ckOf
  rw [dif_neg]
  · rfl
  · rintro ⟨k, hk⟩
    have e : ksem k = .dma ((spec0 w).sem s) := congrArg Prod.snd hk
    match k, e with
    | some k, e => exact own_facts.disj k w s e

theorem cut : Pipeline.LevelCutOwed (pcfgs (F := F)) adm (pdats m) () L lv 0 (fun _ => 0) where
  hι c w s := by rw [L_tc]; exact Finset.mem_singleton_self _
  hιb c w s := le_of_eq (lv_stage c w s)
  hD c t g i h := by
    have e : (pdats (F := F) m 0 c).owed t = if t.val = 0 then O₀ c else 0 := rfl
    rw [e] at h
    split at h
    · obtain ⟨d, k, rfl, hk⟩ := O₀_pos c h
      refine ⟨?_, lt_of_lt_of_eq hk (lv_cell (c := d) (k := k) (u := i)).symm⟩
      show i ∈ L ((d : Thread nD τ), ksem k)
      rw [L_tc]; exact Finset.mem_singleton_self _
    · exact absurd h (Nat.lt_irrefl 0)

theorem rest_eq : (Pipeline.scopedRest (Ix := Unit) (Name := ℕ) (U := UU) (Lvl := ℕ) (Val := Elt F) spec0 c : sProp 𝕄) = bufs0 c := scopedRest0_eq c
theorem ownSems_eq : (Pipeline.ownSems0 osem c : sProp 𝕄) = sems0 c := rfl

/-- The buffer the program addresses itself. -/
def Hs : Finset (DevRef τ sig) := {Proc.devRef .tc main_arg1}
theorem held_Hs (V : Valuation τ sig (Elt F)) : (StableHlo.held (c : Thread nD τ) Hs V : sProp 𝕄) = ((c : Thread nD τ).loc main_arg1 ↦{fullShare} V (Proc.devRef .tc main_arg1)) :=
  BI.bigSep_singleton

theorem hopen : iprop(Tk m c ∗ Pipeline.ownSems0 osem c ∗ levAts L lv) ⊢ (|={Set.univ}=> Xk m c : sProp 𝕄) := by
  have h := open_all m c
  rw [ownSems_eq]
  unfold sems0
  iintro ⟨HT, Hs, -⟩
  iapply h
  isplitl [HT]; · iexact HT
  iexact Hs

theorem hin : iprop(Pipeline.scopedRest (Pipeline.pin (pcfgs (F := F)) adm 0).spec c ∗ (∃ r, prngReg c r) ∗ StableHlo.held (c.tc : Thread nD τ) Hs (V1 m c) ∗ Xk m c)
    ⊢ (pdats m 0 c).Φ 0 := by
  have e : (StableHlo.held (c.tc : Thread nD τ) Hs (V1 m c) : sProp 𝕄) = tblPts m c := (held_Hs (F := F) c _).trans (by rw [V1_arg1]; rfl)
  have e2 : (Pipeline.scopedRest (Pipeline.pin (pcfgs (F := F)) adm 0).spec c : sProp 𝕄) = bufs0 c := rest_eq (F := F) c
  rw [e, e2, show (pdats m 0 c).Φ 0 = Inv0 m c from rfl]
  unfold Inv0
  iintro ⟨Hb, Hp, Ht, HX⟩
  isplitl [HX]; · iexact HX
  isplitl [Hb]; · iexact Hb
  isplitl [Ht]; · iexact Ht
  iexact Hp

theorem hout : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V2 m c) ∗ Pipeline.ownSems0 osem c ∗ semVal (barC c) 0) := by
  have e : (StableHlo.held (c.tc : Thread nD τ) Hs (V2 m c) : sProp 𝕄) = tblPts m c := (held_Hs (F := F) c _).trans (by rw [V2_ne m c main_arg1 (by decide), V1_arg1]; rfl)
  have e2 : (Pipeline.scopedRest (Pipeline.pin (pcfgs (F := F)) adm 0).spec c : sProp 𝕄) = bufs0 c := rest_eq (F := F) c
  rw [e, e2, ownSems_eq, show (pdats m 0 c).Φ (Fin.last _) = Inv1 m c from rfl]
  unfold Inv1
  iintro ⟨HB, Hs, Hb, Ht, Hp⟩
  isplitl [Hb]; · iexact Hb
  isplitl [Hp]; · iexact Hp
  isplitl [Ht]; · iexact Ht
  isplitl [Hs]; · iexact Hs
  iexact HB

theorem out_arr : (dat m c).arrAt 2 cfg0.N = OUT m c := by
  have hw : ((cfg0.win 2).blk t0_0).view.read (Elt F) ((dat m c).arrAt 2 cfg0.N) = OUT m c := by
    rw [show cfg0.N = t0_0.val + 1 from rfl, (dat m c).arrAt_succ (2 : Fin 3) t0_0, flush0_2, if_pos rfl]
    exact View.read_write_univ _ _
  exact (read_out (F := F) c _).symm.trans hw

theorem arr_out : ∀ w : Fin 3, (dat m c).arrAt w cfg0.N = V2 m c (Proc.devRef .tc (Pipeline.arrRef spec0 w))
  | 0 => ((dat m c).arrAt_in 0 rfl _).trans (V2_ne m c main_arg0 (by decide)).symm
  | 1 => ((dat m c).arrAt_in 1 rfl _).trans (V2_ne m c main_v1 (by decide)).symm
  | 2 => (out_arr m c).trans (V2_out m c).symm
  | ⟨_ + 3, h⟩ => absurd h (Nat.not_lt.2 (Nat.le_add_left _ _))

end Cert.K

end
-- ==== Proof.Run.lean ====
/-
The run of the whole program: the launch makes every device's starting state, the host operation and the call follow, and the
final memory is read off. Every device ends with its arguments unchanged, the result `OUT`, and all semaphores at zero.
-/
module

public import proofs.«01_k».proof.Proof.Call
public import Idealize.ShloMosaic.Lib.Pipeline.Regions
public import Idealize.ShloMosaic.Lib.Pipeline.Kit

@[expose] public section

set_option maxRecDepth 1000000

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]
local notation "𝕄" => MT nD τ sig Unit (Elt F) ℕ UU ℕ
variable (m : (ℓ : Loc nD τ sig) → Buf (Elt F) ℓ) (K : Dev nD × Ck → ℕ)

variable (ρ : Dev nD → PrngReg) (c : Dev nD)

/-! ## The two segments -/

def bufs : Finset (DevRef τ sig) := (StableHlo.tcRefs τ sig).filter fun b => ¬ b.isScoped
def V0 (c : Dev nD) : Valuation τ sig (Elt F) := fun b => m (c, b)

theorem held_bufs (W : Valuation τ sig (Elt F)) : (StableHlo.held (c : Thread nD τ) bufs W : sProp 𝕄)
    = iprop(StableHlo.held (c : Thread nD τ) (Pipeline.arrRefs (τ := τ) (pcfgs (F := F) 0).spec) W ∗ StableHlo.held (c : Thread nD τ) Hs W) := by
  have h1 : Pipeline.arrRefs (τ := τ) (pcfgs (F := F) 0).spec ⊆ bufs := by
    show Pipeline.arrRefs (τ := τ) spec0 ⊆ bufs
    decide
  have h2 : bufs \ Pipeline.arrRefs (τ := τ) (pcfgs (F := F) 0).spec = Hs := by
    show bufs \ Pipeline.arrRefs (τ := τ) spec0 = Hs
    decide
  rw [StableHlo.held_sub_split (c : Thread nD τ) h1 W, h2]

theorem unscopedBufs_held (W : Valuation τ sig (Elt F)) : (unscopedBufs c (fun b => W b) : sProp 𝕄) = StableHlo.held (c : Thread nD τ) bufs W := by
  unfold unscopedBufs StableHlo.held bufs StableHlo.tcRefs
  rw [Finset.filter_map, BI.bigSep_map]
  rfl
theorem unscopedSems0_eq : (unscopedSems0 c : sProp 𝕄) = semVal (barC c) 0 := by
  unfold unscopedSems0
  rw [show (Finset.univ.filter fun sm : SemLoc sig => ¬ sm.isScoped .tc) = {SemLoc.reg barS} from by decide +kernel, BI.bigSep_singleton]
  rfl

/-- What rides beside the buffers up to the call. -/
def R (c : Dev nD) : sProp 𝕄 := iprop(Tk m c ∗ (∃ r, prngReg c r) ∗ ∃ W, owes (c : Thread nD τ) (O₀ c) W)

theorem ops_sub : ∀ op ∈ (hostOps0 : List (HloOp τ sig (Elt F))), op.bufs ⊆ bufs := fun op h => by
  simp only [List.mem_singleton] at h; subst h
  show ({Proc.devRef .tc main_arg0, Proc.devRef .tc main_v1} : Finset (DevRef τ sig)) ⊆ bufs
  decide
theorem ops_fresh : ∀ op ∈ (hostOps0 : List (HloOp τ sig (Elt F))), op.fresh = ∅ := List.forall_iff_forall_mem.mp hostOps0_fresh

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

def seg0 : ℍ := Pipeline.HostSeg.ofOps _ _ _ _ _ bufs hostOps0 ops_sub ops_fresh (V0 m) (R m)

set_option backward.isDefEq.respectTransparency.types false in
def regK : ℝ𝕊 0 :=
  Pipeline.RegionSeg.ofTalk (pcfgs (F := F)) adm (pdats m) () defs₀ 𝒱₀ L lv 0 osem own_facts
    Hs Hs (Finset.Subset.refl _) kitP rfl (fun c => (body_ok m c).loose)
    (fun _ => 0) O₀ (fun c => (zero_add (O₀ c)).symm) (fun _ => rfl) (fun _ => rfl)
    (fun c w => (show (dat m c).share w = fullShare from by unfold Pipeline.Dat.share; split <;> rfl))
    (V1 m) (V2 m) (fun _ b hb => absurd hb (by rw [Finset.sdiff_self]; exact Finset.notMem_empty b))
    (Tk m) (fun c => semVal (barC c) 0) (Xk m) (fun c => semVal (barC c) 0) (hopen m) (hin m) (hout m)
    (fun c => by iintro H; imodintro; iexact H)
    (fun _ => 0) (cut m) (fun _ => iprop(emp)) (fun _ _ => rfl) (fun c w => arr_out m c w)

theorem reg_pre : iprop(StableHlo.held (c : Thread nD τ) bufs (V1 m c) ∗ R m c) ⊢ (regK m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) Hs (V1 m c) ∗ emp) ∗ Tk m c ∗ ∃ Wd, owes (c : Thread nD τ) (0 + O₀ c) Wd)
  rw [held_bufs, zero_add]
  unfold R
  iintro ⟨⟨Ha, Hh⟩, HT, Hp, HO⟩
  isplitl [Ha]; · iexact Ha
  isplitl [Hp]; · iexact Hp
  isplitl [Hh]
  · isplitl [Hh]; · iexact Hh
    iempintro
  isplitl [HT]; · iexact HT
  iexact HO

abbrev T₀ (c : Dev nD) : sProp 𝕄 := iprop(StableHlo.held (c : Thread nD τ) bufs (V0 m c) ∗ R m c)
abbrev Tₙ (c : Dev nD) : sProp 𝕄 := iprop(StableHlo.held (c : Thread nD τ) bufs (V2 m c) ∗ semVal (barC c) 0)

theorem reg_post : (regK m).post c ⊢ iprop(Tₙ m c ∗ ∃ W, owes (c : Thread nD τ) (0 : CellTallies nD τ sig Unit) W) := by
  show iprop(StableHlo.held (c.tc : Thread nD τ) (Pipeline.arrRefs (τ := τ) (pcfgs (F := F) 0).spec) (V2 m c) ∗ (∃ r, prngReg c r)
    ∗ (StableHlo.held (c.tc : Thread nD τ) Hs (V2 m c) ∗ emp) ∗ semVal (barC c) 0 ∗ ∃ Wd, owes (c : Thread nD τ) (0 : CellTallies nD τ sig Unit) Wd) ⊢ _
  unfold Tₙ
  rw [held_bufs]
  iintro ⟨Ha, -, ⟨Hh, -⟩, Hb, HO⟩
  isplitr [HO]
  · isplitl [Ha Hh]
    · isplitl [Ha]; · iexact Ha
      iexact Hh
    iexact Hb
  iexact HO

def segs : List (Pipeline.Seg (pcfgs (F := F)) adm (pdats m) () defs₀ 𝒱₀ L lv) := [.host (seg0 m), .region (regK m)]

theorem main_eq : main (F := F) c = Pipeline.Seg.run (segs m) :=
  main_segs adm (pdats m) () 𝒱₀ L lv (seg0 m) (regK m) rfl c

/-! ## The launch -/

theorem cells_inj : Function.Injective (Pipeline.cellOf (nD := nD) (τ := τ) (Pipeline.pin (pcfgs (F := F)) adm)) := kitP.cellOf_inj adm

def u₀ : UU :=
  (initOf (Pipeline.cells (Pipeline.pin (pcfgs (F := F)) adm) cells_inj) (Pipeline.launchToks (Pipeline.pin (pcfgs (F := F)) adm) cells_inj),
    launchOf barCs ownCs toksAll)

/-- A resource that device 0 keeps until the launch deals it out. -/
def onDev0 (X : sProp 𝕄) (c : Dev nD) : sProp 𝕄 := if c = 0 then X else iprop(emp)
theorem all_onDev0 (X : sProp 𝕄) : bigSep Finset.univ (onDev0 X) = X := by
  rw [bigSep_univ_at _ (0 : Dev nD), BI.bigSep_congr (s := Finset.univ.erase 0) (Ψ := fun _ => (BI.emp : sProp 𝕄))
      fun c hc => by unfold onDev0; rw [if_neg (Finset.ne_of_mem_erase hc)]; rfl, BI.bigSep_emp_const]
  unfold onDev0; rw [if_pos rfl]
  exact BI.equiv_iff.mp sep_emp
def G : Dev nD → sProp 𝕄 := onDev0 (BI.own (ER (launchOf barCs ownCs toksAll)))

/-- A device's share of the launch, beside the ghost state. -/
def baseC (c : Dev nD) : sProp 𝕄 :=
  iprop(StableHlo.held (c : Thread nD τ) bufs (V0 m c) ∗ credC c ∗ owes (c : Thread nD τ) (O₀ c) ∅ ∗ ∃ r, prngReg c r)
/-- And of the ghost state. -/
def lin (c : Dev nD) : sProp 𝕄 := iprop(atPos ER (barC c) 0 ∅ 0 ∗ (bigSep Finset.univ fun k : Ok => openTok ER (cell c (some k))) ∗ pays c)

theorem T₀_intro : iprop((ctx m K ∗ barR) ∗ (lin c ∗ baseC m c)) ⊢ T₀ m c := by
  unfold baseC lin T₀ R Tk
  iintro ⟨⟨#Hc, #Hb⟩, ⟨Ha, Ho, Ht⟩, Hh, Hcr, HO, Hp⟩
  isplitl [Hh]; · iexact Hh
  isplitl [Ha Ho Ht Hcr]
  · iexists K
    isplitr; · iexact Hc
    isplitr; · iexact Hb
    isplitl [Ha]; · iexact Ha
    isplitl [Ho]; · iexact Ho
    isplitl [Ht]; · iexact Ht
    iexact Hcr
  isplitl [Hp]; · iexact Hp
  iexists ∅; iexact HO

/-- All the invariants, from those of the launch. -/
theorem ctx_intro (κ : GSem nD τ sig → ℕ) : iprop((bigSep (barCs ∪ ownCs) fun g => cellInv ER (Rd m) (κ g) g) ∗ levAts L lv)
    ⊢ ctx m fun x => κ (cell x.1 x.2) := by
  have h : (bigSep (barCs ∪ ownCs) fun g => (cellInv ER (Rd m) (κ g) g : sProp 𝕄)) ⊢ bigSep Finset.univ fun x : Dev nD × Ck => cellInv ER (Rd m) (κ (cell x.1 x.2)) (cell x.1 x.2) :=
    (rep Finset.univ _).trans (BI.bigSep_mono fun x _ => BI.bigSep_elim (cells_mem x.1 x.2))
  unfold ctx lvls
  iintro ⟨#H, #Hl⟩
  isplitr
  · iapply h; iexact H
  iexact Hl

/-- What the launch gives a device. -/
def given (ρ : Dev nD → PrngReg) (c : Dev nD) : sProp 𝕄 := iprop(unscopedBufs c (fun b => m ((c : Thread nD τ).loc b)) ∗ unscopedSems0 c
    ∗ owes (c : Thread nD τ) (O₀ c) ∅ ∗ Pipeline.launchCred O₀ c ∗ prngReg c (ρ c) ∗ G c)

theorem given_share : given m ρ c ⊢ iprop(baseC m c ∗ (semVal (barC c) 0 ∗ G c)) := by
  have e : (unscopedBufs c (fun b => m ((c : Thread nD τ).loc b)) : sProp 𝕄) = StableHlo.held (c : Thread nD τ) bufs (V0 m c) := unscopedBufs_held (F := F) c (V0 m c)
  unfold given
  rw [e, unscopedSems0_eq]
  unfold baseC credC
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus]; · iexact Hus
  iexact HG

theorem over_bar (Φ : GSem nD τ sig → sProp 𝕄) : bigSep barCs Φ = bigSep Finset.univ fun c : Dev nD => Φ (barC c) := BI.bigSep_map barE
theorem over_own (Φ : GSem nD τ sig → sProp 𝕄) : bigSep ownCs Φ = bigSep Finset.univ fun c : Dev nD => bigSep Finset.univ fun k : Ok => Φ (cell c (some k)) :=
  (BI.bigSep_map ownE).trans (BI.bigSep_univ_prod _)

theorem given_all : bigSep Finset.univ (given m ρ) ⊢ iprop(bigSep Finset.univ (baseC m) ∗ (bigSep barCs fun g => semVal g 0) ∗ BI.own (ER (launchOf barCs ownCs toksAll))) := by
  have h : bigSep Finset.univ (given m ρ) ⊢ bigSep Finset.univ fun c => iprop(baseC m c ∗ (semVal (barC c) 0 ∗ G c)) := mono2 Finset.univ (given_share m ρ)
  have e : bigSep Finset.univ (G (F := F)) = BI.own (ER (launchOf barCs ownCs toksAll)) := all_onDev0 (F := F) _
  rw [sep2, sep2, e] at h
  rw [over_bar]
  exact h

theorem dealt (κ : GSem nD τ sig → ℕ) : iprop(((bigSep (barCs ∪ ownCs) fun g => cellInv ER (Rd m) (κ g) g) ∗ levAts L lv) ∗ (bigSep barCs fun g => reached ER g 0)
    ∗ ((bigSep barCs fun g => atPos ER g 0 ∅ 0) ∗ (bigSep ownCs fun g => openTok ER g) ∗ bigSep toksAll fun x => dutyTok ER x.1 x.2.1 x.2.2) ∗ bigSep Finset.univ (baseC m))
    ⊢ bigSep Finset.univ (T₀ m) := by
  have h : iprop((ctx m (fun x => κ (cell x.1 x.2)) ∗ barR) ∗ bigSep Finset.univ fun c => iprop(lin c ∗ baseC m c)) ⊢ bigSep Finset.univ (T₀ m) :=
    monoP Finset.univ fun c _ => T₀_intro m (fun x => κ (cell x.1 x.2)) c
  refine BIBase.Entails.trans ?_ h
  rw [over_bar, over_bar, over_own, deal, sep2]
  unfold lin
  rw [sep2, sep2]
  unfold barR
  iintro ⟨Hi, Hr, ⟨Ha, Ho, Ht⟩, HB⟩
  isplitl [Hi Hr]
  · isplitl [Hi]; · iapply (ctx_intro m κ); iexact Hi
    iexact Hr
  isplitr [HB]
  · isplitl [Ha]; · iexact Ha
    isplitl [Ho]; · iexact Ho
    iexact Ht
  iexact HB

theorem init : iprop(bigSep Finset.univ (given m ρ) ∗ levAts L lv) ⊢ (|={Set.univ}=> bigSep Finset.univ (T₀ m) : sProp 𝕄) := by
  have hall := given_all m ρ
  have hf := Rounds.fund_launch (Es := Set.univ) ER (Rd m) cells_disj (fun g _ h => h) toksAll
  iintro ⟨H, #Hl⟩
  ihave H := hall $$ H
  icases H with ⟨HB, Hv, Hu⟩
  imod hf $$ [Hv Hu] with ⟨%κ, -, #Hinv, #Hr, Hat, Hopen, Htok⟩
  · isplitl [Hv]; · iexact Hv
    iexact Hu
  imodintro
  iapply (dealt m κ)
  isplitr
  · isplitr; · iexact Hinv
    iexact Hl
  isplitr; · iexact Hr
  isplitr [HB]
  · isplitl [Hat]; · iexact Hat
    isplitl [Hopen]; · iexact Hopen
    iexact Htok
  iexact HB

/-! ## The run -/

theorem sem_unscoped : ∀ sm : SemLoc sig, sm.isScoped .tc = false → sm = .reg barS := by decide +kernel

/-- The four buffers at the end. -/
theorem held_four (W : Valuation τ sig (Elt F)) : (StableHlo.held (c : Thread nD τ) bufs W : sProp 𝕄)
    = iprop(((c : Thread nD τ).loc main_arg0 ↦{fullShare} W (Proc.devRef .tc main_arg0)) ∗ ((c : Thread nD τ).loc main_arg1 ↦{fullShare} W (Proc.devRef .tc main_arg1))
      ∗ ((c : Thread nD τ).loc main_v1 ↦{fullShare} W (Proc.devRef .tc main_v1)) ∗ ((c : Thread nD τ).loc main_v2 ↦{fullShare} W (Proc.devRef .tc main_v2))) := by
  unfold StableHlo.held
  rw [bigSep_eq_bigSepL_of_eq [Proc.devRef .tc main_arg0, Proc.devRef .tc main_arg1, Proc.devRef .tc main_v1, Proc.devRef .tc main_v2] (by decide) (by decide)]
  rfl

set_option backward.isDefEq.respectTransparency.types false in
/-- From any memory with zero counters: the program ends, its arguments are as they were, its result is `OUT`, all counters are zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = OUT m c) ∧ r.2.sem = fun _ => 0) :=
  Pipeline.θ_run_regions_kit_sems (pcfgs (F := F)) adm (pdats m) () cells_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [all_onDev0]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V2 m c (Proc.devRef .tc main_arg0) ∧ s.mem ((c : Thread nD τ).loc main_arg1) = V2 m c (Proc.devRef .tc main_arg1)
      ∧ s.mem ((c : Thread nD τ).loc main_v2) = V2 m c (Proc.devRef .tc main_v2)) ∧ s.sem (barC c) = 0)
    (hfin := fun c s' => by
      dsimp only [Tₙ]; rw [held_four]
      iintro ⟨⟨⟨H0, H1, -, H2⟩, Hb0⟩, HSI⟩
      icombine HSI H0 gives %h0
      icombine HSI H1 gives %h1
      icombine HSI H2 gives %h2
      icombine HSI Hb0 gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [V2_ne m c main_arg0 (by decide), V1_arg0] at h0
        rw [V2_ne m c main_arg1 (by decide), V1_arg1] at h1
        rw [V2_out] at h2
        exact ⟨h0, h1, h2⟩,
      sem_eq_zero hs fun c sm hsm => by
        obtain rfl := sem_unscoped sm hsm
        exact (h c).2⟩)

end Cert.K

end
-- ==== Proof.Value.lean ====
/-
What the result holds, over the reals. When every index names a row of the whole table, the block that a device makes together
with its partner is that block of the wanted rows: one of the two holds the row, the other adds zero. The exchange spreads the
blocks, and changing the width of a float changes nothing over the reals.
-/
module

public import proofs.«01_k».proof.Proof.Proto
public import Idealize.ShloMosaic.Lib.Pipeline.Value
public import Idealize.ShloMosaic.Lib.ValueLayoutCasts
public import Idealize.ShloMosaic.Lib.StableHlo.Run
public import Idealize.ShloMosaic.PureOps.Ideal

@[expose] public section

noncomputable section

namespace Cert.K

open Cert.KernelIdeal Cert.KernelIdeal.Gen
open Idealize.ShloMosaic
open Idealize.ShloMosaic.TcCoe

/-! ## Words -/

theorem base_word : ∀ c : Dev nD, (base c).toNat = 16384 * px c := by decide +kernel
theorem block_start : ∀ c : Dev nD, k0_off14 c 0 = 128 * blk c := by decide +kernel
theorem block_column : ∀ c : Dev nD, k0_off14 c 1 = 0 := by decide +kernel
theorem px_lt (c : Dev nD) : px c < 2 := by have := c.isLt; unfold px; simp only [nD] at this; omega
theorem px_partner : ∀ c : Dev nD, px (partner c) = 1 - px c := by decide +kernel
theorem blk_partner : ∀ c : Dev nD, blk (partner c) = blk c := by decide +kernel

theorem small_int {w : BitVec 32} (h : w.toNat < 2 ^ 31) : w.toInt = (w.toNat : ℤ) :=
  BitVec.toInt_eq_toNat_of_lt (by omega)
theorem small_slt {v w : BitVec 32} (hv : v.toNat < 2 ^ 31) (hw : w.toNat < 2 ^ 31) : v.slt w = decide (v.toNat < w.toNat) := by
  rw [Bool.eq_iff_iff, BitVec.slt_iff_toInt_lt, small_int hv, small_int hw, decide_eq_true_iff]; omega
theorem small_sle {v w : BitVec 32} (hv : v.toNat < 2 ^ 31) (hw : w.toNat < 2 ^ 31) : v.sle w = decide (v.toNat ≤ w.toNat) := by
  rw [Bool.eq_iff_iff, BitVec.sle_iff_toInt_le, small_int hv, small_int hw, decide_eq_true_iff]; omega

/-- A row in this half of the table is fetched. -/
theorem clamp_here {v b : BitVec 32} (hb : b.toNat ≤ v.toNat) (hv : v.toNat < b.toNat + 16384) (h : v.toNat < 32768) :
    (Scalar.minsi 16383#32 (Scalar.maxsi 0#32 (Scalar.subi v b))).toNat = v.toNat - b.toNat := by
  have e : (Scalar.subi v b).toNat = v.toNat - b.toNat := by
    show (v - b).toNat = _
    rw [BitVec.toNat_sub]; have := b.isLt; omega
  revert e
  generalize Scalar.subi v b = w
  intro e
  show (if (16383#32).slt (if w.slt 0#32 then 0#32 else w) then 16383#32 else (if w.slt 0#32 then 0#32 else w)).toNat = _
  have e0 : (0#32).toNat = 0 := rfl
  have e1 : (16383#32).toNat = 16383 := rfl
  have h1 : w.slt 0#32 = false := by rw [small_slt (by omega) (by decide)]; exact decide_eq_false (by omega)
  have h2 : (16383#32).slt w = false := by rw [small_slt (by decide) (by omega)]; exact decide_eq_false (by omega)
  rw [h1, if_neg Bool.false_ne_true, h2, if_neg Bool.false_ne_true, e]

/-- The kernel's test for a row of this half. -/
theorem test_here {v b : BitVec 32} (hb : b.toNat ≤ 16384) (h : v.toNat < 32768) :
    IntOp.andi (IntOp.cmpi .sge v b) (IntOp.cmpi .slt v (Scalar.addi b 16384#32))
      = if b.toNat ≤ v.toNat ∧ v.toNat < b.toNat + 16384 then 1#1 else 0#1 := by
  have e : (Scalar.addi b 16384#32).toNat = b.toNat + 16384 := by
    show (b + 16384#32).toNat = _
    rw [BitVec.toNat_add, show (16384#32).toNat = 16384 from rfl]; omega
  show BitVec.ofBool (b.sle v) &&& BitVec.ofBool (v.slt (Scalar.addi b 16384#32)) = _
  rw [small_sle (by omega) (by omega), small_slt (by omega) (by omega), e]
  by_cases p : b.toNat ≤ v.toNat <;> by_cases q : v.toNat < b.toNat + 16384 <;> simp [p, q]

/-! ## Indices -/

theorem ids2_at {F : FTy → Type} [FloatOps F] (m : (ℓ : Loc nD τ sig) → Buf (Elt F) ℓ) (c : Dev nD) :
    ids2 m c = shapeCast S2048x1 (ids m c) shapeCasts_S2048_S2048x1 := by
  unfold ids2 Gen.V
  simp only [hostOps0, List.flatten_cons, List.flatten_nil, List.append_nil]
  after_results
  rfl

theorem idb_at {F : FTy → Type} [FloatOps F] (m : (ℓ : Loc nD τ sig) → Buf (Elt F) ℓ) (c : Dev nD) (t : Fin 128) (u : Fin 1) :
    idb m c (ix2 t.val t.isLt u) = ids m c (idAt c t) := by
  unfold idb
  rw [ids2_at]
  show shapeCast S2048x1 (ids m c) _ _ = _
  refine shapeCast_apply _ _ _ _ ?_
  rw [Shape.rowMajor_val_two, Shape.rowMajor_val_one]
  show 128 * blk c + t.val = (k0_off14 c 0 + 1 * t.val) * 1 + (k0_off14 c 1 + 1 * u.val)
  rw [block_start, block_column]
  omega

theorem fold_half {α : Type} (x : S64x1024.Idx → α) (i : Fin 64) (j : Fin 1024) :
    shapeCast S1x1x64x1024 x shapeCasts_S64x1024_S1x1x64x1024 (ix4 i j) = x (ix2 i.val i.isLt j) := by
  refine shapeCast_apply _ _ _ _ ?_
  rw [Shape.rowMajor_val_two, Shape.rowMajor_val_four]
  show i.val * 1024 + j.val = ((0 * 1 + 0) * 64 + i.val) * 1024 + j.val
  omega
theorem unfold_half {α : Type} (x : S1x1x64x1024.Idx → α) (i : Fin 64) (j : Fin 1024) :
    shapeCast S64x1024 x shapeCasts_S1x1x64x1024_S64x1024 (ix2 i.val i.isLt j) = x (ix4 i j) := by
  refine shapeCast_apply _ _ _ _ ?_
  rw [Shape.rowMajor_val_two, Shape.rowMajor_val_four]
  show ((0 * 1 + 0) * 64 + i.val) * 1024 + j.val = i.val * 1024 + j.val
  omega
theorem cast_self {α : Type} {s : Shape} (x : s.Idx → α) (h : s.ShapeCasts s) : shapeCast s x h = x :=
  funext fun i => shapeCast_apply x h i i rfl

/-! ## A block -/

/-- A row of a half is a row of the whole table. -/
theorem whole_lt (c : Dev nD) (i : Fin 16384) : 16384 * px c + i.val < 32768 := by have := px_lt c; omega

section
variable (m : (ℓ : Loc nD τ sig) → Buf (Elt Ideal) ℓ) (c : Dev nD)

/-- The device holds the wanted row of its half, or zero. -/
theorem msk_at (h : ∀ t, (ids m c (idAt c t)).toNat < 32768) (t : Fin 128) (j : Fin 1024) :
    msk m c (ix2 t.val t.isLt j) = if h' : (ids m c (idAt c t)).toNat / 16384 = px c
      then tbl m c (ix2 ((ids m c (idAt c t)).toNat % 16384) (Nat.mod_lt _ (by decide)) j) else (0 : EReal) := by
  have hp := px_lt c
  have e1 : msk m c (ix2 t.val t.isLt j) = Scalar.select (IntOp.andi (IntOp.cmpi .sge (ids m c (idAt c t)) (base c))
      (IntOp.cmpi .slt (ids m c (idAt c t)) (Scalar.addi (base c) 16384#32))) (own m c (ix2 t.val t.isLt j)) (Scalar.ofBits (F := Ideal) .f32 0x00000000#32) := by
    rw [← idb_at m c t 0]
    unfold msk k0_pay37
    rw [cast_self, cast_self]
    show Scalar.select (broadcastTo S128x1024 _ broadcasts_S128x1_S128x1024 _) _ _ = _
    unfold broadcastTo
    congr 1
  rw [e1, test_here (by rw [base_word]; omega) (h t), base_word]
  have q := h t
  by_cases hh : (ids m c (idAt c t)).toNat / 16384 = px c
  · rw [if_pos (by omega), dif_pos hh]
    show own m c (ix2 t.val t.isLt j) = _
    unfold own
    refine congrArg (tbl m c) (funext fun a => ?_)
    match a with
    | ⟨0, _⟩ =>
      refine Fin.ext ?_
      show gix m c t = (ids m c (idAt c t)).toNat % 16384
      have := clamp_here (v := ids m c (idAt c t)) (b := base c) (by rw [base_word]; omega) (by rw [base_word]; omega) q
      rw [base_word] at this
      refine (show gix m c t = _ from this).trans ?_
      omega
    | ⟨1, _⟩ => rfl
  · rw [if_neg (by omega), dif_neg hh]
    show Scalar.ofBits (F := Ideal) .f32 0x00000000#32 = (0 : EReal)
    show Ideal.ofBits .f32 0x00000000#32 = (0 : EReal)
    simp [Ideal.ofBits, Ideal.ieee]

variable (v : S2048.Idx → BitVec 32) (T : (⟨2, ![32768, 1024]⟩ : Shape).Idx → EReal)
  (hv : ∀ k, (v k).toNat < 32768) (hi : ∀ c, ids m c = v)
  (hT : ∀ (c : Dev nD) (i : Fin 16384) (j : Fin 1024),
    tbl m c (ix2 i.val i.isLt j) = T (ix2 (16384 * px c + i.val) (whole_lt c i) j))

include hi hT in
theorem msk_row (t : Fin 128) (j : Fin 1024) :
    msk m c (ix2 t.val t.isLt j) = if (v (idAt c t)).toNat / 16384 = px c then T (ix2 (v (idAt c t)).toNat (hv _) j) else (0 : EReal) := by
  obtain rfl : ids m c = v := hi c
  rw [msk_at m c (fun t => hv _)]
  by_cases hh : (ids m c (idAt c t)).toNat / 16384 = px c
  · rw [dif_pos hh, if_pos hh, hT c ⟨_, Nat.mod_lt _ (by decide)⟩]
    refine congrArg T (funext fun a => ?_)
    match a with
    | ⟨0, _⟩ => exact Fin.ext (by show 16384 * px c + (ids m c (idAt c t)).toNat % 16384 = (ids m c (idAt c t)).toNat; omega)
    | ⟨1, _⟩ => rfl
  · rw [dif_neg hh, if_neg hh]

/-- A place of the index vector. -/
def nth (n : Fin 2048) : S2048.Idx := fun a => match a with | ⟨0, _⟩ => n

theorem row_congr {k k' : S2048.Idx} (e : k = k') (j : Fin 1024) :
    T (ix2 (v k).toNat (hv k) j) = T (ix2 (v k').toNat (hv k') j) := by
  subst e; rfl

include hi hT in
/-- The block of a device after the exchange with its partner: the wanted rows. -/
theorem smm_row (t : Fin 128) (j : Fin 1024) : smm m c (ix2 t.val t.isLt j) = T (ix2 (v (idAt c t)).toNat (hv _) j) := by
  have hp := px_lt c
  have q := hv (idAt c t)
  have e : idAt (partner c) t = idAt c t := by unfold idAt; simp only [blk_partner]
  have e1 : smm m c (ix2 t.val t.isLt j) = (msk m c (ix2 t.val t.isLt j) + msk m (partner c) (ix2 t.val t.isLt j) : EReal) := by
    unfold smm k0_pay39 sx k0_pay38
    dsimp only
    rw [cast_self]
    rfl
  rw [e1, msk_row m c v T hv hi hT, msk_row m (partner c) v T hv hi hT, px_partner]
  have ev : (v (idAt (partner c) t)).toNat = (v (idAt c t)).toNat := by rw [e]
  rw [row_congr v T hv e j]
  by_cases hh : (v (idAt c t)).toNat / 16384 = px c
  · rw [if_pos hh, if_neg (by rw [ev]; omega)]; exact add_zero (_ : EReal)
  · rw [if_neg hh, if_pos (by rw [ev]; omega)]; exact zero_add (_ : EReal)

include hi hT in
theorem half_row (f : Fin 2) (i : Fin 64) (j : Fin 1024) :
    hf m f c (ix4 i j) = T (ix2 (v (idAt c ⟨64 * f.val + i.val, by omega⟩)).toNat (hv _) j) := by
  rw [← smm_row m c v T hv hi hT]
  match f with
  | 0 =>
    show k0_pay41 (msk m c) (sx m (partner c)) (ix4 i j) = _
    unfold k0_pay41
    dsimp only
    rw [cast_self, fold_half]
    refine congrArg (smm m c) (funext fun a => ?_)
    match a with
    | ⟨0, _⟩ => exact Fin.ext (by show 0 + i.val = 64 * 0 + i.val; omega)
    | ⟨1, _⟩ => exact Fin.ext (by show 0 + j.val = j.val; omega)
  | 1 =>
    show k0_pay42 (msk m c) (sx m (partner c)) (ix4 i j) = _
    unfold k0_pay42
    dsimp only
    rw [cast_self, fold_half]
    refine congrArg (smm m c) (funext fun a => ?_)
    match a with
    | ⟨0, _⟩ => exact Fin.ext (by show 64 + i.val = 64 * 1 + i.val; omega)
    | ⟨1, _⟩ => exact Fin.ext (by show 0 + j.val = j.val; omega)

theorem idAt_mk (x n : ℕ) (hx : x < 2) (hn : n < 2048) (t : Fin 128) (ht : t.val = n % 128) :
    idAt (mk x (n / 128 / 4) (n / 128 % 4)) t = nth ⟨n, hn⟩ := by
  funext a
  match a with
  | ⟨0, _⟩ =>
    refine Fin.ext ?_
    show 128 * blk (mk x (n / 128 / 4) (n / 128 % 4)) + t.val = n
    have e : blk (mk x (n / 128 / 4) (n / 128 % 4)) = n / 128 := by
      show 4 * py _ + pz _ = n / 128
      unfold py pz mk
      dsimp only
      omega
    rw [e]; omega

include hi hT in
/-- The result of the kernel, over the reals: row by row the whole table at the indices. -/
theorem OUT_row (n : Fin 2048) (j : Fin 1024) :
    OUT m c (ix2 n.val n.isLt j) = T (ix2 (v (nth n)).toNat (hv _) j) := by
  have hp := px_lt c
  unfold OUT
  show (if mk (px c) (n.val / 128 / 4) (n.val / 128 % 4) = c then
      (if n.val % 128 < 64 then k0_pay43 (smm m c) (ix2 (n.val % 64) (Nat.mod_lt _ (by decide)) j)
        else k0_pay44 (smm m c) (ix2 (n.val % 64) (Nat.mod_lt _ (by decide)) j))
    else k0_pay45 (hf m (if n.val % 128 < 64 then 0 else 1) (mk (px c) (n.val / 128 / 4) (n.val / 128 % 4)))
      (ix2 (n.val % 64) (Nat.mod_lt _ (by decide)) j)) = _
  have key : ∀ t : Fin 128, t.val = n.val % 128 → T (ix2 (v (idAt (mk (px c) (n.val / 128 / 4) (n.val / 128 % 4)) t)).toNat (hv _) j)
      = T (ix2 (v (nth n)).toNat (hv _) j) := fun t ht => by
    exact row_congr v T hv (idAt_mk _ _ hp n.isLt t ht) j
  by_cases hd : mk (px c) (n.val / 128 / 4) (n.val / 128 % 4) = c
  · rw [if_pos hd, ← key ⟨n.val % 128, Nat.mod_lt _ (by decide)⟩ rfl]
    rw [hd, ← smm_row m c v T hv hi hT]
    by_cases hh : n.val % 128 < 64
    · rw [if_pos hh]
      refine congrArg (smm m c) (funext fun a => ?_)
      match a with
      | ⟨0, _⟩ => exact Fin.ext (by show 0 + n.val % 64 = n.val % 128; omega)
      | ⟨1, _⟩ => exact Fin.ext (by show 0 + j.val = j.val; omega)
    · rw [if_neg hh]
      refine congrArg (smm m c) (funext fun a => ?_)
      match a with
      | ⟨0, _⟩ => exact Fin.ext (by show 64 + n.val % 64 = n.val % 128; omega)
      | ⟨1, _⟩ => exact Fin.ext (by show 0 + j.val = j.val; omega)
  · rw [if_neg hd]
    have half : ∀ f : Fin 2, 64 * f.val + n.val % 64 = n.val % 128 →
        k0_pay45 (hf m f (mk (px c) (n.val / 128 / 4) (n.val / 128 % 4))) (ix2 (n.val % 64) (Nat.mod_lt _ (by decide)) j)
          = T (ix2 (v (nth n)).toNat (hv _) j) := fun f hf' => by
      refine (unfold_half (hf m f _) ⟨n.val % 64, Nat.mod_lt _ (by decide)⟩ j).trans ?_
      exact (half_row m _ v T hv hi hT f _ j).trans (key _ hf')
    by_cases hh : n.val % 128 < 64
    · rw [if_pos hh]
      exact half 0 (by show 64 * 0 + _ = _; omega)
    · rw [if_neg hh]
      exact half 1 (by show 64 * 1 + _ = _; omega)

end

end Cert.K
-- ==== Proof.Ref.lean ====
/-
  The run of the reference (../ReferenceIdeal.lean): one device, the whole table and the indices, a straight line of host
  operations. Every operation is applied to the launch contents in turn; the last buffer holds the rows taken at the
  indices, a negative index counted from the end of the table.
-/
module

public import proofs.«01_k».proof.Proof.Gen.ReferenceIdeal
public import Idealize.ShloMosaic.Lib.StableHlo.Run
public import Idealize.ShloMosaic.Lib.Quiescent

@[expose] public section

noncomputable section

namespace Cert.KRef

open Cert.ReferenceIdeal Cert.ReferenceIdeal.Gen
open Idealize.ShloMosaic Idealize.ShloMosaic.TcCoe Idealize.ShloMosaic.StableHlo Idealize.SL.Sem

variable {F : FTy → Type} [FloatOps F]

/-- What the reference does, line by line. -/
abbrev steps : List (HloOp τ sig (Elt F)) :=
  [ nullary main_c (constantI S_ 32 0#32),
    unary main_c main_v0 (broadcastInDim S2048 ![] bcast_S_S2048),
    binary main_arg0 main_v0 main_v1 (cmpi .slt),
    nullary main_c_0 (constantI S_ 32 32768#32),
    unary main_c_0 main_v2 (broadcastInDim S2048 ![] bcast_S_S2048),
    binary main_arg0 main_v2 main_v3 addi,
    ternary main_v1 main_v3 main_arg0 main_v4 select,
    unary main_v4 main_v5 (broadcastInDim S2048x1 ![0] bcast_S2048_S2048x1_0),
    binary main_arg1 main_v5 main_v6 (fun x i => Host.gather gather_S32768x1024_S2048x1_S2048x1024_1_0_n_n_0_1_11024 x i) ]

theorem main_steps (c : Dev nD) : main (F := F) c = seq steps := rfl

/-- The indices as the reference uses them, in a column. -/
def col (v : S2048.Idx → BitVec 32) : S2048x1.Idx → BitVec 32 :=
  broadcastInDim S2048x1 ![0] bcast_S2048_S2048x1_0
    (select (cmpi .slt v (broadcastInDim S2048 ![] bcast_S_S2048 (constantI S_ 32 0#32)))
      (addi v (broadcastInDim S2048 ![] bcast_S_S2048 (constantI S_ 32 32768#32))) v)

/-- The rows of `E` at the indices `v`. -/
def rows (v : S2048.Idx → BitVec 32) (E : S32768x1024.Idx → Elt F .f32) : S2048x1024.Idx → Elt F .f32 :=
  Host.gather gather_S32768x1024_S2048x1_S2048x1024_1_0_n_n_0_1_11024 E (col v)

theorem at_result (V : Valuation τ sig (Elt F)) :
    after steps V (main_v6 : DevRef τ sig) = rows (V (main_arg0 : DevRef τ sig)) (V (main_arg1 : DevRef τ sig)) := by
  after_results
  rfl
theorem at_ids (V : Valuation τ sig (Elt F)) : after steps V (main_arg0 : DevRef τ sig) = V (main_arg0 : DevRef τ sig) := by
  after_results
theorem at_table (V : Valuation τ sig (Elt F)) : after steps V (main_arg1 : DevRef τ sig) = V (main_arg1 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide

theorem steps_tc : (steps : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..⟩

/-- The reference ends with the rows at the indices in its result, its arguments as they were, no counter moved. -/
theorem run_rows (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v6)
            = rows (F := F) (m ((c.tc : Thread nD τ).loc main_arg0)) (m ((c.tc : Thread nD τ).loc main_arg1)))
      ∧ r.2.sem = fun _ => 0) :=
  (θ_run defs _ _).mono (fun r h => ⟨fun c => ⟨(h c main_arg0).trans (at_ids _), (h c main_arg1).trans (at_table _),
      (h c main_v6).trans (at_result _)⟩, sem_eq_zero_of_no_sems (by decide) r.2⟩)
    (run_seq no_scoped_refs no_scoped_sems defs main (fun _ => steps) main_steps (fun _ => steps_tc) m ρ)

end Cert.KRef
-- ==== Proof.Rows.lean ====
/-
  The reference's result, row by row, and what the precondition says of one index.
-/
module

public import proofs.«01_k».proof.Proof.Ref
public import proofs.«01_k».proof.Pre_in_table_KernelIdeal
public import Idealize.ShloMosaic.Lib.Routing.Ops
public import Idealize.ShloMosaic.Lib.ReduceAll
public import Idealize.ShloMosaic.PureOps.Ideal

@[expose] public section

noncomputable section

namespace Cert.KRef

open Cert.ReferenceIdeal Cert.ReferenceIdeal.Gen
open Idealize.ShloMosaic Idealize.ShloMosaic.StableHlo

theorem slt_small {a : BitVec 32} (h : a.toNat < 32768) : a.slt 0#32 = false := by
  rw [Bool.eq_false_iff]
  intro e
  rw [BitVec.slt_iff_toInt_lt, BitVec.toInt_eq_toNat_of_lt (by omega)] at e
  have : (0#32 : BitVec 32).toInt = 0 := rfl
  omega

/-- An index inside the table is used as it is. -/
theorem col_at (v : S2048.Idx → BitVec 32) (k : Fin 2048) (u : Fin 1) (q : S2048.Idx) (hq : q = fun a => match a with | ⟨0, _⟩ => k)
    (h : (v q).toNat < 32768) : col v (ValueIdx.ix2 k u) = v q := by
  have e : col v (ValueIdx.ix2 k u) = Scalar.select (BitVec.ofBool ((v q).slt 0#32)) (Scalar.addi (v q) 32768#32) (v q) := by
    have ei : col v (ValueIdx.ix2 k u) = select (cmpi .slt v (broadcastInDim S2048 ![] bcast_S_S2048 (constantI S_ 32 0#32)))
        (addi v (broadcastInDim S2048 ![] bcast_S_S2048 (constantI S_ 32 32768#32))) v q := by
      unfold col broadcastInDim
      refine congrArg _ (funext fun a => ?_)
      subst hq
      match a with
      | ⟨0, _⟩ => rfl
    rw [ei]
    rfl
  rw [e, slt_small h]
  rfl

theorem rows_at {F : FTy → Type} [FloatOps F] (v : S2048.Idx → BitVec 32) (E : S32768x1024.Idx → Elt F .f32) (k : Fin 2048) (y : Fin 1024)
    (q : S2048.Idx) (hq : q = fun a => match a with | ⟨0, _⟩ => k) (h : (v q).toNat < 32768) :
    rows v E (ValueIdx.ix2 k y) = E (ValueIdx.ix2 ⟨(v q).toNat, h⟩ y) := by
  refine Routing.gather_row gather_S32768x1024_S2048x1_S2048x1024_1_0_n_n_0_1_11024 rfl rfl rfl rfl rfl E (col v) k y ⟨(v q).toNat, h⟩ ?_ (by decide)
  rw [col_at v k 0 q hq h]
  exact (by simp)

theorem small_of_tests {a : BitVec 32} (h : IntOp.andi (IntOp.cmpi .sge a 0#32) (IntOp.cmpi .slt a 32768#32) = 1#1) : a.toNat < 32768 := by
  have h' : BitVec.ofBool ((0#32).sle a) &&& BitVec.ofBool (a.slt 32768#32) = 1#1 := h
  have h1 : (0#32 : BitVec 32).sle a = true := by
    by_contra e
    rw [Bool.not_eq_true] at e
    rw [e] at h'
    revert h'
    cases a.slt 32768#32 <;> decide
  have h2 : a.slt 32768#32 = true := by
    by_contra e
    rw [Bool.not_eq_true] at e
    rw [e, h1] at h'
    exact absurd h' (by decide)
  rw [BitVec.sle_iff_toInt_le] at h1
  rw [BitVec.slt_iff_toInt_lt] at h2
  rw [show (0#32 : BitVec 32).toInt = 0 from rfl] at h1
  rw [show (32768#32 : BitVec 32).toInt = 32768 from rfl] at h2
  rw [BitVec.toInt_eq_toNat_cond] at h1 h2
  split at h1 <;> omega

/-- Where the precondition holds every index names a row of the table. -/
theorem in_table [Cert.Pre_in_table_KernelIdeal.Facts] (v : Cert.Pre_in_table_KernelIdeal.S2048.Idx → BitVec 32)
    (E : Cert.Pre_in_table_KernelIdeal.S16384x1024.Idx → EReal)
    (h : Cert.Pre_in_table_KernelIdeal.fn (F := Ideal) v E = fun _ => 1#1) (k : Cert.Pre_in_table_KernelIdeal.S2048.Idx) :
    (v k).toNat < 32768 := by
  haveI : Subsingleton Cert.Pre_in_table_KernelIdeal.S_.Idx := ⟨fun a b => funext fun i : Fin 0 => i.elim0⟩
  have e := congrFun h (fun i : Fin 0 => i.elim0)
  unfold Cert.Pre_in_table_KernelIdeal.fn at e
  exact small_of_tests (Host.reduce_andi_all _ _ _ _ _ e k)

end Cert.KRef
-- ==== Proof.lean ====
/-
  The certificate. The kernel's run is in Proof/Run.lean, for any float values: both its frames are read off it. The
  reference is a straight line of host operations (Proof/Ref.lean). Over the reals the two results are the same rows
  (Proof/Value.lean, Proof/Rows.lean).
-/
module

public import proofs.«01_k».proof.Defs
public import proofs.«01_k».proof.Proof.Gen.Kernel
public import proofs.«01_k».proof.Proof.Run
public import proofs.«01_k».proof.Proof.Value
public import proofs.«01_k».proof.Proof.Rows
public import proofs.«01_k».proof.Proof.Gen.Pre_in_table_KernelIdeal
public import proofs.«01_k».proof.Proof.Gen.Pre_in_table_ReferenceIdeal

@[expose] public section

noncomputable section

namespace Cert.Proof

open Idealize.ShloMosaic Idealize.SL.Sem

/-! The kernel and its idealization are printed from one text: their bodies are the same. -/
section
variable {F : FTy → Type} [FloatOps F]

theorem bodies_same : (Cert.Kernel.defs₀ (F := F)) = Cert.KernelIdeal.defs₀ := by
  unfold Cert.Kernel.defs₀ Cert.KernelIdeal.defs₀
  refine congrArg Defs.onTc ?_
  funext l a
  match l, a with
  | 0, (t, s) => rfl
theorem defs_same : (Cert.Kernel.defs (F := F)) = Cert.KernelIdeal.defs := congrArg (Pipeline.defs _) bodies_same
end

/-- The kernel terminates from every launch, keeps its arguments and leaves every counter at zero. -/
theorem kernel_quiet : Cert.quiescent_Kernel := by
  intro m ρ _
  rw [defs_same]
  exact (θ_run Cert.KernelIdeal.defs _ _).mono (fun _ h => And.intro (fun c => And.intro (h.1 c).1 (h.1 c).2.1) h.2)
    (Cert.K.run_main (F := Bits) m ρ)

/-- So does its idealization. -/
theorem ideal_quiet : Cert.quiescent_KernelIdeal := fun m ρ _ =>
  (θ_run Cert.KernelIdeal.defs _ _).mono (fun _ h => ⟨fun c => ⟨(h.1 c).1, (h.1 c).2.1⟩, h.2⟩) (Cert.K.run_main (F := Ideal) m ρ)

/-- And the reference. -/
theorem reference_quiet : Cert.quiescent_ReferenceIdeal := fun m ρ _ =>
  (θ_run Cert.ReferenceIdeal.defs _ _).mono (fun _ h => ⟨fun c => ⟨(h.1 c).1, (h.1 c).2.1⟩, h.2⟩) (Cert.KRef.run_rows (F := Ideal) m ρ)

/-- Where every index names a row of the table, the kernel over the reals and the reference end with the same rows. -/
theorem same_rows : Cert.algebraic_KernelIdeal_ReferenceIdeal_pre_in_table_KernelIdeal := by
  intro m g m' g' hpre hargs
  have hv : ∀ k, (m' (((0 : Dev Cert.ReferenceIdeal.nD).tc : Thread Cert.ReferenceIdeal.nD Cert.ReferenceIdeal.τ).loc Cert.ReferenceIdeal.main_arg0) k).toNat < 32768 := fun k => by
    have := Cert.KRef.in_table _ _ (hpre (0 : Dev Cert.KernelIdeal.nD)) k
    rwa [(hargs 0).1] at this
  refine ⟨Cert.KRef.rows (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).2.2.trans ?_, (h.1 c).1, (h.1 c).2.1⟩) (Cert.K.run_main (F := Ideal) m g)
    funext i
    obtain ⟨n, j, rfl⟩ : ∃ (n : Fin 2048) (j : Fin 1024), i = Cert.K.ix2 n.val n.isLt j := ⟨i 0, i 1, by
      funext a
      match a with
      | ⟨0, _⟩ => rfl
      | ⟨1, _⟩ => rfl⟩
    refine (Cert.K.OUT_row m c _ (m' (((0 : Dev Cert.ReferenceIdeal.nD).tc : Thread Cert.ReferenceIdeal.nD Cert.ReferenceIdeal.τ).loc Cert.ReferenceIdeal.main_arg1)) hv (fun c => (hargs c).1) (fun c i j => ?_) n j).trans ?_
    · refine (congrFun (hargs c).2 _).trans ?_
      refine congrArg (m' (((0 : Dev Cert.ReferenceIdeal.nD).tc : Thread Cert.ReferenceIdeal.nD Cert.ReferenceIdeal.τ).loc Cert.ReferenceIdeal.main_arg1)) (funext fun a => ?_)
      match a with
      | ⟨0, _⟩ =>
        refine Fin.ext ?_
        show (c.val / 16 % 2 * 1 + 0) * 16384 + i.val = 16384 * Cert.K.px c + i.val
        have := Cert.K.px_lt c
        unfold Cert.K.px at this ⊢
        omega
      | ⟨1, _⟩ =>
        refine Fin.ext ?_
        show 0 * 1024 + j.val = j.val
        omega
    · refine Eq.trans ?_ (Cert.KRef.rows_at (F := Ideal) _ _ n j (Cert.K.nth n) rfl (hv _)).symm
      refine congrArg (m' (((0 : Dev Cert.ReferenceIdeal.nD).tc : Thread Cert.ReferenceIdeal.nD Cert.ReferenceIdeal.τ).loc Cert.ReferenceIdeal.main_arg1)) (funext fun a => ?_)
      match a with
      | ⟨0, _⟩ => rfl
      | ⟨1, _⟩ => rfl
  · exact (θ_run Cert.ReferenceIdeal.defs _ _).mono (fun r h => ⟨(h.1 0).2.2, (h.1 0).1, (h.1 0).2.1⟩) (Cert.KRef.run_rows (F := Ideal) m' g')

theorem claim : Cert.Claim :=
  ⟨Cert.Kernel.Gen.facts, Cert.KernelIdeal.Gen.facts, Cert.ReferenceIdeal.Gen.facts, Cert.Pre_in_table_KernelIdeal.Gen.facts,
    Cert.Pre_in_table_ReferenceIdeal.Gen.facts, kernel_quiet, ideal_quiet, fun m ρ _ => ideal_quiet m ρ trivial,
    reference_quiet, fun m ρ _ => reference_quiet m ρ trivial, trivial, same_rows⟩

end Cert.Proof

end
